-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v33)) (v1 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_v35) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v35)) (v1 : (c : Dev Cert.Kernel4Ideal.nD) → Buf (Elt Ideal) ((c.tc : Thread Cert.Kernel4Ideal.nD Cert.Kernel4Ideal.τ).loc Cert.Kernel4Ideal.main_v43)) (v2 : (c : Dev Cert.Kernel4Ideal.nD) → Buf (Elt Ideal) ((c.tc : Thread Cert.Kernel4Ideal.nD Cert.Kernel4Ideal.τ).loc Cert.Kernel4Ideal.main_v44)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35) = v0 c
          ∧ r.2.mem ((c.tc : Thread Cert.Kernel4Ideal.nD Cert.Kernel4Ideal.τ).loc Cert.Kernel4Ideal.main_v43) = v1 c
          ∧ r.2.mem ((c.tc : Thread Cert.Kernel4Ideal.nD Cert.Kernel4Ideal.τ).loc Cert.Kernel4Ideal.main_v44) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v92) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24)) (v1 : (c : Dev Cert.Kernel5Ideal.nD) → Buf (Elt Ideal) ((c.tc : Thread Cert.Kernel5Ideal.nD Cert.Kernel5Ideal.τ).loc Cert.Kernel5Ideal.main_v30)) (v2 : (c : Dev Cert.Kernel5Ideal.nD) → Buf (Elt Ideal) ((c.tc : Thread Cert.Kernel5Ideal.nD Cert.Kernel5Ideal.τ).loc Cert.Kernel5Ideal.main_v33)) (v3 : (c : Dev Cert.Kernel5Ideal.nD) → Buf (Elt Ideal) ((c.tc : Thread Cert.Kernel5Ideal.nD Cert.Kernel5Ideal.τ).loc Cert.Kernel5Ideal.main_v35)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_v30) = v1 c
          ∧ r.2.mem ((c.tc : Thread Cert.Kernel5Ideal.nD Cert.Kernel5Ideal.τ).loc Cert.Kernel5Ideal.main_v33) = v2 c
          ∧ r.2.mem ((c.tc : Thread Cert.Kernel5Ideal.nD Cert.Kernel5Ideal.τ).loc Cert.Kernel5Ideal.main_v35) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v61) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v14)) (v1 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_v16) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v67)) (v1 : (c : Dev Cert.Kernel7Ideal.nD) → Buf (Elt Ideal) ((c.tc : Thread Cert.Kernel7Ideal.nD Cert.Kernel7Ideal.τ).loc Cert.Kernel7Ideal.main_v71)) (v2 : (c : Dev Cert.Kernel7Ideal.nD) → Buf (Elt Ideal) ((c.tc : Thread Cert.Kernel7Ideal.nD Cert.Kernel7Ideal.τ).loc Cert.Kernel7Ideal.main_v75)) (v3 : (c : Dev Cert.Kernel7Ideal.nD) → Buf (Elt Ideal) ((c.tc : Thread Cert.Kernel7Ideal.nD Cert.Kernel7Ideal.τ).loc Cert.Kernel7Ideal.main_v76)) (v4 : (c : Dev Cert.Kernel7Ideal.nD) → Buf (Elt Ideal) ((c.tc : Thread Cert.Kernel7Ideal.nD Cert.Kernel7Ideal.τ).loc Cert.Kernel7Ideal.main_v80)) (v5 : (c : Dev Cert.Kernel7Ideal.nD) → Buf (Elt Ideal) ((c.tc : Thread Cert.Kernel7Ideal.nD Cert.Kernel7Ideal.τ).loc Cert.Kernel7Ideal.main_v81)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v67) = v0 c
          ∧ r.2.mem ((c.tc : Thread Cert.Kernel7Ideal.nD Cert.Kernel7Ideal.τ).loc Cert.Kernel7Ideal.main_v71) = v1 c
          ∧ r.2.mem ((c.tc : Thread Cert.Kernel7Ideal.nD Cert.Kernel7Ideal.τ).loc Cert.Kernel7Ideal.main_v75) = v2 c
          ∧ r.2.mem ((c.tc : Thread Cert.Kernel7Ideal.nD Cert.Kernel7Ideal.τ).loc Cert.Kernel7Ideal.main_v76) = v3 c
          ∧ r.2.mem ((c.tc : Thread Cert.Kernel7Ideal.nD Cert.Kernel7Ideal.τ).loc Cert.Kernel7Ideal.main_v80) = v4 c
          ∧ r.2.mem ((c.tc : Thread Cert.Kernel7Ideal.nD Cert.Kernel7Ideal.τ).loc Cert.Kernel7Ideal.main_v81) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v44) = v4 c
          ∧ r.2.mem ((c.tc : Thread Cert.Reference7Ideal.nD Cert.Reference7Ideal.τ).loc Cert.Reference7Ideal.main_v52) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S128x4x2048 : Shape := ⟨3, ![128, 4, 2048]⟩
abbrev S1x2048 : Shape := ⟨2, ![1, 2048]⟩
abbrev S1x32x64 : Shape := ⟨3, ![1, 32, 64]⟩
abbrev S1x128x32x64x64 : Shape := ⟨5, ![1, 128, 32, 64, 64]⟩
abbrev S128x4x1x32x64 : Shape := ⟨5, ![128, 4, 1, 32, 64]⟩
abbrev S128x4x1x64x32 : Shape := ⟨5, ![128, 4, 1, 64, 32]⟩
abbrev S1x128x4x64x32 : Shape := ⟨5, ![1, 128, 4, 64, 32]⟩
abbrev S1x32x64x4x128 : Shape := ⟨5, ![1, 32, 64, 4, 128]⟩
abbrev S32x64x4x128 : Shape := ⟨4, ![32, 64, 4, 128]⟩
abbrev S2048 : Shape := ⟨1, ![2048]⟩
abbrev S32x64 : Shape := ⟨2, ![32, 64]⟩
abbrev S1x32x64x1 : Shape := ⟨4, ![1, 32, 64, 1]⟩
abbrev S1x32x64x128 : Shape := ⟨4, ![1, 32, 64, 128]⟩
abbrev S32x64x128 : Shape := ⟨3, ![32, 64, 128]⟩
abbrev S1x128x4x32x64 : Shape := ⟨5, ![1, 128, 4, 32, 64]⟩
abbrev S1x32x4x64x128 : Shape := ⟨5, ![1, 32, 4, 64, 128]⟩
abbrev S32x4x64x128 : Shape := ⟨4, ![32, 4, 64, 128]⟩
abbrev S128x32x64x64 : Shape := ⟨4, ![128, 32, 64, 64]⟩
abbrev S1x32x64x64x128 : Shape := ⟨5, ![1, 32, 64, 64, 128]⟩
abbrev S32x64x64x128 : Shape := ⟨4, ![32, 64, 64, 128]⟩
abbrev S1x64x4x128 : Shape := ⟨4, ![1, 64, 4, 128]⟩
abbrev S1x4x64x128 : Shape := ⟨4, ![1, 4, 64, 128]⟩
abbrev S1x64x128 : Shape := ⟨3, ![1, 64, 128]⟩
abbrev S1x64x64x128 : Shape := ⟨4, ![1, 64, 64, 128]⟩
abbrev S64x4x128 : Shape := ⟨3, ![64, 4, 128]⟩
abbrev S4x128 : Shape := ⟨2, ![4, 128]⟩
abbrev S1x1x4x128 : Shape := ⟨4, ![1, 1, 4, 128]⟩
abbrev S1x1x128 : Shape := ⟨3, ![1, 1, 128]⟩
abbrev S1x128 : Shape := ⟨2, ![1, 128]⟩
abbrev S1x4x128 : Shape := ⟨3, ![1, 4, 128]⟩
abbrev S1x1x64x128 : Shape := ⟨4, ![1, 1, 64, 128]⟩
abbrev S64x128 : Shape := ⟨2, ![64, 128]⟩
abbrev S1x1x1x128 : Shape := ⟨4, ![1, 1, 1, 128]⟩
abbrev S128 : Shape := ⟨1, ![128]⟩

abbrev nBuf : Space → Nat
  | .hbm => 70
  | .vmem => 30
  | .smem => 0
  | _ => 0

abbrev bufTy : (tb : Table) → Fin (tcTables nBuf tb) → BufTy
  | .hbm, ⟨0, _⟩ => ⟨S128x4x2048, .f32⟩
  | .hbm, ⟨1, _⟩ => ⟨S128x4x2048, .f32⟩
  | .hbm, ⟨2, _⟩ => ⟨S128x4x2048, .f32⟩
  | .hbm, ⟨3, _⟩ => ⟨S128x4x2048, .f32⟩
  | .hbm, ⟨4, _⟩ => ⟨S128x4x2048, .f32⟩
  | .hbm, ⟨5, _⟩ => ⟨S1x2048, .f32⟩
  | .hbm, ⟨6, _⟩ => ⟨S1x2048, .f32⟩
  | .hbm, ⟨7, _⟩ => ⟨S1x32x64, .f32⟩
  | .hbm, ⟨8, _⟩ => ⟨S1x2048, .f32⟩
  | .hbm, ⟨9, _⟩ => ⟨S1x2048, .f32⟩
  | .hbm, ⟨10, _⟩ => ⟨S1x128x32x64x64, .f32⟩
  | .hbm, ⟨11, _⟩ => ⟨S128x4x1x32x64, .f32⟩
  | .hbm, ⟨12, _⟩ => ⟨S128x4x1x64x32, .f32⟩
  | .hbm, ⟨13, _⟩ => ⟨S128x4x2048, .f32⟩
  | .hbm, ⟨14, _⟩ => ⟨S1x128x4x64x32, .f32⟩
  | .hbm, ⟨15, _⟩ => ⟨S1x32x64x4x128, .f32⟩
  | .hbm, ⟨16, _⟩ => ⟨S32x64x4x128, .f32⟩
  | .hbm, ⟨17, _⟩ => ⟨S128x4x1x32x64, .f32⟩
  | .hbm, ⟨18, _⟩ => ⟨S128x4x1x64x32, .f32⟩
  | .hbm, ⟨19, _⟩ => ⟨S128x4x2048, .f32⟩
  | .hbm, ⟨20, _⟩ => ⟨S1x128x4x64x32, .f32⟩
  | .hbm, ⟨21, _⟩ => ⟨S1x32x64x4x128, .f32⟩
  | .hbm, ⟨22, _⟩ => ⟨S32x64x4x128, .f32⟩
  | .hbm, ⟨23, _⟩ => ⟨S128x4x1x32x64, .f32⟩
  | .hbm, ⟨24, _⟩ => ⟨S128x4x1x64x32, .f32⟩
  | .hbm, ⟨25, _⟩ => ⟨S128x4x2048, .f32⟩
  | .hbm, ⟨26, _⟩ => ⟨S1x128x4x64x32, .f32⟩
  | .hbm, ⟨27, _⟩ => ⟨S1x32x64x4x128, .f32⟩
  | .hbm, ⟨28, _⟩ => ⟨S32x64x4x128, .f32⟩
  | .hbm, ⟨29, _⟩ => ⟨S128x4x1x32x64, .f32⟩
  | .hbm, ⟨30, _⟩ => ⟨S128x4x1x64x32, .f32⟩
  | .hbm, ⟨31, _⟩ => ⟨S128x4x2048, .f32⟩
  | .hbm, ⟨32, _⟩ => ⟨S1x128x4x64x32, .f32⟩
  | .hbm, ⟨33, _⟩ => ⟨S1x32x64x4x128, .f32⟩
  | .hbm, ⟨34, _⟩ => ⟨S32x64x4x128, .f32⟩
  | .hbm, ⟨35, _⟩ => ⟨S2048, .f32⟩
  | .hbm, ⟨36, _⟩ => ⟨S2048, .f32⟩
  | .hbm, ⟨37, _⟩ => ⟨S32x64, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S32x64, .f32⟩
  | .hbm, ⟨42, _⟩ => ⟨S1x32x64x1, .f32⟩
  | .hbm, ⟨43, _⟩ => ⟨S1x32x64x128, .f32⟩
  | .hbm, ⟨44, _⟩ => ⟨S32x64x128, .f32⟩
  | .hbm, ⟨45, _⟩ => ⟨S32x64, .f32⟩
  | .hbm, ⟨46, _⟩ => ⟨S1x32x64x1, .f32⟩
  | .hbm, ⟨47, _⟩ => ⟨S1x32x64x128, .f32⟩
  | .hbm, ⟨48, _⟩ => ⟨S32x64x128, .f32⟩
  | .hbm, ⟨49, _⟩ => ⟨S32x64, .f32⟩
  | .hbm, ⟨50, _⟩ => ⟨S1x32x64x1, .f32⟩
  | .hbm, ⟨51, _⟩ => ⟨S1x32x64x128, .f32⟩
  | .hbm, ⟨52, _⟩ => ⟨S32x64x128, .f32⟩
  | .hbm, ⟨53, _⟩ => ⟨S32x64, .f32⟩
  | .hbm, ⟨54, _⟩ => ⟨S1x32x64x1, .f32⟩
  | .hbm, ⟨55, _⟩ => ⟨S1x32x64x128, .f32⟩
  | .hbm, ⟨56, _⟩ => ⟨S32x64x128, .f32⟩
  | .hbm, ⟨57, _⟩ => ⟨S32x64, .f32⟩
  | .hbm, ⟨58, _⟩ => ⟨S1x32x64x1, .f32⟩
  | .hbm, ⟨59, _⟩ => ⟨S1x32x64x128, .f32⟩
  | .hbm, ⟨60, _⟩ => ⟨S32x64x128, .f32⟩
  | .hbm, ⟨61, _⟩ => ⟨S1x128x4x32x64, .f32⟩
  | .hbm, ⟨62, _⟩ => ⟨S1x32x4x64x128, .f32⟩
  | .hbm, ⟨63, _⟩ => ⟨S32x4x64x128, .f32⟩
  | .hbm, ⟨64, _⟩ => ⟨S128x32x64x64, .f32⟩
  | .hbm, ⟨65, _⟩ => ⟨S1x128x32x64x64, .f32⟩
  | .hbm, ⟨66, _⟩ => ⟨S1x32x64x64x128, .f32⟩
  | .hbm, ⟨67, _⟩ => ⟨S32x64x64x128, .f32⟩
  | .hbm, ⟨68, _⟩ => ⟨S32x4x64x128, .f32⟩
  | .hbm, ⟨69, _⟩ => ⟨S32x64x64x128, .f32⟩
  | .local _ .vmem, ⟨0, _⟩ => ⟨S1x64x4x128, .f32⟩
  | .local _ .vmem, ⟨1, _⟩ => ⟨S1x64x4x128, .f32⟩
  | .local _ .vmem, ⟨2, _⟩ => ⟨S1x64x4x128, .f32⟩
  | .local _ .vmem, ⟨3, _⟩ => ⟨S1x64x4x128, .f32⟩
  | .local _ .vmem, ⟨4, _⟩ => ⟨S1x64x4x128, .f32⟩
  | .local _ .vmem, ⟨5, _⟩ => ⟨S1x64x4x128, .f32⟩
  | .local _ .vmem, ⟨6, _⟩ => ⟨S1x64x4x128, .f32⟩
  | .local _ .vmem, ⟨7, _⟩ => ⟨S1x64x4x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x64x128, .f32⟩
  | .local _ .vmem, ⟨21, _⟩ => ⟨S1x64x64x128, .f32⟩
  | .local _ .vmem, ⟨22, _⟩ => ⟨S1x4x64x128, .f32⟩
  | .local _ .vmem, ⟨23, _⟩ => ⟨S1x4x64x128, .f32⟩
  | .local _ .vmem, ⟨24, _⟩ => ⟨S1x64x64x128, .f32⟩
  | .local _ .vmem, ⟨25, _⟩ => ⟨S1x64x64x128, .f32⟩
  | .local _ .vmem, ⟨26, _⟩ => ⟨S64x4x128, .f32⟩
  | .local _ .vmem, ⟨27, _⟩ => ⟨S64x4x128, .f32⟩
  | .local _ .vmem, ⟨28, _⟩ => ⟨S64x4x128, .f32⟩
  | .local _ .vmem, ⟨29, _⟩ => ⟨S4x128, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57_0 : Ref sig .tc := ⟨.hbm, 68, rfl⟩
abbrev main_v57_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_2502 : BitVec 32 := 0#32
  let c4_i32 : BitVec 32 := 4#32
  let v2957 : BitVec 32 := Scalar.addi c0_i32_2502 c4_i32
  let c1_i32 : BitVec 32 := 1#32
  ⟨c0_i32_2502, v2957, c1_i32⟩
def k0_off1 (k0_t1 : Fin k0_t1_loop.trips) : Fin 4 → Nat :=
  let c0_2504 : Index := 0#32
  let c0_i32_2502 : BitVec 32 := 0#32
  let c1_i32 : BitVec 32 := 1#32
  let arg19 : BitVec 32 := Scf.iv c0_i32_2502 c1_i32 k0_t1
  let v2958 : Index := Scalar.indexCast arg19
  let c0_2505 : Index := 0#32
  let c0_2506 : Index := 0#32
  ![0, v2958.toNat, 0, 0]
@[reducible] def k0_t2_loop : Scf.Loop 32 :=
  let c0_i32_2508 : BitVec 32 := 0#32
  let c8_i32 : BitVec 32 := 8#32
  let v2962 : BitVec 32 := Scalar.addi c0_i32_2508 c8_i32
  let c1_i32_2509 : BitVec 32 := 1#32
  ⟨c0_i32_2508, v2962, c1_i32_2509⟩
def k0_off2 (k0_t2 : Fin k0_t2_loop.trips) (c0_i32_2532 : BitVec 32) : Fin 4 → Nat :=
  let c0_2533 : Index := 0#32
  let c0_i32_2508 : BitVec 32 := 0#32
  let c1_i32_2509 : BitVec 32 := 1#32
  let arg20 : BitVec 32 := Scf.iv c0_i32_2508 c1_i32_2509 k0_t2
  let c8_i32_2531 : BitVec 32 := 8#32
  let v2998 : BitVec 32 := Scalar.muli arg20 c8_i32_2531
  let v2999 : BitVec 32 := Scalar.addi v2998 c0_i32_2532
  let v3000 : Index := Scalar.indexCast v2999
  let c0_2534 : Index := 0#32
  let c0_2535 : Index := 0#32
  ![0, v3000.toNat, 0, 0]
def k0_off3 (k0_t1 : Fin k0_t1_loop.trips) (k0_t2 : Fin k0_t2_loop.trips) (c0_i32_2532 : BitVec 32) : Fin 3 → Nat :=
  let c0_i32_2508 : BitVec 32 := 0#32
  let c1_i32_2509 : BitVec 32 := 1#32
  let arg20 : BitVec 32 := Scf.iv c0_i32_2508 c1_i32_2509 k0_t2
  let c8_i32_2531 : BitVec 32 := 8#32
  let v2998 : BitVec 32 := Scalar.muli arg20 c8_i32_2531
  let v2999 : BitVec 32 := Scalar.addi v2998 c0_i32_2532
  let v3003 : Index := Scalar.indexCast v2999
  let c0_i32_2502 : BitVec 32 := 0#32
  let c1_i32 : BitVec 32 := 1#32
  let arg19 : BitVec 32 := Scf.iv c0_i32_2502 c1_i32 k0_t1
  let v3004 : Index := Scalar.indexCast arg19
  let c0_2536 : Index := 0#32
  ![v3003.toNat, v3004.toNat, 0]
@[reducible] def k0_t3_loop : Scf.Loop 32 :=
  let c0_i32_2512 : BitVec 32 := 0#32
  let c8_i32_2513 : BitVec 32 := 8#32
  let v2965 : BitVec 32 := Scalar.addi c0_i32_2512 c8_i32_2513
  let c1_i32_2514 : BitVec 32 := 1#32
  ⟨c0_i32_2512, v2965, c1_i32_2514⟩
def k0_off4 (k0_t3 : Fin k0_t3_loop.trips) (c0_i32_2532 : BitVec 32) : Fin 4 → Nat :=
  let c0_2533 : Index := 0#32
  let c0_i32_2512 : BitVec 32 := 0#32
  let c1_i32_2514 : BitVec 32 := 1#32
  let arg20 : BitVec 32 := Scf.iv c0_i32_2512 c1_i32_2514 k0_t3
  let c8_i32_2531 : BitVec 32 := 8#32
  let v2998 : BitVec 32 := Scalar.muli arg20 c8_i32_2531
  let v2999 : BitVec 32 := Scalar.addi v2998 c0_i32_2532
  let v3000 : Index := Scalar.indexCast v2999
  let c0_2534 : Index := 0#32
  let c0_2535 : Index := 0#32
  ![0, v3000.toNat, 0, 0]
def k0_off5 (k0_t1 : Fin k0_t1_loop.trips) (k0_t3 : Fin k0_t3_loop.trips) (c0_i32_2532 : BitVec 32) : Fin 4 → Nat :=
  let c0_2536 : Index := 0#32
  let c0_i32_2512 : BitVec 32 := 0#32
  let c1_i32_2514 : BitVec 32 := 1#32
  let arg20 : BitVec 32 := Scf.iv c0_i32_2512 c1_i32_2514 k0_t3
  let c8_i32_2531 : BitVec 32 := 8#32
  let v2998 : BitVec 32 := Scalar.muli arg20 c8_i32_2531
  let v2999 : BitVec 32 := Scalar.addi v2998 c0_i32_2532
  let v3003 : Index := Scalar.indexCast v2999
  let c0_i32_2502 : BitVec 32 := 0#32
  let c1_i32 : BitVec 32 := 1#32
  let arg19 : BitVec 32 := Scf.iv c0_i32_2502 c1_i32 k0_t1
  let v3004 : Index := Scalar.indexCast arg19
  let c0_2537 : Index := 0#32
  ![0, v3003.toNat, v3004.toNat, 0]
def k0_off6 (k0_t1 : Fin k0_t1_loop.trips) (k0_t3 : Fin k0_t3_loop.trips) (c0_i32_2532 : BitVec 32) : Fin 3 → Nat :=
  let c0_i32_2512 : BitVec 32 := 0#32
  let c1_i32_2514 : BitVec 32 := 1#32
  let arg20 : BitVec 32 := Scf.iv c0_i32_2512 c1_i32_2514 k0_t3
  let c8_i32_2531 : BitVec 32 := 8#32
  let v2998 : BitVec 32 := Scalar.muli arg20 c8_i32_2531
  let v2999 : BitVec 32 := Scalar.addi v2998 c0_i32_2532
  let v3009 : Index := Scalar.indexCast v2999
  let c0_i32_2502 : BitVec 32 := 0#32
  let c1_i32 : BitVec 32 := 1#32
  let arg19 : BitVec 32 := Scf.iv c0_i32_2502 c1_i32 k0_t1
  let v3010 : Index := Scalar.indexCast arg19
  let c0_2538 : Index := 0#32
  ![v3009.toNat, v3010.toNat, 0]
def k0_off7 (k0_t1 : Fin k0_t1_loop.trips) : Fin 2 → Nat :=
  let c0_i32_2502 : BitVec 32 := 0#32
  let c1_i32 : BitVec 32 := 1#32
  let arg19 : BitVec 32 := Scf.iv c0_i32_2502 c1_i32 k0_t1
  let v2989 : Index := Scalar.indexCast arg19
  let c0_2527 : Index := 0#32
  ![v2989.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S128x4x2048 : Shape := ⟨3, ![128, 4, 2048]⟩
abbrev S1x2048 : Shape := ⟨2, ![1, 2048]⟩
abbrev S1x32x64 : Shape := ⟨3, ![1, 32, 64]⟩
abbrev S1x128x32x64x64 : Shape := ⟨5, ![1, 128, 32, 64, 64]⟩
abbrev S2048 : Shape := ⟨1, ![2048]⟩
abbrev S32x64 : Shape := ⟨2, ![32, 64]⟩
abbrev S128x32x64x64 : Shape := ⟨4, ![128, 32, 64, 64]⟩
abbrev S1x1x2048 : Shape := ⟨3, ![1, 1, 2048]⟩
abbrev S128x4x32x64 : Shape := ⟨4, ![128, 4, 32, 64]⟩
abbrev S_ : Shape := ⟨0, ![]⟩
abbrev S128x4x32 : Shape := ⟨3, ![128, 4, 32]⟩
abbrev S128x4x32x1 : Shape := ⟨4, ![128, 4, 32, 1]⟩
abbrev S128x1x32x64 : Shape := ⟨4, ![128, 1, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩
abbrev S1x1x32x64 : Shape := ⟨4, ![1, 1, 32, 64]⟩
abbrev S32x4x64x128 : Shape := ⟨4, ![32, 4, 64, 128]⟩
abbrev S32x64x64x128 : Shape := ⟨4, ![32, 64, 64, 128]⟩

abbrev nBuf : Space → Nat
  | .hbm => 213
  | .vmem => 0
  | .smem => 0
  | _ => 0

abbrev hbmTy0_0 (i : Nat) : BufTy := match i % 128 with
  | 0 => ⟨S128x4x2048, .f32⟩
  | 1 => ⟨S128x4x2048, .f32⟩
  | 2 => ⟨S128x4x2048, .f32⟩
  | 3 => ⟨S128x4x2048, .f32⟩
  | 4 => ⟨S128x4x2048, .f32⟩
  | 5 => ⟨S1x2048, .f32⟩
  | 6 => ⟨S1x2048, .f32⟩
  | 7 => ⟨S1x32x64, .f32⟩
  | 8 => ⟨S1x2048, .f32⟩
  | 9 => ⟨S1x2048, .f32⟩
  | 10 => ⟨S1x128x32x64x64, .f32⟩
  | 11 => ⟨S2048, .f32⟩
  | 12 => ⟨S2048, .f32⟩
  | 13 => ⟨S32x64, .f32⟩
  | 14 => ⟨S2048, .f32⟩
  | 15 => ⟨S2048, .f32⟩
  | 16 => ⟨S128x32x64x64, .f32⟩
  | 17 => ⟨S1x1x2048, .f32⟩
  | 18 => ⟨S128x4x2048, .f32⟩
  | 19 => ⟨S128x4x2048, .f32⟩
  | 20 => ⟨S128x4x32x64, .f32⟩
  | 21 => ⟨S128x4x32x64, .f32⟩
  | 22 => ⟨S_, .f32⟩
  | 23 => ⟨S128x4x32, .f32⟩
  | 24 => ⟨S128x4x32x1, .f32⟩
  | 25 => ⟨S128x4x32x1, .f32⟩
  | 26 => ⟨S_, .f32⟩
  | 27 => ⟨S128x4x32x1, .f32⟩
  | 28 => ⟨S128x4x32x1, .f32⟩
  | 29 => ⟨S128x4x32x64, .f32⟩
  | 30 => ⟨S128x4x32x64, .f32⟩
  | 31 => ⟨S_, .f32⟩
  | 32 => ⟨S128x4x2048, .f32⟩
  | 33 => ⟨S128x4x2048, .f32⟩
  | 34 => ⟨S1x1x2048, .f32⟩
  | 35 => ⟨S128x4x2048, .f32⟩
  | 36 => ⟨S128x4x2048, .f32⟩
  | 37 => ⟨S_, .f32⟩
  | 38 => ⟨S128x4x2048, .f32⟩
  | 39 => ⟨S128x4x2048, .f32⟩
  | 40 => ⟨S128x4x2048, .f32⟩
  | 41 => ⟨S128x4x32x64, .f32⟩
  | 42 => ⟨S128x4x32x64, .f32⟩
  | 43 => ⟨S128x4x32x64, .f32⟩
  | 44 => ⟨S128x4x32x64, .f32⟩
  | 45 => ⟨S128x4x32x64, .f32⟩
  | 46 => ⟨S128x4x32x64, .f32⟩
  | 47 => ⟨S128x4x32x64, .f32⟩
  | 48 => ⟨S128x1x32x64, .f32⟩
  | 49 => ⟨S128x32x64, .f32⟩
  | 50 => ⟨S128x32x64, .f32⟩
  | 51 => ⟨S128x1x32x64, .f32⟩
  | 52 => ⟨S128x32x64, .f32⟩
  | 53 => ⟨S128x32x1x64, .f32⟩
  | 54 => ⟨S128x32x64x64, .f32⟩
  | 55 => ⟨S128x32x64x64, .f32⟩
  | 56 => ⟨S128x32x64x1, .f32⟩
  | 57 => ⟨S128x1x32x64, .f32⟩
  | 58 => ⟨S128x32x64, .f32⟩
  | 59 => ⟨S128x32x1x64, .f32⟩
  | 60 => ⟨S128x32x64x64, .f32⟩
  | 61 => ⟨S128x32x64x64, .f32⟩
  | 62 => ⟨S128x32x64x64, .f32⟩
  | 63 => ⟨S128x32x64x64, .f32⟩
  | 64 => ⟨S128x1x32x64, .f32⟩
  | 65 => ⟨S128x32x64, .f32⟩
  | 66 => ⟨S128x32x64x1, .f32⟩
  | 67 => ⟨S128x1x32x64, .f32⟩
  | 68 => ⟨S128x32x64, .f32⟩
  | 69 => ⟨S128x32x1x64, .f32⟩
  | 70 => ⟨S128x32x64x64, .f32⟩
  | 71 => ⟨S128x32x64x64, .f32⟩
  | 72 => ⟨S128x32x64x64, .f32⟩
  | 73 => ⟨S128x32x64x64, .f32⟩
  | 74 => ⟨S128x1x32x64, .f32⟩
  | 75 => ⟨S128x32x64, .f32⟩
  | 76 => ⟨S128x32x64, .f32⟩
  | 77 => ⟨S128x1x32x64, .f32⟩
  | 78 => ⟨S128x32x64, .f32⟩
  | 79 => ⟨S128x32x64, .f32⟩
  | 80 => ⟨S128x1x32x64, .f32⟩
  | 81 => ⟨S128x32x64, .f32⟩
  | 82 => ⟨S128x32x1x64, .f32⟩
  | 83 => ⟨S128x32x64x64, .f32⟩
  | 84 => ⟨S128x32x64x64, .f32⟩
  | 85 => ⟨S128x32x64x1, .f32⟩
  | 86 => ⟨S128x1x32x64, .f32⟩
  | 87 => ⟨S128x32x64, .f32⟩
  | 88 => ⟨S128x32x1x64, .f32⟩
  | 89 => ⟨S128x32x64x64, .f32⟩
  | 90 => ⟨S128x32x64x64, .f32⟩
  | 91 => ⟨S128x32x64x64, .f32⟩
  | 92 => ⟨S128x32x64x64, .f32⟩
  | 93 => ⟨S128x1x32x64, .f32⟩
  | 94 => ⟨S128x32x64, .f32⟩
  | 95 => ⟨S128x32x64x1, .f32⟩
  | 96 => ⟨S128x1x32x64, .f32⟩
  | 97 => ⟨S128x32x64, .f32⟩
  | 98 => ⟨S128x32x1x64, .f32⟩
  | 99 => ⟨S128x32x64x64, .f32⟩
  | 100 => ⟨S128x32x64x64, .f32⟩
  | 101 => ⟨S128x32x64x64, .f32⟩
  | 102 => ⟨S128x32x64x64, .f32⟩
  | 103 => ⟨S128x1x32x64, .f32⟩
  | 104 => ⟨S128x32x64, .f32⟩
  | 105 => ⟨S128x32x64, .f32⟩
  | 106 => ⟨S128x1x32x64, .f32⟩
  | 107 => ⟨S128x32x64, .f32⟩
  | 108 => ⟨S128x32x64, .f32⟩
  | 109 => ⟨S128x1x32x64, .f32⟩
  | 110 => ⟨S128x32x64, .f32⟩
  | 111 => ⟨S128x32x1x64, .f32⟩
  | 112 => ⟨S128x32x64x64, .f32⟩
  | 113 => ⟨S128x32x64x64, .f32⟩
  | 114 => ⟨S128x32x64x1, .f32⟩
  | 115 => ⟨S128x1x32x64, .f32⟩
  | 116 => ⟨S128x32x64, .f32⟩
  | 117 => ⟨S128x32x1x64, .f32⟩
  | 118 => ⟨S128x32x64x64, .f32⟩
  | 119 => ⟨S128x32x64x64, .f32⟩
  | 120 => ⟨S128x32x64x64, .f32⟩
  | 121 => ⟨S128x32x64x64, .f32⟩
  | 122 => ⟨S128x1x32x64, .f32⟩
  | 123 => ⟨S128x32x64, .f32⟩
  | 124 => ⟨S128x32x64x1, .f32⟩
  | 125 => ⟨S128x1x32x64, .f32⟩
  | 126 => ⟨S128x32x64, .f32⟩
  | 127 => ⟨S128x32x1x64, .f32⟩
  | _ => ⟨S128x4x2048, .f32⟩

abbrev hbmTy0_1 (i : Nat) : BufTy := match i % 128 with
  | 0 => ⟨S128x32x64x64, .f32⟩
  | 1 => ⟨S128x32x64x64, .f32⟩
  | 2 => ⟨S128x32x64x64, .f32⟩
  | 3 => ⟨S128x32x64x64, .f32⟩
  | 4 => ⟨S128x1x32x64, .f32⟩
  | 5 => ⟨S128x32x64, .f32⟩
  | 6 => ⟨S128x32x64, .f32⟩
  | 7 => ⟨S128x1x32x64, .f32⟩
  | 8 => ⟨S128x32x64, .f32⟩
  | 9 => ⟨S128x32x64, .f32⟩
  | 10 => ⟨S128x1x32x64, .f32⟩
  | 11 => ⟨S128x32x64, .f32⟩
  | 12 => ⟨S128x32x1x64, .f32⟩
  | 13 => ⟨S128x32x64x64, .f32⟩
  | 14 => ⟨S128x32x64x64, .f32⟩
  | 15 => ⟨S128x32x64x1, .f32⟩
  | 16 => ⟨S128x1x32x64, .f32⟩
  | 17 => ⟨S128x32x64, .f32⟩
  | 18 => ⟨S128x32x1x64, .f32⟩
  | 19 => ⟨S128x32x64x64, .f32⟩
  | 20 => ⟨S128x32x64x64, .f32⟩
  | 21 => ⟨S128x32x64x64, .f32⟩
  | 22 => ⟨S128x32x64x64, .f32⟩
  | 23 => ⟨S128x1x32x64, .f32⟩
  | 24 => ⟨S128x32x64, .f32⟩
  | 25 => ⟨S128x32x64x1, .f32⟩
  | 26 => ⟨S128x1x32x64, .f32⟩
  | 27 => ⟨S128x32x64, .f32⟩
  | 28 => ⟨S128x32x1x64, .f32⟩
  | 29 => ⟨S128x32x64x64, .f32⟩
  | 30 => ⟨S128x32x64x64, .f32⟩
  | 31 => ⟨S128x32x64x64, .f32⟩
  | 32 => ⟨S128x32x64x64, .f32⟩
  | 33 => ⟨S128x1x32x64, .f32⟩
  | 34 => ⟨S128x32x64, .f32⟩
  | 35 => ⟨S128x32x64, .f32⟩
  | 36 => ⟨S128x1x32x64, .f32⟩
  | 37 => ⟨S128x1x32x64, .f32⟩
  | 38 => ⟨S128x1x32x64, .f32⟩
  | 39 => ⟨S128x1x32x64, .f32⟩
  | 40 => ⟨S128x4x32x64, .f32⟩
  | 41 => ⟨S_, .f32⟩
  | 42 => ⟨S128x4x32, .f32⟩
  | 43 => ⟨S128x4x32x1, .f32⟩
  | 44 => ⟨S_, .f32⟩
  | 45 => ⟨S128x4x32x1, .f32⟩
  | 46 => ⟨S128x4x32x1, .f32⟩
  | 47 => ⟨S128x4x32x64, .f32⟩
  | 48 => ⟨S128x4x32x64, .f32⟩
  | 49 => ⟨S128x4x32x64, .f32⟩
  | 50 => ⟨S_, .f32⟩
  | 51 => ⟨S128x4x32, .f32⟩
  | 52 => ⟨S128x4x32x1, .f32⟩
  | 53 => ⟨S_, .f32⟩
  | 54 => ⟨S128x4x32x1, .f32⟩
  | 55 => ⟨S128x4x32x1, .f32⟩
  | 56 => ⟨S128x4x32x64, .f32⟩
  | 57 => ⟨S128x4x32x64, .f32⟩
  | 58 => ⟨S_, .f32⟩
  | 59 => ⟨S128x4x32x1, .f32⟩
  | 60 => ⟨S128x4x32x1, .f32⟩
  | 61 => ⟨S128x4x32x1, .f32⟩
  | 62 => ⟨S128x4x32x64, .f32⟩
  | 63 => ⟨S128x4x32x64, .f32⟩
  | 64 => ⟨S128x4x2048, .f32⟩
  | 65 => ⟨S1x1x2048, .f32⟩
  | 66 => ⟨S128x4x2048, .f32⟩
  | 67 => ⟨S128x4x2048, .f32⟩
  | 68 => ⟨S1x1x2048, .f32⟩
  | 69 => ⟨S128x4x2048, .f32⟩
  | 70 => ⟨S128x4x2048, .f32⟩
  | 71 => ⟨S128x4x32x64, .f32⟩
  | 72 => ⟨S1x1x32x64, .f32⟩
  | 73 => ⟨S128x4x32x64, .f32⟩
  | 74 => ⟨S128x4x32x64, .f32⟩
  | 75 => ⟨S_, .f32⟩
  | 76 => ⟨S128x4x32, .f32⟩
  | 77 => ⟨S128x4x32x1, .f32⟩
  | 78 => ⟨S128x4x32x64, .f32⟩
  | 79 => ⟨S128x4x32x64, .f32⟩
  | 80 => ⟨S128x4x2048, .f32⟩
  | 81 => ⟨S128x4x2048, .f32⟩
  | 82 => ⟨S128x4x32x64, .f32⟩
  | 83 => ⟨S32x4x64x128, .f32⟩
  | 84 => ⟨S32x64x64x128, .f32⟩
  | _ => ⟨S128x4x2048, .f32⟩

abbrev hbmTy (i : Nat) : BufTy := match i / 128 with
  | 0 => hbmTy0_0 i
  | 1 => hbmTy0_1 i
  | _ => ⟨S128x4x2048, .f32⟩

abbrev bufTy : (tb : Table) → Fin (tcTables nBuf tb) → BufTy
  | .hbm, ⟨i, _⟩ => hbmTy i
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_3 : Ref sig .tc := ⟨.hbm, 169, rfl⟩
abbrev main_v154 : Ref sig .tc := ⟨.hbm, 170, rfl⟩
abbrev main_v155 : Ref sig .tc := ⟨.hbm, 171, rfl⟩
abbrev main_cst_4 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_5 : Ref sig .tc := ⟨.hbm, 178, rfl⟩
abbrev main_v161 : Ref sig .tc := ⟨.hbm, 179, rfl⟩
abbrev main_v162 : Ref sig .tc := ⟨.hbm, 180, rfl⟩
abbrev main_cst_6 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_cst_7 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_cst_8 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩

abbrev nD : Nat := 1
abbrev τ : Topo := Topo.v7x

variable {F : FTy → Type} [FloatOps F]
-- ==== Kernel2.lean ====
abbrev S4x2048x4096 : Shape := ⟨3, ![4, 2048, 4096]⟩
abbrev S128x4x4096 : Shape := ⟨3, ![128, 4, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S4096 : Shape := ⟨1, ![4096]⟩
abbrev S4x2048x2048 : Shape := ⟨3, ![4, 2048, 2048]⟩
abbrev S128x4x2048 : Shape := ⟨3, ![128, 4, 2048]⟩
abbrev S4x2048x1024 : Shape := ⟨3, ![4, 2048, 1024]⟩
abbrev S128x4x1024 : Shape := ⟨3, ![128, 4, 1024]⟩
abbrev S4x2048x12288 : Shape := ⟨3, ![4, 2048, 12288]⟩
abbrev S128x4x12288 : Shape := ⟨3, ![128, 4, 12288]⟩
abbrev S1x2048x4096 : Shape := ⟨3, ![1, 2048, 4096]⟩
abbrev S1x1024x4096 : Shape := ⟨3, ![1, 1024, 4096]⟩
abbrev S1x4096x4096 : Shape := ⟨3, ![1, 4096, 4096]⟩
abbrev S8192x4096 : Shape := ⟨2, ![8192, 4096]⟩
abbrev S512x4096 : Shape := ⟨2, ![512, 4096]⟩
abbrev S8704x4096 : Shape := ⟨2, ![8704, 4096]⟩
abbrev S8192x2048 : Shape := ⟨2, ![8192, 2048]⟩
abbrev S512x2048 : Shape := ⟨2, ![512, 2048]⟩
abbrev S8704x2048 : Shape := ⟨2, ![8704, 2048]⟩
abbrev S8192x1024 : Shape := ⟨2, ![8192, 1024]⟩
abbrev S512x1024 : Shape := ⟨2, ![512, 1024]⟩
abbrev S8704x1024 : Shape := ⟨2, ![8704, 1024]⟩
abbrev S8192x12288 : Shape := ⟨2, ![8192, 12288]⟩
abbrev S512x12288 : Shape := ⟨2, ![512, 12288]⟩
abbrev S8704x12288 : Shape := ⟨2, ![8704, 12288]⟩
abbrev S2048x4096 : Shape := ⟨2, ![2048, 4096]⟩
abbrev S1024x4096 : Shape := ⟨2, ![1024, 4096]⟩
abbrev S1088x2048 : Shape := ⟨2, ![1088, 2048]⟩
abbrev S1088x1024 : Shape := ⟨2, ![1088, 1024]⟩
abbrev S1088x512 : Shape := ⟨2, ![1088, 512]⟩
abbrev S2048x512 : Shape := ⟨2, ![2048, 512]⟩
abbrev S1024x512 : Shape := ⟨2, ![1024, 512]⟩
abbrev S4096x4096 : Shape := ⟨2, ![4096, 4096]⟩
abbrev S1088x4096 : Shape := ⟨2, ![1088, 4096]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩
abbrev S4096x22016 : Shape := ⟨2, ![4096, 22016]⟩
abbrev S8704x11008 : Shape := ⟨2, ![8704, 11008]⟩
abbrev S2176x4096 : Shape := ⟨2, ![2176, 4096]⟩
abbrev S4096x256 : Shape := ⟨2, ![4096, 256]⟩
abbrev S2176x256 : Shape := ⟨2, ![2176, 256]⟩
abbrev S11008x4096 : Shape := ⟨2, ![11008, 4096]⟩
abbrev S1088x11008 : Shape := ⟨2, ![1088, 11008]⟩
abbrev S11008x256 : Shape := ⟨2, ![11008, 256]⟩
abbrev S1088x256 : Shape := ⟨2, ![1088, 256]⟩

abbrev nBuf : Space → Nat
  | .hbm => 54
  | .vmem => 57
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x4096, .f32⟩
  | .hbm, ⟨3, _⟩ => ⟨S1x4096x22016, .f32⟩
  | .hbm, ⟨4, _⟩ => ⟨S1x11008x4096, .f32⟩
  | .hbm, ⟨5, _⟩ => ⟨S4096, .f32⟩
  | .hbm, ⟨6, _⟩ => ⟨S4x2048x2048, .f32⟩
  | .hbm, ⟨7, _⟩ => ⟨S128x4x2048, .f32⟩
  | .hbm, ⟨8, _⟩ => ⟨S4x2048x1024, .f32⟩
  | .hbm, ⟨9, _⟩ => ⟨S128x4x1024, .f32⟩
  | .hbm, ⟨10, _⟩ => ⟨S4x2048x1024, .f32⟩
  | .hbm, ⟨11, _⟩ => ⟨S128x4x1024, .f32⟩
  | .hbm, ⟨12, _⟩ => ⟨S4x2048x12288, .f32⟩
  | .hbm, ⟨13, _⟩ => ⟨S128x4x12288, .f32⟩
  | .hbm, ⟨14, _⟩ => ⟨S1x2048x4096, .f32⟩
  | .hbm, ⟨15, _⟩ => ⟨S1x1024x4096, .f32⟩
  | .hbm, ⟨16, _⟩ => ⟨S1x1024x4096, .f32⟩
  | .hbm, ⟨17, _⟩ => ⟨S1x4096x4096, .f32⟩
  | .hbm, ⟨18, _⟩ => ⟨S8192x4096, .f32⟩
  | .hbm, ⟨19, _⟩ => ⟨S512x4096, .f32⟩
  | .hbm, ⟨20, _⟩ => ⟨S8704x4096, .f32⟩
  | .hbm, ⟨21, _⟩ => ⟨S8192x2048, .f32⟩
  | .hbm, ⟨22, _⟩ => ⟨S512x2048, .f32⟩
  | .hbm, ⟨23, _⟩ => ⟨S8704x2048, .f32⟩
  | .hbm, ⟨24, _⟩ => ⟨S8704x2048, .bf16⟩
  | .hbm, ⟨25, _⟩ => ⟨S8192x1024, .f32⟩
  | .hbm, ⟨26, _⟩ => ⟨S512x1024, .f32⟩
  | .hbm, ⟨27, _⟩ => ⟨S8704x1024, .f32⟩
  | .hbm, ⟨28, _⟩ => ⟨S8704x1024, .bf16⟩
  | .hbm, ⟨29, _⟩ => ⟨S8192x1024, .f32⟩
  | .hbm, ⟨30, _⟩ => ⟨S512x1024, .f32⟩
  | .hbm, ⟨31, _⟩ => ⟨S8704x1024, .f32⟩
  | .hbm, ⟨32, _⟩ => ⟨S8704x1024, .bf16⟩
  | .hbm, ⟨33, _⟩ => ⟨S8192x12288, .f32⟩
  | .hbm, ⟨34, _⟩ => ⟨S512x12288, .f32⟩
  | .hbm, ⟨35, _⟩ => ⟨S8704x12288, .f32⟩
  | .hbm, ⟨36, _⟩ => ⟨S8704x12288, .bf16⟩
  | .hbm, ⟨37, _⟩ => ⟨S2048x4096, .f32⟩
  | .hbm, ⟨38, _⟩ => ⟨S1024x4096, .f32⟩
  | .hbm, ⟨39, _⟩ => ⟨S1024x4096, .f32⟩
  | .hbm, ⟨40, _⟩ => ⟨S8704x4096, .bf16⟩
  | .hbm, ⟨41, _⟩ => ⟨S4096x4096, .f32⟩
  | .hbm, ⟨42, _⟩ => ⟨S8704x4096, .f32⟩
  | .hbm, ⟨43, _⟩ => ⟨S4096, .f32⟩
  | .hbm, ⟨44, _⟩ => ⟨S1x4096, .f32⟩
  | .hbm, ⟨45, _⟩ => ⟨S8704x4096, .bf16⟩
  | .hbm, ⟨46, _⟩ => ⟨S4096x22016, .f32⟩
  | .hbm, ⟨47, _⟩ => ⟨S8704x11008, .bf16⟩
  | .hbm, ⟨48, _⟩ => ⟨S11008x4096, .f32⟩
  | .hbm, ⟨49, _⟩ => ⟨S8704x4096, .f32⟩
  | .hbm, ⟨50, _⟩ => ⟨S1x4096, .f32⟩
  | .hbm, ⟨51, _⟩ => ⟨S8192x4096, .f32⟩
  | .hbm, ⟨52, _⟩ => ⟨S1x4096, .f32⟩
  | .hbm, ⟨53, _⟩ => ⟨S512x4096, .f32⟩
  | .local _ .vmem, ⟨0, _⟩ => ⟨S1088x2048, .bf16⟩
  | .local _ .vmem, ⟨1, _⟩ => ⟨S1088x2048, .bf16⟩
  | .local _ .vmem, ⟨2, _⟩ => ⟨S1088x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | .local _ .vmem, ⟨12, _⟩ => ⟨S2048x512, .f32⟩
  | .local _ .vmem, ⟨13, _⟩ => ⟨S2048x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1088x512, .bf16⟩
  | .local _ .vmem, ⟨19, _⟩ => ⟨S1088x512, .bf16⟩
  | .local _ .vmem, ⟨20, _⟩ => ⟨S1088x4096, .bf16⟩
  | .local _ .vmem, ⟨21, _⟩ => ⟨S1088x4096, .bf16⟩
  | .local _ .vmem, ⟨22, _⟩ => ⟨S4096x512, .f32⟩
  | .local _ .vmem, ⟨23, _⟩ => ⟨S4096x512, .f32⟩
  | .local _ .vmem, ⟨24, _⟩ => ⟨S1088x512, .f32⟩
  | .local _ .vmem, ⟨25, _⟩ => ⟨S1088x512, .f32⟩
  | .local _ .vmem, ⟨26, _⟩ => ⟨S1088x512, .f32⟩
  | .local _ .vmem, ⟨27, _⟩ => ⟨S1088x512, .f32⟩
  | .local _ .vmem, ⟨28, _⟩ => ⟨S256x4096, .f32⟩
  | .local _ .vmem, ⟨29, _⟩ => ⟨S256x4096, .f32⟩
  | .local _ .vmem, ⟨30, _⟩ => ⟨S1x4096, .f32⟩
  | .local _ .vmem, ⟨31, _⟩ => ⟨S256x4096, .bf16⟩
  | .local _ .vmem, ⟨32, _⟩ => ⟨S256x4096, .bf16⟩
  | .local _ .vmem, ⟨33, _⟩ => ⟨S2176x4096, .bf16⟩
  | .local _ .vmem, ⟨34, _⟩ => ⟨S4096x256, .f32⟩
  | .local _ .vmem, ⟨35, _⟩ => ⟨S4096x256, .f32⟩
  | .local _ .vmem, ⟨36, _⟩ => ⟨S4096x256, .f32⟩
  | .local _ .vmem, ⟨37, _⟩ => ⟨S4096x256, .f32⟩
  | .local _ .vmem, ⟨38, _⟩ => ⟨S2176x256, .bf16⟩
  | .local _ .vmem, ⟨39, _⟩ => ⟨S2176x256, .bf16⟩
  | .local _ .vmem, ⟨40, _⟩ => ⟨S1088x11008, .bf16⟩
  | .local _ .vmem, ⟨41, _⟩ => ⟨S11008x256, .f32⟩
  | .local _ .vmem, ⟨42, _⟩ => ⟨S11008x256, .f32⟩
  | .local _ .vmem, ⟨43, _⟩ => ⟨S1088x256, .f32⟩
  | .local _ .vmem, ⟨44, _⟩ => ⟨S1088x256, .f32⟩
  | .local _ .vmem, ⟨45, _⟩ => ⟨S1088x256, .f32⟩
  | .local _ .vmem, ⟨46, _⟩ => ⟨S1088x256, .f32⟩
  | .local _ .vmem, ⟨47, _⟩ => ⟨S256x4096, .f32⟩
  | .local _ .vmem, ⟨48, _⟩ => ⟨S256x4096, .f32⟩
  | .local _ .vmem, ⟨49, _⟩ => ⟨S1x4096, .f32⟩
  | .local _ .vmem, ⟨50, _⟩ => ⟨S256x4096, .f32⟩
  | .local _ .vmem, ⟨51, _⟩ => ⟨S256x4096, .f32⟩
  | .local _ .vmem, ⟨52, _⟩ => ⟨S256x4096, .f32⟩
  | .local _ .vmem, ⟨53, _⟩ => ⟨S256x4096, .f32⟩
  | .local _ .vmem, ⟨54, _⟩ => ⟨S1x4096, .f32⟩
  | .local _ .vmem, ⟨55, _⟩ => ⟨S256x4096, .f32⟩
  | .local _ .vmem, ⟨56, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32
abbrev cc3_sem0_0 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1088x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1088x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1088x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2176x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2176x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1088x11008 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S11008x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1088x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1088x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== Reference2Ideal.lean ====
abbrev S4x2048x4096 : Shape := ⟨3, ![4, 2048, 4096]⟩
abbrev S128x4x4096 : Shape := ⟨3, ![128, 4, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S4096 : Shape := ⟨1, ![4096]⟩
abbrev S4x2048x2048 : Shape := ⟨3, ![4, 2048, 2048]⟩
abbrev S128x4x2048 : Shape := ⟨3, ![128, 4, 2048]⟩
abbrev S4x2048x1024 : Shape := ⟨3, ![4, 2048, 1024]⟩
abbrev S128x4x1024 : Shape := ⟨3, ![128, 4, 1024]⟩
abbrev S4x2048x12288 : Shape := ⟨3, ![4, 2048, 12288]⟩
abbrev S128x4x12288 : Shape := ⟨3, ![128, 4, 12288]⟩
abbrev S1x2048x4096 : Shape := ⟨3, ![1, 2048, 4096]⟩
abbrev S1x1024x4096 : Shape := ⟨3, ![1, 1024, 4096]⟩
abbrev S1x4096x4096 : Shape := ⟨3, ![1, 4096, 4096]⟩
abbrev S2048x4096 : Shape := ⟨2, ![2048, 4096]⟩
abbrev S1024x4096 : Shape := ⟨2, ![1024, 4096]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x22016 : Shape := ⟨2, ![4096, 22016]⟩
abbrev S11008x4096 : Shape := ⟨2, ![11008, 4096]⟩
abbrev S4x2048x22016 : Shape := ⟨3, ![4, 2048, 22016]⟩
abbrev S4x2048x11008 : Shape := ⟨3, ![4, 2048, 11008]⟩
abbrev S8192x4096 : Shape := ⟨2, ![8192, 4096]⟩
abbrev S128x4 : Shape := ⟨2, ![128, 4]⟩
abbrev S128x4x1 : Shape := ⟨3, ![128, 4, 1]⟩
abbrev S128x4x22016 : Shape := ⟨3, ![128, 4, 22016]⟩
abbrev S128x4x11008 : Shape := ⟨3, ![128, 4, 11008]⟩
abbrev S512x4096 : Shape := ⟨2, ![512, 4096]⟩

abbrev nBuf : Space → Nat
  | .hbm => 160
  | .vmem => 0
  | .smem => 0
  | _ => 0

abbrev hbmTy0_0 (i : Nat) : BufTy := match i % 128 with
  | 0 => ⟨S4x2048x4096, .f32⟩
  | 1 => ⟨S128x4x4096, .f32⟩
  | 2 => ⟨S1x4096, .f32⟩
  | 3 => ⟨S1x4096x22016, .f32⟩
  | 4 => ⟨S1x11008x4096, .f32⟩
  | 5 => ⟨S4096, .f32⟩
  | 6 => ⟨S4x2048x2048, .f32⟩
  | 7 => ⟨S128x4x2048, .f32⟩
  | 8 => ⟨S4x2048x1024, .f32⟩
  | 9 => ⟨S128x4x1024, .f32⟩
  | 10 => ⟨S4x2048x1024, .f32⟩
  | 11 => ⟨S128x4x1024, .f32⟩
  | 12 => ⟨S4x2048x12288, .f32⟩
  | 13 => ⟨S128x4x12288, .f32⟩
  | 14 => ⟨S1x2048x4096, .f32⟩
  | 15 => ⟨S1x1024x4096, .f32⟩
  | 16 => ⟨S1x1024x4096, .f32⟩
  | 17 => ⟨S1x4096x4096, .f32⟩
  | 18 => ⟨S4x2048x4096, .f32⟩
  | 19 => ⟨S4x2048x4096, .f32⟩
  | 20 => ⟨S4x2048x4096, .f32⟩
  | 21 => ⟨S2048x4096, .f32⟩
  | 22 => ⟨S4x2048x4096, .f32⟩
  | 23 => ⟨S4x2048x4096, .f32⟩
  | 24 => ⟨S1024x4096, .f32⟩
  | 25 => ⟨S4x2048x4096, .f32⟩
  | 26 => ⟨S4x2048x4096, .f32⟩
  | 27 => ⟨S4x2048x4096, .f32⟩
  | 28 => ⟨S1024x4096, .f32⟩
  | 29 => ⟨S4x2048x4096, .f32⟩
  | 30 => ⟨S4x2048x4096, .f32⟩
  | 31 => ⟨S4x2048x4096, .f32⟩
  | 32 => ⟨S4096x4096, .f32⟩
  | 33 => ⟨S4x2048x4096, .f32⟩
  | 34 => ⟨S4x2048x4096, .f32⟩
  | 35 => ⟨S4096, .f32⟩
  | 36 => ⟨S4x2048x4096, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x1, .f32⟩
  | 47 => ⟨S4x2048x4096, .f32⟩
  | 48 => ⟨S4x2048x4096, .f32⟩
  | 49 => ⟨S1x1x4096, .f32⟩
  | 50 => ⟨S4x2048x4096, .f32⟩
  | 51 => ⟨S4x2048x4096, .f32⟩
  | 52 => ⟨S4096x22016, .f32⟩
  | 53 => ⟨S11008x4096, .f32⟩
  | 54 => ⟨S4x2048x22016, .f32⟩
  | 55 => ⟨S4x2048x11008, .f32⟩
  | 56 => ⟨S4x2048x11008, .f32⟩
  | 57 => ⟨S4x2048x11008, .f32⟩
  | 58 => ⟨S4x2048x11008, .f32⟩
  | 59 => ⟨S_, .f32⟩
  | 60 => ⟨S4x2048x11008, .f32⟩
  | 61 => ⟨S4x2048x11008, .f32⟩
  | 62 => ⟨S_, .f32⟩
  | 63 => ⟨S4x2048x11008, .f32⟩
  | 64 => ⟨S4x2048x11008, .f32⟩
  | 65 => ⟨S4x2048x11008, .f32⟩
  | 66 => ⟨S4x2048x11008, .f32⟩
  | 67 => ⟨S4x2048x4096, .f32⟩
  | 68 => ⟨S_, .f32⟩
  | 69 => ⟨S4x2048x4096, .f32⟩
  | 70 => ⟨S4x2048x4096, .f32⟩
  | 71 => ⟨S4x2048x4096, .f32⟩
  | 72 => ⟨S4x2048x4096, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1, .f32⟩
  | 83 => ⟨S4x2048x4096, .f32⟩
  | 84 => ⟨S4x2048x4096, .f32⟩
  | 85 => ⟨S1x1x4096, .f32⟩
  | 86 => ⟨S4x2048x4096, .f32⟩
  | 87 => ⟨S4x2048x4096, .f32⟩
  | 88 => ⟨S8192x4096, .f32⟩
  | 89 => ⟨S128x4x4096, .f32⟩
  | 90 => ⟨S128x4x4096, .f32⟩
  | 91 => ⟨S128x4x4096, .f32⟩
  | 92 => ⟨S2048x4096, .f32⟩
  | 93 => ⟨S128x4x4096, .f32⟩
  | 94 => ⟨S128x4x4096, .f32⟩
  | 95 => ⟨S1024x4096, .f32⟩
  | 96 => ⟨S128x4x4096, .f32⟩
  | 97 => ⟨S128x4x4096, .f32⟩
  | 98 => ⟨S128x4x4096, .f32⟩
  | 99 => ⟨S1024x4096, .f32⟩
  | 100 => ⟨S128x4x4096, .f32⟩
  | 101 => ⟨S128x4x4096, .f32⟩
  | 102 => ⟨S128x4x4096, .f32⟩
  | 103 => ⟨S4096x4096, .f32⟩
  | 104 => ⟨S128x4x4096, .f32⟩
  | 105 => ⟨S128x4x4096, .f32⟩
  | 106 => ⟨S4096, .f32⟩
  | 107 => ⟨S128x4x4096, .f32⟩
  | 108 => ⟨S_, .f32⟩
  | 109 => ⟨S128x4, .f32⟩
  | 110 => ⟨S128x4x1, .f32⟩
  | 111 => ⟨S_, .f32⟩
  | 112 => ⟨S128x4x1, .f32⟩
  | 113 => ⟨S128x4x1, .f32⟩
  | 114 => ⟨S_, .f32⟩
  | 115 => ⟨S128x4x1, .f32⟩
  | 116 => ⟨S128x4x1, .f32⟩
  | 117 => ⟨S128x4x1, .f32⟩
  | 118 => ⟨S128x4x4096, .f32⟩
  | 119 => ⟨S128x4x4096, .f32⟩
  | 120 => ⟨S1x1x4096, .f32⟩
  | 121 => ⟨S128x4x4096, .f32⟩
  | 122 => ⟨S128x4x4096, .f32⟩
  | 123 => ⟨S4096x22016, .f32⟩
  | 124 => ⟨S11008x4096, .f32⟩
  | 125 => ⟨S128x4x22016, .f32⟩
  | 126 => ⟨S128x4x11008, .f32⟩
  | 127 => ⟨S128x4x11008, .f32⟩
  | _ => ⟨S4x2048x4096, .f32⟩

abbrev hbmTy0_1 (i : Nat) : BufTy := match i % 128 with
  | 0 => ⟨S128x4x11008, .f32⟩
  | 1 => ⟨S128x4x11008, .f32⟩
  | 2 => ⟨S_, .f32⟩
  | 3 => ⟨S128x4x11008, .f32⟩
  | 4 => ⟨S128x4x11008, .f32⟩
  | 5 => ⟨S_, .f32⟩
  | 6 => ⟨S128x4x11008, .f32⟩
  | 7 => ⟨S128x4x11008, .f32⟩
  | 8 => ⟨S128x4x11008, .f32⟩
  | 9 => ⟨S128x4x11008, .f32⟩
  | 10 => ⟨S128x4x4096, .f32⟩
  | 11 => ⟨S_, .f32⟩
  | 12 => ⟨S128x4x4096, .f32⟩
  | 13 => ⟨S128x4x4096, .f32⟩
  | 14 => ⟨S128x4x4096, .f32⟩
  | 15 => ⟨S128x4x4096, .f32⟩
  | 16 => ⟨S_, .f32⟩
  | 17 => ⟨S128x4, .f32⟩
  | 18 => ⟨S128x4x1, .f32⟩
  | 19 => ⟨S_, .f32⟩
  | 20 => ⟨S128x4x1, .f32⟩
  | 21 => ⟨S128x4x1, .f32⟩
  | 22 => ⟨S_, .f32⟩
  | 23 => ⟨S128x4x1, .f32⟩
  | 24 => ⟨S128x4x1, .f32⟩
  | 25 => ⟨S128x4x1, .f32⟩
  | 26 => ⟨S128x4x4096, .f32⟩
  | 27 => ⟨S128x4x4096, .f32⟩
  | 28 => ⟨S1x1x4096, .f32⟩
  | 29 => ⟨S128x4x4096, .f32⟩
  | 30 => ⟨S128x4x4096, .f32⟩
  | 31 => ⟨S512x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_cst_5 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_6 : Ref sig .tc := ⟨.hbm, 108, rfl⟩
abbrev main_v75 : Ref sig .tc := ⟨.hbm, 109, rfl⟩
abbrev main_v76 : Ref sig .tc := ⟨.hbm, 110, rfl⟩
abbrev main_cst_7 : Ref sig .tc := ⟨.hbm, 111, rfl⟩
abbrev main_v77 : Ref sig .tc := ⟨.hbm, 112, rfl⟩
abbrev main_v78 : Ref sig .tc := ⟨.hbm, 113, rfl⟩
abbrev main_cst_8 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_call1_v5 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_9 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_10 : Ref sig .tc := ⟨.hbm, 144, rfl⟩
abbrev main_v99 : Ref sig .tc := ⟨.hbm, 145, rfl⟩
abbrev main_v100 : Ref sig .tc := ⟨.hbm, 146, rfl⟩
abbrev main_cst_11 : Ref sig .tc := ⟨.hbm, 147, rfl⟩
abbrev main_v101 : Ref sig .tc := ⟨.hbm, 148, rfl⟩
abbrev main_v102 : Ref sig .tc := ⟨.hbm, 149, rfl⟩
abbrev main_cst_12 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]
-- ==== Kernel3.lean ====
abbrev S4x256x4096 : Shape := ⟨3, ![4, 256, 4096]⟩
abbrev S1x4096 : Shape := ⟨2, ![1, 4096]⟩
abbrev S1x4096x2048 : Shape := ⟨3, ![1, 4096, 2048]⟩
abbrev S1024x4096 : Shape := ⟨2, ![1024, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩
abbrev S1024x1024 : Shape := ⟨2, ![1024, 1024]⟩
abbrev S4x256x4x256 : Shape := ⟨4, ![4, 256, 4, 256]⟩
abbrev S1x4x256x4x256 : Shape := ⟨5, ![1, 4, 256, 4, 256]⟩

abbrev nBuf : Space → Nat
  | .hbm => 15
  | .vmem => 10
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x2048, .f32⟩
  | .hbm, ⟨3, _⟩ => ⟨S1024x4096, .f32⟩
  | .hbm, ⟨4, _⟩ => ⟨S4096, .f32⟩
  | .hbm, ⟨5, _⟩ => ⟨S1x4096, .f32⟩
  | .hbm, ⟨6, _⟩ => ⟨S1024x4096, .bf16⟩
  | .hbm, ⟨7, _⟩ => ⟨S4096x2048, .f32⟩
  | .hbm, ⟨8, _⟩ => ⟨S1024x2048, .f32⟩
  | .hbm, ⟨9, _⟩ => ⟨S1024x1024, .f32⟩
  | .hbm, ⟨10, _⟩ => ⟨S4x256x4x256, .f32⟩
  | .hbm, ⟨11, _⟩ => ⟨S1024x1024, .f32⟩
  | .hbm, ⟨12, _⟩ => ⟨S4x256x4x256, .f32⟩
  | .hbm, ⟨13, _⟩ => ⟨S1x4x256x4x256, .f32⟩
  | .hbm, ⟨14, _⟩ => ⟨S1x4x256x4x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S4096x512, .f32⟩
  | .local _ .vmem, ⟨7, _⟩ => ⟨S4096x512, .f32⟩
  | .local _ .vmem, ⟨8, _⟩ => ⟨S1024x512, .f32⟩
  | .local _ .vmem, ⟨9, _⟩ => ⟨S1024x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference3Ideal.lean ====
abbrev S4x256x4096 : Shape := ⟨3, ![4, 256, 4096]⟩
abbrev S1x4096 : Shape := ⟨2, ![1, 4096]⟩
abbrev S1x4096x2048 : Shape := ⟨3, ![1, 4096, 2048]⟩
abbrev S4096 : Shape := ⟨1, ![4096]⟩
abbrev S4096x2048 : Shape := ⟨2, ![4096, 2048]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S1x4x256x4x256 : Shape := ⟨5, ![1, 4, 256, 4, 256]⟩

abbrev nBuf : Space → Nat
  | .hbm => 28
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x2048, .f32⟩
  | .hbm, ⟨3, _⟩ => ⟨S4096, .f32⟩
  | .hbm, ⟨4, _⟩ => ⟨S4096x2048, .f32⟩
  | .hbm, ⟨5, _⟩ => ⟨S4x256x4096, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x4096, .f32⟩
  | .hbm, ⟨17, _⟩ => ⟨S4x256x4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S4x256x2048, .f32⟩
  | .hbm, ⟨22, _⟩ => ⟨S4x256x1024, .f32⟩
  | .hbm, ⟨23, _⟩ => ⟨S4x256x1024, .f32⟩
  | .hbm, ⟨24, _⟩ => ⟨S4x256x4x256, .f32⟩
  | .hbm, ⟨25, _⟩ => ⟨S4x256x4x256, .f32⟩
  | .hbm, ⟨26, _⟩ => ⟨S1x4x256x4x256, .f32⟩
  | .hbm, ⟨27, _⟩ => ⟨S1x4x256x4x256, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S4x2048x4096 : Shape := ⟨3, ![4, 2048, 4096]⟩
abbrev S128x4x4096 : Shape := ⟨3, ![128, 4, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S1x4096x22976 : Shape := ⟨3, ![1, 4096, 22976]⟩
abbrev S8192x4096 : Shape := ⟨2, ![8192, 4096]⟩
abbrev S512x4096 : Shape := ⟨2, ![512, 4096]⟩
abbrev S4096 : Shape := ⟨1, ![4096]⟩
abbrev S8704x4096 : Shape := ⟨2, ![8704, 4096]⟩
abbrev S256x4096 : Shape := ⟨2, ![256, 4096]⟩
abbrev S256 : Shape := ⟨1, ![256]⟩
abbrev S256x1 : Shape := ⟨2, ![256, 1]⟩
abbrev S4096x22016 : Shape := ⟨2, ![4096, 22016]⟩
abbrev S8704x11008 : Shape := ⟨2, ![8704, 11008]⟩
abbrev S2176x4096 : Shape := ⟨2, ![2176, 4096]⟩
abbrev S4096x256 : Shape := ⟨2, ![4096, 256]⟩
abbrev S2176x256 : Shape := ⟨2, ![2176, 256]⟩
abbrev S11008x4096 : Shape := ⟨2, ![11008, 4096]⟩
abbrev S1088x11008 : Shape := ⟨2, ![1088, 11008]⟩
abbrev S11008x256 : Shape := ⟨2, ![11008, 256]⟩
abbrev S1088x256 : Shape := ⟨2, ![1088, 256]⟩
abbrev S4096x22976 : Shape := ⟨2, ![4096, 22976]⟩
abbrev S22976x4096 : Shape := ⟨2, ![22976, 4096]⟩
abbrev S4096x4096 : Shape := ⟨2, ![4096, 4096]⟩
abbrev S2x32x64x4096 : Shape := ⟨4, ![2, 32, 64, 4096]⟩
abbrev S2x64x32x4096 : Shape := ⟨4, ![2, 64, 32, 4096]⟩
abbrev S2560x4096 : Shape := ⟨2, ![2560, 4096]⟩
abbrev S6656x4096 : Shape := ⟨2, ![6656, 4096]⟩
abbrev S8704x6656 : Shape := ⟨2, ![8704, 6656]⟩
abbrev S1088x4096 : Shape := ⟨2, ![1088, 4096]⟩
abbrev S1088x512 : Shape := ⟨2, ![1088, 512]⟩
abbrev S128x6656 : Shape := ⟨2, ![128, 6656]⟩
abbrev S128x4096 : Shape := ⟨2, ![128, 4096]⟩
abbrev S128x2x64x32 : Shape := ⟨4, ![128, 2, 64, 32]⟩
abbrev S128x2x32x64 : Shape := ⟨4, ![128, 2, 32, 64]⟩
abbrev S128x2496 : Shape := ⟨2, ![128, 2496]⟩
abbrev S128x6592 : Shape := ⟨2, ![128, 6592]⟩
abbrev S8192x6656 : Shape := ⟨2, ![8192, 6656]⟩
abbrev S8192x2x64x32 : Shape := ⟨4, ![8192, 2, 64, 32]⟩
abbrev S8192x2x32x64 : Shape := ⟨4, ![8192, 2, 32, 64]⟩
abbrev S8192x2496 : Shape := ⟨2, ![8192, 2496]⟩
abbrev S8192x6592 : Shape := ⟨2, ![8192, 6592]⟩
abbrev S4x2048x6592 : Shape := ⟨3, ![4, 2048, 6592]⟩
abbrev S512x6656 : Shape := ⟨2, ![512, 6656]⟩
abbrev S512x2x64x32 : Shape := ⟨4, ![512, 2, 64, 32]⟩
abbrev S512x2x32x64 : Shape := ⟨4, ![512, 2, 32, 64]⟩
abbrev S512x2496 : Shape := ⟨2, ![512, 2496]⟩
abbrev S512x6592 : Shape := ⟨2, ![512, 6592]⟩
abbrev S128x4x6592 : Shape := ⟨3, ![128, 4, 6592]⟩
abbrev S1x128x6592 : Shape := ⟨3, ![1, 128, 6592]⟩

abbrev nBuf : Space → Nat
  | .hbm => 53
  | .vmem => 34
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x4096, .f32⟩
  | .hbm, ⟨3, _⟩ => ⟨S1x4096x22016, .f32⟩
  | .hbm, ⟨4, _⟩ => ⟨S1x11008x4096, .f32⟩
  | .hbm, ⟨5, _⟩ => ⟨S1x4096, .f32⟩
  | .hbm, ⟨6, _⟩ => ⟨S1x4096x22976, .f32⟩
  | .hbm, ⟨7, _⟩ => ⟨S8192x4096, .f32⟩
  | .hbm, ⟨8, _⟩ => ⟨S512x4096, .f32⟩
  | .hbm, ⟨9, _⟩ => ⟨S4096, .f32⟩
  | .hbm, ⟨10, _⟩ => ⟨S1x4096, .f32⟩
  | .hbm, ⟨11, _⟩ => ⟨S8704x4096, .f32⟩
  | .hbm, ⟨12, _⟩ => ⟨S8704x4096, .bf16⟩
  | .hbm, ⟨13, _⟩ => ⟨S4096x22016, .f32⟩
  | .hbm, ⟨14, _⟩ => ⟨S8704x11008, .bf16⟩
  | .hbm, ⟨15, _⟩ => ⟨S11008x4096, .f32⟩
  | .hbm, ⟨16, _⟩ => ⟨S8704x4096, .f32⟩
  | .hbm, ⟨17, _⟩ => ⟨S4096, .f32⟩
  | .hbm, ⟨18, _⟩ => ⟨S1x4096, .f32⟩
  | .hbm, ⟨19, _⟩ => ⟨S8704x4096, .bf16⟩
  | .hbm, ⟨20, _⟩ => ⟨S4096x22976, .f32⟩
  | .hbm, ⟨21, _⟩ => ⟨S22976x4096, .f32⟩
  | .hbm, ⟨22, _⟩ => ⟨S4096x4096, .f32⟩
  | .hbm, ⟨23, _⟩ => ⟨S2x32x64x4096, .f32⟩
  | .hbm, ⟨24, _⟩ => ⟨S2x64x32x4096, .f32⟩
  | .hbm, ⟨25, _⟩ => ⟨S4096x4096, .f32⟩
  | .hbm, ⟨26, _⟩ => ⟨S2560x4096, .f32⟩
  | .hbm, ⟨27, _⟩ => ⟨S6656x4096, .f32⟩
  | .hbm, ⟨28, _⟩ => ⟨S8704x6656, .f32⟩
  | .hbm, ⟨29, _⟩ => ⟨S128x6656, .f32⟩
  | .hbm, ⟨30, _⟩ => ⟨S128x4096, .f32⟩
  | .hbm, ⟨31, _⟩ => ⟨S128x2x64x32, .f32⟩
  | .hbm, ⟨32, _⟩ => ⟨S128x2x32x64, .f32⟩
  | .hbm, ⟨33, _⟩ => ⟨S128x4096, .f32⟩
  | .hbm, ⟨34, _⟩ => ⟨S128x2496, .f32⟩
  | .hbm, ⟨35, _⟩ => ⟨S128x6592, .f32⟩
  | .hbm, ⟨36, _⟩ => ⟨S8192x6656, .f32⟩
  | .hbm, ⟨37, _⟩ => ⟨S8192x4096, .f32⟩
  | .hbm, ⟨38, _⟩ => ⟨S8192x2x64x32, .f32⟩
  | .hbm, ⟨39, _⟩ => ⟨S8192x2x32x64, .f32⟩
  | .hbm, ⟨40, _⟩ => ⟨S8192x4096, .f32⟩
  | .hbm, ⟨41, _⟩ => ⟨S8192x2496, .f32⟩
  | .hbm, ⟨42, _⟩ => ⟨S8192x6592, .f32⟩
  | .hbm, ⟨43, _⟩ => ⟨S4x2048x6592, .f32⟩
  | .hbm, ⟨44, _⟩ => ⟨S512x6656, .f32⟩
  | .hbm, ⟨45, _⟩ => ⟨S512x4096, .f32⟩
  | .hbm, ⟨46, _⟩ => ⟨S512x2x64x32, .f32⟩
  | .hbm, ⟨47, _⟩ => ⟨S512x2x32x64, .f32⟩
  | .hbm, ⟨48, _⟩ => ⟨S512x4096, .f32⟩
  | .hbm, ⟨49, _⟩ => ⟨S512x2496, .f32⟩
  | .hbm, ⟨50, _⟩ => ⟨S512x6592, .f32⟩
  | .hbm, ⟨51, _⟩ => ⟨S128x4x6592, .f32⟩
  | .hbm, ⟨52, _⟩ => ⟨S1x128x6592, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S2176x4096, .bf16⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S2176x256, .bf16⟩
  | .local _ .vmem, ⟨15, _⟩ => ⟨S2176x256, .bf16⟩
  | .local _ .vmem, ⟨16, _⟩ => ⟨S1088x11008, .bf16⟩
  | .local _ .vmem, ⟨17, _⟩ => ⟨S11008x256, .f32⟩
  | .local _ .vmem, ⟨18, _⟩ => ⟨S11008x256, .f32⟩
  | .local _ .vmem, ⟨19, _⟩ => ⟨S1088x256, .f32⟩
  | .local _ .vmem, ⟨20, _⟩ => ⟨S1088x256, .f32⟩
  | .local _ .vmem, ⟨21, _⟩ => ⟨S1088x256, .f32⟩
  | .local _ .vmem, ⟨22, _⟩ => ⟨S1088x256, .f32⟩
  | .local _ .vmem, ⟨23, _⟩ => ⟨S256x4096, .f32⟩
  | .local _ .vmem, ⟨24, _⟩ => ⟨S256x4096, .f32⟩
  | .local _ .vmem, ⟨25, _⟩ => ⟨S1x4096, .f32⟩
  | .local _ .vmem, ⟨26, _⟩ => ⟨S256x4096, .bf16⟩
  | .local _ .vmem, ⟨27, _⟩ => ⟨S256x4096, .bf16⟩
  | .local _ .vmem, ⟨28, _⟩ => ⟨S1088x4096, .bf16⟩
  | .local _ .vmem, ⟨29, _⟩ => ⟨S1088x4096, .bf16⟩
  | .local _ .vmem, ⟨30, _⟩ => ⟨S512x4096, .f32⟩
  | .local _ .vmem, ⟨31, _⟩ => ⟨S512x4096, .f32⟩
  | .local _ .vmem, ⟨32, _⟩ => ⟨S1088x512, .f32⟩
  | .local _ .vmem, ⟨33, _⟩ => ⟨S1088x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2176x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2176x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1088x11008 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S11008x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1088x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1088x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![34], ![false]⟩

def cc3_transform_0 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 13], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1088x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1088x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference4Ideal.lean ====
abbrev S4x2048x4096 : Shape := ⟨3, ![4, 2048, 4096]⟩
abbrev S128x4x4096 : Shape := ⟨3, ![128, 4, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S1x4096x22976 : Shape := ⟨3, ![1, 4096, 22976]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x22016 : Shape := ⟨2, ![4096, 22016]⟩
abbrev S11008x4096 : Shape := ⟨2, ![11008, 4096]⟩
abbrev S4x2048x22016 : Shape := ⟨3, ![4, 2048, 22016]⟩
abbrev S4x2048x11008 : Shape := ⟨3, ![4, 2048, 11008]⟩
abbrev S4096x22976 : Shape := ⟨2, ![4096, 22976]⟩
abbrev S4x2048x22976 : Shape := ⟨3, ![4, 2048, 22976]⟩
abbrev S4x2048x6592 : Shape := ⟨3, ![4, 2048, 6592]⟩
abbrev S4x2048x3072 : Shape := ⟨3, ![4, 2048, 3072]⟩
abbrev S4x2048x1024 : Shape := ⟨3, ![4, 2048, 1024]⟩
abbrev S4x2048x12288 : Shape := ⟨3, ![4, 2048, 12288]⟩
abbrev S128x4 : Shape := ⟨2, ![128, 4]⟩
abbrev S128x4x1 : Shape := ⟨3, ![128, 4, 1]⟩
abbrev S128x4x22016 : Shape := ⟨3, ![128, 4, 22016]⟩
abbrev S128x4x11008 : Shape := ⟨3, ![128, 4, 11008]⟩
abbrev S128x4x22976 : Shape := ⟨3, ![128, 4, 22976]⟩
abbrev S128x4x6592 : Shape := ⟨3, ![128, 4, 6592]⟩
abbrev S128x4x3072 : Shape := ⟨3, ![128, 4, 3072]⟩
abbrev S128x4x1024 : Shape := ⟨3, ![128, 4, 1024]⟩
abbrev S128x4x12288 : Shape := ⟨3, ![128, 4, 12288]⟩
abbrev S128x1x6592 : Shape := ⟨3, ![128, 1, 6592]⟩
abbrev S128x6592 : Shape := ⟨2, ![128, 6592]⟩
abbrev S1x128x6592 : Shape := ⟨3, ![1, 128, 6592]⟩

abbrev nBuf : Space → Nat
  | .hbm => 130
  | .vmem => 0
  | .smem => 0
  | _ => 0

abbrev hbmTy0_0 (i : Nat) : BufTy := match i % 128 with
  | 0 => ⟨S4x2048x4096, .f32⟩
  | 1 => ⟨S128x4x4096, .f32⟩
  | 2 => ⟨S1x4096, .f32⟩
  | 3 => ⟨S1x4096x22016, .f32⟩
  | 4 => ⟨S1x11008x4096, .f32⟩
  | 5 => ⟨S1x4096, .f32⟩
  | 6 => ⟨S1x4096x22976, .f32⟩
  | 7 => ⟨S4096, .f32⟩
  | 8 => ⟨S4x2048x4096, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x4096, .f32⟩
  | 20 => ⟨S4x2048x4096, .f32⟩
  | 21 => ⟨S1x1x4096, .f32⟩
  | 22 => ⟨S4x2048x4096, .f32⟩
  | 23 => ⟨S4x2048x4096, .f32⟩
  | 24 => ⟨S4096x22016, .f32⟩
  | 25 => ⟨S11008x4096, .f32⟩
  | 26 => ⟨S4x2048x22016, .f32⟩
  | 27 => ⟨S4x2048x11008, .f32⟩
  | 28 => ⟨S4x2048x11008, .f32⟩
  | 29 => ⟨S4x2048x11008, .f32⟩
  | 30 => ⟨S4x2048x11008, .f32⟩
  | 31 => ⟨S_, .f32⟩
  | 32 => ⟨S4x2048x11008, .f32⟩
  | 33 => ⟨S4x2048x11008, .f32⟩
  | 34 => ⟨S_, .f32⟩
  | 35 => ⟨S4x2048x11008, .f32⟩
  | 36 => ⟨S4x2048x11008, .f32⟩
  | 37 => ⟨S4x2048x11008, .f32⟩
  | 38 => ⟨S4x2048x11008, .f32⟩
  | 39 => ⟨S4x2048x4096, .f32⟩
  | 40 => ⟨S_, .f32⟩
  | 41 => ⟨S4x2048x4096, .f32⟩
  | 42 => ⟨S4x2048x4096, .f32⟩
  | 43 => ⟨S4x2048x4096, .f32⟩
  | 44 => ⟨S4096, .f32⟩
  | 45 => ⟨S4x2048x4096, .f32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S_, .f32⟩
  | 53 => ⟨S4x2048x1, .f32⟩
  | 54 => ⟨S4x2048x1, .f32⟩
  | 55 => ⟨S4x2048x1, .f32⟩
  | 56 => ⟨S4x2048x4096, .f32⟩
  | 57 => ⟨S4x2048x4096, .f32⟩
  | 58 => ⟨S1x1x4096, .f32⟩
  | 59 => ⟨S4x2048x4096, .f32⟩
  | 60 => ⟨S4x2048x4096, .f32⟩
  | 61 => ⟨S4096x22976, .f32⟩
  | 62 => ⟨S4x2048x22976, .f32⟩
  | 63 => ⟨S4x2048x6592, .f32⟩
  | 64 => ⟨S4x2048x3072, .f32⟩
  | 65 => ⟨S4x2048x1024, .f32⟩
  | 66 => ⟨S4x2048x12288, .f32⟩
  | 67 => ⟨S4096, .f32⟩
  | 68 => ⟨S128x4x4096, .f32⟩
  | 69 => ⟨S_, .f32⟩
  | 70 => ⟨S128x4, .f32⟩
  | 71 => ⟨S128x4x1, .f32⟩
  | 72 => ⟨S_, .f32⟩
  | 73 => ⟨S128x4x1, .f32⟩
  | 74 => ⟨S128x4x1, .f32⟩
  | 75 => ⟨S_, .f32⟩
  | 76 => ⟨S128x4x1, .f32⟩
  | 77 => ⟨S128x4x1, .f32⟩
  | 78 => ⟨S128x4x1, .f32⟩
  | 79 => ⟨S128x4x4096, .f32⟩
  | 80 => ⟨S128x4x4096, .f32⟩
  | 81 => ⟨S1x1x4096, .f32⟩
  | 82 => ⟨S128x4x4096, .f32⟩
  | 83 => ⟨S128x4x4096, .f32⟩
  | 84 => ⟨S4096x22016, .f32⟩
  | 85 => ⟨S11008x4096, .f32⟩
  | 86 => ⟨S128x4x22016, .f32⟩
  | 87 => ⟨S128x4x11008, .f32⟩
  | 88 => ⟨S128x4x11008, .f32⟩
  | 89 => ⟨S128x4x11008, .f32⟩
  | 90 => ⟨S128x4x11008, .f32⟩
  | 91 => ⟨S_, .f32⟩
  | 92 => ⟨S128x4x11008, .f32⟩
  | 93 => ⟨S128x4x11008, .f32⟩
  | 94 => ⟨S_, .f32⟩
  | 95 => ⟨S128x4x11008, .f32⟩
  | 96 => ⟨S128x4x11008, .f32⟩
  | 97 => ⟨S128x4x11008, .f32⟩
  | 98 => ⟨S128x4x11008, .f32⟩
  | 99 => ⟨S128x4x4096, .f32⟩
  | 100 => ⟨S_, .f32⟩
  | 101 => ⟨S128x4x4096, .f32⟩
  | 102 => ⟨S128x4x4096, .f32⟩
  | 103 => ⟨S128x4x4096, .f32⟩
  | 104 => ⟨S4096, .f32⟩
  | 105 => ⟨S128x4x4096, .f32⟩
  | 106 => ⟨S_, .f32⟩
  | 107 => ⟨S128x4, .f32⟩
  | 108 => ⟨S128x4x1, .f32⟩
  | 109 => ⟨S_, .f32⟩
  | 110 => ⟨S128x4x1, .f32⟩
  | 111 => ⟨S128x4x1, .f32⟩
  | 112 => ⟨S_, .f32⟩
  | 113 => ⟨S128x4x1, .f32⟩
  | 114 => ⟨S128x4x1, .f32⟩
  | 115 => ⟨S128x4x1, .f32⟩
  | 116 => ⟨S128x4x4096, .f32⟩
  | 117 => ⟨S128x4x4096, .f32⟩
  | 118 => ⟨S1x1x4096, .f32⟩
  | 119 => ⟨S128x4x4096, .f32⟩
  | 120 => ⟨S128x4x4096, .f32⟩
  | 121 => ⟨S4096x22976, .f32⟩
  | 122 => ⟨S128x4x22976, .f32⟩
  | 123 => ⟨S128x4x6592, .f32⟩
  | 124 => ⟨S128x4x3072, .f32⟩
  | 125 => ⟨S128x4x1024, .f32⟩
  | 126 => ⟨S128x4x12288, .f32⟩
  | 127 => ⟨S128x1x6592, .f32⟩
  | _ => ⟨S4x2048x4096, .f32⟩

abbrev hbmTy0_1 (i : Nat) : BufTy := match i % 128 with
  | 0 => ⟨S128x6592, .f32⟩
  | 1 => ⟨S1x128x6592, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_10 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]
-- ==== Kernel5.lean ====
abbrev S4x2048x4096 : Shape := ⟨3, ![4, 2048, 4096]⟩
abbrev S128x4x4096 : Shape := ⟨3, ![128, 4, 4096]⟩
abbrev S1x128x2x1024 : Shape := ⟨4, ![1, 128, 2, 1024]⟩
abbrev S1x3x1024 : Shape := ⟨3, ![1, 3, 1024]⟩
abbrev S8192x4096 : Shape := ⟨2, ![8192, 4096]⟩
abbrev S512x4096 : Shape := ⟨2, ![512, 4096]⟩
abbrev S8704x4096 : Shape := ⟨2, ![8704, 4096]⟩
abbrev S_ : Shape := ⟨0, ![]⟩
abbrev S8704x1024 : Shape := ⟨2, ![8704, 1024]⟩
abbrev S128x2x1024 : Shape := ⟨3, ![128, 2, 1024]⟩
abbrev S128x1x1024 : Shape := ⟨3, ![128, 1, 1024]⟩
abbrev S128x4x1024 : Shape := ⟨3, ![128, 4, 1024]⟩
abbrev S1 : Shape := ⟨1, ![1]⟩
abbrev S512x1024 : Shape := ⟨2, ![512, 1024]⟩
abbrev S3x1024 : Shape := ⟨2, ![3, 1024]⟩
abbrev S256x1024 : Shape := ⟨2, ![256, 1024]⟩
abbrev S8x1024 : Shape := ⟨2, ![8, 1024]⟩
abbrev S1x1024 : Shape := ⟨2, ![1, 1024]⟩
abbrev S4x1024 : Shape := ⟨2, ![4, 1024]⟩
abbrev S4x1x1024 : Shape := ⟨3, ![4, 1, 1024]⟩
abbrev S4x2x1024 : Shape := ⟨3, ![4, 2, 1024]⟩
abbrev S1x4x2x1024 : Shape := ⟨4, ![1, 4, 2, 1024]⟩
abbrev S128x1024 : Shape := ⟨2, ![128, 1024]⟩
abbrev S8192x1024 : Shape := ⟨2, ![8192, 1024]⟩
abbrev S4x2048x1024 : Shape := ⟨3, ![4, 2048, 1024]⟩

abbrev nBuf : Space → Nat
  | .hbm => 48
  | .vmem => 30
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x128x2x1024, .f32⟩
  | .hbm, ⟨3, _⟩ => ⟨S1x3x1024, .f32⟩
  | .hbm, ⟨4, _⟩ => ⟨S8192x4096, .f32⟩
  | .hbm, ⟨5, _⟩ => ⟨S512x4096, .f32⟩
  | .hbm, ⟨6, _⟩ => ⟨S8704x4096, .f32⟩
  | .hbm, ⟨7, _⟩ => ⟨S_, .bf16⟩
  | .hbm, ⟨8, _⟩ => ⟨S8704x1024, .bf16⟩
  | .hbm, ⟨9, _⟩ => ⟨S_, .f32⟩
  | .hbm, ⟨10, _⟩ => ⟨S8704x1024, .f32⟩
  | .hbm, ⟨11, _⟩ => ⟨S128x2x1024, .f32⟩
  | .hbm, ⟨12, _⟩ => ⟨S128x1x1024, .f32⟩
  | .hbm, ⟨13, _⟩ => ⟨S_, .f32⟩
  | .hbm, ⟨14, _⟩ => ⟨S128x4x1024, .f32⟩
  | .hbm, ⟨15, _⟩ => ⟨S_, .i32⟩
  | .hbm, ⟨16, _⟩ => ⟨S1, .i32⟩
  | .hbm, ⟨17, _⟩ => ⟨S128x4x1024, .f32⟩
  | .hbm, ⟨18, _⟩ => ⟨S512x1024, .f32⟩
  | .hbm, ⟨19, _⟩ => ⟨S_, .f32⟩
  | .hbm, ⟨20, _⟩ => ⟨S128x4x1024, .f32⟩
  | .hbm, ⟨21, _⟩ => ⟨S_, .i32⟩
  | .hbm, ⟨22, _⟩ => ⟨S1, .i32⟩
  | .hbm, ⟨23, _⟩ => ⟨S128x4x1024, .f32⟩
  | .hbm, ⟨24, _⟩ => ⟨S512x1024, .f32⟩
  | .hbm, ⟨25, _⟩ => ⟨S3x1024, .f32⟩
  | .hbm, ⟨26, _⟩ => ⟨S8704x1024, .bf16⟩
  | .hbm, ⟨27, _⟩ => ⟨S8704x1024, .f32⟩
  | .hbm, ⟨28, _⟩ => ⟨S3x1024, .f32⟩
  | .hbm, ⟨29, _⟩ => ⟨S8704x1024, .bf16⟩
  | .hbm, ⟨30, _⟩ => ⟨S8704x1024, .f32⟩
  | .hbm, ⟨31, _⟩ => ⟨S4x1024, .f32⟩
  | .hbm, ⟨32, _⟩ => ⟨S4x1024, .f32⟩
  | .hbm, ⟨33, _⟩ => ⟨S4x1x1024, .f32⟩
  | .hbm, ⟨34, _⟩ => ⟨S4x1x1024, .f32⟩
  | .hbm, ⟨35, _⟩ => ⟨S4x2x1024, .f32⟩
  | .hbm, ⟨36, _⟩ => ⟨S1x4x2x1024, .f32⟩
  | .hbm, ⟨37, _⟩ => ⟨S128x1024, .f32⟩
  | .hbm, ⟨38, _⟩ => ⟨S128x1024, .f32⟩
  | .hbm, ⟨39, _⟩ => ⟨S128x1x1024, .f32⟩
  | .hbm, ⟨40, _⟩ => ⟨S128x1x1024, .f32⟩
  | .hbm, ⟨41, _⟩ => ⟨S128x2x1024, .f32⟩
  | .hbm, ⟨42, _⟩ => ⟨S1x128x2x1024, .f32⟩
  | .hbm, ⟨43, _⟩ => ⟨S8704x1024, .f32⟩
  | .hbm, ⟨44, _⟩ => ⟨S8192x1024, .f32⟩
  | .hbm, ⟨45, _⟩ => ⟨S4x2048x1024, .f32⟩
  | .hbm, ⟨46, _⟩ => ⟨S512x1024, .f32⟩
  | .hbm, ⟨47, _⟩ => ⟨S128x4x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S3x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![32], ![false]⟩

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c1_i32_1 : BitVec 32 := 1#32
  let c0_i32_2 : BitVec 32 := 0#32
  ![v3.toNat, c1_i32_1.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c2_i32 : BitVec 32 := 2#32
  let c0_i32_1 : BitVec 32 := 0#32
  ![v3.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  ![v0.toNat, c1_i32.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c2_i32 : BitVec 32 := 2#32
  let c0_i32 : BitVec 32 := 0#32
  ![v0.toNat, c2_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference5Ideal.lean ====
abbrev S4x2048x4096 : Shape := ⟨3, ![4, 2048, 4096]⟩
abbrev S128x4x4096 : Shape := ⟨3, ![128, 4, 4096]⟩
abbrev S1x128x2x1024 : Shape := ⟨4, ![1, 128, 2, 1024]⟩
abbrev S1x3x1024 : Shape := ⟨3, ![1, 3, 1024]⟩
abbrev S_ : Shape := ⟨0, ![]⟩
abbrev S4x2x1024 : Shape := ⟨3, ![4, 2, 1024]⟩
abbrev S128x2x1024 : Shape := ⟨3, ![128, 2, 1024]⟩
abbrev S4x2048x3072 : Shape := ⟨3, ![4, 2048, 3072]⟩
abbrev S4x2048x1024 : Shape := ⟨3, ![4, 2048, 1024]⟩
abbrev S3x1024 : Shape := ⟨2, ![3, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S1x4x2x1024 : Shape := ⟨4, ![1, 4, 2, 1024]⟩
abbrev S128x4x3072 : Shape := ⟨3, ![128, 4, 3072]⟩
abbrev S128x4x1024 : Shape := ⟨3, ![128, 4, 1024]⟩
abbrev S128x6x1024 : Shape := ⟨3, ![128, 6, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x128x2x1024, .f32⟩
  | .hbm, ⟨3, _⟩ => ⟨S1x3x1024, .f32⟩
  | .hbm, ⟨4, _⟩ => ⟨S_, .f32⟩
  | .hbm, ⟨5, _⟩ => ⟨S4x2x1024, .f32⟩
  | .hbm, ⟨6, _⟩ => ⟨S128x2x1024, .f32⟩
  | .hbm, ⟨7, _⟩ => ⟨S4x2048x3072, .f32⟩
  | .hbm, ⟨8, _⟩ => ⟨S4x2048x1024, .f32⟩
  | .hbm, ⟨9, _⟩ => ⟨S3x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2050x1024, .f32⟩
  | .hbm, ⟨15, _⟩ => ⟨S4x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2x1024, .f32⟩
  | .hbm, ⟨37, _⟩ => ⟨S1x4x2x1024, .f32⟩
  | .hbm, ⟨38, _⟩ => ⟨S128x4x3072, .f32⟩
  | .hbm, ⟨39, _⟩ => ⟨S128x4x1024, .f32⟩
  | .hbm, ⟨40, _⟩ => ⟨S3x1024, .f32⟩
  | .hbm, ⟨41, _⟩ => ⟨S128x4x1024, .f32⟩
  | .hbm, ⟨42, _⟩ => ⟨S128x4x1024, .f32⟩
  | .hbm, ⟨43, _⟩ => ⟨S128x4x1024, .f32⟩
  | .hbm, ⟨44, _⟩ => ⟨S128x4x1024, .f32⟩
  | .hbm, ⟨45, _⟩ => ⟨S128x6x1024, .f32⟩
  | .hbm, ⟨46, _⟩ => ⟨S128x4x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S128x4x1024, .f32⟩
  | .hbm, ⟨57, _⟩ => ⟨S128x4x1024, .f32⟩
  | .hbm, ⟨58, _⟩ => ⟨S128x4x1024, .f32⟩
  | .hbm, ⟨59, _⟩ => ⟨S128x4x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S128x4x1024, .f32⟩
  | .hbm, ⟨64, _⟩ => ⟨S128x4x1024, .f32⟩
  | .hbm, ⟨65, _⟩ => ⟨S128x4x1024, .f32⟩
  | .hbm, ⟨66, _⟩ => ⟨S128x4x1024, .f32⟩
  | .hbm, ⟨67, _⟩ => ⟨S128x2x1024, .f32⟩
  | .hbm, ⟨68, _⟩ => ⟨S1x128x2x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩

abbrev nD : Nat := 1
abbrev τ : Topo := Topo.v7x

variable {F : FTy → Type} [FloatOps F]
-- ==== Kernel6.lean ====
abbrev S4x2048x4096 : Shape := ⟨3, ![4, 2048, 4096]⟩
abbrev S128x4x4096 : Shape := ⟨3, ![128, 4, 4096]⟩
abbrev S4x256x4x256 : Shape := ⟨4, ![4, 256, 4, 256]⟩
abbrev S1x128x256x4x256 : Shape := ⟨5, ![1, 128, 256, 4, 256]⟩
abbrev S8192x4096 : Shape := ⟨2, ![8192, 4096]⟩
abbrev S512x4096 : Shape := ⟨2, ![512, 4096]⟩
abbrev S8704x4096 : Shape := ⟨2, ![8704, 4096]⟩
abbrev S_ : Shape := ⟨0, ![]⟩
abbrev S8704x1024 : Shape := ⟨2, ![8704, 1024]⟩
abbrev S128x256x4x256 : Shape := ⟨4, ![128, 256, 4, 256]⟩
abbrev S4x256x1024 : Shape := ⟨3, ![4, 256, 1024]⟩
abbrev S512x1024 : Shape := ⟨2, ![512, 1024]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩
abbrev S128x256x1024 : Shape := ⟨3, ![128, 256, 1024]⟩
abbrev S16x1024 : Shape := ⟨2, ![16, 1024]⟩
abbrev S16x256 : Shape := ⟨2, ![16, 256]⟩
abbrev S256 : Shape := ⟨1, ![256]⟩
abbrev S256x1 : Shape := ⟨2, ![256, 1]⟩
abbrev S8192x1024 : Shape := ⟨2, ![8192, 1024]⟩
abbrev S4x2048x1024 : Shape := ⟨3, ![4, 2048, 1024]⟩
abbrev S128x4x1024 : Shape := ⟨3, ![128, 4, 1024]⟩

abbrev nBuf : Space → Nat
  | .hbm => 24
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4x256x4x256, .f32⟩
  | .hbm, ⟨3, _⟩ => ⟨S4x256x4x256, .f32⟩
  | .hbm, ⟨4, _⟩ => ⟨S1x128x256x4x256, .f32⟩
  | .hbm, ⟨5, _⟩ => ⟨S1x128x256x4x256, .f32⟩
  | .hbm, ⟨6, _⟩ => ⟨S8192x4096, .f32⟩
  | .hbm, ⟨7, _⟩ => ⟨S512x4096, .f32⟩
  | .hbm, ⟨8, _⟩ => ⟨S8704x4096, .f32⟩
  | .hbm, ⟨9, _⟩ => ⟨S_, .bf16⟩
  | .hbm, ⟨10, _⟩ => ⟨S8704x1024, .bf16⟩
  | .hbm, ⟨11, _⟩ => ⟨S128x256x4x256, .f32⟩
  | .hbm, ⟨12, _⟩ => ⟨S128x256x4x256, .f32⟩
  | .hbm, ⟨13, _⟩ => ⟨S4x256x1024, .f32⟩
  | .hbm, ⟨14, _⟩ => ⟨S4x256x1024, .f32⟩
  | .hbm, ⟨15, _⟩ => ⟨S8704x1024, .bf16⟩
  | .hbm, ⟨16, _⟩ => ⟨S128x256x1024, .f32⟩
  | .hbm, ⟨17, _⟩ => ⟨S128x256x1024, .f32⟩
  | .hbm, ⟨18, _⟩ => ⟨S8704x1024, .bf16⟩
  | .hbm, ⟨19, _⟩ => ⟨S8704x1024, .f32⟩
  | .hbm, ⟨20, _⟩ => ⟨S8192x1024, .f32⟩
  | .hbm, ⟨21, _⟩ => ⟨S4x2048x1024, .f32⟩
  | .hbm, ⟨22, _⟩ => ⟨S512x1024, .f32⟩
  | .hbm, ⟨23, _⟩ => ⟨S128x4x1024, .f32⟩
  | .local _ .vmem, ⟨0, _⟩ => ⟨S512x1024, .f32⟩
  | .local _ .vmem, ⟨1, _⟩ => ⟨S512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .f32⟩
  | .local _ .vmem, ⟨9, _⟩ => ⟨S16x1024, .f32⟩
  | .local _ .vmem, ⟨10, _⟩ => ⟨S4x256x1024, .f32⟩
  | .local _ .vmem, ⟨11, _⟩ => ⟨S4x256x1024, .f32⟩
  | .local _ .vmem, ⟨12, _⟩ => ⟨S4x256x1024, .f32⟩
  | .local _ .vmem, ⟨13, _⟩ => ⟨S4x256x1024, .f32⟩
  | .local _ .vmem, ⟨14, _⟩ => ⟨S16x1024, .bf16⟩
  | .local _ .vmem, ⟨15, _⟩ => ⟨S16x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 1], ![false, false]⟩

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c3_i32 : BitVec 32 := 3#32
  let c0_i32 : BitVec 32 := 0#32
  ![v2.toNat, c3_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference6Ideal.lean ====
abbrev S4x2048x4096 : Shape := ⟨3, ![4, 2048, 4096]⟩
abbrev S128x4x4096 : Shape := ⟨3, ![128, 4, 4096]⟩
abbrev S4x256x4x256 : Shape := ⟨4, ![4, 256, 4, 256]⟩
abbrev S1x128x256x4x256 : Shape := ⟨5, ![1, 128, 256, 4, 256]⟩
abbrev S128x256x4x256 : Shape := ⟨4, ![128, 256, 4, 256]⟩
abbrev S4x2048x3072 : Shape := ⟨3, ![4, 2048, 3072]⟩
abbrev S4x2048x1024 : Shape := ⟨3, ![4, 2048, 1024]⟩
abbrev S4x2048x4x256 : Shape := ⟨4, ![4, 2048, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S128x4x3072 : Shape := ⟨3, ![128, 4, 3072]⟩
abbrev S128x4x1024 : Shape := ⟨3, ![128, 4, 1024]⟩
abbrev S128x4x4x256 : Shape := ⟨4, ![128, 4, 4, 256]⟩
abbrev S128x4x4 : Shape := ⟨3, ![128, 4, 4]⟩
abbrev S128x4x4x1 : Shape := ⟨4, ![128, 4, 4, 1]⟩
abbrev S128x4x256x4 : Shape := ⟨4, ![128, 4, 256, 4]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4x256x4x256, .f32⟩
  | .hbm, ⟨3, _⟩ => ⟨S4x256x4x256, .f32⟩
  | .hbm, ⟨4, _⟩ => ⟨S1x128x256x4x256, .f32⟩
  | .hbm, ⟨5, _⟩ => ⟨S1x128x256x4x256, .f32⟩
  | .hbm, ⟨6, _⟩ => ⟨S128x256x4x256, .f32⟩
  | .hbm, ⟨7, _⟩ => ⟨S128x256x4x256, .f32⟩
  | .hbm, ⟨8, _⟩ => ⟨S4x2048x3072, .f32⟩
  | .hbm, ⟨9, _⟩ => ⟨S4x2048x1024, .f32⟩
  | .hbm, ⟨10, _⟩ => ⟨S4x2048x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x256x2048, .f32⟩
  | .hbm, ⟨30, _⟩ => ⟨S4x2048x4x256, .f32⟩
  | .hbm, ⟨31, _⟩ => ⟨S4x2048x1024, .f32⟩
  | .hbm, ⟨32, _⟩ => ⟨S128x4x3072, .f32⟩
  | .hbm, ⟨33, _⟩ => ⟨S128x4x1024, .f32⟩
  | .hbm, ⟨34, _⟩ => ⟨S128x4x4x256, .f32⟩
  | .hbm, ⟨35, _⟩ => ⟨S128x4x4x256, .f32⟩
  | .hbm, ⟨36, _⟩ => ⟨S_, .f32⟩
  | .hbm, ⟨37, _⟩ => ⟨S128x4x4x256, .f32⟩
  | .hbm, ⟨38, _⟩ => ⟨S128x4x4x256, .f32⟩
  | .hbm, ⟨39, _⟩ => ⟨S_, .f32⟩
  | .hbm, ⟨40, _⟩ => ⟨S128x4x4, .f32⟩
  | .hbm, ⟨41, _⟩ => ⟨S_, .f32⟩
  | .hbm, ⟨42, _⟩ => ⟨S128x4x4, .f32⟩
  | .hbm, ⟨43, _⟩ => ⟨S128x4x4, .f32⟩
  | .hbm, ⟨44, _⟩ => ⟨S128x4x4x1, .f32⟩
  | .hbm, ⟨45, _⟩ => ⟨S128x4x4x256, .f32⟩
  | .hbm, ⟨46, _⟩ => ⟨S128x4x4x256, .f32⟩
  | .hbm, ⟨47, _⟩ => ⟨S128x4x4x256, .f32⟩
  | .hbm, ⟨48, _⟩ => ⟨S_, .f32⟩
  | .hbm, ⟨49, _⟩ => ⟨S128x4x4, .f32⟩
  | .hbm, ⟨50, _⟩ => ⟨S128x4x4x1, .f32⟩
  | .hbm, ⟨51, _⟩ => ⟨S128x4x4x256, .f32⟩
  | .hbm, ⟨52, _⟩ => ⟨S128x4x4x256, .f32⟩
  | .hbm, ⟨53, _⟩ => ⟨S128x4x256x4, .f32⟩
  | .hbm, ⟨54, _⟩ => ⟨S128x4x4x256, .f32⟩
  | .hbm, ⟨55, _⟩ => ⟨S128x4x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4x2048x6656 : Shape := ⟨3, ![4, 2048, 6656]⟩
abbrev S128x4x6656 : Shape := ⟨3, ![128, 4, 6656]⟩
abbrev S1x128x6592 : Shape := ⟨3, ![1, 128, 6592]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S8192x6656 : Shape := ⟨2, ![8192, 6656]⟩
abbrev S512x6656 : Shape := ⟨2, ![512, 6656]⟩
abbrev S8704x6656 : Shape := ⟨2, ![8704, 6656]⟩
abbrev S8704x4096 : Shape := ⟨2, ![8704, 4096]⟩
abbrev S8704x2x32x64 : Shape := ⟨4, ![8704, 2, 32, 64]⟩
abbrev S8704x2x64x32 : Shape := ⟨4, ![8704, 2, 64, 32]⟩
abbrev S8704x2560 : Shape := ⟨2, ![8704, 2560]⟩
abbrev S6592 : Shape := ⟨1, ![6592]⟩
abbrev S4096 : Shape := ⟨1, ![4096]⟩
abbrev S2x32x64 : Shape := ⟨3, ![2, 32, 64]⟩
abbrev S2x64x32 : Shape := ⟨3, ![2, 64, 32]⟩
abbrev S2496 : Shape := ⟨1, ![2496]⟩
abbrev S_ : Shape := ⟨0, ![]⟩
abbrev S6656 : Shape := ⟨1, ![6656]⟩
abbrev S1x6656 : Shape := ⟨2, ![1, 6656]⟩
abbrev S2048 : Shape := ⟨1, ![2048]⟩
abbrev S1x32x64 : Shape := ⟨3, ![1, 32, 64]⟩
abbrev S1x64x32 : Shape := ⟨3, ![1, 64, 32]⟩
abbrev S96x2048 : Shape := ⟨2, ![96, 2048]⟩
abbrev S96x1x32x64 : Shape := ⟨4, ![96, 1, 32, 64]⟩
abbrev S96x1x64x32 : Shape := ⟨4, ![96, 1, 64, 32]⟩
abbrev S512x2048 : Shape := ⟨2, ![512, 2048]⟩
abbrev S1 : Shape := ⟨1, ![1]⟩
abbrev S256x2048 : Shape := ⟨2, ![256, 2048]⟩
abbrev S128x6592 : Shape := ⟨2, ![128, 6592]⟩
abbrev S128x4096 : Shape := ⟨2, ![128, 4096]⟩
abbrev S128x2x32x64 : Shape := ⟨4, ![128, 2, 32, 64]⟩
abbrev S128x2x64x32 : Shape := ⟨4, ![128, 2, 64, 32]⟩
abbrev S128x2496 : Shape := ⟨2, ![128, 2496]⟩
abbrev S128x1x6592 : Shape := ⟨3, ![128, 1, 6592]⟩
abbrev S2 : Shape := ⟨1, ![2]⟩
abbrev S128x6656 : Shape := ⟨2, ![128, 6656]⟩
abbrev S128x2048 : Shape := ⟨2, ![128, 2048]⟩
abbrev S128x512 : Shape := ⟨2, ![128, 512]⟩
abbrev S512x1x64x32 : Shape := ⟨4, ![512, 1, 64, 32]⟩
abbrev S512x1x32x64 : Shape := ⟨4, ![512, 1, 32, 64]⟩
abbrev S128x4x2048 : Shape := ⟨3, ![128, 4, 2048]⟩

abbrev nBuf : Space → Nat
  | .hbm => 107
  | .vmem => 22
  | .smem => 0
  | _ => 0

abbrev bufTy : (tb : Table) → Fin (tcTables nBuf tb) → BufTy
  | .hbm, ⟨0, _⟩ => ⟨S4x2048x6656, .f32⟩
  | .hbm, ⟨1, _⟩ => ⟨S128x4x6656, .f32⟩
  | .hbm, ⟨2, _⟩ => ⟨S1x128x6592, .f32⟩
  | .hbm, ⟨3, _⟩ => ⟨S1x6592, .f32⟩
  | .hbm, ⟨4, _⟩ => ⟨S1x2048, .f32⟩
  | .hbm, ⟨5, _⟩ => ⟨S1x96x2048, .f32⟩
  | .hbm, ⟨6, _⟩ => ⟨S1x2048, .f32⟩
  | .hbm, ⟨7, _⟩ => ⟨S1x96x2048, .f32⟩
  | .hbm, ⟨8, _⟩ => ⟨S1x256x2048, .f32⟩
  | .hbm, ⟨9, _⟩ => ⟨S8192x6656, .f32⟩
  | .hbm, ⟨10, _⟩ => ⟨S512x6656, .f32⟩
  | .hbm, ⟨11, _⟩ => ⟨S8704x6656, .f32⟩
  | .hbm, ⟨12, _⟩ => ⟨S8704x4096, .f32⟩
  | .hbm, ⟨13, _⟩ => ⟨S8704x2x32x64, .f32⟩
  | .hbm, ⟨14, _⟩ => ⟨S8704x2x64x32, .f32⟩
  | .hbm, ⟨15, _⟩ => ⟨S8704x4096, .f32⟩
  | .hbm, ⟨16, _⟩ => ⟨S8704x2560, .f32⟩
  | .hbm, ⟨17, _⟩ => ⟨S8704x6656, .f32⟩
  | .hbm, ⟨18, _⟩ => ⟨S6592, .f32⟩
  | .hbm, ⟨19, _⟩ => ⟨S4096, .f32⟩
  | .hbm, ⟨20, _⟩ => ⟨S2x32x64, .f32⟩
  | .hbm, ⟨21, _⟩ => ⟨S2x64x32, .f32⟩
  | .hbm, ⟨22, _⟩ => ⟨S4096, .f32⟩
  | .hbm, ⟨23, _⟩ => ⟨S2496, .f32⟩
  | .hbm, ⟨24, _⟩ => ⟨S6592, .f32⟩
  | .hbm, ⟨25, _⟩ => ⟨S_, .i32⟩
  | .hbm, ⟨26, _⟩ => ⟨S_, .f32⟩
  | .hbm, ⟨27, _⟩ => ⟨S6656, .f32⟩
  | .hbm, ⟨28, _⟩ => ⟨S1x6656, .f32⟩
  | .hbm, ⟨29, _⟩ => ⟨S2048, .f32⟩
  | .hbm, ⟨30, _⟩ => ⟨S1x32x64, .f32⟩
  | .hbm, ⟨31, _⟩ => ⟨S1x64x32, .f32⟩
  | .hbm, ⟨32, _⟩ => ⟨S2048, .f32⟩
  | .hbm, ⟨33, _⟩ => ⟨S1x2048, .f32⟩
  | .hbm, ⟨34, _⟩ => ⟨S2048, .f32⟩
  | .hbm, ⟨35, _⟩ => ⟨S1x32x64, .f32⟩
  | .hbm, ⟨36, _⟩ => ⟨S1x64x32, .f32⟩
  | .hbm, ⟨37, _⟩ => ⟨S2048, .f32⟩
  | .hbm, ⟨38, _⟩ => ⟨S1x2048, .f32⟩
  | .hbm, ⟨39, _⟩ => ⟨S96x2048, .f32⟩
  | .hbm, ⟨40, _⟩ => ⟨S96x1x32x64, .f32⟩
  | .hbm, ⟨41, _⟩ => ⟨S96x1x64x32, .f32⟩
  | .hbm, ⟨42, _⟩ => ⟨S96x2048, .f32⟩
  | .hbm, ⟨43, _⟩ => ⟨S_, .bf16⟩
  | .hbm, ⟨44, _⟩ => ⟨S512x2048, .bf16⟩
  | .hbm, ⟨45, _⟩ => ⟨S96x2048, .bf16⟩
  | .hbm, ⟨46, _⟩ => ⟨S_, .i32⟩
  | .hbm, ⟨47, _⟩ => ⟨S1, .i32⟩
  | .hbm, ⟨48, _⟩ => ⟨S512x2048, .bf16⟩
  | .hbm, ⟨49, _⟩ => ⟨S96x2048, .f32⟩
  | .hbm, ⟨50, _⟩ => ⟨S96x1x32x64, .f32⟩
  | .hbm, ⟨51, _⟩ => ⟨S96x1x64x32, .f32⟩
  | .hbm, ⟨52, _⟩ => ⟨S96x2048, .f32⟩
  | .hbm, ⟨53, _⟩ => ⟨S_, .bf16⟩
  | .hbm, ⟨54, _⟩ => ⟨S512x2048, .bf16⟩
  | .hbm, ⟨55, _⟩ => ⟨S96x2048, .bf16⟩
  | .hbm, ⟨56, _⟩ => ⟨S_, .i32⟩
  | .hbm, ⟨57, _⟩ => ⟨S1, .i32⟩
  | .hbm, ⟨58, _⟩ => ⟨S512x2048, .bf16⟩
  | .hbm, ⟨59, _⟩ => ⟨S256x2048, .f32⟩
  | .hbm, ⟨60, _⟩ => ⟨S_, .bf16⟩
  | .hbm, ⟨61, _⟩ => ⟨S512x2048, .bf16⟩
  | .hbm, ⟨62, _⟩ => ⟨S256x2048, .bf16⟩
  | .hbm, ⟨63, _⟩ => ⟨S_, .i32⟩
  | .hbm, ⟨64, _⟩ => ⟨S1, .i32⟩
  | .hbm, ⟨65, _⟩ => ⟨S512x2048, .bf16⟩
  | .hbm, ⟨66, _⟩ => ⟨S128x6592, .f32⟩
  | .hbm, ⟨67, _⟩ => ⟨S128x4096, .f32⟩
  | .hbm, ⟨68, _⟩ => ⟨S128x2x32x64, .f32⟩
  | .hbm, ⟨69, _⟩ => ⟨S128x2x64x32, .f32⟩
  | .hbm, ⟨70, _⟩ => ⟨S128x4096, .f32⟩
  | .hbm, ⟨71, _⟩ => ⟨S128x2496, .f32⟩
  | .hbm, ⟨72, _⟩ => ⟨S128x6592, .f32⟩
  | .hbm, ⟨73, _⟩ => ⟨S128x1x6592, .f32⟩
  | .hbm, ⟨74, _⟩ => ⟨S_, .f32⟩
  | .hbm, ⟨75, _⟩ => ⟨S128x4x6656, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S128x4x6656, .f32⟩
  | .hbm, ⟨82, _⟩ => ⟨S512x6656, .f32⟩
  | .hbm, ⟨83, _⟩ => ⟨S512x2048, .f32⟩
  | .hbm, ⟨84, _⟩ => ⟨S512x2048, .f32⟩
  | .hbm, ⟨85, _⟩ => ⟨S512x2048, .f32⟩
  | .hbm, ⟨86, _⟩ => ⟨S512x2048, .f32⟩
  | .hbm, ⟨87, _⟩ => ⟨S512x2048, .f32⟩
  | .hbm, ⟨88, _⟩ => ⟨S512x2048, .f32⟩
  | .hbm, ⟨89, _⟩ => ⟨S512x1x64x32, .f32⟩
  | .hbm, ⟨90, _⟩ => ⟨S512x1x32x64, .f32⟩
  | .hbm, ⟨91, _⟩ => ⟨S512x2048, .f32⟩
  | .hbm, ⟨92, _⟩ => ⟨S128x4x2048, .f32⟩
  | .hbm, ⟨93, _⟩ => ⟨S512x1x64x32, .f32⟩
  | .hbm, ⟨94, _⟩ => ⟨S512x1x32x64, .f32⟩
  | .hbm, ⟨95, _⟩ => ⟨S512x2048, .f32⟩
  | .hbm, ⟨96, _⟩ => ⟨S128x4x2048, .f32⟩
  | .hbm, ⟨97, _⟩ => ⟨S512x1x64x32, .f32⟩
  | .hbm, ⟨98, _⟩ => ⟨S512x1x32x64, .f32⟩
  | .hbm, ⟨99, _⟩ => ⟨S512x2048, .f32⟩
  | .hbm, ⟨100, _⟩ => ⟨S128x4x2048, .f32⟩
  | .hbm, ⟨101, _⟩ => ⟨S128x4x2048, .f32⟩
  | .hbm, ⟨102, _⟩ => ⟨S512x1x64x32, .f32⟩
  | .hbm, ⟨103, _⟩ => ⟨S512x1x32x64, .f32⟩
  | .hbm, ⟨104, _⟩ => ⟨S512x2048, .f32⟩
  | .hbm, ⟨105, _⟩ => ⟨S128x4x2048, .f32⟩
  | .hbm, ⟨106, _⟩ => ⟨S128x4x2048, .f32⟩
  | .local _ .vmem, ⟨0, _⟩ => ⟨S128x6656, .f32⟩
  | .local _ .vmem, ⟨1, _⟩ => ⟨S128x6656, .f32⟩
  | .local _ .vmem, ⟨2, _⟩ => ⟨S128x6656, .f32⟩
  | .local _ .vmem, ⟨3, _⟩ => ⟨S128x6656, .f32⟩
  | .local _ .vmem, ⟨4, _⟩ => ⟨S1x6656, .f32⟩
  | .local _ .vmem, ⟨5, _⟩ => ⟨S1x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | _, _ => ⟨S4x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_c_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_c_6 : Ref sig .tc := ⟨.hbm, 76, rfl⟩
abbrev main_v58 : Ref sig .tc := ⟨.hbm, 77, rfl⟩
abbrev main_c_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63_0 : Ref sig .tc := ⟨.hbm, 83, rfl⟩
abbrev main_v63_1 : Ref sig .tc := ⟨.hbm, 84, rfl⟩
abbrev main_v63_2 : Ref sig .tc := ⟨.hbm, 85, rfl⟩
abbrev main_v63_3 : Ref sig .tc := ⟨.hbm, 86, rfl⟩
abbrev main_v63_4 : Ref sig .tc := ⟨.hbm, 87, rfl⟩
abbrev main_v63_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6656 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6656 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S4x2048x6656 : Shape := ⟨3, ![4, 2048, 6656]⟩
abbrev S128x4x6656 : Shape := ⟨3, ![128, 4, 6656]⟩
abbrev S1x128x6592 : Shape := ⟨3, ![1, 128, 6592]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S128x4x6592 : Shape := ⟨3, ![128, 4, 6592]⟩
abbrev S128x4x64 : Shape := ⟨3, ![128, 4, 64]⟩
abbrev S128x6592 : Shape := ⟨2, ![128, 6592]⟩
abbrev S128x1x6592 : Shape := ⟨3, ![128, 1, 6592]⟩
abbrev S128x5x6592 : Shape := ⟨3, ![128, 5, 6592]⟩
abbrev S6592 : Shape := ⟨1, ![6592]⟩
abbrev S1x1x6592 : Shape := ⟨3, ![1, 1, 6592]⟩
abbrev S128x4x2048 : Shape := ⟨3, ![128, 4, 2048]⟩
abbrev S128x4x96 : Shape := ⟨3, ![128, 4, 96]⟩
abbrev S128x4x256 : Shape := ⟨3, ![128, 4, 256]⟩
abbrev S2048 : Shape := ⟨1, ![2048]⟩
abbrev S96x2048 : Shape := ⟨2, ![96, 2048]⟩
abbrev S1x1x2048 : Shape := ⟨3, ![1, 1, 2048]⟩
abbrev S_ : Shape := ⟨0, ![]⟩
abbrev S256x2048 : Shape := ⟨2, ![256, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x6656, .f32⟩
  | .hbm, ⟨1, _⟩ => ⟨S128x4x6656, .f32⟩
  | .hbm, ⟨2, _⟩ => ⟨S1x128x6592, .f32⟩
  | .hbm, ⟨3, _⟩ => ⟨S1x6592, .f32⟩
  | .hbm, ⟨4, _⟩ => ⟨S1x2048, .f32⟩
  | .hbm, ⟨5, _⟩ => ⟨S1x96x2048, .f32⟩
  | .hbm, ⟨6, _⟩ => ⟨S1x2048, .f32⟩
  | .hbm, ⟨7, _⟩ => ⟨S1x96x2048, .f32⟩
  | .hbm, ⟨8, _⟩ => ⟨S1x256x2048, .f32⟩
  | .hbm, ⟨9, _⟩ => ⟨S128x4x6592, .f32⟩
  | .hbm, ⟨10, _⟩ => ⟨S128x4x64, .f32⟩
  | .hbm, ⟨11, _⟩ => ⟨S128x6592, .f32⟩
  | .hbm, ⟨12, _⟩ => ⟨S128x1x6592, .f32⟩
  | .hbm, ⟨13, _⟩ => ⟨S128x5x6592, .f32⟩
  | .hbm, ⟨14, _⟩ => ⟨S128x4x6592, .f32⟩
  | .hbm, ⟨15, _⟩ => ⟨S128x4x6592, .f32⟩
  | .hbm, ⟨16, _⟩ => ⟨S6592, .f32⟩
  | .hbm, ⟨17, _⟩ => ⟨S1x1x6592, .f32⟩
  | .hbm, ⟨18, _⟩ => ⟨S128x4x6592, .f32⟩
  | .hbm, ⟨19, _⟩ => ⟨S128x4x6592, .f32⟩
  | .hbm, ⟨20, _⟩ => ⟨S128x4x6592, .f32⟩
  | .hbm, ⟨21, _⟩ => ⟨S128x4x2048, .f32⟩
  | .hbm, ⟨22, _⟩ => ⟨S128x4x2048, .f32⟩
  | .hbm, ⟨23, _⟩ => ⟨S128x4x2048, .f32⟩
  | .hbm, ⟨24, _⟩ => ⟨S128x4x96, .f32⟩
  | .hbm, ⟨25, _⟩ => ⟨S128x4x96, .f32⟩
  | .hbm, ⟨26, _⟩ => ⟨S128x4x256, .f32⟩
  | .hbm, ⟨27, _⟩ => ⟨S2048, .f32⟩
  | .hbm, ⟨28, _⟩ => ⟨S128x4x96, .f32⟩
  | .hbm, ⟨29, _⟩ => ⟨S96x2048, .f32⟩
  | .hbm, ⟨30, _⟩ => ⟨S128x4x2048, .f32⟩
  | .hbm, ⟨31, _⟩ => ⟨S1x1x2048, .f32⟩
  | .hbm, ⟨32, _⟩ => ⟨S128x4x2048, .f32⟩
  | .hbm, ⟨33, _⟩ => ⟨S128x4x2048, .f32⟩
  | .hbm, ⟨34, _⟩ => ⟨S128x4x2048, .f32⟩
  | .hbm, ⟨35, _⟩ => ⟨S_, .f32⟩
  | .hbm, ⟨36, _⟩ => ⟨S128x4x2048, .f32⟩
  | .hbm, ⟨37, _⟩ => ⟨S128x4x2048, .f32⟩
  | .hbm, ⟨38, _⟩ => ⟨S128x4x2048, .f32⟩
  | .hbm, ⟨39, _⟩ => ⟨S128x4x2048, .f32⟩
  | .hbm, ⟨40, _⟩ => ⟨S128x4x2048, .i1⟩
  | .hbm, ⟨41, _⟩ => ⟨S128x4x2048, .f32⟩
  | .hbm, ⟨42, _⟩ => ⟨S128x4x2048, .f32⟩
  | .hbm, ⟨43, _⟩ => ⟨S128x4x2048, .f32⟩
  | .hbm, ⟨44, _⟩ => ⟨S128x4x2048, .f32⟩
  | .hbm, ⟨45, _⟩ => ⟨S128x4x2048, .f32⟩
  | .hbm, ⟨46, _⟩ => ⟨S128x4x2048, .f32⟩
  | .hbm, ⟨47, _⟩ => ⟨S128x4x2048, .f32⟩
  | .hbm, ⟨48, _⟩ => ⟨S128x4x2048, .f32⟩
  | .hbm, ⟨49, _⟩ => ⟨S128x4x2048, .f32⟩
  | .hbm, ⟨50, _⟩ => ⟨S_, .f32⟩
  | .hbm, ⟨51, _⟩ => ⟨S128x4x2048, .f32⟩
  | .hbm, ⟨52, _⟩ => ⟨S128x4x2048, .f32⟩
  | .hbm, ⟨53, _⟩ => ⟨S128x4x2048, .f32⟩
  | .hbm, ⟨54, _⟩ => ⟨S128x4x2048, .f32⟩
  | .hbm, ⟨55, _⟩ => ⟨S128x4x2048, .f32⟩
  | .hbm, ⟨56, _⟩ => ⟨S2048, .f32⟩
  | .hbm, ⟨57, _⟩ => ⟨S96x2048, .f32⟩
  | .hbm, ⟨58, _⟩ => ⟨S128x4x2048, .f32⟩
  | .hbm, ⟨59, _⟩ => ⟨S1x1x2048, .f32⟩
  | .hbm, ⟨60, _⟩ => ⟨S128x4x2048, .f32⟩
  | .hbm, ⟨61, _⟩ => ⟨S128x4x2048, .f32⟩
  | .hbm, ⟨62, _⟩ => ⟨S128x4x2048, .f32⟩
  | .hbm, ⟨63, _⟩ => ⟨S128x4x2048, .f32⟩
  | .hbm, ⟨64, _⟩ => ⟨S_, .f32⟩
  | .hbm, ⟨65, _⟩ => ⟨S128x4x2048, .f32⟩
  | .hbm, ⟨66, _⟩ => ⟨S128x4x2048, .f32⟩
  | .hbm, ⟨67, _⟩ => ⟨S_, .f32⟩
  | .hbm, ⟨68, _⟩ => ⟨S128x4x2048, .f32⟩
  | .hbm, ⟨69, _⟩ => ⟨S128x4x2048, .f32⟩
  | .hbm, ⟨70, _⟩ => ⟨S128x4x256, .f32⟩
  | .hbm, ⟨71, _⟩ => ⟨S128x4x256, .f32⟩
  | .hbm, ⟨72, _⟩ => ⟨S_, .f32⟩
  | .hbm, ⟨73, _⟩ => ⟨S128x4x256, .f32⟩
  | .hbm, ⟨74, _⟩ => ⟨S128x4x256, .f32⟩
  | .hbm, ⟨75, _⟩ => ⟨S_, .f32⟩
  | .hbm, ⟨76, _⟩ => ⟨S128x4x256, .f32⟩
  | .hbm, ⟨77, _⟩ => ⟨S128x4x256, .f32⟩
  | .hbm, ⟨78, _⟩ => ⟨S256x2048, .f32⟩
  | .hbm, ⟨79, _⟩ => ⟨S128x4x2048, .f32⟩
  | _, _ => ⟨S4x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_0 : Ref sig .tc := ⟨.hbm, 64, rfl⟩
abbrev main_v41 : Ref sig .tc := ⟨.hbm, 65, rfl⟩
abbrev main_v42 : Ref sig .tc := ⟨.hbm, 66, rfl⟩
abbrev main_cst_1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Proof.Body.lean ====
module

public import proofs.«01_k».proof.Proof.Gen.KernelIdeal

@[expose] public section

set_option maxRecDepth 65536
set_option synthInstance.maxSize 4096

noncomputable section

namespace Cert.KernelIdeal.Hand

open Idealize.ShloMosaic Idealize.SL.Sem

variable {F : FTy → Type} [FloatOps F]
variable [Facts]
open Facts₀ Facts

/-- The kernel's programs. -/
abbrev KProg (α : Type) : Type 1 := Prog (TpuEff nD τ sig (Elt F) Λ₀ .tc) α

/-- `n` steps from `j` on, each handed the value of the step before. -/
def steps {α : Type} {N : ℕ} (step : (j : ℕ) → j < N → α → KProg (F := F) α) : (n j : ℕ) → j + n = N → α → KProg (F := F) α
  | 0, _, _, a => pure a
  | n + 1, j, h, a => step j (by omega) a >>= fun b => steps step n (j + 1) (by omega) b

theorem inb_seq {j : ℕ} (h : j < 64) : ∀ a, (![0, j, 0, 0] : Fin 4 → Nat) a + S1x1x4x128.size a ≤ S1x64x4x128.size a := by
  intro a; fin_cases a <;> simp <;> omega

theorem inb_par {j : ℕ} (h : j < 64) : ∀ a, (![0, j, 0] : Fin 3 → Nat) a + S1x1x128.size a ≤ S1x64x128.size a := by
  intro a; fin_cases a <;> simp <;> omega

theorem inb_scr {j : ℕ} (h : j < 64) : ∀ a, (![j, 0, 0] : Fin 3 → Nat) a + S1x4x128.size a ≤ S64x4x128.size a := by
  intro a; fin_cases a <;> simp <;> omega

/-- Row `j` of a channel-major input block. -/
def ldSeq (m : Memref sig .tc .vmem S1x64x4x128 .f32) {j : ℕ} (h : j < 64) : KProg (F := F) (Vec F S1x1x4x128 .f32) :=
  Prog.lift (.load m (Rect.unit (s := S1x64x4x128) ![0, j, 0, 0] S1x1x4x128.size (inb_seq h)).toLoadRect (View.loadsAt_vmem h_S1x1x4x128))

/-- Row `j` of a parameter block. -/
def ldPar (m : Memref sig .tc .vmem S1x64x128 .f32) {j : ℕ} (h : j < 64) : KProg (F := F) (Vec F S1x1x128 .f32) :=
  Prog.lift (.load m (Rect.unit (s := S1x64x128) ![0, j, 0] S1x1x128.size (inb_par h)).toLoadRect (View.loadsAt_vmem h_S1x1x128))

/-- Row `j` of a scratch buffer: what it holds is read and then overwritten. -/
def stScr (m : Memref sig .tc .vmem S64x4x128 .f32) {j : ℕ} (h : j < 64) (w : FVec F S1x4x128 .f32) : KProg (F := F) PUnit := do
  let _ ← Prog.lift (.load m (Rect.unit (s := S64x4x128) ![j, 0, 0] S1x4x128.size (inb_scr h)).toLoadRect (View.loadsAt_vmem h_S1x4x128))
  Prog.lift (.store m (Rect.unit (s := S64x4x128) ![j, 0, 0] S1x4x128.size (inb_scr h)) w Finset.univ (View.stores_vmem_bits_univ h_S1x4x128 rfl) (.inl rfl))

def seqRow (x : Vec F S1x1x4x128 .f32) : FVec F S4x128 .f32 := shapeCast S4x128 x shapeCasts_S1x1x4x128_S4x128
def parRow (x : Vec F S1x1x128 .f32) : FVec F S4x128 .f32 :=
  broadcastTo S4x128 (shapeCast S1x128 x shapeCasts_S1x1x128_S1x128) broadcasts_S1x128_S4x128
def scrRow (x : FVec F S4x128 .f32) : FVec F S1x4x128 .f32 := shapeCast S1x4x128 x shapeCasts_S4x128_S1x4x128

/-- One summand of the squared norms. -/
def ssStep (m4 : Memref sig .tc .vmem S1x64x4x128 .f32) (m7 : Memref sig .tc .vmem S1x64x128 .f32) (j : ℕ) (h : j < 64) (ss : FVec F S4x128 .f32) :
    KProg (F := F) (FVec F S4x128 .f32) := do
  let k ← ldSeq m4 h
  let p ← ldPar m7 h
  pure (addf ss (mulf (mulf (seqRow k) (parRow p)) (mulf (seqRow k) (parRow p))))

def ones : FVec F S4x128 .f32 := broadcast S4x128 (Scalar.ofBits .f32 0x3F800000#32)
def zeros : FVec F S4x128 .f32 := broadcast S4x128 (Scalar.ofBits .f32 0x00000000#32)

/-- The reciprocal norms. -/
def invOf (ss : FVec F S4x128 .f32) : FVec F S4x128 .f32 :=
  divf ones (maximumf (sqrt ss) (broadcast S4x128 (Scalar.ofBits .f32 0x2B8CBCCC#32)))

/-- One channel of the chunk's tables and one summand of the bonus. -/
def tabStep (m2 m4 m5 : Memref sig .tc .vmem S1x64x4x128 .f32) (m7 m8 m9 : Memref sig .tc .vmem S1x64x128 .f32)
    (m15 m16 m17 : Memref sig .tc .vmem S64x4x128 .f32) (inv : FVec F S4x128 .f32)
    (j : ℕ) (h : j < 64) (bonus : FVec F S4x128 .f32) : KProg (F := F) (FVec F S4x128 .f32) := do
  let k ← ldSeq m4 h
  let a ← ldSeq m5 h
  let p ← ldPar m7 h
  let q ← ldPar m8 h
  stScr m15 h (scrRow (subf zeros (mulf (mulf (seqRow k) (parRow p)) inv)))
  stScr m16 h (scrRow (mulf (mulf (mulf (seqRow k) (parRow p)) inv) (seqRow a)))
  stScr m17 h (scrRow (mulf (seqRow k) (addf ones (mulf (subf (seqRow a) ones) (parRow q)))))
  let r ← ldSeq m2 h
  let z ← ldPar m9 h
  pure (addf bonus (mulf (mulf (seqRow r) (mulf (seqRow k) (addf ones (mulf (subf (seqRow a) ones) (parRow q))))) (parRow z)))

/-- The chunk's set-up. -/
def setup (arg2 : Memref sig .tc .vmem S1x64x4x128 .f32) (arg4 : Memref sig .tc .vmem S1x64x4x128 .f32) (arg5 : Memref sig .tc .vmem S1x64x4x128 .f32) (arg7 : Memref sig .tc .vmem S1x64x128 .f32) (arg8 : Memref sig .tc .vmem S1x64x128 .f32) (arg9 : Memref sig .tc .vmem S1x64x128 .f32) (arg15 : Memref sig .tc .vmem S64x4x128 .f32) (arg16 : Memref sig .tc .vmem S64x4x128 .f32) (arg17 : Memref sig .tc .vmem S64x4x128 .f32) (arg18 : Memref sig .tc .vmem S4x128 .f32) : KProg (F := F) PUnit := do
  let ss ← steps (ssStep arg4 arg7) 64 0 rfl zeros
  let bonus ← steps (tabStep arg2 arg4 arg5 arg7 arg8 arg9 arg15 arg16 arg17 (invOf ss)) 64 0 rfl zeros
  let _ ← Prog.lift (.load arg18 (Rect.unit (s := S4x128) ![0, 0] S4x128.size inb_S4x128_S4x128_0_0).toLoadRect (View.loadsAt_vmem h_S4x128))
  Prog.lift (.store arg18 (Rect.unit (s := S4x128) ![0, 0] S4x128.size inb_S4x128_S4x128_0_0) (shapeCast S4x128 bonus shapeCasts_S4x128_S4x128) Finset.univ (View.stores_vmem_bits_univ h_S4x128 rfl) (.inl rfl))

/-- At a group's first chunk the state is copied in. -/
def copyIn (arg12 arg14 : Memref sig .tc .vmem S1x64x64x128 .f32) : KProg (F := F) PUnit := do
  let v : Vec F S1x64x64x128 .f32 ← Prog.lift (.load arg12 (Rect.unit (s := S1x64x64x128) ![0, 0, 0, 0] S1x64x64x128.size inb_S1x64x64x128_S1x64x64x128_0_0_0_0).toLoadRect (View.loadsAt_vmem h_S1x64x64x128))
  let _ ← Prog.lift (.load arg14 (Rect.unit (s := S1x64x64x128) ![0, 0, 0, 0] S1x64x64x128.size inb_S1x64x64x128_S1x64x64x128_0_0_0_0).toLoadRect (View.loadsAt_vmem h_S1x64x64x128))
  Prog.lift (.store arg14 (Rect.unit (s := S1x64x64x128) ![0, 0, 0, 0] S1x64x64x128.size inb_S1x64x64x128_S1x64x64x128_0_0_0_0) (shapeCast S1x64x64x128 v shapeCasts_S1x64x64x128_S1x64x64x128) Finset.univ (View.stores_vmem_bits_univ h_S1x64x64x128 rfl) (.inl rfl))

theorem op_congr {α β : Type} {e e' : TpuEff nD τ sig (Elt F) Λ₀ .tc β} {k k' : β → KProg (F := F) α} (he : e = e') (hk : ∀ x, k x = k' x) :
    (Prog.op e k : KProg (F := F) α) = Prog.op e' k' := by
  subst he; rw [funext hk]

theorem first_chunk (i : grid0.Coords) :
    Scalar.cmpi .ne (Scalar.extui (Scalar.cmpi .eq (BitVec.ofNat 32 (i 1).val) (0#32)) : BitVec 32) 0#32 = 1#1 := by
  have h : (i 1).val = 0 := by have := (i 1).isLt; simp at this; omega
  rw [h]; decide

theorem part10_eq (i : grid0.Coords) (arg2 : Memref sig .tc .vmem S1x64x4x128 .f32) (harg2 : arg2.IsWhole) (arg3 : Memref sig .tc .vmem S1x64x4x128 .f32) (harg3 : arg3.IsWhole) (arg4 : Memref sig .tc .vmem S1x64x4x128 .f32) (harg4 : arg4.IsWhole) (arg5 : Memref sig .tc .vmem S1x64x4x128 .f32) (harg5 : arg5.IsWhole) (arg6 : Memref sig .tc .vmem S1x4x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x64x128 .f32) (harg12 : arg12.IsWhole) (arg13 : Memref sig .tc .vmem S1x4x64x128 .f32) (harg13 : arg13.IsWhole) (arg14 : Memref sig .tc .vmem S1x64x64x128 .f32) (harg14 : arg14.IsWhole) (arg15 : Memref sig .tc .vmem S64x4x128 .f32) (harg15 : arg15.IsWhole) (arg16 : Memref sig .tc .vmem S64x4x128 .f32) (harg16 : arg16.IsWhole) (arg17 : Memref sig .tc .vmem S64x4x128 .f32) (harg17 : arg17.IsWhole) (arg18 : Memref sig .tc .vmem S4x128 .f32) (harg18 : arg18.IsWhole) :
    k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      copyIn arg12 arg14
      let x ← steps (N := 3) (fun j h => ssStep arg4 arg7 j (by omega)) 3 0 rfl zeros
      let q ← ldSeq arg4 (by decide : 3 < 64)
      pure ⟨x, q⟩) := by
  unfold k0_part10
  dsimp only
  rw [dif_pos (first_chunk i)]
  rfl

set_option maxHeartbeats 0 in
theorem setup_eq (i : grid0.Coords) (arg2 : Memref sig .tc .vmem S1x64x4x128 .f32) (harg2 : arg2.IsWhole) (arg3 : Memref sig .tc .vmem S1x64x4x128 .f32) (harg3 : arg3.IsWhole) (arg4 : Memref sig .tc .vmem S1x64x4x128 .f32) (harg4 : arg4.IsWhole) (arg5 : Memref sig .tc .vmem S1x64x4x128 .f32) (harg5 : arg5.IsWhole) (arg6 : Memref sig .tc .vmem S1x4x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x64x128 .f32) (harg12 : arg12.IsWhole) (arg13 : Memref sig .tc .vmem S1x4x64x128 .f32) (harg13 : arg13.IsWhole) (arg14 : Memref sig .tc .vmem S1x64x64x128 .f32) (harg14 : arg14.IsWhole) (arg15 : Memref sig .tc .vmem S64x4x128 .f32) (harg15 : arg15.IsWhole) (arg16 : Memref sig .tc .vmem S64x4x128 .f32) (harg16 : arg16.IsWhole) (arg17 : Memref sig .tc .vmem S64x4x128 .f32) (harg17 : arg17.IsWhole) (arg18 : Memref sig .tc .vmem S4x128 .f32) (harg18 : arg18.IsWhole) :
    (do
      let ⟨v520, v1851, v1853, v1855, v1860, v1866, cst_1558⟩ ← k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v520 v1851 v1853 v1855 v1860 v1866 cst_1558) =
    (do
      copyIn arg12 arg14
      setup arg2 arg4 arg5 arg7 arg8 arg9 arg15 arg16 arg17 arg18
      pure ⟨0#32, 1#32⟩) := by
  unfold k0_part105
  rw [part10_eq]
  iterate 901 (refine op_congr rfl fun x => ?_)
  rfl

end Cert.KernelIdeal.Hand

end
-- ==== Proof.Step.lean ====
module

public import proofs.«01_k».proof.Proof.Body

@[expose] public section

set_option maxRecDepth 65536
set_option synthInstance.maxSize 4096

noncomputable section

namespace Cert.KernelIdeal.Hand

open Idealize.ShloMosaic Idealize.SL.Sem

variable {F : FTy → Type} [FloatOps F]
variable [Facts]
open Facts₀ Facts

/-- A row of the state, and a row of one token's keyed values spread over the state's rows. -/
def stRow (x : Vec F S1x1x64x128 .f32) : FVec F S64x128 .f32 := shapeCast S64x128 x shapeCasts_S1x1x64x128_S64x128
def stBack (x : FVec F S64x128 .f32) : FVec F S1x1x64x128 .f32 := shapeCast S1x1x64x128 x shapeCasts_S64x128_S1x1x64x128
def tokRow (x : Vec F S1x1x1x128 .f32) : FVec F S64x128 .f32 :=
  broadcastTo S64x128 (shapeCast S1x128 x shapeCasts_S1x1x1x128_S1x128) broadcasts_S1x128_S64x128
def tabRow (x : Vec F S1x1x128 .f32) : FVec F S64x128 .f32 :=
  broadcastTo S64x128 (shapeCast S1x128 x shapeCasts_S1x1x128_S1x128) broadcasts_S1x128_S64x128
def lnRow (x : Vec F S1x64x128 .f32) : FVec F S64x128 .f32 := shapeCast S64x128 x shapeCasts_S1x64x128_S64x128

/-- One summand of `sa`: the state's row times the table's. -/
def saStep (m14 : Memref sig .tc .vmem S1x64x64x128 .f32) (m15 : Memref sig .tc .vmem S64x4x128 .f32)
    (t1 : Fin k0_t1_loop.trips) (t2 : Fin k0_t2_loop.trips) (j : ℕ) (h : j < 8) (acc : FVec F S64x128 .f32) : KProg (F := F) (FVec F S64x128 .f32) := do
  let s : Vec F S1x1x64x128 .f32 ← Prog.lift (.load m14 (Rect.unit (s := S1x64x64x128) (k0_off2 t2 (BitVec.ofNat 32 j)) S1x1x64x128.size (k0_off2_inb t2 ⟨j, h⟩)).toLoadRect (View.loadsAt_vmem h_S1x1x64x128))
  let a : Vec F S1x1x128 .f32 ← Prog.lift (.load m15 (Rect.unit (s := S64x4x128) (k0_off3 t1 t2 (BitVec.ofNat 32 j)) S1x1x128.size (k0_off3_inb t1 t2 ⟨j, h⟩)).toLoadRect (View.loadsAt_vmem h_S1x1x128))
  pure (addf acc (mulf (stRow s) (tabRow a)))

/-- The new state row. -/
def newRow (s : Vec F S1x1x64x128 .f32) (w : Vec F S1x1x1x128 .f32) (b k : Vec F S1x1x128 .f32) (sa v : FVec F S64x128 .f32) : FVec F S64x128 .f32 :=
  addf (addf (mulf (stRow s) (tokRow w)) (mulf sa (tabRow b))) (mulf v (tabRow k))

/-- One state row's update and its summand of the output. -/
def upStep (m2 m3 : Memref sig .tc .vmem S1x64x4x128 .f32) (m14 : Memref sig .tc .vmem S1x64x64x128 .f32) (m16 m17 : Memref sig .tc .vmem S64x4x128 .f32)
    (t1 : Fin k0_t1_loop.trips) (sa v : FVec F S64x128 .f32) (t3 : Fin k0_t3_loop.trips) (j : ℕ) (h : j < 8) (acc : FVec F S64x128 .f32) :
    KProg (F := F) (FVec F S64x128 .f32) := do
  let s : Vec F S1x1x64x128 .f32 ← Prog.lift (.load m14 (Rect.unit (s := S1x64x64x128) (k0_off4 t3 (BitVec.ofNat 32 j)) S1x1x64x128.size (k0_off4_inb t3 ⟨j, h⟩)).toLoadRect (View.loadsAt_vmem h_S1x1x64x128))
  let w : Vec F S1x1x1x128 .f32 ← Prog.lift (.load m3 (Rect.unit (s := S1x64x4x128) (k0_off5 t1 t3 (BitVec.ofNat 32 j)) S1x1x1x128.size (k0_off5_inb t1 t3 ⟨j, h⟩)).toLoadRect (View.loadsAt_vmem h_S1x1x1x128))
  let b : Vec F S1x1x128 .f32 ← Prog.lift (.load m16 (Rect.unit (s := S64x4x128) (k0_off6 t1 t3 (BitVec.ofNat 32 j)) S1x1x128.size (k0_off6_inb t1 t3 ⟨j, h⟩)).toLoadRect (View.loadsAt_vmem h_S1x1x128))
  let k : Vec F S1x1x128 .f32 ← Prog.lift (.load m17 (Rect.unit (s := S64x4x128) (k0_off6 t1 t3 (BitVec.ofNat 32 j)) S1x1x128.size (k0_off6_inb t1 t3 ⟨j, h⟩)).toLoadRect (View.loadsAt_vmem h_S1x1x128))
  let _ ← Prog.lift (.load m14 (Rect.unit (s := S1x64x64x128) (k0_off4 t3 (BitVec.ofNat 32 j)) S1x1x64x128.size (k0_off4_inb t3 ⟨j, h⟩)).toLoadRect (View.loadsAt_vmem h_S1x1x64x128))
  Prog.lift (.store m14 (Rect.unit (s := S1x64x64x128) (k0_off4 t3 (BitVec.ofNat 32 j)) S1x1x64x128.size (k0_off4_inb t3 ⟨j, h⟩)) (stBack (newRow s w b k sa v)) Finset.univ (View.stores_vmem_bits_univ h_S1x1x64x128 rfl) (.inl rfl))
  let r : Vec F S1x1x1x128 .f32 ← Prog.lift (.load m2 (Rect.unit (s := S1x64x4x128) (k0_off5 t1 t3 (BitVec.ofNat 32 j)) S1x1x1x128.size (k0_off5_inb t1 t3 ⟨j, h⟩)).toLoadRect (View.loadsAt_vmem h_S1x1x1x128))
  pure (addf acc (mulf (newRow s w b k sa v) (tokRow r)))

/-- A column mean over the state's rows, and the output less it. -/
def meanOf (y : FVec F S64x128 .f32) : FVec F S1x128 .f32 :=
  divf (shapeCast S1x128 (multiReduction .add [0] S128 y 0x00000000#32 reduces_S64x128_S128 (.inl rfl) rfl) shapeCasts_S128_S1x128)
    (broadcast S1x128 (Scalar.ofBits .f32 0x42800000#32))
def centred (y : FVec F S64x128 .f32) : FVec F S64x128 .f32 := subf y (broadcastTo S64x128 (meanOf y) broadcasts_S1x128_S64x128)

/-- The output's group norm with its bonus. -/
def outOf (y v : FVec F S64x128 .f32) (w b : Vec F S1x64x128 .f32) (bonus : Vec F S1x128 .f32) : FVec F S64x128 .f32 :=
  addf (addf (mulf (mulf (centred y) (broadcastTo S64x128 (rsqrt (addf (meanOf (mulf (centred y) (centred y))) (broadcast S1x128 (Scalar.ofBits .f32 0x3A27C5AC#32)))) broadcasts_S1x128_S64x128)) (lnRow w)) (lnRow b))
    (mulf (broadcastTo S64x128 bonus broadcasts_S1x128_S64x128) v)

def zeros64 : FVec F S64x128 .f32 := broadcast S64x128 (Scalar.ofBits .f32 0x00000000#32)

/-- One token up to its output. -/
def tokenVal (arg2 : Memref sig .tc .vmem S1x64x4x128 .f32) (arg3 : Memref sig .tc .vmem S1x64x4x128 .f32) (arg6 : Memref sig .tc .vmem S1x4x64x128 .f32) (arg10 : Memref sig .tc .vmem S1x64x128 .f32) (arg11 : Memref sig .tc .vmem S1x64x128 .f32) (arg14 : Memref sig .tc .vmem S1x64x64x128 .f32) (arg15 : Memref sig .tc .vmem S64x4x128 .f32) (arg16 : Memref sig .tc .vmem S64x4x128 .f32) (arg17 : Memref sig .tc .vmem S64x4x128 .f32) (arg18 : Memref sig .tc .vmem S4x128 .f32) (t1 : Fin k0_t1_loop.trips) : KProg (F := F) (FVec F S1x1x64x128 .f32) := do
  let v : Vec F S1x1x64x128 .f32 ← Prog.lift (.load arg6 (Rect.unit (s := S1x4x64x128) (k0_off1 t1) S1x1x64x128.size (k0_off1_inb t1)).toLoadRect (View.loadsAt_vmem h_S1x1x64x128))
  let sa ← Scf.Loop.for k0_t2_loop k0_t2_ok (zeros64 (F := F)) fun t2 acc => steps (saStep arg14 arg15 t1 t2) 8 0 rfl acc
  let y ← Scf.Loop.for k0_t3_loop k0_t3_ok (zeros64 (F := F)) fun t3 acc => steps (upStep arg2 arg3 arg14 arg16 arg17 t1 sa (stRow v) t3) 8 0 rfl acc
  let w : Vec F S1x64x128 .f32 ← Prog.lift (.load arg10 (Rect.unit (s := S1x64x128) ![0, 0, 0] S1x64x128.size inb_S1x64x128_S1x64x128_0_0_0).toLoadRect (View.loadsAt_vmem h_S1x64x128))
  let b : Vec F S1x64x128 .f32 ← Prog.lift (.load arg11 (Rect.unit (s := S1x64x128) ![0, 0, 0] S1x64x128.size inb_S1x64x128_S1x64x128_0_0_0).toLoadRect (View.loadsAt_vmem h_S1x64x128))
  let bonus : Vec F S1x128 .f32 ← Prog.lift (.load arg18 (Rect.unit (s := S4x128) (k0_off7 t1) S1x128.size (k0_off7_inb t1)).toLoadRect (View.loadsAt_vmem h_S1x128))
  pure (stBack (outOf y (stRow v) w b bonus))

/-- One token. -/
def token (arg2 : Memref sig .tc .vmem S1x64x4x128 .f32) (arg3 : Memref sig .tc .vmem S1x64x4x128 .f32) (arg6 : Memref sig .tc .vmem S1x4x64x128 .f32) (arg10 : Memref sig .tc .vmem S1x64x128 .f32) (arg11 : Memref sig .tc .vmem S1x64x128 .f32) (arg13 : Memref sig .tc .vmem S1x4x64x128 .f32) (arg14 : Memref sig .tc .vmem S1x64x64x128 .f32) (arg15 : Memref sig .tc .vmem S64x4x128 .f32) (arg16 : Memref sig .tc .vmem S64x4x128 .f32) (arg17 : Memref sig .tc .vmem S64x4x128 .f32) (arg18 : Memref sig .tc .vmem S4x128 .f32) (t1 : Fin k0_t1_loop.trips) : KProg (F := F) PUnit := do
  let y ← tokenVal arg2 arg3 arg6 arg10 arg11 arg14 arg15 arg16 arg17 arg18 t1
  let _ ← Prog.lift (.load arg13 (Rect.unit (s := S1x4x64x128) (k0_off1 t1) S1x1x64x128.size (k0_off1_inb t1)).toLoadRect (View.loadsAt_vmem h_S1x1x64x128))
  Prog.lift (.store arg13 (Rect.unit (s := S1x4x64x128) (k0_off1 t1) S1x1x64x128.size (k0_off1_inb t1)) y Finset.univ (View.stores_vmem_bits_univ h_S1x1x64x128 rfl) (.inl rfl))

theorem for_congr {α : Type} (l : Scf.Loop 32) (hok : l.OK) (a : α) {f g : Fin l.trips → α → KProg (F := F) α} (h : ∀ t x, f t x = g t x) :
    Scf.Loop.for l hok a f = Scf.Loop.for l hok a g := by rw [funext fun t => funext fun x => h t x]

theorem bind_congr {α β : Type} {p q : KProg (F := F) α} {k k' : α → KProg (F := F) β} (h : p = q) (hk : ∀ x, k x = k' x) : (p >>= k) = (q >>= k') := by
  subst h; rw [funext hk]

set_option pp.maxSteps 200 in
theorem part9_eq (i : grid0.Coords) (arg2 : Memref sig .tc .vmem S1x64x4x128 .f32) (harg2 : arg2.IsWhole) (arg3 : Memref sig .tc .vmem S1x64x4x128 .f32) (harg3 : arg3.IsWhole) (arg4 : Memref sig .tc .vmem S1x64x4x128 .f32) (harg4 : arg4.IsWhole) (arg5 : Memref sig .tc .vmem S1x64x4x128 .f32) (harg5 : arg5.IsWhole) (arg6 : Memref sig .tc .vmem S1x4x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x64x128 .f32) (harg12 : arg12.IsWhole) (arg13 : Memref sig .tc .vmem S1x4x64x128 .f32) (harg13 : arg13.IsWhole) (arg14 : Memref sig .tc .vmem S1x64x64x128 .f32) (harg14 : arg14.IsWhole) (arg15 : Memref sig .tc .vmem S64x4x128 .f32) (harg15 : arg15.IsWhole) (arg16 : Memref sig .tc .vmem S64x4x128 .f32) (harg16 : arg16.IsWhole) (arg17 : Memref sig .tc .vmem S64x4x128 .f32) (harg17 : arg17.IsWhole) (arg18 : Memref sig .tc .vmem S4x128 .f32) (harg18 : arg18.IsWhole) (t1 : Fin k0_t1_loop.trips) :
    (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 t1 >>= fun p => pure (stBack (addf p.2.2.1 (mulf p.2.2.2 p.2.1)))) = tokenVal arg2 arg3 arg6 arg10 arg11 arg14 arg15 arg16 arg17 arg18 t1 := by
  unfold k0_part9 tokenVal
  simp only [bind_assoc, pure_bind]
  refine bind_congr (F := F) rfl fun v => ?_
  refine bind_congr (F := F) (for_congr (F := F) _ _ _ fun t x => ?_) fun sa => ?_
  · iterate 16 (refine op_congr (F := F) rfl fun x => ?_)
    rfl
  refine bind_congr (F := F) (for_congr (F := F) _ _ _ fun t x => ?_) fun y => ?_
  · iterate 56 (refine op_congr (F := F) rfl fun x => ?_)
    rfl
  iterate 3 (refine op_congr (F := F) rfl fun x => ?_)
  rfl

set_option pp.maxSteps 200 in
/-- The whole body: the state copied in, the chunk's set-up, then the tokens in turn. -/
theorem body_eq (i : grid0.Coords) (arg2 : Memref sig .tc .vmem S1x64x4x128 .f32) (harg2 : arg2.IsWhole) (arg3 : Memref sig .tc .vmem S1x64x4x128 .f32) (harg3 : arg3.IsWhole) (arg4 : Memref sig .tc .vmem S1x64x4x128 .f32) (harg4 : arg4.IsWhole) (arg5 : Memref sig .tc .vmem S1x64x4x128 .f32) (harg5 : arg5.IsWhole) (arg6 : Memref sig .tc .vmem S1x4x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x64x128 .f32) (harg12 : arg12.IsWhole) (arg13 : Memref sig .tc .vmem S1x4x64x128 .f32) (harg13 : arg13.IsWhole) (arg14 : Memref sig .tc .vmem S1x64x64x128 .f32) (harg14 : arg14.IsWhole) (arg15 : Memref sig .tc .vmem S64x4x128 .f32) (harg15 : arg15.IsWhole) (arg16 : Memref sig .tc .vmem S64x4x128 .f32) (harg16 : arg16.IsWhole) (arg17 : Memref sig .tc .vmem S64x4x128 .f32) (harg17 : arg17.IsWhole) (arg18 : Memref sig .tc .vmem S4x128 .f32) (harg18 : arg18.IsWhole) :
    cc0_rwkv_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      copyIn arg12 arg14
      setup arg2 arg4 arg5 arg7 arg8 arg9 arg15 arg16 arg17 arg18
      Scf.Loop.for k0_t1_loop k0_t1_ok PUnit.unit fun t1 _ => token arg2 arg3 arg6 arg10 arg11 arg13 arg14 arg15 arg16 arg17 arg18 t1) := by
  have hs := setup_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  unfold cc0_rwkv_scan
  have h1 := fun t1 => part9_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t1
  refine Eq.trans (b := ((do
      let ⟨v520, v1851, v1853, v1855, v1860, v1866, cst_1558⟩ ← k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v520 v1851 v1853 v1855 v1860 v1866 cst_1558) >>= fun q => Scf.Loop.for k0_t1_loop k0_t1_ok PUnit.unit fun t1 _ =>
        (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q.1 q.2 t1 >>= fun p => (do
    let _ ← Prog.lift (.load arg13 (Rect.unit (s := S1x4x64x128) (k0_off1 t1) S1x1x64x128.size (k0_off1_inb t1)).toLoadRect (View.loadsAt_vmem h_S1x1x64x128))
    Prog.lift (.store arg13 (Rect.unit (s := S1x4x64x128) (k0_off1 t1) S1x1x64x128.size (k0_off1_inb t1)) (stBack (addf p.2.2.1 (mulf p.2.2.2 p.2.1))) Finset.univ (View.stores_vmem_bits_univ h_S1x1x64x128 rfl) (.inl rfl)))))) ?_ ?_
  · rw [bind_assoc]
    refine bind_congr (F := F) rfl fun p => ?_
    obtain ⟨a, b, c, d, e, f, g⟩ := p
    refine bind_congr (F := F) rfl fun q => ?_
    obtain ⟨q1, q2⟩ := q
    refine (bind_pure _).trans ?_
    refine for_congr (F := F) _ _ _ fun t x => ?_
    refine bind_congr (F := F) rfl fun p => ?_
    obtain ⟨a, b, c, d⟩ := p
    refine bind_congr (F := F) rfl fun q => ?_
    exact bind_pure _
  · rw [hs]
    simp only [bind_assoc, pure_bind]
    refine bind_congr (F := F) rfl fun _ => bind_congr (F := F) rfl fun _ => for_congr (F := F) _ _ _ fun t x => ?_
    unfold token
    rw [← h1]
    simp only [bind_assoc, pure_bind]

end Cert.KernelIdeal.Hand

end
-- ==== Proof.Values.lean ====
module

public import proofs.«01_k».proof.Proof.Step
public import Idealize.ShloMosaic.Lib.VecWindow
public import Idealize.ShloMosaic.Lib.Pointwise

@[expose] public section

set_option maxRecDepth 65536
set_option synthInstance.maxSize 4096

noncomputable section

namespace Cert.KernelIdeal.Hand

open Idealize.ShloMosaic Idealize.SL.Sem

variable {F : FTy → Type} [FloatOps F]
variable [Facts]
open Facts₀ Facts

/-- A channel's number as an index. -/
def chan (j : ℕ) : Fin 64 := Fin.ofNat 64 j
theorem chan_val {j : ℕ} (h : j < 64) : (chan j).val = j := Nat.mod_eq_of_lt h

/-- A running sum of vectors. -/
def accum {s : Shape} (z : FVec F s .f32) (g : ℕ → FVec F s .f32) : ℕ → FVec F s .f32
  | 0 => z
  | n + 1 => addf (accum z g n) (g n)

/-- Channel `j` of a channel-major block, for every token; of a parameter block; of one token only. -/
def chRow (x : Vec F S1x64x4x128 .f32) (j : ℕ) : FVec F S4x128 .f32 := fun y => x (ix4 0 (chan j) (y 0) (y 1))
def paRow (p : Vec F S1x64x128 .f32) (j : ℕ) : FVec F S4x128 .f32 := fun y => p (ix3 0 (chan j) (y 1))
def tokR (x : Vec F S1x64x4x128 .f32) (t : Fin 4) (j : ℕ) : FVec F S64x128 .f32 := fun y => x (ix4 0 (chan j) t (y 1))
def tabR (x : Vec F S64x4x128 .f32) (t : Fin 4) (j : ℕ) : FVec F S64x128 .f32 := fun y => x (ix3 (chan j) t (y 1))
def stR (s : Vec F S1x64x64x128 .f32) (j : ℕ) : FVec F S64x128 .f32 := fun y => s (ix4 0 (chan j) (y 0) (y 1))
def vRow (x : Vec F S1x4x64x128 .f32) (t : Fin 4) : FVec F S64x128 .f32 := fun y => x (ix4 0 t (y 0) (y 1))
def boRow (x : FVec F S4x128 .f32) (t : Fin 4) : FVec F S1x128 .f32 := fun y => x (ix2 t (y 1))

/-! ## The chunk's tables -/

def ssVal (x4 : Vec F S1x64x4x128 .f32) (x7 : Vec F S1x64x128 .f32) : ℕ → FVec F S4x128 .f32 :=
  accum zeros fun j => mulf (mulf (chRow x4 j) (paRow x7 j)) (mulf (chRow x4 j) (paRow x7 j))

def kkRow (x4 : Vec F S1x64x4x128 .f32) (x7 : Vec F S1x64x128 .f32) (j : ℕ) : FVec F S4x128 .f32 :=
  mulf (mulf (chRow x4 j) (paRow x7 j)) (invOf (ssVal x4 x7 64))
def avRow (x4 : Vec F S1x64x4x128 .f32) (x7 : Vec F S1x64x128 .f32) (j : ℕ) : FVec F S4x128 .f32 := subf zeros (kkRow x4 x7 j)
def bvRow (x4 x5 : Vec F S1x64x4x128 .f32) (x7 : Vec F S1x64x128 .f32) (j : ℕ) : FVec F S4x128 .f32 := mulf (kkRow x4 x7 j) (chRow x5 j)
def kmRow (x4 x5 : Vec F S1x64x4x128 .f32) (x8 : Vec F S1x64x128 .f32) (j : ℕ) : FVec F S4x128 .f32 :=
  mulf (chRow x4 j) (addf ones (mulf (subf (chRow x5 j) ones) (paRow x8 j)))
def boVal (x2 x4 x5 : Vec F S1x64x4x128 .f32) (x8 x9 : Vec F S1x64x128 .f32) : ℕ → FVec F S4x128 .f32 :=
  accum zeros fun j => mulf (mulf (chRow x2 j) (kmRow x4 x5 x8 j)) (paRow x9 j)

/-- A table from its rows, its first `n` rows over what was there before, and the whole. -/
def upto (f : ℕ → FVec F S4x128 .f32) (x : Vec F S64x4x128 .f32) (n : ℕ) : Vec F S64x4x128 .f32 :=
  fun y => if (y 0).val < n then f (y 0).val (ix2 (y 1) (y 2)) else x y
def tab (f : ℕ → FVec F S4x128 .f32) : Vec F S64x4x128 .f32 := fun y => f (y 0).val (ix2 (y 1) (y 2))

theorem upto_zero (f : ℕ → FVec F S4x128 .f32) (x : Vec F S64x4x128 .f32) : upto f x 0 = x := by
  funext y; exact if_neg (Nat.not_lt_zero _)
theorem upto_all (f : ℕ → FVec F S4x128 .f32) (x : Vec F S64x4x128 .f32) : upto f x 64 = tab f := by
  funext y; exact if_pos (show (y 0).val < 64 from (y 0).isLt)

/-! ## One token -/

def saVal (s : Vec F S1x64x64x128 .f32) (av : Vec F S64x4x128 .f32) (t : Fin 4) : ℕ → FVec F S64x128 .f32 :=
  accum zeros64 fun j => mulf (stR s j) (tabR av t j)

def newR (s : Vec F S1x64x64x128 .f32) (x3 : Vec F S1x64x4x128 .f32) (x6 : Vec F S1x4x64x128 .f32) (av bv km : Vec F S64x4x128 .f32) (t : Fin 4) (j : ℕ) :
    FVec F S64x128 .f32 :=
  addf (addf (mulf (stR s j) (tokR x3 t j)) (mulf (saVal s av t 64) (tabR bv t j))) (mulf (vRow x6 t) (tabR km t j))

def yVal (s : Vec F S1x64x64x128 .f32) (x2 x3 : Vec F S1x64x4x128 .f32) (x6 : Vec F S1x4x64x128 .f32) (av bv km : Vec F S64x4x128 .f32) (t : Fin 4) :
    ℕ → FVec F S64x128 .f32 :=
  accum zeros64 fun j => mulf (newR s x3 x6 av bv km t j) (tokR x2 t j)

/-- The state with its first `n` rows replaced. -/
def stUpto (f : ℕ → FVec F S64x128 .f32) (s : Vec F S1x64x64x128 .f32) (n : ℕ) : Vec F S1x64x64x128 .f32 :=
  fun y => if (y 1).val < n then f (y 1).val (ix2 (y 2) (y 3)) else s y
def stTab (f : ℕ → FVec F S64x128 .f32) : Vec F S1x64x64x128 .f32 := fun y => f (y 1).val (ix2 (y 2) (y 3))

theorem stUpto_zero (f : ℕ → FVec F S64x128 .f32) (s : Vec F S1x64x64x128 .f32) : stUpto f s 0 = s := by
  funext y; exact if_neg (Nat.not_lt_zero _)
theorem stUpto_all (f : ℕ → FVec F S64x128 .f32) (s : Vec F S1x64x64x128 .f32) : stUpto f s 64 = stTab f := by
  funext y; exact if_pos (show (y 1).val < 64 from (y 1).isLt)

/-- The output with its first `n` tokens written. -/
def yUpto (f : ℕ → FVec F S64x128 .f32) (x : Vec F S1x4x64x128 .f32) (n : ℕ) : Vec F S1x4x64x128 .f32 :=
  fun y => if (y 1).val < n then f (y 1).val (ix2 (y 2) (y 3)) else x y
def yTab (f : ℕ → FVec F S64x128 .f32) : Vec F S1x4x64x128 .f32 := fun y => f (y 1).val (ix2 (y 2) (y 3))

theorem yUpto_zero (f : ℕ → FVec F S64x128 .f32) (x : Vec F S1x4x64x128 .f32) : yUpto f x 0 = x := by
  funext y; exact if_neg (Nat.not_lt_zero _)
theorem yUpto_all (f : ℕ → FVec F S64x128 .f32) (x : Vec F S1x4x64x128 .f32) : yUpto f x 4 = yTab f := by
  funext y; exact if_pos (show (y 1).val < 4 from (y 1).isLt)

/-! ## What a load of one row reads -/

theorem seqRow_window (x : Vec F S1x64x4x128 .f32) {j : ℕ} (h : j < 64) :
    seqRow (VecWindow.window x ![0, j, 0, 0] S1x1x4x128.size (inb_seq h)) = chRow x j := by
  funext y
  idx_vars y
  pointwise [seqRow, chRow]
  exact congrArg x (funext fun a => by fin_cases a <;> apply Fin.ext <;> simp [Rect.emb, Rect.unit, ix4, chan_val h])

theorem parRow_window (x : Vec F S1x64x128 .f32) {j : ℕ} (h : j < 64) :
    parRow (VecWindow.window x ![0, j, 0] S1x1x128.size (inb_par h)) = paRow x j := by
  funext y
  idx_vars y
  pointwise [parRow, paRow]
  exact congrArg x (funext fun a => by fin_cases a <;> apply Fin.ext <;> simp [Rect.emb, Rect.unit, ix3, chan_val h])

theorem stRow_window (x : Vec F S1x64x64x128 .f32) {off : Fin 4 → ℕ} (inb) {j : ℕ} (h : j < 64) (e : off = ![0, j, 0, 0]) :
    stRow (VecWindow.window x off S1x1x64x128.size inb) = stR x j := by
  subst e
  funext y
  idx_vars y
  pointwise [stRow, stR]
  exact congrArg x (funext fun a => by fin_cases a <;> apply Fin.ext <;> simp [Rect.emb, Rect.unit, ix4, chan_val h])

theorem tokRow_window (x : Vec F S1x64x4x128 .f32) {off : Fin 4 → ℕ} (inb) {j : ℕ} (h : j < 64) (t : Fin 4) (e : off = ![0, j, t.val, 0]) :
    tokRow (VecWindow.window x off S1x1x1x128.size inb) = tokR x t j := by
  subst e
  funext y
  idx_vars y
  pointwise [tokRow, tokR]
  exact congrArg x (funext fun a => by fin_cases a <;> apply Fin.ext <;> simp [Rect.emb, Rect.unit, ix4, chan_val h])

theorem tabRow_window (x : Vec F S64x4x128 .f32) {off : Fin 3 → ℕ} (inb) {j : ℕ} (h : j < 64) (t : Fin 4) (e : off = ![j, t.val, 0]) :
    tabRow (VecWindow.window x off S1x1x128.size inb) = tabR x t j := by
  subst e
  funext y
  idx_vars y
  pointwise [tabRow, tabR]
  exact congrArg x (funext fun a => by fin_cases a <;> apply Fin.ext <;> simp [Rect.emb, Rect.unit, ix3, chan_val h])

theorem vRow_window (x : Vec F S1x4x64x128 .f32) {off : Fin 4 → ℕ} (inb) (t : Fin 4) (e : off = ![0, t.val, 0, 0]) :
    stRow (VecWindow.window x off S1x1x64x128.size inb) = vRow x t := by
  subst e
  funext y
  idx_vars y
  pointwise [stRow, vRow]
  exact congrArg x (funext fun a => by fin_cases a <;> apply Fin.ext <;> simp [Rect.emb, Rect.unit, ix4])

theorem boRow_window (x : FVec F S4x128 .f32) {off : Fin 2 → ℕ} (inb) (t : Fin 4) (e : off = ![t.val, 0]) :
    VecWindow.window x off S1x128.size inb = boRow x t := by
  subst e
  funext y
  have h0 : (y 0).val = 0 := Nat.lt_one_iff.mp (y 0).isLt
  exact congrArg x (funext fun a => by fin_cases a <;> apply Fin.ext <;> simp [Rect.emb, Rect.unit, ix2, h0])

/-! ## What a store of one row leaves -/

theorem put_upto (f : ℕ → FVec F S4x128 .f32) (x : Vec F S64x4x128 .f32) {n : ℕ} (h : n < 64) :
    VecWindow.put (upto f x n) ![n, 0, 0] S1x4x128.size (scrRow (f n)) = upto f x (n + 1) := by
  funext y
  idx_vars y
  unfold VecWindow.put
  by_cases e : y0.val = n
  · subst e
    rw [dif_pos (by intro a; fin_cases a <;> simp [ix3])]
    pointwise [scrRow, upto]
    rw [if_pos (Nat.lt_succ_self _)]
    exact congrArg (f y0.val) (funext fun a => by fin_cases a <;> apply Fin.ext <;> simp [Rect.unitLocal, ix2, ix3])
  · rw [dif_neg (fun hh => e (by have := hh 0; simp [ix3] at this; omega))]
    pointwise [upto]
    have : (y0.val < n) = (y0.val < n + 1) := propext ⟨by omega, by omega⟩
    simp only [this]

theorem put_stUpto (f : ℕ → FVec F S64x128 .f32) (x : Vec F S1x64x64x128 .f32) {off : Fin 4 → ℕ} {n : ℕ} (h : n < 64) (eo : off = ![0, n, 0, 0])
    (w : FVec F S64x128 .f32) (ew : w = f n) :
    VecWindow.put (stUpto f x n) off S1x1x64x128.size (stBack w) = stUpto f x (n + 1) := by
  subst eo ew
  funext y
  idx_vars y
  unfold VecWindow.put
  by_cases e : y1.val = n
  · subst e
    rw [dif_pos (by intro a; fin_cases a <;> simp [ix4])]
    pointwise [stBack, stUpto]
    rw [if_pos (Nat.lt_succ_self _)]
    exact congrArg (f y1.val) (funext fun a => by fin_cases a <;> apply Fin.ext <;> simp [Rect.unitLocal, ix2, ix4])
  · rw [dif_neg (fun hh => e (by have := hh 1; simp [ix4] at this; omega))]
    pointwise [stUpto]
    have : (y1.val < n) = (y1.val < n + 1) := propext ⟨by omega, by omega⟩
    simp only [this]

theorem put_yUpto (f : ℕ → FVec F S64x128 .f32) (x : Vec F S1x4x64x128 .f32) {off : Fin 4 → ℕ} {n : ℕ} (h : n < 4) (eo : off = ![0, n, 0, 0])
    (w : FVec F S64x128 .f32) (ew : w = f n) :
    VecWindow.put (yUpto f x n) off S1x1x64x128.size (stBack w) = yUpto f x (n + 1) := by
  subst eo ew
  funext y
  idx_vars y
  unfold VecWindow.put
  by_cases e : y1.val = n
  · subst e
    rw [dif_pos (by intro a; fin_cases a <;> simp [ix4])]
    pointwise [stBack, yUpto]
    rw [if_pos (Nat.lt_succ_self _)]
    exact congrArg (f y1.val) (funext fun a => by fin_cases a <;> apply Fin.ext <;> simp [Rect.unitLocal, ix2, ix4])
  · rw [dif_neg (fun hh => e (by have := hh 1; simp [ix4] at this; omega))]
    pointwise [yUpto]
    have : (y1.val < n) = (y1.val < n + 1) := propext ⟨by omega, by omega⟩
    simp only [this]

/-- A row put at a place that is not yet replaced still reads there what was there before. -/
theorem stR_stUpto (f : ℕ → FVec F S64x128 .f32) (x : Vec F S1x64x64x128 .f32) {n j : ℕ} (h : n ≤ j) (hj : j < 64) : stR (stUpto f x n) j = stR x j := by
  funext y
  unfold stR stUpto
  rw [if_neg]
  show ¬ (chan j).val < n
  rw [chan_val hj]; omega

/-! ## Where the loops' loads and stores are -/

theorem off1_eq (t : Fin k0_t1_loop.trips) : k0_off1 t = ![0, t.val, 0, 0] := by
  revert t; decide
theorem off2_eq (t : Fin k0_t2_loop.trips) (j : Fin 8) : k0_off2 t (BitVec.ofNat 32 j.val) = ![0, 8 * t.val + j.val, 0, 0] := by
  revert t j; decide
theorem off3_eq (u : Fin k0_t1_loop.trips) (t : Fin k0_t2_loop.trips) (j : Fin 8) : k0_off3 u t (BitVec.ofNat 32 j.val) = ![8 * t.val + j.val, u.val, 0] := by
  revert u t j; decide
theorem off4_eq (t : Fin k0_t3_loop.trips) (j : Fin 8) : k0_off4 t (BitVec.ofNat 32 j.val) = ![0, 8 * t.val + j.val, 0, 0] := by
  revert t j; decide
theorem off5_eq (u : Fin k0_t1_loop.trips) (t : Fin k0_t3_loop.trips) (j : Fin 8) : k0_off5 u t (BitVec.ofNat 32 j.val) = ![0, 8 * t.val + j.val, u.val, 0] := by
  revert u t j; decide
theorem off6_eq (u : Fin k0_t1_loop.trips) (t : Fin k0_t3_loop.trips) (j : Fin 8) : k0_off6 u t (BitVec.ofNat 32 j.val) = ![8 * t.val + j.val, u.val, 0] := by
  revert u t j; decide
theorem off7_eq (t : Fin k0_t1_loop.trips) : k0_off7 t = ![t.val, 0] := by
  revert t; decide

end Cert.KernelIdeal.Hand

end
-- ==== Proof.Spec.lean ====
module

public import proofs.«01_k».proof.Proof.Values
public import proofs.«01_k».proof.Proof.Gen.KernelIdeal.Frame

@[expose] public section

set_option maxRecDepth 65536
set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable [Facts]
open Facts₀ Facts

local notation "𝕄" => MT nD τ sig Unit (Elt F) ℕ (UR sig nD τ) ℕ

/-- A program of the kernel on core `c`, run to a postcondition. -/
abbrev Run (c : Dev nD) {α : Type} (p : KProg (F := F) α) (Q : α → sProp 𝕄) : sProp 𝕄 :=
  wp frame (wpE (defs₀ (F := F)) Variants.none (c : Thread nD τ) none) Set.univ p Q

/-- A memref held whole at what it reads. -/
abbrev At (c : Dev nD) {s : Shape} (m : Memref sig .tc .vmem s .f32) (x : s.Idx → Elt F .f32) : sProp 𝕄 :=
  owns (c : Thread nD τ) m fullShare x

theorem run_load (c : Dev nD) {s : Shape} {m : Memref sig .tc .vmem s .f32} {x : s.Idx → Elt F .f32} {off size : Fin s.rank → ℕ}
    {inb : ∀ a, off a + size a ≤ s.size a} {hl : m.view.LoadsAt (Rect.unit off size inb).toLoadRect} {α : Type}
    {k : ((Rect.unit off size inb).shape.Idx → Elt F .f32) → KProg (F := F) α} {Q : α → sProp 𝕄} :
    At c m x ⊢ iprop((At c m x -∗ Run c (k (VecWindow.window x off size inb)) Q)
      -∗ Run c (.op (.load m (Rect.unit off size inb).toLoadRect hl) k) Q) := by
  unfold At owns
  iintro ⟨%f, %hf, H⟩ HK
  have e := View.readAt_unit m.view f inb rfl inb
  rw [hf] at e
  iapply (wp_load Variants.none (c : Thread nD τ) none Set.univ (m := m) (S := m.view.set) (f := f) (View.setOn_subset_set _ _)) $$ H
  iintro H
  rw [e]
  iapply HK
  iexists f
  isplitr; · ipureintro; exact hf
  iexact H

theorem run_store (c : Dev nD) {s : Shape} {m : Memref sig .tc .vmem s .f32} {x : s.Idx → Elt F .f32} {off size : Fin s.rank → ℕ}
    {inb : ∀ a, off a + size a ≤ s.size a} {w : (Rect.unit off size inb).shape.Idx → Elt F .f32} {hx : (m.access (Rect.unit off size inb)).Stores Finset.univ}
    {hm : Finset.univ = Finset.univ ∨ ∀ a, (Rect.unit off size inb).stride a = 1} {α : Type}
    {k : PUnit → KProg (F := F) α} {Q : α → sProp 𝕄} :
    At c m x ⊢ iprop((At c m (VecWindow.put x off size w) -∗ Run c (k ⟨⟩) Q)
      -∗ Run c (.op (.store m (Rect.unit off size inb) w Finset.univ hx hm) k) Q) := by
  unfold At owns
  iintro ⟨%f, %hf, H⟩ HK
  have e : m.view.read (Elt F) (m.view.writes (Elt F) f [⟨Rect.unit off size inb, w⟩]) = VecWindow.put x off size w := by
    rw [View.read_writes_cons_put m.view f inb w [] rfl, View.writes_nil, hf]
  iapply (wp_store_writes₀ Variants.none (c : Thread nD τ) none Set.univ (m := m) (S := m.view.set) (f := f) (by rw [View.set_slice]; exact View.setOn_subset_set _ _)) $$ H
  iintro H
  iapply HK
  iexists _
  isplitr; · ipureintro; exact e
  iexact H

/-- A load, and a store, at the head of a program. -/
theorem run_ld (c : Dev nD) {s : Shape} {m : Memref sig .tc .vmem s .f32} {x : s.Idx → Elt F .f32} {off size : Fin s.rank → ℕ}
    {inb : ∀ a, off a + size a ≤ s.size a} {hl : m.view.LoadsAt (Rect.unit off size inb).toLoadRect} {α : Type}
    {k : ((Rect.unit off size inb).shape.Idx → Elt F .f32) → KProg (F := F) α} {Q : α → sProp 𝕄} :
    At c m x ⊢ iprop((At c m x -∗ Run c (k (VecWindow.window x off size inb)) Q)
      -∗ Run c ((Prog.lift (.load m (Rect.unit off size inb).toLoadRect hl) : KProg (F := F) _) >>= k) Q) := run_load c

theorem run_st (c : Dev nD) {s : Shape} {m : Memref sig .tc .vmem s .f32} {x : s.Idx → Elt F .f32} {off size : Fin s.rank → ℕ}
    {inb : ∀ a, off a + size a ≤ s.size a} {w : (Rect.unit off size inb).shape.Idx → Elt F .f32} {hx : (m.access (Rect.unit off size inb)).Stores Finset.univ}
    {hm : Finset.univ = Finset.univ ∨ ∀ a, (Rect.unit off size inb).stride a = 1} {α : Type}
    {k : PUnit → KProg (F := F) α} {Q : α → sProp 𝕄} :
    At c m x ⊢ iprop((At c m (VecWindow.put x off size w) -∗ Run c (k ⟨⟩) Q)
      -∗ Run c ((Prog.lift (.store m (Rect.unit off size inb) w Finset.univ hx hm) : KProg (F := F) _) >>= k) Q) := run_store c

theorem run_pure (c : Dev nD) {α : Type} {a : α} {Q : α → sProp 𝕄} : Q a ⊢ Run c (pure a) Q := by
  unfold Run
  rw [wp_pure]
  iintro H
  imodintro
  iexact H

/-- Steps keep an invariant. -/
theorem run_steps (c : Dev nD) {α : Type} {N : ℕ} (step : (j : ℕ) → j < N → α → KProg (F := F) α) (I : ℕ → α → sProp 𝕄)
    (h : ∀ j hj a, I j a ⊢ Run c (step j hj a) (I (j + 1))) (n j : ℕ) (e : j + n = N) (a : α) : I j a ⊢ Run c (steps step n j e a) (I N) := by
  induction n generalizing j a with
  | zero =>
    obtain rfl : j = N := e
    exact run_pure c
  | succ n ih =>
    unfold steps Run
    rw [wp_bind]
    exact (h j _ a).trans (wp_mono _ _ _ fun b => ih (j + 1) _ b)

/-- A program and what follows it. -/
theorem run_bind (c : Dev nD) {α β : Type} {p : KProg (F := F) α} {k : α → KProg (F := F) β} {P : sProp 𝕄} {R : α → sProp 𝕄} {Q : β → sProp 𝕄}
    (hp : P ⊢ Run c p R) (hk : ∀ a, R a ⊢ Run c (k a) Q) : P ⊢ Run c (p >>= k) Q := by
  unfold Run
  rw [wp_bind]
  exact hp.trans (wp_mono _ _ _ hk)

/-- The squared norms. -/
def ssInv (c : Dev nD) (m4 : Memref sig .tc .vmem S1x64x4x128 .f32) (m7 : Memref sig .tc .vmem S1x64x128 .f32) (x4 : Vec F S1x64x4x128 .f32) (x7 : Vec F S1x64x128 .f32)
    (j : ℕ) (a : FVec F S4x128 .f32) : sProp 𝕄 :=
  iprop(⌜a = ssVal x4 x7 j⌝ ∗ At c m4 x4 ∗ At c m7 x7)

theorem run_ssStep (c : Dev nD) (m4 : Memref sig .tc .vmem S1x64x4x128 .f32) (m7 : Memref sig .tc .vmem S1x64x128 .f32) (x4 : Vec F S1x64x4x128 .f32)
    (x7 : Vec F S1x64x128 .f32) (j : ℕ) (hj : j < 64) (a : FVec F S4x128 .f32) :
    ssInv c m4 m7 x4 x7 j a ⊢ Run c (ssStep m4 m7 j hj a) (ssInv c m4 m7 x4 x7 (j + 1)) := by
  unfold ssInv ssStep ldSeq ldPar
  iintro ⟨%ha, H4, H7⟩
  subst ha
  iapply run_ld c $$ H4
  iintro H4
  iapply run_ld c $$ H7
  iintro H7
  iapply run_pure c
  isplitr
  · ipureintro
    rw [seqRow_window x4 hj, parRow_window x7 hj]
    rfl
  isplitl [H4] <;> iassumption

/-- The tables and the bonus. -/
def tabInv (c : Dev nD) (m2 m4 m5 : Memref sig .tc .vmem S1x64x4x128 .f32) (m7 m8 m9 : Memref sig .tc .vmem S1x64x128 .f32)
    (m15 m16 m17 : Memref sig .tc .vmem S64x4x128 .f32) (x2 x4 x5 : Vec F S1x64x4x128 .f32) (x7 x8 x9 : Vec F S1x64x128 .f32) (x15 x16 x17 : Vec F S64x4x128 .f32)
    (j : ℕ) (a : FVec F S4x128 .f32) : sProp 𝕄 :=
  iprop(⌜a = boVal x2 x4 x5 x8 x9 j⌝ ∗ At c m2 x2 ∗ At c m4 x4 ∗ At c m5 x5 ∗ At c m7 x7 ∗ At c m8 x8 ∗ At c m9 x9
    ∗ At c m15 (upto (avRow x4 x7) x15 j) ∗ At c m16 (upto (bvRow x4 x5 x7) x16 j) ∗ At c m17 (upto (kmRow x4 x5 x8) x17 j))

theorem run_tabStep (c : Dev nD) (m2 m4 m5 : Memref sig .tc .vmem S1x64x4x128 .f32) (m7 m8 m9 : Memref sig .tc .vmem S1x64x128 .f32)
    (m15 m16 m17 : Memref sig .tc .vmem S64x4x128 .f32) (x2 x4 x5 : Vec F S1x64x4x128 .f32) (x7 x8 x9 : Vec F S1x64x128 .f32) (x15 x16 x17 : Vec F S64x4x128 .f32)
    (j : ℕ) (hj : j < 64) (a : FVec F S4x128 .f32) :
    tabInv c m2 m4 m5 m7 m8 m9 m15 m16 m17 x2 x4 x5 x7 x8 x9 x15 x16 x17 j a
      ⊢ Run c (tabStep m2 m4 m5 m7 m8 m9 m15 m16 m17 (invOf (ssVal x4 x7 64)) j hj a) (tabInv c m2 m4 m5 m7 m8 m9 m15 m16 m17 x2 x4 x5 x7 x8 x9 x15 x16 x17 (j + 1)) := by
  have e15 := put_upto (avRow x4 x7) x15 hj
  have e16 := put_upto (bvRow x4 x5 x7) x16 hj
  have e17 := put_upto (kmRow x4 x5 x8) x17 hj
  unfold tabInv tabStep ldSeq ldPar stScr
  simp only [bind_assoc]
  iintro ⟨%ha, H2, H4, H5, H7, H8, H9, H15, H16, H17⟩
  subst ha
  iapply run_ld c $$ H4
  iintro H4
  iapply run_ld c $$ H5
  iintro H5
  iapply run_ld c $$ H7
  iintro H7
  iapply run_ld c $$ H8
  iintro H8
  rw [seqRow_window x4 hj, seqRow_window x5 hj, parRow_window x7 hj, parRow_window x8 hj]
  iapply run_ld c $$ H15
  iintro H15
  iapply run_st c $$ H15
  iintro H15
  iapply run_ld c $$ H16
  iintro H16
  iapply run_st c $$ H16
  iintro H16
  iapply run_ld c $$ H17
  iintro H17
  iapply run_st c $$ H17
  iintro H17
  iapply run_ld c $$ H2
  iintro H2
  iapply run_ld c $$ H9
  iintro H9
  iapply run_pure c
  rw [← e15, ← e16, ← e17]
  isplitr
  · ipureintro
    rw [seqRow_window x2 hj, parRow_window x9 hj]
    rfl
  isplitl [H2]; · iexact H2
  isplitl [H4]; · iexact H4
  isplitl [H5]; · iexact H5
  isplitl [H7]; · iexact H7
  isplitl [H8]; · iexact H8
  isplitl [H9]; · iexact H9
  isplitl [H15]; · iexact H15
  isplitl [H16]; · iexact H16
  iexact H17

end Cert.KernelIdeal.Hand

end
-- ==== Proof.Spec2.lean ====
module

public import proofs.«01_k».proof.Proof.Spec

@[expose] public section

set_option maxRecDepth 65536
set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable [Facts]
open Facts₀ Facts

local notation "𝕄" => MT nD τ sig Unit (Elt F) ℕ (UR sig nD τ) ℕ

/-- A program, then what follows it. -/
theorem run_then (c : Dev nD) {α β : Type} {p : KProg (F := F) α} {k : α → KProg (F := F) β} {R : α → sProp 𝕄} {Q : β → sProp 𝕄} :
    iprop(Run c p R ∗ (∀ a, R a -∗ Run c (k a) Q)) ⊢ Run c (p >>= k) Q := by
  unfold Run
  rw [wp_bind]
  exact wp_wand_r _ _ _

/-- A store of the whole leaves the payload; a load of the whole reads the contents. -/
theorem put_all {s : Shape} {α : Type} (x w : s.Idx → α) {off : Fin s.rank → ℕ} (e : ∀ a, off a = 0) : VecWindow.put x off s.size w = w := by
  funext y
  unfold VecWindow.put
  rw [dif_pos (fun a => by rw [e a]; exact ⟨Nat.zero_le _, by have := (y a).isLt; omega⟩)]
  exact congrArg w (funext fun a => Fin.ext (by show (y a).val - off a = (y a).val; rw [e a]; rfl))

theorem window_all {s : Shape} {α : Type} (x : s.Idx → α) {off : Fin s.rank → ℕ} (inb) (e : ∀ a, off a = 0) : VecWindow.window x off s.size inb = x := by
  funext y
  exact congrArg x (funext fun a => Fin.ext (by show off a + 1 * (y a).val = (y a).val; rw [e a]; omega))

theorem run_copyIn (c : Dev nD) (m12 m14 : Memref sig .tc .vmem S1x64x64x128 .f32) (x12 x14 : Vec F S1x64x64x128 .f32) :
    iprop(At c m12 x12 ∗ At c m14 x14) ⊢ Run c (copyIn m12 m14) fun _ => iprop(At c m12 x12 ∗ At c m14 x12) := by
  unfold copyIn
  iintro ⟨H12, H14⟩
  iapply run_ld c $$ H12
  iintro H12
  iapply run_ld c $$ H14
  iintro H14
  rw [← bind_pure (Prog.lift _)]
  iapply run_st c $$ H14
  rw [window_all x12 _ (by intro a; fin_cases a <;> rfl), put_all x14 _ (by intro a; fin_cases a <;> rfl),
    show shapeCast S1x64x64x128 x12 shapeCasts_S1x64x64x128_S1x64x64x128 = x12 from by funext y; idx_vars y; pointwise]
  iintro H14
  iapply run_pure c
  isplitl [H12] <;> iassumption

theorem run_setup (c : Dev nD) (m2 m4 m5 : Memref sig .tc .vmem S1x64x4x128 .f32) (m7 m8 m9 : Memref sig .tc .vmem S1x64x128 .f32)
    (m15 m16 m17 : Memref sig .tc .vmem S64x4x128 .f32) (m18 : Memref sig .tc .vmem S4x128 .f32) (x2 x4 x5 : Vec F S1x64x4x128 .f32) (x7 x8 x9 : Vec F S1x64x128 .f32)
    (x15 x16 x17 : Vec F S64x4x128 .f32) (x18 : Vec F S4x128 .f32) :
    iprop(At c m2 x2 ∗ At c m4 x4 ∗ At c m5 x5 ∗ At c m7 x7 ∗ At c m8 x8 ∗ At c m9 x9 ∗ At c m15 x15 ∗ At c m16 x16 ∗ At c m17 x17 ∗ At c m18 x18)
      ⊢ Run c (setup m2 m4 m5 m7 m8 m9 m15 m16 m17 m18) fun _ =>
        iprop(At c m2 x2 ∗ At c m4 x4 ∗ At c m5 x5 ∗ At c m7 x7 ∗ At c m8 x8 ∗ At c m9 x9 ∗ At c m15 (tab (avRow x4 x7)) ∗ At c m16 (tab (bvRow x4 x5 x7))
          ∗ At c m17 (tab (kmRow x4 x5 x8)) ∗ At c m18 (boVal x2 x4 x5 x8 x9 64)) := by
  unfold setup
  have h1 := run_steps c (ssStep m4 m7) (ssInv c m4 m7 x4 x7) (run_ssStep c m4 m7 x4 x7) 64 0 rfl zeros
  have h2 := run_steps c (tabStep m2 m4 m5 m7 m8 m9 m15 m16 m17 (invOf (ssVal x4 x7 64))) (tabInv c m2 m4 m5 m7 m8 m9 m15 m16 m17 x2 x4 x5 x7 x8 x9 x15 x16 x17)
    (run_tabStep c m2 m4 m5 m7 m8 m9 m15 m16 m17 x2 x4 x5 x7 x8 x9 x15 x16 x17) 64 0 rfl zeros
  unfold ssInv at h1
  unfold tabInv at h2
  rw [upto_zero, upto_zero, upto_zero, upto_all, upto_all, upto_all] at h2
  iintro ⟨H2, H4, H5, H7, H8, H9, H15, H16, H17, H18⟩
  iapply (run_then c)
  isplitl [H4 H7]
  · iapply h1
    isplitr; · ipureintro; rfl
    isplitl [H4] <;> iassumption
  iintro %ss ⟨%hss, H4, H7⟩
  subst hss
  iapply (run_then c)
  isplitl [H2 H4 H5 H7 H8 H9 H15 H16 H17]
  · iapply h2
    isplitr; · ipureintro; rfl
    isplitl [H2]; · iexact H2
    isplitl [H4]; · iexact H4
    isplitl [H5]; · iexact H5
    isplitl [H7]; · iexact H7
    isplitl [H8]; · iexact H8
    isplitl [H9]; · iexact H9
    isplitl [H15]; · iexact H15
    isplitl [H16]; · iexact H16
    iexact H17
  iintro %bo ⟨%hbo, H2, H4, H5, H7, H8, H9, H15, H16, H17⟩
  subst hbo
  iapply run_ld c $$ H18
  iintro H18
  rw [← bind_pure (Prog.lift _)]
  iapply run_st c $$ H18
  rw [put_all x18 _ (by intro a; fin_cases a <;> rfl),
    show shapeCast S4x128 (boVal x2 x4 x5 x8 x9 64) shapeCasts_S4x128_S4x128 = boVal x2 x4 x5 x8 x9 64 from by funext y; idx_vars y; pointwise]
  iintro H18
  iapply run_pure c
  isplitl [H2]; · iexact H2
  isplitl [H4]; · iexact H4
  isplitl [H5]; · iexact H5
  isplitl [H7]; · iexact H7
  isplitl [H8]; · iexact H8
  isplitl [H9]; · iexact H9
  isplitl [H15]; · iexact H15
  isplitl [H16]; · iexact H16
  isplitl [H17]; · iexact H17
  iexact H18

/-! ## One token -/

def saInv (c : Dev nD) (m14 : Memref sig .tc .vmem S1x64x64x128 .f32) (m15 : Memref sig .tc .vmem S64x4x128 .f32) (s : Vec F S1x64x64x128 .f32)
    (av : Vec F S64x4x128 .f32) (t : Fin 4) (j : ℕ) (a : FVec F S64x128 .f32) : sProp 𝕄 :=
  iprop(⌜a = saVal s av t j⌝ ∗ At c m14 s ∗ At c m15 av)

theorem run_saStep (c : Dev nD) (m14 : Memref sig .tc .vmem S1x64x64x128 .f32) (m15 : Memref sig .tc .vmem S64x4x128 .f32) (s : Vec F S1x64x64x128 .f32)
    (av : Vec F S64x4x128 .f32) (t1 : Fin k0_t1_loop.trips) (t : Fin 4) (ht : t1.val = t.val) (t2 : Fin k0_t2_loop.trips) (j : ℕ) (hj : j < 8) (a : FVec F S64x128 .f32) :
    saInv c m14 m15 s av t (8 * t2.val + j) a ⊢ Run c (saStep m14 m15 t1 t2 j hj a) (saInv c m14 m15 s av t (8 * t2.val + (j + 1))) := by
  have hn : 8 * t2.val + j < 64 := by have := t2.isLt; have : k0_t2_loop.trips = 8 := by decide
                                      omega
  unfold saInv saStep
  iintro ⟨%ha, H14, H15⟩
  subst ha
  iapply run_ld c $$ H14
  iintro H14
  iapply run_ld c $$ H15
  iintro H15
  iapply run_pure c
  isplitr
  · ipureintro
    rw [stRow_window s _ hn (off2_eq t2 ⟨j, hj⟩), tabRow_window av _ hn t (by rw [← ht]; exact off3_eq t1 t2 ⟨j, hj⟩)]
    rfl
  isplitl [H14] <;> iassumption

def upInv (c : Dev nD) (m2 m3 : Memref sig .tc .vmem S1x64x4x128 .f32) (m14 : Memref sig .tc .vmem S1x64x64x128 .f32) (m16 m17 : Memref sig .tc .vmem S64x4x128 .f32)
    (s : Vec F S1x64x64x128 .f32) (x2 x3 : Vec F S1x64x4x128 .f32) (x6 : Vec F S1x4x64x128 .f32) (av bv km : Vec F S64x4x128 .f32) (t : Fin 4) (j : ℕ) (a : FVec F S64x128 .f32) : sProp 𝕄 :=
  iprop(⌜a = yVal s x2 x3 x6 av bv km t j⌝ ∗ At c m2 x2 ∗ At c m3 x3 ∗ At c m14 (stUpto (newR s x3 x6 av bv km t) s j) ∗ At c m16 bv ∗ At c m17 km)

theorem run_upStep (c : Dev nD) (m2 m3 : Memref sig .tc .vmem S1x64x4x128 .f32) (m14 : Memref sig .tc .vmem S1x64x64x128 .f32) (m16 m17 : Memref sig .tc .vmem S64x4x128 .f32)
    (s : Vec F S1x64x64x128 .f32) (x2 x3 : Vec F S1x64x4x128 .f32) (x6 : Vec F S1x4x64x128 .f32) (av bv km : Vec F S64x4x128 .f32)
    (t1 : Fin k0_t1_loop.trips) (t : Fin 4) (ht : t1.val = t.val) (t3 : Fin k0_t3_loop.trips) (j : ℕ) (hj : j < 8) (a : FVec F S64x128 .f32) :
    upInv c m2 m3 m14 m16 m17 s x2 x3 x6 av bv km t (8 * t3.val + j) a
      ⊢ Run c (upStep m2 m3 m14 m16 m17 t1 (saVal s av t 64) (vRow x6 t) t3 j hj a) (upInv c m2 m3 m14 m16 m17 s x2 x3 x6 av bv km t (8 * t3.val + (j + 1))) := by
  have hn : 8 * t3.val + j < 64 := by have := t3.isLt; have : k0_t3_loop.trips = 8 := by decide
                                      omega
  have o4 : k0_off4 t3 (BitVec.ofNat 32 j) = _ := off4_eq t3 ⟨j, hj⟩
  have o5 : k0_off5 t1 t3 (BitVec.ofNat 32 j) = _ := off5_eq t1 t3 ⟨j, hj⟩
  have o6 : k0_off6 t1 t3 (BitVec.ofNat 32 j) = _ := off6_eq t1 t3 ⟨j, hj⟩
  rw [ht] at o5 o6
  have ep := put_stUpto (newR s x3 x6 av bv km t) s hn o4 (addf (addf (mulf (stR s (8 * t3.val + j)) (tokR x3 t (8 * t3.val + j)))
    (mulf (saVal s av t 64) (tabR bv t (8 * t3.val + j)))) (mulf (vRow x6 t) (tabR km t (8 * t3.val + j)))) rfl
  unfold upInv upStep
  iintro ⟨%ha, H2, H3, H14, H16, H17⟩
  subst ha
  iapply run_ld c $$ H14
  iintro H14
  iapply run_ld c $$ H3
  iintro H3
  iapply run_ld c $$ H16
  iintro H16
  iapply run_ld c $$ H17
  iintro H17
  iapply run_ld c $$ H14
  iintro H14
  unfold newRow
  rw [stRow_window _ _ hn o4, tokRow_window x3 _ hn t o5, tabRow_window bv _ hn t o6, tabRow_window km _ hn t o6, stR_stUpto _ s (le_refl _) hn]
  iapply run_st c $$ H14
  iintro H14
  iapply run_ld c $$ H2
  iintro H2
  rw [ep, tokRow_window x2 _ hn t o5]
  iapply run_pure c
  isplitr
  · ipureintro
    rfl
  isplitl [H2]; · iexact H2
  isplitl [H3]; · iexact H3
  isplitl [H14]; · iexact H14
  isplitl [H16]; · iexact H16
  iexact H17

end Cert.KernelIdeal.Hand

end
-- ==== Proof.Spec3.lean ====
module

public import proofs.«01_k».proof.Proof.Spec2

@[expose] public section

set_option maxRecDepth 65536
set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable [Facts]
open Facts₀ Facts

local notation "𝕄" => MT nD τ sig Unit (Elt F) ℕ (UR sig nD τ) ℕ

theorem trips1 : k0_t1_loop.trips = 4 := by decide
theorem trips2 : k0_t2_loop.trips = 8 := by decide
theorem trips3 : k0_t3_loop.trips = 8 := by decide

/-- A counted loop keeps an invariant. -/
theorem run_for (c : Dev nD) {α : Type} (l : Scf.Loop 32) (hok : l.OK) (a : α) (f : Fin l.trips → α → KProg (F := F) α) (I : ℕ → α → sProp 𝕄)
    (h : ∀ (k : Fin l.trips) (x : α), I k.val x ⊢ Run c (f k x) (I (k.val + 1))) (n : ℕ) (hn : l.trips = n) : I 0 a ⊢ Run c (Scf.Loop.for l hok a f) (I n) := by
  subst hn
  have := Scf.wp_for frame (wpE (defs₀ (F := F)) Variants.none (c : Thread nD τ) none) Set.univ l.lb l.ub l.st hok a f I h (Q := I l.trips)
  refine BIBase.Entails.trans ?_ this
  iintro H
  isplitl [H]
  · iexact H
  · iintro %x H
    iexact H

/-- The state after one more token, and that token's output. -/
def stNext (s : Vec F S1x64x64x128 .f32) (x3 : Vec F S1x64x4x128 .f32) (x6 : Vec F S1x4x64x128 .f32) (av bv km : Vec F S64x4x128 .f32) (t : Fin 4) :
    Vec F S1x64x64x128 .f32 := stTab (newR s x3 x6 av bv km t)
def outT (s : Vec F S1x64x64x128 .f32) (x2 x3 : Vec F S1x64x4x128 .f32) (x6 : Vec F S1x4x64x128 .f32) (x10 x11 : Vec F S1x64x128 .f32)
    (av bv km : Vec F S64x4x128 .f32) (bo : FVec F S4x128 .f32) (t : Fin 4) : FVec F S64x128 .f32 :=
  outOf (yVal s x2 x3 x6 av bv km t 64) (vRow x6 t) x10 x11 (boRow bo t)

theorem run_token (c : Dev nD) (m2 m3 : Memref sig .tc .vmem S1x64x4x128 .f32) (m6 : Memref sig .tc .vmem S1x4x64x128 .f32) (m10 m11 : Memref sig .tc .vmem S1x64x128 .f32)
    (m13 : Memref sig .tc .vmem S1x4x64x128 .f32) (m14 : Memref sig .tc .vmem S1x64x64x128 .f32) (m15 m16 m17 : Memref sig .tc .vmem S64x4x128 .f32)
    (m18 : Memref sig .tc .vmem S4x128 .f32) (s : Vec F S1x64x64x128 .f32) (x2 x3 : Vec F S1x64x4x128 .f32) (x6 : Vec F S1x4x64x128 .f32) (x10 x11 : Vec F S1x64x128 .f32)
    (av bv km : Vec F S64x4x128 .f32) (bo : FVec F S4x128 .f32) (f : ℕ → FVec F S64x128 .f32) (x13 : Vec F S1x4x64x128 .f32)
    (t1 : Fin k0_t1_loop.trips) (t : Fin 4) (ht : t1.val = t.val) (hf : f t1.val = outT s x2 x3 x6 x10 x11 av bv km bo t) :
    iprop(At c m2 x2 ∗ At c m3 x3 ∗ At c m6 x6 ∗ At c m10 x10 ∗ At c m11 x11 ∗ At c m13 (yUpto f x13 t1.val) ∗ At c m14 s ∗ At c m15 av ∗ At c m16 bv ∗ At c m17 km
        ∗ At c m18 bo)
      ⊢ Run c (token m2 m3 m6 m10 m11 m13 m14 m15 m16 m17 m18 t1) fun _ =>
        iprop(At c m2 x2 ∗ At c m3 x3 ∗ At c m6 x6 ∗ At c m10 x10 ∗ At c m11 x11 ∗ At c m13 (yUpto f x13 (t1.val + 1)) ∗ At c m14 (stNext s x3 x6 av bv km t)
          ∗ At c m15 av ∗ At c m16 bv ∗ At c m17 km ∗ At c m18 bo) := by
  have h1 := run_for c k0_t2_loop k0_t2_ok (zeros64 (F := F)) (fun t2 acc => steps (saStep m14 m15 t1 t2) 8 0 rfl acc)
    (fun k a => saInv c m14 m15 s av t (8 * k) a) (fun k x =>
      run_steps c (saStep m14 m15 t1 k) (fun j a => saInv c m14 m15 s av t (8 * k.val + j) a) (run_saStep c m14 m15 s av t1 t ht k) 8 0 rfl x) 8 trips2
  have h2 := run_for c k0_t3_loop k0_t3_ok (zeros64 (F := F)) (fun t3 acc => steps (upStep m2 m3 m14 m16 m17 t1 (saVal s av t 64) (vRow x6 t) t3) 8 0 rfl acc)
    (fun k a => upInv c m2 m3 m14 m16 m17 s x2 x3 x6 av bv km t (8 * k) a) (fun k x =>
      run_steps c (upStep m2 m3 m14 m16 m17 t1 (saVal s av t 64) (vRow x6 t) k) (fun j a => upInv c m2 m3 m14 m16 m17 s x2 x3 x6 av bv km t (8 * k.val + j) a)
        (run_upStep c m2 m3 m14 m16 m17 s x2 x3 x6 av bv km t1 t ht k) 8 0 rfl x) 8 trips3
  have ht4 : t1.val < 4 := lt_of_lt_of_eq t1.isLt trips1
  have o1 := off1_eq t1
  have o7 := off7_eq t1
  have o1' := o1
  rw [ht] at o1' o7
  have ep := put_yUpto f x13 ht4 o1 _ hf.symm
  unfold outT at ep
  unfold saInv at h1
  unfold upInv at h2
  rw [show 8 * 8 = 64 from rfl] at h1 h2
  rw [show 8 * 0 = 0 from rfl] at h1 h2
  rw [stUpto_zero, stUpto_all] at h2
  unfold token tokenVal stNext
  simp only [bind_assoc, pure_bind]
  iintro ⟨H2, H3, H6, H10, H11, H13, H14, H15, H16, H17, H18⟩
  iapply run_ld c $$ H6
  iintro H6
  rw [vRow_window x6 _ t o1']
  iapply (run_then c)
  isplitl [H14 H15]
  · iapply h1
    isplitr; · ipureintro; rfl
    isplitl [H14] <;> iassumption
  iintro %sa ⟨%hsa, H14, H15⟩
  subst hsa
  iapply (run_then c)
  isplitl [H2 H3 H14 H16 H17]
  · iapply h2
    isplitr; · ipureintro; rfl
    isplitl [H2]; · iexact H2
    isplitl [H3]; · iexact H3
    isplitl [H14]; · iexact H14
    isplitl [H16] <;> iassumption
  iintro %y ⟨%hy, H2, H3, H14, H16, H17⟩
  subst hy
  iapply run_ld c $$ H10
  iintro H10
  iapply run_ld c $$ H11
  iintro H11
  iapply run_ld c $$ H18
  iintro H18
  iapply run_ld c $$ H13
  iintro H13
  rw [boRow_window bo _ t o7, window_all x10 _ (by intro a; fin_cases a <;> rfl), window_all x11 _ (by intro a; fin_cases a <;> rfl), ← bind_pure (Prog.lift _)]
  iapply run_st c $$ H13
  rw [ep]
  iintro H13
  iapply run_pure c
  isplitl [H2]; · iexact H2
  isplitl [H3]; · iexact H3
  isplitl [H6]; · iexact H6
  isplitl [H10]; · iexact H10
  isplitl [H11]; · iexact H11
  isplitl [H13]; · iexact H13
  isplitl [H14]; · iexact H14
  isplitl [H15]; · iexact H15
  isplitl [H16]; · iexact H16
  isplitl [H17]; · iexact H17
  iexact H18

/-! ## The whole body -/

/-- A token's number. -/
def tokn (n : ℕ) : Fin 4 := Fin.ofNat 4 n

/-- The state after `n` tokens, from the blocks. -/
def stateAt (x3 x4 x5 : Vec F S1x64x4x128 .f32) (x6 : Vec F S1x4x64x128 .f32) (x7 x8 : Vec F S1x64x128 .f32) (s : Vec F S1x64x64x128 .f32) : ℕ → Vec F S1x64x64x128 .f32
  | 0 => s
  | n + 1 => stNext (stateAt x3 x4 x5 x6 x7 x8 s n) x3 x6 (tab (avRow x4 x7)) (tab (bvRow x4 x5 x7)) (tab (kmRow x4 x5 x8)) (tokn n)

/-- Token `n`'s output, from the blocks. -/
def outAt (x2 x3 x4 x5 : Vec F S1x64x4x128 .f32) (x6 : Vec F S1x4x64x128 .f32) (x7 x8 x9 x10 x11 : Vec F S1x64x128 .f32) (s : Vec F S1x64x64x128 .f32) (n : ℕ) : FVec F S64x128 .f32 :=
  outT (stateAt x3 x4 x5 x6 x7 x8 s n) x2 x3 x6 x10 x11 (tab (avRow x4 x7)) (tab (bvRow x4 x5 x7)) (tab (kmRow x4 x5 x8)) (boVal x2 x4 x5 x8 x9 64) (tokn n)

def tokInv (c : Dev nD) (m2 m3 : Memref sig .tc .vmem S1x64x4x128 .f32) (m6 : Memref sig .tc .vmem S1x4x64x128 .f32) (m10 m11 : Memref sig .tc .vmem S1x64x128 .f32)
    (m13 : Memref sig .tc .vmem S1x4x64x128 .f32) (m14 : Memref sig .tc .vmem S1x64x64x128 .f32) (m15 m16 m17 : Memref sig .tc .vmem S64x4x128 .f32)
    (m18 : Memref sig .tc .vmem S4x128 .f32) (x2 x3 x4 x5 : Vec F S1x64x4x128 .f32) (x6 : Vec F S1x4x64x128 .f32) (x7 x8 x9 x10 x11 : Vec F S1x64x128 .f32)
    (s : Vec F S1x64x64x128 .f32) (x13 : Vec F S1x4x64x128 .f32) (n : ℕ) : sProp 𝕄 :=
  iprop(At c m2 x2 ∗ At c m3 x3 ∗ At c m6 x6 ∗ At c m10 x10 ∗ At c m11 x11 ∗ At c m13 (yUpto (outAt x2 x3 x4 x5 x6 x7 x8 x9 x10 x11 s) x13 n)
    ∗ At c m14 (stateAt x3 x4 x5 x6 x7 x8 s n) ∗ At c m15 (tab (avRow x4 x7)) ∗ At c m16 (tab (bvRow x4 x5 x7)) ∗ At c m17 (tab (kmRow x4 x5 x8))
    ∗ At c m18 (boVal x2 x4 x5 x8 x9 64))

theorem run_tokens (c : Dev nD) (m2 m3 : Memref sig .tc .vmem S1x64x4x128 .f32) (m6 : Memref sig .tc .vmem S1x4x64x128 .f32) (m10 m11 : Memref sig .tc .vmem S1x64x128 .f32)
    (m13 : Memref sig .tc .vmem S1x4x64x128 .f32) (m14 : Memref sig .tc .vmem S1x64x64x128 .f32) (m15 m16 m17 : Memref sig .tc .vmem S64x4x128 .f32)
    (m18 : Memref sig .tc .vmem S4x128 .f32) (x2 x3 x4 x5 : Vec F S1x64x4x128 .f32) (x6 : Vec F S1x4x64x128 .f32) (x7 x8 x9 x10 x11 : Vec F S1x64x128 .f32)
    (s : Vec F S1x64x64x128 .f32) (x13 : Vec F S1x4x64x128 .f32) :
    tokInv c m2 m3 m6 m10 m11 m13 m14 m15 m16 m17 m18 x2 x3 x4 x5 x6 x7 x8 x9 x10 x11 s x13 0
      ⊢ Run c (Scf.Loop.for k0_t1_loop k0_t1_ok PUnit.unit fun t1 _ => token m2 m3 m6 m10 m11 m13 m14 m15 m16 m17 m18 t1)
          fun _ => tokInv c m2 m3 m6 m10 m11 m13 m14 m15 m16 m17 m18 x2 x3 x4 x5 x6 x7 x8 x9 x10 x11 s x13 4 := by
  refine run_for c k0_t1_loop k0_t1_ok PUnit.unit (fun t1 _ => token m2 m3 m6 m10 m11 m13 m14 m15 m16 m17 m18 t1)
    (fun n _ => tokInv c m2 m3 m6 m10 m11 m13 m14 m15 m16 m17 m18 x2 x3 x4 x5 x6 x7 x8 x9 x10 x11 s x13 n) (fun k _ => ?_) 4 trips1
  have ht4 : k.val < 4 := lt_of_lt_of_eq k.isLt trips1
  have ht : k.val = (tokn k.val).val := (Nat.mod_eq_of_lt ht4).symm
  exact run_token c m2 m3 m6 m10 m11 m13 m14 m15 m16 m17 m18 (stateAt x3 x4 x5 x6 x7 x8 s k.val) x2 x3 x6 x10 x11 _ _ _ _
    (outAt x2 x3 x4 x5 x6 x7 x8 x9 x10 x11 s) x13 k (tokn k.val) ht rfl

theorem run_body (c : Dev nD) (i : grid0.Coords) (arg2 : Memref sig .tc .vmem S1x64x4x128 .f32) (harg2 : arg2.IsWhole) (arg3 : Memref sig .tc .vmem S1x64x4x128 .f32) (harg3 : arg3.IsWhole) (arg4 : Memref sig .tc .vmem S1x64x4x128 .f32) (harg4 : arg4.IsWhole) (arg5 : Memref sig .tc .vmem S1x64x4x128 .f32) (harg5 : arg5.IsWhole) (arg6 : Memref sig .tc .vmem S1x4x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x64x128 .f32) (harg12 : arg12.IsWhole) (arg13 : Memref sig .tc .vmem S1x4x64x128 .f32) (harg13 : arg13.IsWhole) (arg14 : Memref sig .tc .vmem S1x64x64x128 .f32) (harg14 : arg14.IsWhole) (arg15 : Memref sig .tc .vmem S64x4x128 .f32) (harg15 : arg15.IsWhole) (arg16 : Memref sig .tc .vmem S64x4x128 .f32) (harg16 : arg16.IsWhole) (arg17 : Memref sig .tc .vmem S64x4x128 .f32) (harg17 : arg17.IsWhole) (arg18 : Memref sig .tc .vmem S4x128 .f32) (harg18 : arg18.IsWhole)
    (x2 x3 x4 x5 : Vec F S1x64x4x128 .f32) (x6 : Vec F S1x4x64x128 .f32) (x7 x8 x9 x10 x11 : Vec F S1x64x128 .f32)
    (x12 : Vec F S1x64x64x128 .f32) (x13 : Vec F S1x4x64x128 .f32) (x14 : Vec F S1x64x64x128 .f32) (x15 x16 x17 : Vec F S64x4x128 .f32) (x18 : Vec F S4x128 .f32) :
    iprop(At c arg2 x2 ∗ At c arg3 x3 ∗ At c arg4 x4 ∗ At c arg5 x5 ∗ At c arg6 x6 ∗ At c arg7 x7 ∗ At c arg8 x8 ∗ At c arg9 x9 ∗ At c arg10 x10 ∗ At c arg11 x11
        ∗ At c arg12 x12 ∗ At c arg13 x13 ∗ At c arg14 x14 ∗ At c arg15 x15 ∗ At c arg16 x16 ∗ At c arg17 x17 ∗ At c arg18 x18)
      ⊢ Run c (cc0_rwkv_scan (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) fun _ =>
        iprop(At c arg2 x2 ∗ At c arg3 x3 ∗ At c arg4 x4 ∗ At c arg5 x5 ∗ At c arg6 x6 ∗ At c arg7 x7 ∗ At c arg8 x8 ∗ At c arg9 x9 ∗ At c arg10 x10 ∗ At c arg11 x11
          ∗ At c arg12 x12 ∗ At c arg13 (yTab (outAt x2 x3 x4 x5 x6 x7 x8 x9 x10 x11 x12)) ∗ At c arg14 (stateAt x3 x4 x5 x6 x7 x8 x12 4)
          ∗ (∃ x, At c arg15 x) ∗ (∃ x, At c arg16 x) ∗ (∃ x, At c arg17 x) ∗ (∃ x, At c arg18 x)) := by
  rw [body_eq]
  have h1 := run_copyIn c arg12 arg14 x12 x14
  have h2 := run_setup c arg2 arg4 arg5 arg7 arg8 arg9 arg15 arg16 arg17 arg18 x2 x4 x5 x7 x8 x9 x15 x16 x17 x18
  have h3 := run_tokens c arg2 arg3 arg6 arg10 arg11 arg13 arg14 arg15 arg16 arg17 arg18 x2 x3 x4 x5 x6 x7 x8 x9 x10 x11 x12 x13
  unfold tokInv at h3
  rw [yUpto_zero, yUpto_all] at h3
  iintro ⟨H2, H3, H4, H5, H6, H7, H8, H9, H10, H11, H12, H13, H14, H15, H16, H17, H18⟩
  iapply (run_then c)
  isplitl [H12 H14]
  · iapply h1
    isplitl [H12] <;> iassumption
  iintro %u ⟨H12, H14⟩
  iapply (run_then c)
  isplitl [H2 H4 H5 H7 H8 H9 H15 H16 H17 H18]
  · iapply h2
    isplitl [H2]; · iexact H2
    isplitl [H4]; · iexact H4
    isplitl [H5]; · iexact H5
    isplitl [H7]; · iexact H7
    isplitl [H8]; · iexact H8
    isplitl [H9]; · iexact H9
    isplitl [H15]; · iexact H15
    isplitl [H16]; · iexact H16
    isplitl [H17]; · iexact H17
    iexact H18
  iintro %u ⟨H2, H4, H5, H7, H8, H9, H15, H16, H17, H18⟩
  unfold Run
  iapply (wp_wand_r _ _ _)
  isplitl [H2 H3 H6 H10 H11 H13 H14 H15 H16 H17 H18]
  · iapply h3
    isplitl [H2]; · iexact H2
    isplitl [H3]; · iexact H3
    isplitl [H6]; · iexact H6
    isplitl [H10]; · iexact H10
    isplitl [H11]; · iexact H11
    isplitl [H13]; · iexact H13
    isplitl [H14]; · iexact H14
    isplitl [H15]; · iexact H15
    isplitl [H16]; · iexact H16
    isplitl [H17]; · iexact H17
    iexact H18
  iintro %u ⟨H2, H3, H6, H10, H11, H13, H14, H15, H16, H17, H18⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iexists _; iexact H18

end Cert.KernelIdeal.Hand

end
-- ==== Proof.Main.lean ====
module

public import proofs.«01_k».proof.Proof.Spec3
public import proofs.«01_k».proof.Proof.Gen.KernelIdeal.Points

@[expose] public section

set_option maxRecDepth 65536
set_option synthInstance.maxSize 4096

noncomputable section

namespace Cert.KernelIdeal.Hand

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves of the outputs at point `t`. -/
def yOut (c : Dev nD) (t : Fin cfg0.N) : Vec F S1x4x64x128 .f32 :=
  yTab (outAt (iblk m c 0 t) (iblk m c 1 t) (iblk m c 2 t) (iblk m c 3 t) (iblk m c 4 t) (iblk m c 5 t) (iblk m c 6 t) (iblk m c 7 t) (iblk m c 8 t) (iblk m c 9 t) (iblk m c 10 t))
def sOut (c : Dev nD) (t : Fin cfg0.N) : Vec F S1x64x64x128 .f32 :=
  stateAt (iblk m c 1 t) (iblk m c 2 t) (iblk m c 3 t) (iblk m c 4 t) (iblk m c 5 t) (iblk m c 6 t) (iblk m c 10 t) 4

/-- The proof data: each array at its entry contents; after the body an input's buffer at its block, the outputs' at
    what the body leaves; nothing carried between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yOut m c t
    | ⟨12, _⟩ => sOut m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = yOut m c t := by dsimp only [dats]
theorem after_12 (c : Dev nD) (t : Fin cfg0.N) : (dats m 0 c).after 12 t = sOut m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

/-- The body's obligation at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8,
    after_9, after_10, after_11, after_12, show (dats m 0 c).Φ t.castSucc = Pipeline.ΦA spec0 c from rfl]
  unfold Pipeline.ΦA yOut sOut
  rw [scopedRest0_eq]
  iintro ⟨⟨⟨⟨%f15, H15⟩, ⟨%f16, H16⟩, ⟨%f17, H17⟩, ⟨%f18, H18⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r _ _ _)
  isplitl [H0 H1 H2 H3 H4 H5 H6 H7 H8 H9 H10 H11 H12 H15 H16 H17 H18]
  · iapply (run_body c (grid0.coords t) _ _ _ _ _ _ _ _ _ _ _ _ _ _ _ _ _ _ _ _ _ _ _ _ _ _ (Memref.whole cc0_scratch0) _ (Memref.whole cc0_scratch1) _ (Memref.whole cc0_scratch2) _ (Memref.whole cc0_scratch3) _
      (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ f15 f16 f17 f18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H15]; · rw [At, owns_whole]; iexact H15
    isplitl [H16]; · rw [At, owns_whole]; iexact H16
    isplitl [H17]; · rw [At, owns_whole]; iexact H17
    rw [At, owns_whole]; iexact H18
  iintro %u ⟨H0, H1, H2, H3, H4, H5, H6, H7, H8, H9, H10, H11, H12, ⟨%g15, H15⟩, ⟨%g16, H16⟩, ⟨%g17, H17⟩, ⟨%g18, H18⟩⟩
  isplitl [H15 H16 H17 H18 Hp]
  · isplitr [Hp]
    · isplitl [H15]
      · iexists g15; rw [← owns_whole]; iexact H15
      isplitl [H16]
      · iexists g16; rw [← owns_whole]; iexact H16
      isplitl [H17]
      · iexists g17; rw [← owns_whole]; iexact H17
      iexists g18; rw [← owns_whole]; iexact H18
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option backward.isDefEq.respectTransparency.types false in
/-- The run of @main, over any values: every array of the pipeline at what the proof data compute. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Hand

end
-- ==== Proof.Same.lean ====
module

public import proofs.«01_k».proof.Proof.Gen.Kernel
public import proofs.«01_k».proof.Proof.Gen.KernelIdeal

@[expose] public section

set_option maxRecDepth 65536

noncomputable section

namespace Cert.Proof

open Idealize.ShloMosaic Idealize.SL.Sem
variable {F : FTy → Type} [FloatOps F]

set_option maxHeartbeats 20000000 in
/-- The two programs' bodies are the same text. -/
theorem body_same : @Cert.Kernel.cc0_rwkv_scan F _ _ = @Cert.KernelIdeal.cc0_rwkv_scan F _ _ := rfl

set_option maxHeartbeats 20000000 in
/-- The two programs' main functions. -/
theorem main_same : @Cert.Kernel.main F _ = @Cert.KernelIdeal.main F _ := rfl

set_option maxHeartbeats 20000000 in
/-- The two programs' body tables. -/
theorem defs₀_same : @Cert.Kernel.defs₀ F _ _ = @Cert.KernelIdeal.defs₀ F _ _ := by
  unfold Cert.Kernel.defs₀ Cert.KernelIdeal.defs₀
  refine congrArg _ ?_
  funext l a
  match l, a with
  | ⟨0, _⟩, (t, s) => rfl
  | ⟨_ + 1, h⟩, _ => exact absurd h (Nat.not_lt.2 (Nat.le_add_left _ _))

set_option maxHeartbeats 20000000 in
/-- The two programs' tables with the pipeline's. -/
theorem defs_same : @Cert.Kernel.defs F _ _ = @Cert.KernelIdeal.defs F _ _ := by
  unfold Cert.Kernel.defs Cert.KernelIdeal.defs
  rw [defs₀_same]
  rfl

end Cert.Proof
end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.Same
public import Idealize.ShloMosaic.Adequacy
public import Idealize.ShloMosaic.Init

@[expose] public section

set_option maxRecDepth 65536

noncomputable section

namespace Cert.Proof

open Idealize.ShloMosaic Idealize.SL.Sem

theorem frame_ideal : Cert.quiescent_KernelIdeal := fun m ρ _ =>
  θ_run_with_sems (Cert.KernelIdeal.Gen.frame_of m ρ (Cert.KernelIdeal.Hand.dats m) fun _ _ => rfl)
    (Cert.KernelIdeal.Hand.run_main (F := Ideal) m ρ)

set_option maxHeartbeats 4000000 in
/-- The kernel's own text is that of the idealized one: its frame is the same run at the bit-exact values. -/
theorem frame_kernel : Cert.quiescent_Kernel := fun m ρ _ => by
  have h := θ_run_with_sems (Cert.KernelIdeal.Gen.frame_of (F := Bits) m ρ (Cert.KernelIdeal.Hand.dats m) fun _ _ => rfl)
    (Cert.KernelIdeal.Hand.run_main (F := Bits) m ρ)
  rw [← defs_same, ← main_same] at h
  exact h

/-- The reference is host operations alone and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Head.lean ====
module

public import Idealize.ShloMosaic.PureOps.Ideal
public import Idealize.ShloMosaic.Lib.IdealHost

@[expose] public section

noncomputable section

namespace Cert.Head

open Idealize.ShloMosaic

/-- What one head of one sequence takes: receptance, decay, key, value and rate of each token; the head's rows of the
    parameters; the state at the start (value channel, key channel). -/
structure Data where
  r : Fin 4 → Fin 64 → EReal
  w : Fin 4 → Fin 64 → EReal
  k : Fin 4 → Fin 64 → EReal
  v : Fin 4 → Fin 64 → EReal
  a : Fin 4 → Fin 64 → EReal
  kkp : Fin 64 → EReal
  kap : Fin 64 → EReal
  rkp : Fin 64 → EReal
  lw : Fin 64 → EReal
  lb : Fin 64 → EReal
  s0 : Fin 64 → Fin 64 → EReal

namespace Data

variable (P : Data)

/-- The literals of the text: one, the bound below the norm, a head's channels, the group norm's addend. -/
abbrev one : EReal := Ideal.ofBits .f32 0x3F800000#32
abbrev tiny : EReal := Ideal.ofBits .f32 0x2B8CBCCC#32
abbrev width : EReal := Ideal.ofBits .f32 0x42800000#32
abbrev eps : EReal := Ideal.ofBits .f32 0x3A27C5AC#32

/-- The norm of a token's removal key, bounded below. -/
def nrm (t : Fin 4) : EReal := max (Ideal.sqrt (∑ j, P.k t j * P.kkp j * (P.k t j * P.kkp j))) tiny
/-- The removal key, of length one. -/
def kk (t : Fin 4) (j : Fin 64) : EReal := Ideal.div (P.k t j * P.kkp j) (P.nrm t)
/-- The replacement key. -/
def km (t : Fin 4) (j : Fin 64) : EReal := P.k t j * (one + (P.a t j - one) * P.kap j)
/-- The bonus of a token's own value. -/
def bo (t : Fin 4) : EReal := ∑ j, P.r t j * P.km t j * P.rkp j

/-- One step of the state. -/
def step (s : Fin 64 → Fin 64 → EReal) (t : Fin 4) (i j : Fin 64) : EReal :=
  s i j * P.w t j + (∑ j', s i j' * -P.kk t j') * (P.kk t j * P.a t j) + P.v t i * P.km t j

/-- The state after `n` tokens. -/
def st : ℕ → Fin 64 → Fin 64 → EReal
  | 0 => P.s0
  | n + 1 => P.step (st n) (Fin.ofNat 4 n)

/-- A token's output before its norm, the mean and the variance over the head, and the output. -/
def raw (t : Fin 4) (i : Fin 64) : EReal := ∑ j, P.st (t.val + 1) i j * P.r t j
def mu (t : Fin 4) : EReal := Ideal.div (∑ i, P.raw t i) width
def var (t : Fin 4) : EReal := Ideal.div (∑ i, (P.raw t i - P.mu t) * (P.raw t i - P.mu t)) width
def out (t : Fin 4) (i : Fin 64) : EReal :=
  (P.raw t i - P.mu t) * Ideal.rsqrt (P.var t + eps) * P.lw i + P.lb i + P.bo t * P.v t i

theorem tiny_pos : (0 : EReal) < tiny := by
  have h : tiny = ((9223372 / 9223372036854775808 : ℝ) : EReal) := by
    simp [tiny, Ideal.ofBits, Ideal.ieee, -EReal.coe_mul]; norm_num
  rw [h]
  exact_mod_cast (by norm_num : (0 : ℝ) < 9223372 / 9223372036854775808)

theorem nrm_ne (t : Fin 4) : P.nrm t ≠ 0 := (lt_of_lt_of_le tiny_pos (le_max_right _ _)).ne'

end Data

end Cert.Head

end
-- ==== Proof.KerVal.lean ====
module

public import proofs.«01_k».proof.Proof.Spec3
public import proofs.«01_k».proof.Proof.Head
public import Idealize.ShloMosaic.Lib.Claim
public import Idealize.ShloMosaic.Lib.Pointwise
public import Idealize.ShloMosaic.Lib.ValueIdx

@[expose] public section

set_option maxRecDepth 65536

noncomputable section

namespace Cert.KernelIdeal.Hand

open Cert.KernelIdeal Cert.KernelIdeal.Gen
open Idealize.ShloMosaic Idealize.ShloMosaic.TcCoe Idealize.SL.Sem
open Cert.Head

/-- A running sum from zero, at an index. -/
theorem accum_at {s : Shape} (z : FVec Ideal s .f32) (g : ℕ → FVec Ideal s .f32) (y : s.Idx) (hz : z y = (0 : EReal)) (n : ℕ) :
    (accum z g n y : EReal) = ∑ j : Fin n, (g j.val y : EReal) := by
  induction n with
  | zero => simpa [accum] using hz
  | succ n ih => rw [Fin.sum_univ_castSucc, accum]; exact congrArg (· + (g n y : EReal)) ih

theorem chan_fin (j : Fin 64) : chan j.val = j := Fin.ext (chan_val j.isLt)

/-- The data of lane `b`, off the blocks. -/
def laneOf (x2 x3 x4 x5 : FVec Ideal S1x64x4x128 .f32) (x6 : FVec Ideal S1x4x64x128 .f32) (x7 x8 x9 x10 x11 : FVec Ideal S1x64x128 .f32)
    (x12 : FVec Ideal S1x64x64x128 .f32) (b : Fin 128) : Data where
  r t j := x2 (ix4 0 j t b)
  w t j := x3 (ix4 0 j t b)
  k t j := x4 (ix4 0 j t b)
  v t j := x6 (ix4 0 t j b)
  a t j := x5 (ix4 0 j t b)
  kkp j := x7 (ix3 0 j b)
  kap j := x8 (ix3 0 j b)
  rkp j := x9 (ix3 0 j b)
  lw j := x10 (ix3 0 j b)
  lb j := x11 (ix3 0 j b)
  s0 i j := x12 (ix4 0 j i b)

variable (x2 x3 x4 x5 : FVec Ideal S1x64x4x128 .f32) (x6 : FVec Ideal S1x4x64x128 .f32) (x7 x8 x9 x10 x11 : FVec Ideal S1x64x128 .f32)
  (x12 : FVec Ideal S1x64x64x128 .f32)

theorem ss_at (t : Fin 4) (b : Fin 128) :
    (ssVal (F := Ideal) x4 x7 64 (ix2 t b) : EReal) = ∑ j : Fin 64, x4 (ix4 0 j t b) * x7 (ix3 0 j b) * (x4 (ix4 0 j t b) * x7 (ix3 0 j b)) := by
  rw [ssVal, accum_at _ _ _ (by pointwise [zeros])]
  pointwise [chRow, paRow]
  simp only [chan_fin]

theorem kk_at (t : Fin 4) (j : Fin 64) (b : Fin 128) :
    (kkRow (F := Ideal) x4 x7 j.val (ix2 t b) : EReal) = (laneOf x2 x3 x4 x5 x6 x7 x8 x9 x10 x11 x12 b).kk t j := by
  pointwise [kkRow, invOf, ones, chRow, paRow]
  rw [ss_at, chan_fin]
  exact Ideal.mul_one_div ((laneOf x2 x3 x4 x5 x6 x7 x8 x9 x10 x11 x12 b).nrm_ne t)

theorem av_at (t : Fin 4) (j : Fin 64) (b : Fin 128) :
    (avRow (F := Ideal) x4 x7 j.val (ix2 t b) : EReal) = -(laneOf x2 x3 x4 x5 x6 x7 x8 x9 x10 x11 x12 b).kk t j := by
  pointwise [avRow, zeros]
  rw [kk_at x2 x3 x4 x5 x6 x7 x8 x9 x10 x11 x12, zero_sub]

theorem bv_at (t : Fin 4) (j : Fin 64) (b : Fin 128) :
    (bvRow (F := Ideal) x4 x5 x7 j.val (ix2 t b) : EReal) = (laneOf x2 x3 x4 x5 x6 x7 x8 x9 x10 x11 x12 b).kk t j * (laneOf x2 x3 x4 x5 x6 x7 x8 x9 x10 x11 x12 b).a t j := by
  pointwise [bvRow, chRow]
  rw [kk_at x2 x3 x4 x5 x6 x7 x8 x9 x10 x11 x12, chan_fin]
  rfl

theorem km_at (t : Fin 4) (j : Fin 64) (b : Fin 128) :
    (kmRow (F := Ideal) x4 x5 x8 j.val (ix2 t b) : EReal) = (laneOf x2 x3 x4 x5 x6 x7 x8 x9 x10 x11 x12 b).km t j := by
  pointwise [kmRow, chRow, ones, paRow, Data.km, laneOf]
  simp only [chan_fin]

theorem bo_at (t : Fin 4) (b : Fin 128) :
    (boVal (F := Ideal) x2 x4 x5 x8 x9 64 (ix2 t b) : EReal) = (laneOf x2 x3 x4 x5 x6 x7 x8 x9 x10 x11 x12 b).bo t := by
  rw [boVal, accum_at _ _ _ (by pointwise [zeros])]
  pointwise [chRow, paRow]
  simp only [chan_fin, km_at x2 x3 x4 x5 x6 x7 x8 x9 x10 x11 x12]
  rfl

/-- One step of the state, from the values of the state before it. -/
theorem new_at (s : FVec Ideal S1x64x64x128 .f32) (t : Fin 4) (i j : Fin 64) (b : Fin 128) :
    (newR (F := Ideal) s x3 x6 (tab (avRow x4 x7)) (tab (bvRow x4 x5 x7)) (tab (kmRow x4 x5 x8)) t j.val (ix2 i b) : EReal)
      = (laneOf x2 x3 x4 x5 x6 x7 x8 x9 x10 x11 x12 b).step (fun i j => s (ix4 0 j i b)) t i j := by
  pointwise [newR, stR, tokR, tabR, vRow, tab, saVal]
  rw [accum_at _ _ _ (by pointwise [zeros64])]
  pointwise [stR, tabR, tab]
  simp only [chan_fin, km_at x2 x3 x4 x5 x6 x7 x8 x9 x10 x11 x12, av_at x2 x3 x4 x5 x6 x7 x8 x9 x10 x11 x12, bv_at x2 x3 x4 x5 x6 x7 x8 x9 x10 x11 x12]
  rfl

/-- The state after `n` tokens. -/
theorem state_at (n : ℕ) (j i : Fin 64) (b : Fin 128) :
    (stateAt (F := Ideal) x3 x4 x5 x6 x7 x8 x12 n (ix4 0 j i b) : EReal) = (laneOf x2 x3 x4 x5 x6 x7 x8 x9 x10 x11 x12 b).st n i j := by
  induction n generalizing i j with
  | zero => rfl
  | succ n ih =>
    refine (new_at x2 x3 x4 x5 x6 x7 x8 x9 x10 x11 x12 (stateAt (F := Ideal) x3 x4 x5 x6 x7 x8 x12 n) (tokn n) i j b).trans ?_
    simp only [ih]
    rfl

/-- A token's output before its norm. -/
theorem raw_at (t : Fin 4) (i : Fin 64) (b : Fin 128) :
    (yVal (F := Ideal) (stateAt x3 x4 x5 x6 x7 x8 x12 t.val) x2 x3 x6 (tab (avRow x4 x7)) (tab (bvRow x4 x5 x7)) (tab (kmRow x4 x5 x8)) t 64 (ix2 i b) : EReal)
      = (laneOf x2 x3 x4 x5 x6 x7 x8 x9 x10 x11 x12 b).raw t i := by
  rw [yVal, accum_at _ _ _ (by pointwise [zeros64])]
  pointwise [tokR]
  simp only [chan_fin, new_at x2 x3 x4 x5 x6 x7 x8 x9 x10 x11 x12, state_at x2 x3 x4 x5 x6 x7 x8 x9 x10 x11 x12]
  unfold Data.raw
  rw [Data.st, show Fin.ofNat 4 t.val = t from Fin.ext (Nat.mod_eq_of_lt t.isLt)]
  rfl

/-- The mean over a head, and what is left of a value less it. -/
theorem mean_at (y : FVec Ideal S64x128 .f32) (b : Fin 128) :
    (meanOf (F := Ideal) y (ix2 0 b) : EReal) = Ideal.div (∑ i : Fin 64, y (ix2 i b)) Data.width := by
  pointwise [meanOf]

theorem centred_at (y : FVec Ideal S64x128 .f32) (i : Fin 64) (b : Fin 128) :
    (centred (F := Ideal) y (ix2 i b) : EReal) = y (ix2 i b) - Ideal.div (∑ i : Fin 64, y (ix2 i b)) Data.width := by
  pointwise [centred]
  rw [mean_at]

/-- A token's output. -/
theorem out_at (t : Fin 4) (i : Fin 64) (b : Fin 128) :
    (outAt (F := Ideal) x2 x3 x4 x5 x6 x7 x8 x9 x10 x11 x12 t.val (ix2 i b) : EReal) = (laneOf x2 x3 x4 x5 x6 x7 x8 x9 x10 x11 x12 b).out t i := by
  have ht : tokn t.val = t := Fin.ext (Nat.mod_eq_of_lt t.isLt)
  rw [outAt, ht]
  pointwise [outT, outOf, lnRow, boRow, vRow]
  rw [mean_at]
  pointwise []
  simp only [centred_at, raw_at x2 x3 x4 x5 x6 x7 x8 x9 x10 x11 x12, bo_at x2 x3 x4 x5 x6 x7 x8 x9 x10 x11 x12]
  rfl

end Cert.KernelIdeal.Hand

end
-- ==== Proof.Blocks.lean ====
module

public import proofs.«01_k».proof.Proof.Main
public import proofs.«01_k».proof.Proof.KerVal
public import Idealize.ShloMosaic.Lib.Pipeline.ValueKit

@[expose] public section

set_option maxRecDepth 65536

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where every window's block lies: at point `t`, head `t`. -/
theorem idx : ∀ t : Fin cfg0.N, win0_0.index t = ![t.val, 0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0, 0]
    ∧ win0_11.index t = ![t.val, 0, 0, 0] ∧ win0_12.index t = ![t.val, 0, 0, 0] ∧ t.val < 32 :=
  (by decide +kernel : ∀ t : Fin grid0.N, _)

/-- A point's head. -/
abbrev hd (t : Fin cfg0.N) : Fin 32 := ⟨t.val, (idx t).2.2.2.2.2.2.2.2.2.2.2.2.2⟩
abbrev ch (h : Fin 32) (j : Fin 64) : Fin 2048 := ⟨h.val * 64 + j.val, by omega⟩

/-! ## A block read off an array: the block of point `t` is head `t` of the array -/

section Read
variable (A : (b : Ref sig .tc) → Buf (Elt Ideal) ((c : Thread nD τ).loc b))

theorem r0_at (t : Fin cfg0.N) (j : Fin 64) (u : Fin 4) (b : Fin 128) :
    (((cfg0.win 0).blk t).view.read (Elt Ideal) (A (Pipeline.arrRef spec0 0)) : FVec Ideal S1x64x4x128 .f32) (ix4 0 j u b) = (A main_v5 : FVec Ideal S32x64x4x128 .f32) (ix4 (hd t) j u b) := by
  blk_simp [idx t]
  blk_ext [idx t]

theorem r1_at (t : Fin cfg0.N) (j : Fin 64) (u : Fin 4) (b : Fin 128) :
    (((cfg0.win 1).blk t).view.read (Elt Ideal) (A (Pipeline.arrRef spec0 1)) : FVec Ideal S1x64x4x128 .f32) (ix4 0 j u b) = (A main_v11 : FVec Ideal S32x64x4x128 .f32) (ix4 (hd t) j u b) := by
  blk_simp [idx t]
  blk_ext [idx t]

theorem r2_at (t : Fin cfg0.N) (j : Fin 64) (u : Fin 4) (b : Fin 128) :
    (((cfg0.win 2).blk t).view.read (Elt Ideal) (A (Pipeline.arrRef spec0 2)) : FVec Ideal S1x64x4x128 .f32) (ix4 0 j u b) = (A main_v17 : FVec Ideal S32x64x4x128 .f32) (ix4 (hd t) j u b) := by
  blk_simp [idx t]
  blk_ext [idx t]

theorem r3_at (t : Fin cfg0.N) (j : Fin 64) (u : Fin 4) (b : Fin 128) :
    (((cfg0.win 3).blk t).view.read (Elt Ideal) (A (Pipeline.arrRef spec0 3)) : FVec Ideal S1x64x4x128 .f32) (ix4 0 j u b) = (A main_v23 : FVec Ideal S32x64x4x128 .f32) (ix4 (hd t) j u b) := by
  blk_simp [idx t]
  blk_ext [idx t]

theorem r4_at (t : Fin cfg0.N) (u : Fin 4) (i : Fin 64) (b : Fin 128) :
    (((cfg0.win 4).blk t).view.read (Elt Ideal) (A (Pipeline.arrRef spec0 4)) : FVec Ideal S1x4x64x128 .f32) (ix4 0 u i b) = (A main_v52 : FVec Ideal S32x4x64x128 .f32) (ix4 (hd t) u i b) := by
  blk_simp [idx t]
  blk_ext [idx t]

theorem r5_at (t : Fin cfg0.N) (j : Fin 64) (b : Fin 128) :
    (((cfg0.win 5).blk t).view.read (Elt Ideal) (A (Pipeline.arrRef spec0 5)) : FVec Ideal S1x64x128 .f32) (ix3 0 j b) = (A main_v33 : FVec Ideal S32x64x128 .f32) (ix3 (hd t) j b) := by
  blk_simp [idx t]
  blk_ext [idx t]

theorem r6_at (t : Fin cfg0.N) (j : Fin 64) (b : Fin 128) :
    (((cfg0.win 6).blk t).view.read (Elt Ideal) (A (Pipeline.arrRef spec0 6)) : FVec Ideal S1x64x128 .f32) (ix3 0 j b) = (A main_v37 : FVec Ideal S32x64x128 .f32) (ix3 (hd t) j b) := by
  blk_simp [idx t]
  blk_ext [idx t]

theorem r7_at (t : Fin cfg0.N) (j : Fin 64) (b : Fin 128) :
    (((cfg0.win 7).blk t).view.read (Elt Ideal) (A (Pipeline.arrRef spec0 7)) : FVec Ideal S1x64x128 .f32) (ix3 0 j b) = (A main_v41 : FVec Ideal S32x64x128 .f32) (ix3 (hd t) j b) := by
  blk_simp [idx t]
  blk_ext [idx t]

theorem r8_at (t : Fin cfg0.N) (j : Fin 64) (b : Fin 128) :
    (((cfg0.win 8).blk t).view.read (Elt Ideal) (A (Pipeline.arrRef spec0 8)) : FVec Ideal S1x64x128 .f32) (ix3 0 j b) = (A main_v45 : FVec Ideal S32x64x128 .f32) (ix3 (hd t) j b) := by
  blk_simp [idx t]
  blk_ext [idx t]

theorem r9_at (t : Fin cfg0.N) (j : Fin 64) (b : Fin 128) :
    (((cfg0.win 9).blk t).view.read (Elt Ideal) (A (Pipeline.arrRef spec0 9)) : FVec Ideal S1x64x128 .f32) (ix3 0 j b) = (A main_v49 : FVec Ideal S32x64x128 .f32) (ix3 (hd t) j b) := by
  blk_simp [idx t]
  blk_ext [idx t]

theorem r10_at (t : Fin cfg0.N) (j i : Fin 64) (b : Fin 128) :
    (((cfg0.win 10).blk t).view.read (Elt Ideal) (A (Pipeline.arrRef spec0 10)) : FVec Ideal S1x64x64x128 .f32) (ix4 0 j i b) = (A main_v56 : FVec Ideal S32x64x64x128 .f32) (ix4 (hd t) j i b) := by
  blk_simp [idx t]
  blk_ext [idx t]

end Read

/-! ## The arrays that the host prepares -/

theorem v5_at (h : Fin 32) (j : Fin 64) (u : Fin 4) (b : Fin 128) :
    (V m c main_v5 : FVec Ideal S32x64x4x128 .f32) (ix4 h j u b) = (m ((c : Thread nD τ).loc main_arg0) : FVec Ideal S128x4x2048 .f32) (ix3 b u (ch h j)) := by
  entry_read
  pointwise []

theorem v11_at (h : Fin 32) (j : Fin 64) (u : Fin 4) (b : Fin 128) :
    (V m c main_v11 : FVec Ideal S32x64x4x128 .f32) (ix4 h j u b) = (m ((c : Thread nD τ).loc main_arg1) : FVec Ideal S128x4x2048 .f32) (ix3 b u (ch h j)) := by
  entry_read
  pointwise []

theorem v17_at (h : Fin 32) (j : Fin 64) (u : Fin 4) (b : Fin 128) :
    (V m c main_v17 : FVec Ideal S32x64x4x128 .f32) (ix4 h j u b) = (m ((c : Thread nD τ).loc main_arg2) : FVec Ideal S128x4x2048 .f32) (ix3 b u (ch h j)) := by
  entry_read
  pointwise []

theorem v23_at (h : Fin 32) (j : Fin 64) (u : Fin 4) (b : Fin 128) :
    (V m c main_v23 : FVec Ideal S32x64x4x128 .f32) (ix4 h j u b) = (m ((c : Thread nD τ).loc main_arg4) : FVec Ideal S128x4x2048 .f32) (ix3 b u (ch h j)) := by
  entry_read
  pointwise []

theorem v52_at (h : Fin 32) (u : Fin 4) (i : Fin 64) (b : Fin 128) :
    (V m c main_v52 : FVec Ideal S32x4x64x128 .f32) (ix4 h u i b) = (m ((c : Thread nD τ).loc main_arg3) : FVec Ideal S128x4x2048 .f32) (ix3 b u (ch h i)) := by
  entry_read
  pointwise []

theorem v33_at (h : Fin 32) (j : Fin 64) (b : Fin 128) :
    (V m c main_v33 : FVec Ideal S32x64x128 .f32) (ix3 h j b) = (m ((c : Thread nD τ).loc main_arg5) : FVec Ideal S1x2048 .f32) (ix2 0 (ch h j)) := by
  entry_read
  pointwise []

theorem v37_at (h : Fin 32) (j : Fin 64) (b : Fin 128) :
    (V m c main_v37 : FVec Ideal S32x64x128 .f32) (ix3 h j b) = (m ((c : Thread nD τ).loc main_arg6) : FVec Ideal S1x2048 .f32) (ix2 0 (ch h j)) := by
  entry_read
  pointwise []

theorem v41_at (h : Fin 32) (j : Fin 64) (b : Fin 128) :
    (V m c main_v41 : FVec Ideal S32x64x128 .f32) (ix3 h j b) = (m ((c : Thread nD τ).loc main_arg7) : FVec Ideal S1x32x64 .f32) (ix3 0 h j) := by
  entry_read
  pointwise []

theorem v45_at (h : Fin 32) (j : Fin 64) (b : Fin 128) :
    (V m c main_v45 : FVec Ideal S32x64x128 .f32) (ix3 h j b) = (m ((c : Thread nD τ).loc main_arg8) : FVec Ideal S1x2048 .f32) (ix2 0 (ch h j)) := by
  entry_read
  pointwise []

theorem v49_at (h : Fin 32) (j : Fin 64) (b : Fin 128) :
    (V m c main_v49 : FVec Ideal S32x64x128 .f32) (ix3 h j b) = (m ((c : Thread nD τ).loc main_arg9) : FVec Ideal S1x2048 .f32) (ix2 0 (ch h j)) := by
  entry_read
  pointwise []

theorem v56_at (h : Fin 32) (j i : Fin 64) (b : Fin 128) :
    (V m c main_v56 : FVec Ideal S32x64x64x128 .f32) (ix4 h j i b) = (m ((c : Thread nD τ).loc main_arg10) : FVec Ideal S1x128x32x64x64 .f32) (ix5 0 b h i j) := by
  entry_read
  pointwise []

/-! ## The blocks -/

theorem b0_at (t : Fin cfg0.N) (j : Fin 64) (u : Fin 4) (b : Fin 128) :
    (iblk m c 0 t : FVec Ideal S1x64x4x128 .f32) (ix4 0 j u b) = (m ((c : Thread nD τ).loc main_arg0) : FVec Ideal S128x4x2048 .f32) (ix3 b u (ch (hd t) j)) :=
  (r0_at c (V m c) t j u b).trans (v5_at m c (hd t) j u b)

theorem b1_at (t : Fin cfg0.N) (j : Fin 64) (u : Fin 4) (b : Fin 128) :
    (iblk m c 1 t : FVec Ideal S1x64x4x128 .f32) (ix4 0 j u b) = (m ((c : Thread nD τ).loc main_arg1) : FVec Ideal S128x4x2048 .f32) (ix3 b u (ch (hd t) j)) :=
  (r1_at c (V m c) t j u b).trans (v11_at m c (hd t) j u b)

theorem b2_at (t : Fin cfg0.N) (j : Fin 64) (u : Fin 4) (b : Fin 128) :
    (iblk m c 2 t : FVec Ideal S1x64x4x128 .f32) (ix4 0 j u b) = (m ((c : Thread nD τ).loc main_arg2) : FVec Ideal S128x4x2048 .f32) (ix3 b u (ch (hd t) j)) :=
  (r2_at c (V m c) t j u b).trans (v17_at m c (hd t) j u b)

theorem b3_at (t : Fin cfg0.N) (j : Fin 64) (u : Fin 4) (b : Fin 128) :
    (iblk m c 3 t : FVec Ideal S1x64x4x128 .f32) (ix4 0 j u b) = (m ((c : Thread nD τ).loc main_arg4) : FVec Ideal S128x4x2048 .f32) (ix3 b u (ch (hd t) j)) :=
  (r3_at c (V m c) t j u b).trans (v23_at m c (hd t) j u b)

theorem b4_at (t : Fin cfg0.N) (u : Fin 4) (i : Fin 64) (b : Fin 128) :
    (iblk m c 4 t : FVec Ideal S1x4x64x128 .f32) (ix4 0 u i b) = (m ((c : Thread nD τ).loc main_arg3) : FVec Ideal S128x4x2048 .f32) (ix3 b u (ch (hd t) i)) :=
  (r4_at c (V m c) t u i b).trans (v52_at m c (hd t) u i b)

theorem b5_at (t : Fin cfg0.N) (j : Fin 64) (b : Fin 128) :
    (iblk m c 5 t : FVec Ideal S1x64x128 .f32) (ix3 0 j b) = (m ((c : Thread nD τ).loc main_arg5) : FVec Ideal S1x2048 .f32) (ix2 0 (ch (hd t) j)) :=
  (r5_at c (V m c) t j b).trans (v33_at m c (hd t) j b)

theorem b6_at (t : Fin cfg0.N) (j : Fin 64) (b : Fin 128) :
    (iblk m c 6 t : FVec Ideal S1x64x128 .f32) (ix3 0 j b) = (m ((c : Thread nD τ).loc main_arg6) : FVec Ideal S1x2048 .f32) (ix2 0 (ch (hd t) j)) :=
  (r6_at c (V m c) t j b).trans (v37_at m c (hd t) j b)

theorem b7_at (t : Fin cfg0.N) (j : Fin 64) (b : Fin 128) :
    (iblk m c 7 t : FVec Ideal S1x64x128 .f32) (ix3 0 j b) = (m ((c : Thread nD τ).loc main_arg7) : FVec Ideal S1x32x64 .f32) (ix3 0 (hd t) j) :=
  (r7_at c (V m c) t j b).trans (v41_at m c (hd t) j b)

theorem b8_at (t : Fin cfg0.N) (j : Fin 64) (b : Fin 128) :
    (iblk m c 8 t : FVec Ideal S1x64x128 .f32) (ix3 0 j b) = (m ((c : Thread nD τ).loc main_arg8) : FVec Ideal S1x2048 .f32) (ix2 0 (ch (hd t) j)) :=
  (r8_at c (V m c) t j b).trans (v45_at m c (hd t) j b)

theorem b9_at (t : Fin cfg0.N) (j : Fin 64) (b : Fin 128) :
    (iblk m c 9 t : FVec Ideal S1x64x128 .f32) (ix3 0 j b) = (m ((c : Thread nD τ).loc main_arg9) : FVec Ideal S1x2048 .f32) (ix2 0 (ch (hd t) j)) :=
  (r9_at c (V m c) t j b).trans (v49_at m c (hd t) j b)

theorem b10_at (t : Fin cfg0.N) (j i : Fin 64) (b : Fin 128) :
    (iblk m c 10 t : FVec Ideal S1x64x64x128 .f32) (ix4 0 j i b) = (m ((c : Thread nD τ).loc main_arg10) : FVec Ideal S1x128x32x64x64 .f32) (ix5 0 b (hd t) i j) :=
  (r10_at c (V m c) t j i b).trans (v56_at m c (hd t) j i b)

end Cert.KernelIdeal.Hand

end
-- ==== Proof.RefVal.lean ====
module

public import proofs.«01_k».proof.Proof.Gen.ReferenceIdeal.Run
public import proofs.«01_k».proof.Proof.Head
public import Idealize.ShloMosaic.Lib.Claim
public import Idealize.ShloMosaic.Lib.Pointwise
public import Idealize.ShloMosaic.Lib.ValueIdx

@[expose] public section

set_option maxRecDepth 65536

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.StableHlo

/-- A channel of a head among all channels. -/
abbrev ch (h : Fin 32) (j : Fin 64) : Fin 2048 := ⟨h.val * 64 + j.val, by omega⟩

/-- The data of head `h` of sequence `b`, off the eleven arrays. -/
def headOf (R D K V A : FVec Ideal S128x4x2048 .f32) (KK KA : FVec Ideal S1x2048 .f32) (RK : FVec Ideal S1x32x64 .f32)
    (LW LB : FVec Ideal S1x2048 .f32) (S0 : FVec Ideal S1x128x32x64x64 .f32) (b : Fin 128) (h : Fin 32) : Cert.Head.Data where
  r t j := R (ix3 b t (ch h j))
  w t j := D (ix3 b t (ch h j))
  k t j := K (ix3 b t (ch h j))
  v t j := V (ix3 b t (ch h j))
  a t j := A (ix3 b t (ch h j))
  kkp j := KK (ix2 0 (ch h j))
  kap j := KA (ix2 0 (ch h j))
  rkp j := RK (ix3 0 h j)
  lw j := LW (ix2 0 (ch h j))
  lb j := LB (ix2 0 (ch h j))
  s0 i j := S0 (ix5 0 b h i j)

variable (V0 : Valuation τ sig (Elt Ideal))

abbrev head (b : Fin 128) (h : Fin 32) : Cert.Head.Data :=
  headOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) b h

theorem v5_at (b : Fin 128) (h : Fin 32) (i j : Fin 64) :
    (res_main_v5 V0 : FVec Ideal S128x32x64x64 .f32) (ix4 b h i j) = (head V0 b h).s0 i j := by
  pointwise [res_main_v5, head, headOf]

theorem v9_at (b : Fin 128) (t : Fin 4) (h : Fin 32) (j : Fin 64) :
    (res_main_v9 V0 : FVec Ideal S128x4x32x64 .f32) (ix4 b t h j) = (head V0 b h).k t j * (head V0 b h).kkp j := by
  pointwise [res_main_v9, head, headOf]

theorem v26_at (b : Fin 128) (t : Fin 4) (h : Fin 32) (j : Fin 64) :
    (res_main_v26 V0 : FVec Ideal S128x4x32x64 .f32) (ix4 b t h j) = (head V0 b h).r t j := by
  pointwise [res_main_v26, head, headOf]

theorem v27_at (b : Fin 128) (t : Fin 4) (h : Fin 32) (j : Fin 64) :
    (res_main_v27 V0 : FVec Ideal S128x4x32x64 .f32) (ix4 b t h j) = (head V0 b h).w t j := by
  pointwise [res_main_v27, head, headOf]

theorem v28_at (b : Fin 128) (t : Fin 4) (h : Fin 32) (j : Fin 64) :
    (res_main_v28 V0 : FVec Ideal S128x4x32x64 .f32) (ix4 b t h j) = (head V0 b h).km t j := by
  pointwise [res_main_v28, head, headOf, Cert.Head.Data.km]

theorem v29_at (b : Fin 128) (t : Fin 4) (h : Fin 32) (j : Fin 64) :
    (res_main_v29 V0 : FVec Ideal S128x4x32x64 .f32) (ix4 b t h j) = (head V0 b h).v t j := by
  pointwise [res_main_v29, head, headOf]

theorem v17_at (b : Fin 128) (t : Fin 4) (h : Fin 32) (j : Fin 64) :
    (res_main_v17 V0 : FVec Ideal S128x4x32x64 .f32) (ix4 b t h j) = (head V0 b h).kk t j := by
  pointwise [res_main_v17]
  simp only [v9_at]
  rfl

theorem v31_at (b : Fin 128) (t : Fin 4) (h : Fin 32) (j : Fin 64) :
    (res_main_v31 V0 : FVec Ideal S128x4x32x64 .f32) (ix4 b t h j) = -(head V0 b h).kk t j := by
  pointwise [res_main_v31]
  simp only [v17_at]

theorem v32_at (b : Fin 128) (t : Fin 4) (h : Fin 32) (j : Fin 64) :
    (res_main_v32 V0 : FVec Ideal S128x4x32x64 .f32) (ix4 b t h j) = (head V0 b h).kk t j * (head V0 b h).a t j := by
  pointwise [res_main_v32]
  simp only [v17_at]
  rfl

theorem v58_at (b : Fin 128) (h : Fin 32) (i j : Fin 64) :
    (res_main_v58 V0 : FVec Ideal S128x32x64x64 .f32) (ix4 b h i j) = (head V0 b h).st 1 i j := by
  pointwise [res_main_v58]
  simp only [v5_at, v27_at, v28_at, v29_at, v31_at, v32_at]
  rfl

theorem v87_at (b : Fin 128) (h : Fin 32) (i j : Fin 64) :
    (res_main_v87 V0 : FVec Ideal S128x32x64x64 .f32) (ix4 b h i j) = (head V0 b h).st 2 i j := by
  pointwise [res_main_v87]
  simp only [v58_at, v27_at, v28_at, v29_at, v31_at, v32_at]
  rfl

theorem v116_at (b : Fin 128) (h : Fin 32) (i j : Fin 64) :
    (res_main_v116 V0 : FVec Ideal S128x32x64x64 .f32) (ix4 b h i j) = (head V0 b h).st 3 i j := by
  pointwise [res_main_v116]
  simp only [v87_at, v27_at, v28_at, v29_at, v31_at, v32_at]
  rfl

theorem v145_at (b : Fin 128) (h : Fin 32) (i j : Fin 64) :
    (res_main_v145 V0 : FVec Ideal S128x32x64x64 .f32) (ix4 b h i j) = (head V0 b h).st 4 i j := by
  pointwise [res_main_v145]
  simp only [v116_at, v27_at, v28_at, v29_at, v31_at, v32_at]
  rfl

theorem v153_at (b : Fin 128) (t : Fin 4) (h : Fin 32) (i : Fin 64) :
    (res_main_v153 V0 : FVec Ideal S128x4x32x64 .f32) (ix4 b t h i) = (head V0 b h).raw t i := by
  pointwise [res_main_v153]
  simp only [v58_at, v87_at, v116_at, v145_at, v26_at]
  unfold Cert.Head.Data.raw
  fin_cases t <;> rfl

theorem v157_at (b : Fin 128) (t : Fin 4) (h : Fin 32) :
    (res_main_v157 V0 : FVec Ideal S128x4x32x1 .f32) (ix4 b t h 0) = (head V0 b h).mu t := by
  pointwise [res_main_v157]
  simp only [v153_at]
  rfl

theorem v159_at (b : Fin 128) (t : Fin 4) (h : Fin 32) (i : Fin 64) :
    (res_main_v159 V0 : FVec Ideal S128x4x32x64 .f32) (ix4 b t h i) = (head V0 b h).raw t i - (head V0 b h).mu t := by
  pointwise [res_main_v159]
  simp only [v153_at, v157_at]

/-- The state that the reference returns. -/
theorem state_at (h : Fin 32) (j i : Fin 64) (b : Fin 128) :
    (val4 V0 (Proc.devRef .tc main_v191) : FVec Ideal S32x64x64x128 .f32) (ix4 h j i b) = (head V0 b h).st 4 i j := by
  rw [val4_main_v191]
  pointwise []
  exact v145_at V0 b h i j

/-- The output that the reference returns. -/
theorem out_at (h : Fin 32) (t : Fin 4) (i : Fin 64) (b : Fin 128) :
    (val4 V0 (Proc.devRef .tc main_v190) : FVec Ideal S32x4x64x128 .f32) (ix4 h t i b) = (head V0 b h).out t i := by
  rw [val4_main_v190]
  pointwise []
  simp only [v153_at, v157_at, v159_at, v26_at, v28_at, v29_at]
  rfl

end Cert.ReferenceIdeal.Hand

end
-- ==== Proof.Final.lean ====
module

public import proofs.«01_k».proof.Proof.Blocks
public import proofs.«01_k».proof.Proof.Frames
public import proofs.«01_k».proof.Proof.RefVal
public import proofs.«01_k».proof.Proof.Gen.ReferenceIdeal.Run
public import Idealize.ShloMosaic.Lib.Pipeline.ValueKit
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The data of one head and one sequence in the memory at launch. -/
abbrev argHead (b : Fin 128) (h : Fin 32) : Cert.Head.Data :=
  Cert.ReferenceIdeal.Hand.headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b h

/-- The lane `b` of the blocks at point `t` holds head `t` of sequence `b`. -/
theorem lane_eq (t : Fin cfg0.N) (b : Fin 128) :
    laneOf (iblk m c 0 t) (iblk m c 1 t) (iblk m c 2 t) (iblk m c 3 t) (iblk m c 4 t) (iblk m c 5 t) (iblk m c 6 t) (iblk m c 7 t) (iblk m c 8 t)
      (iblk m c 9 t) (iblk m c 10 t) b = argHead m c b (hd t) := by
  unfold laneOf argHead Cert.ReferenceIdeal.Hand.headOf
  congr 1
  · funext u j; exact b0_at m c t j u b
  · funext u j; exact b1_at m c t j u b
  · funext u j; exact b2_at m c t j u b
  · funext u i; exact b4_at m c t u i b
  · funext u j; exact b3_at m c t j u b
  · funext j; exact b5_at m c t j b
  · funext j; exact b6_at m c t j b
  · funext j; exact b7_at m c t j b
  · funext j; exact b8_at m c t j b
  · funext j; exact b9_at m c t j b
  · funext i j; exact b10_at m c t j i b

/-- The output array: the output of every head, step, row and sequence. -/
def yArr : FVec Ideal S32x4x64x128 .f32 := fun y => (argHead m c (y 3) (y 0)).out (y 1) (y 2)
/-- The last states. -/
def sArr : FVec Ideal S32x64x64x128 .f32 := fun y => (argHead m c (y 3) (y 0)).st 4 (y 2) (y 1)

theorem y_at (t : Fin cfg0.N) (u : Fin 4) (i : Fin 64) (b : Fin 128) :
    (yOut m c t : FVec Ideal S1x4x64x128 .f32) (ix4 0 u i b) = yArr m c (ix4 (hd t) u i b) := by
  unfold yOut yTab
  refine (out_at (iblk m c 0 t) (iblk m c 1 t) (iblk m c 2 t) (iblk m c 3 t) (iblk m c 4 t) (iblk m c 5 t) (iblk m c 6 t) (iblk m c 7 t) (iblk m c 8 t)
    (iblk m c 9 t) (iblk m c 10 t) u i b).trans ?_
  rw [lane_eq]
  rfl

theorem s_at (t : Fin cfg0.N) (j i : Fin 64) (b : Fin 128) :
    (sOut m c t : FVec Ideal S1x64x64x128 .f32) (ix4 0 j i b) = sArr m c (ix4 (hd t) j i b) := by
  unfold sOut
  refine (state_at (iblk m c 0 t) (iblk m c 1 t) (iblk m c 2 t) (iblk m c 3 t) (iblk m c 4 t) (iblk m c 5 t) (iblk m c 6 t) (iblk m c 7 t) (iblk m c 8 t)
    (iblk m c 9 t) (iblk m c 10 t) 4 j i b).trans ?_
  rw [lane_eq]
  rfl

theorem final_11 : (dats m 0 c).arrAt 11 (cfgs 0).N = yArr m c :=
  Dat.arrAt_eq_of_covers (dats m 0 c) 11 (yArr m c) (by decide +kernel) fun t _ y => by
    blk_simp
    rw [after_11]
    idx_vars y
    obtain rfl : y0 = 0 := Subsingleton.elim _ _
    rw [show (win0_11.blk t).view.emb (ix4 0 y1 y2 y3) = ix4 (hd t) y1 y2 y3 from by blk_ext [idx t]]
    exact y_at m c t y1 y2 y3

theorem final_12 : (dats m 0 c).arrAt 12 (cfgs 0).N = sArr m c :=
  Dat.arrAt_eq_of_covers (dats m 0 c) 12 (sArr m c) (by decide +kernel) fun t _ y => by
    blk_simp
    rw [after_12]
    idx_vars y
    obtain rfl : y0 = 0 := Subsingleton.elim _ _
    rw [show (win0_12.blk t).view.emb (ix4 0 y1 y2 y3) = ix4 (hd t) y1 y2 y3 from by blk_ext [idx t]]
    exact s_at m c t y1 y2 y3

end Cert.KernelIdeal.Hand

namespace Cert.ReferenceIdeal.Hand

open Cert.ReferenceIdeal Cert.ReferenceIdeal.Value
open Idealize.ShloMosaic Idealize.ShloMosaic.TcCoe Idealize.SL.Sem

theorem headOf_congr {R R' D D' K K' V V' A A' : FVec Ideal S128x4x2048 .f32} {KK KK' KA KA' : FVec Ideal S1x2048 .f32} {RK RK' : FVec Ideal S1x32x64 .f32}
    {LW LW' LB LB' : FVec Ideal S1x2048 .f32} {S0 S0' : FVec Ideal S1x128x32x64x64 .f32} (h0 : R = R') (h1 : D = D') (h2 : K = K') (h3 : V = V')
    (h4 : A = A') (h5 : KK = KK') (h6 : KA = KA') (h7 : RK = RK') (h8 : LW = LW') (h9 : LB = LB') (h10 : S0 = S0') (b : Fin 128) (h : Fin 32) :
    headOf R D K V A KK KA RK LW LB S0 b h = headOf R' D' K' V' A' KK' KA' RK' LW' LB' S0' b h := by
  subst_vars; rfl

end Cert.ReferenceIdeal.Hand

namespace Cert.Proof

open Idealize.ShloMosaic Idealize.ShloMosaic.TcCoe Idealize.ShloMosaic.StableHlo Idealize.SL.Sem
open Cert.KernelIdeal.Hand (argHead yArr sArr)

/-- The scan's arrays are the reference's results, for any arguments. -/
theorem algebraic : Cert.algebraic_KernelIdeal_ReferenceIdeal := by
  intro m g m' g' hpre hagree
  have hhead : ∀ (c : Dev Cert.KernelIdeal.nD) (b : Fin 128) (h : Fin 32), Cert.ReferenceIdeal.Hand.head (launchContents m' c) b h = argHead m c b h := fun c b h => by
    obtain ⟨h0, h1, h2, h3, h4, h5, h6, h7, h8, h9, h10⟩ := hagree c
    exact Cert.ReferenceIdeal.Hand.headOf_congr h0 h1 h2 h3 h4 h5 h6 h7 h8 h9 h10 b h
  refine ⟨fun c => yArr m c, fun c => sArr m c, ?_, ?_⟩
  · exact θ_run_mono (θ_run_and (Cert.KernelIdeal.Hand.run_main m g) (frame_ideal m g hpre)) fun r hr c =>
      ⟨((hr.1.1 c).1 11).trans (Cert.KernelIdeal.Hand.final_11 m c), ((hr.1.1 c).1 12).trans (Cert.KernelIdeal.Hand.final_12 m c), hr.2.1 c⟩
  · refine θ_run_mono (Cert.ReferenceIdeal.Value.run m' g') fun r h c => ⟨(h c).1.trans ?_, (h c).2.1.trans ?_, (h c).2.2⟩
    · refine (Cert.ReferenceIdeal.Value.val4_main_v190 (launchContents m' c)).symm.trans (funext fun y => ?_)
      idx_vars y
      exact (Cert.ReferenceIdeal.Hand.out_at (launchContents m' c) y0 y1 y2 y3).trans (congrArg (fun d => Cert.Head.Data.out d y1 y2) (hhead c y3 y0))
    · refine (Cert.ReferenceIdeal.Value.val4_main_v191 (launchContents m' c)).symm.trans (funext fun y => ?_)
      idx_vars y
      exact (Cert.ReferenceIdeal.Hand.state_at (launchContents m' c) y0 y1 y2 y3).trans (congrArg (fun d => Cert.Head.Data.st d 4 y2 y1) (hhead c y3 y0))

end Cert.Proof

end
-- ==== Proof.Ffn.lean ====
module

public import Idealize.ShloMosaic.Lib.Pipeline.ValueKit
public import Idealize.ShloMosaic.Lib.Claim

@[expose] public section

noncomputable section

/-! A row of the layer, over the extended reals: its normalisation and its feed-forward half step. -/

namespace Cert.Ffn

open Idealize.ShloMosaic

/-- A row divided by its root mean square, times the gains. -/
def rms (x g : Fin 4096 → EReal) (j : Fin 4096) : EReal :=
  x j * Ideal.rsqrt (Ideal.div (∑ k, x k * x k) (Ideal.ofBits .f32 0x45800000#32) + Ideal.ofBits .f32 0x358637BD#32) * g j

/-- A row times a column. -/
def dot {n : ℕ} (x w : Fin n → EReal) : EReal := ∑ k, x k * w k

/-- One hidden channel: the gate through silu, times the up projection. -/
def act (h : Fin 4096 → EReal) (w : Fin 4096 → Fin 22016 → EReal) (f : Fin 11008) : EReal :=
  (∑ k, h k * w k ⟨f.val, by omega⟩) * Ideal.logistic (∑ k, h k * w k ⟨f.val, by omega⟩) * ∑ k, h k * w k ⟨11008 + f.val, by omega⟩

/-- One channel projected back from the hidden channels, added to the row. -/
def proj (x : EReal) (z w : Fin 11008 → EReal) : EReal := x + ∑ f, z f * w f

/-- The half step: the row plus half of what its hidden channels project to. -/
def half (x g : Fin 4096 → EReal) (win : Fin 4096 → Fin 22016 → EReal) (wout : Fin 11008 → Fin 4096 → EReal) (j : Fin 4096) : EReal :=
  x j + Ideal.ofBits .f32 0x3F000000#32 * ∑ f, act (rms x g) win f * wout f j

/-- The word of one half is one half. -/
theorem half_word : Ideal.ofBits .f32 0x3F000000#32 = ((1 / 2 : ℝ) : EReal) := by
  simp [Ideal.ofBits, Ideal.ieee, -EReal.coe_mul]; norm_num

/-- A factor of one half may stand inside the sum or before it, whatever the terms are. -/
theorem half_sum {n : ℕ} (a w : Fin n → EReal) :
    ∑ f, a f * Ideal.ofBits .f32 0x3F000000#32 * w f = Ideal.ofBits .f32 0x3F000000#32 * ∑ f, a f * w f := by
  rw [half_word]
  have h : ∀ s : Finset (Fin n), ∑ f ∈ s, a f * ((1 / 2 : ℝ) : EReal) * w f = ((1 / 2 : ℝ) : EReal) * ∑ f ∈ s, a f * w f := by
    intro s
    induction s using Finset.cons_induction with
    | empty => simp
    | cons f s hf ih =>
      rw [Finset.sum_cons, Finset.sum_cons, ih, EReal.left_distrib_of_nonneg_of_ne_top (by exact_mod_cast (by norm_num : (0 : ℝ) ≤ 1 / 2)) (EReal.coe_ne_top _),
        mul_comm (a f), mul_assoc]
  exact h _

end Cert.Ffn

end
-- ==== Proof.Branch.lean ====
module

public import proofs.«01_k».proof.Proof.Ffn

@[expose] public section

noncomputable section

/-! The merge of the three branches and the projection after it, on one row. -/

namespace Cert.Ffn

open Idealize.ShloMosaic

/-- A row of a group's array, by its place among the rows of the group. -/
abbrev pAt {n : ℕ} (X : (⟨3, ![4, 2048, n]⟩ : Shape).Idx → EReal) (r : Fin 8192) (k : Fin n) : EReal := X (ix3 ⟨r.val / 2048, by omega⟩ ⟨r.val % 2048, by omega⟩ k)
abbrev sAt {n : ℕ} (X : (⟨3, ![128, 4, n]⟩ : Shape).Idx → EReal) (r : Fin 512) (k : Fin n) : EReal := X (ix3 ⟨r.val / 4, by omega⟩ ⟨r.val % 4, by omega⟩ k)

/-- One channel of the merge: each branch's projection under its own gate. -/
def merge (ya : Fin 2048 → EReal) (yb yc : Fin 1024 → EReal) (g : Fin 12288 → EReal) (wa : Fin 2048 → Fin 4096 → EReal)
    (wb wc : Fin 1024 → Fin 4096 → EReal) (j : Fin 4096) : EReal :=
  g ⟨j.val, by omega⟩ * (∑ k, ya k * wa k j) + g ⟨4096 + j.val, by omega⟩ * (∑ k, yb k * wb k j) + g ⟨8192 + j.val, by omega⟩ * ∑ k, yc k * wc k j

/-- The row with the merge's projection added. -/
def mixed (x z : Fin 4096 → EReal) (w : Fin 4096 → Fin 4096 → EReal) (j : Fin 4096) : EReal := x j + ∑ k, z k * w k j

end Cert.Ffn

end
-- ==== Proof.KBranch.lean ====
module

public import proofs.«01_k».proof.Proof.Gen.Kernel2Ideal.Frame
public import proofs.«01_k».proof.Proof.Branch
public import Idealize.ShloMosaic.Lib.Pipeline.ValueKit

@[expose] public section

set_option maxRecDepth 65536

noncomputable section

/-! What the merge of the branches and the projection after it leave in their arrays, from any contents at their entry. -/

namespace Cert.Kernel2Ideal.Hand

open Cert.Kernel2Ideal Cert.Kernel2Ideal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The merge -/

theorem idx0 : ∀ t : Fin cfg0.N, (win0_0.index t = ![t.val / 8, 0] ∧ win0_1.index t = ![t.val / 8, 0] ∧ win0_2.index t = ![t.val / 8, 0])
    ∧ (win0_3.index t = ![t.val / 8, t.val % 8] ∧ win0_4.index t = ![t.val / 8, 8 + t.val % 8] ∧ win0_5.index t = ![t.val / 8, 16 + t.val % 8])
    ∧ (win0_6.index t = ![0, t.val % 8] ∧ win0_7.index t = ![0, t.val % 8] ∧ win0_8.index t = ![0, t.val % 8])
    ∧ win0_9.index t = ![t.val / 8, t.val % 8] ∧ t.val < 64 :=
  (by decide +kernel : ∀ t : Fin grid0.N, _)

/-- Row `r` of the block of rows, and channel `j` of the block of channels, at a point. -/
abbrev row0 (t : Fin cfg0.N) (r : Fin 1088) : Fin 8704 := ⟨t.val / 8 * 1088 + r.val, by have := (idx0 t).2.2.2.2; omega⟩
abbrev col0 (t : Fin cfg0.N) (j : Fin 512) : Fin 4096 := ⟨t.val % 8 * 512 + j.val, by omega⟩

theorem pay0 (ga gb gc : FVec Ideal S1088x512 .bf16) (ya : FVec Ideal S1088x2048 .bf16) (yb yc : FVec Ideal S1088x1024 .bf16)
    (wa : FVec Ideal S2048x512 .f32) (wb wc : FVec Ideal S1024x512 .f32) (r : Fin 1088) (j : Fin 512) :
    (k0_pay1 (F := Ideal) ga ya wa gb yb wb gc yc wc (ix2 r j) : EReal)
      = ga (ix2 r j) * (∑ k, ya (ix2 r k) * wa (ix2 k j)) + gb (ix2 r j) * (∑ k, yb (ix2 r k) * wb (ix2 k j)) + gc (ix2 r j) * ∑ k, yc (ix2 r k) * wc (ix2 k j) := by
  pointwise [k0_pay1]

theorem blk0_0 (t : Fin cfg0.N) (r : Fin 1088) (k : Fin 2048) :
    (iblk0 V c 0 t : FVec Ideal S1088x2048 .bf16) (ix2 r k) = (V c main_v6 : FVec Ideal S8704x2048 .bf16) (ix2 (row0 t r) k) := by
  blk_simp [iblk0, idx0 t]
  blk_ext [idx0 t]

theorem blk0_1 (t : Fin cfg0.N) (r : Fin 1088) (k : Fin 1024) :
    (iblk0 V c 1 t : FVec Ideal S1088x1024 .bf16) (ix2 r k) = (V c main_v10 : FVec Ideal S8704x1024 .bf16) (ix2 (row0 t r) k) := by
  blk_simp [iblk0, idx0 t]
  blk_ext [idx0 t]

theorem blk0_2 (t : Fin cfg0.N) (r : Fin 1088) (k : Fin 1024) :
    (iblk0 V c 2 t : FVec Ideal S1088x1024 .bf16) (ix2 r k) = (V c main_v14 : FVec Ideal S8704x1024 .bf16) (ix2 (row0 t r) k) := by
  blk_simp [iblk0, idx0 t]
  blk_ext [idx0 t]

theorem blk0_3 (t : Fin cfg0.N) (r : Fin 1088) (j : Fin 512) : (iblk0 V c 3 t : FVec Ideal S1088x512 .bf16) (ix2 r j)
    = (V c main_v18 : FVec Ideal S8704x12288 .bf16) (ix2 (row0 t r) ⟨(col0 t j).val, by omega⟩) := by
  blk_simp [iblk0, idx0 t]
  blk_ext [idx0 t]

theorem blk0_4 (t : Fin cfg0.N) (r : Fin 1088) (j : Fin 512) : (iblk0 V c 4 t : FVec Ideal S1088x512 .bf16) (ix2 r j)
    = (V c main_v18 : FVec Ideal S8704x12288 .bf16) (ix2 (row0 t r) ⟨4096 + (col0 t j).val, by omega⟩) := by
  blk_simp [iblk0, idx0 t]
  blk_ext [idx0 t]

theorem blk0_5 (t : Fin cfg0.N) (r : Fin 1088) (j : Fin 512) : (iblk0 V c 5 t : FVec Ideal S1088x512 .bf16) (ix2 r j)
    = (V c main_v18 : FVec Ideal S8704x12288 .bf16) (ix2 (row0 t r) ⟨8192 + (col0 t j).val, by omega⟩) := by
  blk_simp [iblk0, idx0 t]
  blk_ext [idx0 t]

theorem blk0_6 (t : Fin cfg0.N) (k : Fin 2048) (j : Fin 512) :
    (iblk0 V c 6 t : FVec Ideal S2048x512 .f32) (ix2 k j) = (V c main_v19 : FVec Ideal S2048x4096 .f32) (ix2 k (col0 t j)) := by
  blk_simp [iblk0, idx0 t]
  blk_ext [idx0 t]

theorem blk0_7 (t : Fin cfg0.N) (k : Fin 1024) (j : Fin 512) :
    (iblk0 V c 7 t : FVec Ideal S1024x512 .f32) (ix2 k j) = (V c main_v20 : FVec Ideal S1024x4096 .f32) (ix2 k (col0 t j)) := by
  blk_simp [iblk0, idx0 t]
  blk_ext [idx0 t]

theorem blk0_8 (t : Fin cfg0.N) (k : Fin 1024) (j : Fin 512) :
    (iblk0 V c 8 t : FVec Ideal S1024x512 .f32) (ix2 k j) = (V c main_v21 : FVec Ideal S1024x4096 .f32) (ix2 k (col0 t j)) := by
  blk_simp [iblk0, idx0 t]
  blk_ext [idx0 t]

/-- The branches of every row, merged. -/
def merge0 : FVec Ideal S8704x4096 .bf16 := fun y =>
  merge (fun k => (V c main_v6 : FVec Ideal S8704x2048 .bf16) (ix2 (y 0) k)) (fun k => (V c main_v10 : FVec Ideal S8704x1024 .bf16) (ix2 (y 0) k))
    (fun k => (V c main_v14 : FVec Ideal S8704x1024 .bf16) (ix2 (y 0) k)) (fun j => (V c main_v18 : FVec Ideal S8704x12288 .bf16) (ix2 (y 0) j))
    (fun k j => (V c main_v19 : FVec Ideal S2048x4096 .f32) (ix2 k j)) (fun k j => (V c main_v20 : FVec Ideal S1024x4096 .f32) (ix2 k j))
    (fun k j => (V c main_v21 : FVec Ideal S1024x4096 .f32) (ix2 k j)) (y 1)

theorem final0 : (dat0 V c).arrAt 9 cfg0.N = merge0 V c :=
  Dat.arrAt_eq_of_covers (dat0 V c) 9 (merge0 V c) (by decide +kernel) fun t _ y => by
    blk_simp
    rw [after0_9]
    idx_vars y
    frame_out
    rw [show (win0_9.blk t).view.emb (ix2 y0 y1) = ix2 (row0 t y0) (col0 t y1) from by blk_ext [idx0 t]]
    refine (pay0 _ _ _ _ _ _ _ _ _ _ _).trans ?_
    simp only [blk0_0, blk0_1, blk0_2, blk0_3, blk0_4, blk0_5, blk0_6, blk0_7, blk0_8]
    rfl

/-! ## The projection after it, added to the rows -/

theorem idx1 : ∀ t : Fin cfg1.N, win1_0.index t = ![t.val / 8, 0] ∧ win1_1.index t = ![0, t.val % 8] ∧ win1_2.index t = ![t.val / 8, t.val % 8]
    ∧ win1_3.index t = ![t.val / 8, t.val % 8] ∧ t.val < 64 :=
  (by decide +kernel : ∀ t : Fin grid1.N, _)

abbrev row1 (t : Fin cfg1.N) (r : Fin 1088) : Fin 8704 := ⟨t.val / 8 * 1088 + r.val, by have := (idx1 t).2.2.2.2; omega⟩
abbrev col1 (t : Fin cfg1.N) (j : Fin 512) : Fin 4096 := ⟨t.val % 8 * 512 + j.val, by omega⟩

theorem pay1 (x : FVec Ideal S1088x512 .f32) (z : FVec Ideal S1088x4096 .bf16) (w : FVec Ideal S4096x512 .f32) (r : Fin 1088) (j : Fin 512) :
    (k1_pay1 (F := Ideal) x z w (ix2 r j) : EReal) = x (ix2 r j) + ∑ k, z (ix2 r k) * w (ix2 k j) := by
  pointwise [k1_pay1]

theorem blk1_0 (t : Fin cfg1.N) (r : Fin 1088) (k : Fin 4096) :
    (iblk1 V c 0 t : FVec Ideal S1088x4096 .bf16) (ix2 r k) = (V c main_v22 : FVec Ideal S8704x4096 .bf16) (ix2 (row1 t r) k) := by
  blk_simp [iblk1, idx1 t]
  blk_ext [idx1 t]

theorem blk1_1 (t : Fin cfg1.N) (k : Fin 4096) (j : Fin 512) :
    (iblk1 V c 1 t : FVec Ideal S4096x512 .f32) (ix2 k j) = (V c main_v23 : FVec Ideal S4096x4096 .f32) (ix2 k (col1 t j)) := by
  blk_simp [iblk1, idx1 t]
  blk_ext [idx1 t]

theorem blk1_2 (t : Fin cfg1.N) (r : Fin 1088) (j : Fin 512) :
    (iblk1 V c 2 t : FVec Ideal S1088x512 .f32) (ix2 r j) = (V c main_v2 : FVec Ideal S8704x4096 .f32) (ix2 (row1 t r) (col1 t j)) := by
  blk_simp [iblk1, idx1 t]
  blk_ext [idx1 t]

/-- The rows with the projection of the merge added. -/
def mixed1 : FVec Ideal S8704x4096 .f32 := fun y =>
  mixed (fun k => (V c main_v2 : FVec Ideal S8704x4096 .f32) (ix2 (y 0) k)) (fun k => (V c main_v22 : FVec Ideal S8704x4096 .bf16) (ix2 (y 0) k))
    (fun k j => (V c main_v23 : FVec Ideal S4096x4096 .f32) (ix2 k j)) (y 1)

theorem final1 : (dat1 V c).arrAt 3 cfg1.N = mixed1 V c :=
  Dat.arrAt_eq_of_covers (dat1 V c) 3 (mixed1 V c) (by decide +kernel) fun t _ y => by
    blk_simp
    rw [after1_3]
    idx_vars y
    frame_out
    rw [show (win1_3.blk t).view.emb (ix2 y0 y1) = ix2 (row1 t y0) (col1 t y1) from by blk_ext [idx1 t]]
    refine (pay1 _ _ _ _ _).trans ?_
    simp only [blk1_0, blk1_1, blk1_2]
    rfl

end Cert.Kernel2Ideal.Hand

end
-- ==== Proof.KTail.lean ====
module

public import proofs.«01_k».proof.Proof.Gen.Kernel2Ideal.Frame
public import proofs.«01_k».proof.Proof.Ffn
public import Idealize.ShloMosaic.Lib.Pipeline.ValueKit

@[expose] public section

set_option maxRecDepth 65536

noncomputable section

/-! What each launch of the second feed-forward step leaves in its array, from any contents at its entry. -/

namespace Cert.Kernel2Ideal.Hand

open Cert.Kernel2Ideal Cert.Kernel2Ideal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The normalisation before the step -/

theorem idx2 : ∀ t : Fin cfg2.N, win2_0.index t = ![t.val, 0] ∧ win2_1.index t = ![0, 0] ∧ win2_2.index t = ![t.val, 0] ∧ t.val < 34 :=
  (by decide +kernel : ∀ t : Fin grid2.N, _)

/-- Row `r` of the block of rows at a point. -/
abbrev row2 (t : Fin cfg2.N) (r : Fin 256) : Fin 8704 := ⟨t.val * 256 + r.val, by have := (idx2 t).2.2.2; omega⟩

theorem pay2 (x : FVec Ideal S256x4096 .f32) (g : FVec Ideal S1x4096 .f32) (r : Fin 256) (j : Fin 4096) :
    (k2_pay1 (F := Ideal) x g (ix2 r j) : EReal) = rms (fun k => x (ix2 r k)) (fun k => g (ix2 0 k)) j := by
  pointwise [k2_pay1]
  rfl

theorem blk2_0 (t : Fin cfg2.N) (r : Fin 256) (k : Fin 4096) :
    (iblk2 V c 0 t : FVec Ideal S256x4096 .f32) (ix2 r k) = (V c main_v24 : FVec Ideal S8704x4096 .f32) (ix2 (row2 t r) k) := by
  blk_simp [iblk2, idx2 t]
  blk_ext [idx2 t]

theorem blk2_1 (t : Fin cfg2.N) (k : Fin 4096) :
    (iblk2 V c 1 t : FVec Ideal S1x4096 .f32) (ix2 0 k) = (V c main_v26 : FVec Ideal S1x4096 .f32) (ix2 0 k) := by
  blk_simp [iblk2, idx2 t]
  blk_ext [idx2 t]

/-- The rows normalised. -/
def norm2 : FVec Ideal S8704x4096 .bf16 := fun y =>
  rms (fun k => (V c main_v24 : FVec Ideal S8704x4096 .f32) (ix2 (y 0) k)) (fun k => (V c main_v26 : FVec Ideal S1x4096 .f32) (ix2 0 k)) (y 1)

theorem final2 : (dat2 V c).arrAt 2 cfg2.N = norm2 V c :=
  Dat.arrAt_eq_of_covers (dat2 V c) 2 (norm2 V c) (by decide +kernel) fun t _ y => by
    blk_simp
    rw [after2_2]
    idx_vars y
    frame_out
    rw [show (win2_2.blk t).view.emb (ix2 y0 y1) = ix2 (row2 t y0) y1 from by blk_ext [idx2 t]]
    refine (pay2 _ _ _ _).trans ?_
    simp only [blk2_0, blk2_1]
    rfl

/-! ## The gated hidden channels -/

theorem idx3 : ∀ t : Fin cfg3.N, win3_0.index t = ![t.val / 43, 0] ∧ win3_1.index t = ![0, t.val % 43] ∧ win3_2.index t = ![0, 43 + t.val % 43]
    ∧ win3_3.index t = ![t.val / 43, t.val % 43] ∧ t.val < 172 :=
  (by decide +kernel : ∀ t : Fin grid3.N, _)

/-- Row `r` of the block of rows at a point. -/
abbrev row3 (t : Fin cfg3.N) (r : Fin 2176) : Fin 8704 := ⟨t.val / 43 * 2176 + r.val, by have := (idx3 t).2.2.2.2; omega⟩
/-- Channel `f` of the block of hidden channels at a point. -/
abbrev col3 (t : Fin cfg3.N) (f : Fin 256) : Fin 11008 := ⟨t.val % 43 * 256 + f.val, by omega⟩

theorem pay3 (h : FVec Ideal S2176x4096 .bf16) (wg wu : FVec Ideal S4096x256 .f32) (r : Fin 2176) (f : Fin 256) :
    (k3_pay1 (F := Ideal) h wg wu (ix2 r f) : EReal) = (∑ k, h (ix2 r k) * wg (ix2 k f)) * Ideal.logistic (∑ k, h (ix2 r k) * wg (ix2 k f))
      * (∑ k, h (ix2 r k) * wu (ix2 k f)) * Ideal.ofBits .f32 0x3F000000#32 := by
  pointwise [k3_pay1]

theorem blk3_0 (t : Fin cfg3.N) (r : Fin 2176) (k : Fin 4096) :
    (iblk3 V c 0 t : FVec Ideal S2176x4096 .bf16) (ix2 r k) = (V c main_v27 : FVec Ideal S8704x4096 .bf16) (ix2 (row3 t r) k) := by
  blk_simp [iblk3, idx3 t]
  blk_ext [idx3 t]

theorem blk3_1 (t : Fin cfg3.N) (k : Fin 4096) (f : Fin 256) :
    (iblk3 V c 1 t : FVec Ideal S4096x256 .f32) (ix2 k f) = (V c main_v28 : FVec Ideal S4096x22016 .f32) (ix2 k ⟨(col3 t f).val, by omega⟩) := by
  blk_simp [iblk3, idx3 t]
  blk_ext [idx3 t]

theorem blk3_2 (t : Fin cfg3.N) (k : Fin 4096) (f : Fin 256) :
    (iblk3 V c 2 t : FVec Ideal S4096x256 .f32) (ix2 k f) = (V c main_v28 : FVec Ideal S4096x22016 .f32) (ix2 k ⟨11008 + (col3 t f).val, by omega⟩) := by
  blk_simp [iblk3, idx3 t]
  blk_ext [idx3 t]

/-- The hidden channels of every row, halved. -/
def hid3 : FVec Ideal S8704x11008 .bf16 := fun y =>
  act (fun k => (V c main_v27 : FVec Ideal S8704x4096 .bf16) (ix2 (y 0) k)) (fun k f => (V c main_v28 : FVec Ideal S4096x22016 .f32) (ix2 k f)) (y 1)
    * Ideal.ofBits .f32 0x3F000000#32

theorem final3 : (dat3 V c).arrAt 3 cfg3.N = hid3 V c :=
  Dat.arrAt_eq_of_covers (dat3 V c) 3 (hid3 V c) (by decide +kernel) fun t _ y => by
    blk_simp
    rw [after3_3]
    idx_vars y
    frame_out
    rw [show (win3_3.blk t).view.emb (ix2 y0 y1) = ix2 (row3 t y0) (col3 t y1) from by blk_ext [idx3 t]]
    refine (pay3 _ _ _ _ _).trans ?_
    simp only [blk3_0, blk3_1, blk3_2]
    rfl

/-! ## The projection back, added to the rows -/

theorem idx4 : ∀ t : Fin cfg4.N, win4_0.index t = ![t.val / 16, 0] ∧ win4_1.index t = ![0, t.val % 16] ∧ win4_2.index t = ![t.val / 16, t.val % 16]
    ∧ win4_3.index t = ![t.val / 16, t.val % 16] ∧ t.val < 128 :=
  (by decide +kernel : ∀ t : Fin grid4.N, _)

abbrev row4 (t : Fin cfg4.N) (r : Fin 1088) : Fin 8704 := ⟨t.val / 16 * 1088 + r.val, by have := (idx4 t).2.2.2.2; omega⟩
abbrev col4 (t : Fin cfg4.N) (j : Fin 256) : Fin 4096 := ⟨t.val % 16 * 256 + j.val, by omega⟩

theorem pay4 (x : FVec Ideal S1088x256 .f32) (z : FVec Ideal S1088x11008 .bf16) (w : FVec Ideal S11008x256 .f32) (r : Fin 1088) (j : Fin 256) :
    (k4_pay1 (F := Ideal) x z w (ix2 r j) : EReal) = x (ix2 r j) + ∑ f, z (ix2 r f) * w (ix2 f j) := by
  pointwise [k4_pay1]

theorem blk4_0 (t : Fin cfg4.N) (r : Fin 1088) (f : Fin 11008) :
    (iblk4 V c 0 t : FVec Ideal S1088x11008 .bf16) (ix2 r f) = (V c main_v29 : FVec Ideal S8704x11008 .bf16) (ix2 (row4 t r) f) := by
  blk_simp [iblk4, idx4 t]
  blk_ext [idx4 t]

theorem blk4_1 (t : Fin cfg4.N) (f : Fin 11008) (j : Fin 256) :
    (iblk4 V c 1 t : FVec Ideal S11008x256 .f32) (ix2 f j) = (V c main_v30 : FVec Ideal S11008x4096 .f32) (ix2 f (col4 t j)) := by
  blk_simp [iblk4, idx4 t]
  blk_ext [idx4 t]

theorem blk4_2 (t : Fin cfg4.N) (r : Fin 1088) (j : Fin 256) :
    (iblk4 V c 2 t : FVec Ideal S1088x256 .f32) (ix2 r j) = (V c main_v24 : FVec Ideal S8704x4096 .f32) (ix2 (row4 t r) (col4 t j)) := by
  blk_simp [iblk4, idx4 t]
  blk_ext [idx4 t]

/-- The rows with the projection added. -/
def sum4 : FVec Ideal S8704x4096 .f32 := fun y =>
  proj ((V c main_v24 : FVec Ideal S8704x4096 .f32) (ix2 (y 0) (y 1))) (fun f => (V c main_v29 : FVec Ideal S8704x11008 .bf16) (ix2 (y 0) f))
    (fun f => (V c main_v30 : FVec Ideal S11008x4096 .f32) (ix2 f (y 1)))

theorem final4 : (dat4 V c).arrAt 3 cfg4.N = sum4 V c :=
  Dat.arrAt_eq_of_covers (dat4 V c) 3 (sum4 V c) (by decide +kernel) fun t _ y => by
    blk_simp
    rw [after4_3]
    idx_vars y
    frame_out
    rw [show (win4_3.blk t).view.emb (ix2 y0 y1) = ix2 (row4 t y0) (col4 t y1) from by blk_ext [idx4 t]]
    refine (pay4 _ _ _ _ _).trans ?_
    simp only [blk4_0, blk4_1, blk4_2]
    rfl

/-! ## The last normalisation, of each group's rows -/

theorem idx5 : ∀ t : Fin cfg5.N, win5_0.index t = ![t.val, 0] ∧ win5_1.index t = ![0, 0] ∧ win5_2.index t = ![t.val, 0] ∧ t.val < 32 :=
  (by decide +kernel : ∀ t : Fin grid5.N, _)

abbrev row5 (t : Fin cfg5.N) (r : Fin 256) : Fin 8192 := ⟨t.val * 256 + r.val, by have := (idx5 t).2.2.2; omega⟩

theorem pay5 (x : FVec Ideal S256x4096 .f32) (g : FVec Ideal S1x4096 .f32) (r : Fin 256) (j : Fin 4096) :
    (k5_pay1 (F := Ideal) x g (ix2 r j) : EReal) = rms (fun k => x (ix2 r k)) (fun k => g (ix2 0 k)) j := by
  pointwise [k5_pay1]
  rfl

theorem blk5_0 (t : Fin cfg5.N) (r : Fin 256) (k : Fin 4096) :
    (iblk5 V c 0 t : FVec Ideal S256x4096 .f32) (ix2 r k) = (V c main_v31 : FVec Ideal S8704x4096 .f32) (ix2 ⟨(row5 t r).val, by omega⟩ k) := by
  blk_simp [iblk5, idx5 t]
  blk_ext [idx5 t]

theorem blk5_1 (t : Fin cfg5.N) (k : Fin 4096) :
    (iblk5 V c 1 t : FVec Ideal S1x4096 .f32) (ix2 0 k) = (V c main_v32 : FVec Ideal S1x4096 .f32) (ix2 0 k) := by
  blk_simp [iblk5, idx5 t]
  blk_ext [idx5 t]

/-- A row of the prompt among all rows, and one of the sample group. -/
abbrev promptRow (r : Fin 8192) : Fin 8704 := ⟨r.val, by omega⟩
abbrev sampleRow (r : Fin 512) : Fin 8704 := ⟨8192 + r.val, by omega⟩

/-- The prompt's rows normalised. -/
def norm5 : FVec Ideal S8192x4096 .f32 := fun y =>
  rms (fun k => (V c main_v31 : FVec Ideal S8704x4096 .f32) (ix2 (promptRow (y 0)) k)) (fun k => (V c main_v32 : FVec Ideal S1x4096 .f32) (ix2 0 k)) (y 1)

theorem final5 : (dat5 V c).arrAt 2 cfg5.N = norm5 V c :=
  Dat.arrAt_eq_of_covers (dat5 V c) 2 (norm5 V c) (by decide +kernel) fun t _ y => by
    blk_simp
    rw [after5_2]
    idx_vars y
    frame_out
    rw [show (win5_2.blk t).view.emb (ix2 y0 y1) = ix2 (row5 t y0) y1 from by blk_ext [idx5 t]]
    refine (pay5 _ _ _ _).trans ?_
    simp only [blk5_0, blk5_1]
    rfl

theorem idx6 : ∀ t : Fin cfg6.N, win6_0.index t = ![32 + t.val, 0] ∧ win6_1.index t = ![0, 0] ∧ win6_2.index t = ![t.val, 0] ∧ t.val < 2 :=
  (by decide +kernel : ∀ t : Fin grid6.N, _)

abbrev row6 (t : Fin cfg6.N) (r : Fin 256) : Fin 512 := ⟨t.val * 256 + r.val, by have := (idx6 t).2.2.2; omega⟩

theorem pay6 (x : FVec Ideal S256x4096 .f32) (g : FVec Ideal S1x4096 .f32) (r : Fin 256) (j : Fin 4096) :
    (k6_pay1 (F := Ideal) x g (ix2 r j) : EReal) = rms (fun k => x (ix2 r k)) (fun k => g (ix2 0 k)) j := by
  pointwise [k6_pay1]
  rfl

theorem blk6_0 (t : Fin cfg6.N) (r : Fin 256) (k : Fin 4096) :
    (iblk6 V c 0 t : FVec Ideal S256x4096 .f32) (ix2 r k) = (V c main_v31 : FVec Ideal S8704x4096 .f32) (ix2 ⟨8192 + (row6 t r).val, by omega⟩ k) := by
  blk_simp [iblk6, idx6 t]
  blk_ext [idx6 t]

theorem blk6_1 (t : Fin cfg6.N) (k : Fin 4096) :
    (iblk6 V c 1 t : FVec Ideal S1x4096 .f32) (ix2 0 k) = (V c main_v34 : FVec Ideal S1x4096 .f32) (ix2 0 k) := by
  blk_simp [iblk6, idx6 t]
  blk_ext [idx6 t]

/-- The sample group's rows normalised. -/
def norm6 : FVec Ideal S512x4096 .f32 := fun y =>
  rms (fun k => (V c main_v31 : FVec Ideal S8704x4096 .f32) (ix2 (sampleRow (y 0)) k)) (fun k => (V c main_v34 : FVec Ideal S1x4096 .f32) (ix2 0 k)) (y 1)

theorem final6 : (dat6 V c).arrAt 2 cfg6.N = norm6 V c :=
  Dat.arrAt_eq_of_covers (dat6 V c) 2 (norm6 V c) (by decide +kernel) fun t _ y => by
    blk_simp
    rw [after6_2]
    idx_vars y
    frame_out
    rw [show (win6_2.blk t).view.emb (ix2 y0 y1) = ix2 (row6 t y0) y1 from by blk_ext [idx6 t]]
    refine (pay6 _ _ _ _).trans ?_
    simp only [blk6_0, blk6_1]
    rfl

end Cert.Kernel2Ideal.Hand

end
-- ==== Proof.KTailRun.lean ====
module

public import proofs.«01_k».proof.Proof.KBranch
public import proofs.«01_k».proof.Proof.KTail
public import Idealize.ShloMosaic.Lib.Claim

@[expose] public section

set_option maxRecDepth 65536

noncomputable section

/-! The merge, the second feed-forward step and the last norm as a whole: what its two results hold after the run. -/

namespace Cert.Kernel2Ideal.Hand

open Cert.Kernel2Ideal Cert.Kernel2Ideal.Gen Cert.Ffn
open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat)

section Run

variable {F : FTy → Type} [FloatOps F]

local notation "𝕄" => MT nD τ sig Unit (Elt F) ℕ (UR sig nD τ) ℕ

set_option backward.isDefEq.respectTransparency.types false in
/-- The run over any values: every buffer that is no launch's own ends at the last boundary's contents, every counter at zero. -/
theorem run_all (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-! ## The arrays that the host prepares -/

theorem promptX_at (r : Fin 8192) (k : Fin 4096) : ((V1 m ρ c main_v2 : FVec Ideal S8704x4096 .f32) (ix2 (promptRow r) k) : EReal)
    = pAt (m ((c : Thread nD τ).loc main_arg0) : FVec Ideal S4x2048x4096 .f32) r k := by
  rw [show V1 m ρ c main_v2 = StableHlo.after hostOps0 (W0 m ρ c) main_v2 from rfl]
  entry_read
  pointwise [promptRow]

theorem sampleX_at (r : Fin 512) (k : Fin 4096) : ((V1 m ρ c main_v2 : FVec Ideal S8704x4096 .f32) (ix2 (sampleRow r) k) : EReal)
    = sAt (m ((c : Thread nD τ).loc main_arg1) : FVec Ideal S128x4x4096 .f32) r k := by
  rw [show V1 m ρ c main_v2 = StableHlo.after hostOps0 (W0 m ρ c) main_v2 from rfl]
  entry_read
  pointwise [sampleRow]

theorem promptA_at (r : Fin 8192) (k : Fin 2048) : ((V1 m ρ c main_v6 : FVec Ideal S8704x2048 .bf16) (ix2 (promptRow r) k) : EReal)
    = pAt (m ((c : Thread nD τ).loc main_arg6) : FVec Ideal S4x2048x2048 .f32) r k := by
  rw [show V1 m ρ c main_v6 = StableHlo.after hostOps0 (W0 m ρ c) main_v6 from rfl]
  entry_read
  pointwise [promptRow]

theorem sampleA_at (r : Fin 512) (k : Fin 2048) : ((V1 m ρ c main_v6 : FVec Ideal S8704x2048 .bf16) (ix2 (sampleRow r) k) : EReal)
    = sAt (m ((c : Thread nD τ).loc main_arg7) : FVec Ideal S128x4x2048 .f32) r k := by
  rw [show V1 m ρ c main_v6 = StableHlo.after hostOps0 (W0 m ρ c) main_v6 from rfl]
  entry_read
  pointwise [sampleRow]

theorem promptB_at (r : Fin 8192) (k : Fin 1024) : ((V1 m ρ c main_v10 : FVec Ideal S8704x1024 .bf16) (ix2 (promptRow r) k) : EReal)
    = pAt (m ((c : Thread nD τ).loc main_arg8) : FVec Ideal S4x2048x1024 .f32) r k := by
  rw [show V1 m ρ c main_v10 = StableHlo.after hostOps0 (W0 m ρ c) main_v10 from rfl]
  entry_read
  pointwise [promptRow]

theorem sampleB_at (r : Fin 512) (k : Fin 1024) : ((V1 m ρ c main_v10 : FVec Ideal S8704x1024 .bf16) (ix2 (sampleRow r) k) : EReal)
    = sAt (m ((c : Thread nD τ).loc main_arg9) : FVec Ideal S128x4x1024 .f32) r k := by
  rw [show V1 m ρ c main_v10 = StableHlo.after hostOps0 (W0 m ρ c) main_v10 from rfl]
  entry_read
  pointwise [sampleRow]

theorem promptC_at (r : Fin 8192) (k : Fin 1024) : ((V1 m ρ c main_v14 : FVec Ideal S8704x1024 .bf16) (ix2 (promptRow r) k) : EReal)
    = pAt (m ((c : Thread nD τ).loc main_arg10) : FVec Ideal S4x2048x1024 .f32) r k := by
  rw [show V1 m ρ c main_v14 = StableHlo.after hostOps0 (W0 m ρ c) main_v14 from rfl]
  entry_read
  pointwise [promptRow]

theorem sampleC_at (r : Fin 512) (k : Fin 1024) : ((V1 m ρ c main_v14 : FVec Ideal S8704x1024 .bf16) (ix2 (sampleRow r) k) : EReal)
    = sAt (m ((c : Thread nD τ).loc main_arg11) : FVec Ideal S128x4x1024 .f32) r k := by
  rw [show V1 m ρ c main_v14 = StableHlo.after hostOps0 (W0 m ρ c) main_v14 from rfl]
  entry_read
  pointwise [sampleRow]

theorem promptG_at (r : Fin 8192) (k : Fin 12288) : ((V1 m ρ c main_v18 : FVec Ideal S8704x12288 .bf16) (ix2 (promptRow r) k) : EReal)
    = pAt (m ((c : Thread nD τ).loc main_arg12) : FVec Ideal S4x2048x12288 .f32) r k := by
  rw [show V1 m ρ c main_v18 = StableHlo.after hostOps0 (W0 m ρ c) main_v18 from rfl]
  entry_read
  pointwise [promptRow]

theorem sampleG_at (r : Fin 512) (k : Fin 12288) : ((V1 m ρ c main_v18 : FVec Ideal S8704x12288 .bf16) (ix2 (sampleRow r) k) : EReal)
    = sAt (m ((c : Thread nD τ).loc main_arg13) : FVec Ideal S128x4x12288 .f32) r k := by
  rw [show V1 m ρ c main_v18 = StableHlo.after hostOps0 (W0 m ρ c) main_v18 from rfl]
  entry_read
  pointwise [sampleRow]

theorem wa_at (k : Fin 2048) (j : Fin 4096) :
    (V1 m ρ c main_v19 : FVec Ideal S2048x4096 .f32) (ix2 k j) = (m ((c : Thread nD τ).loc main_arg14) : FVec Ideal S1x2048x4096 .f32) (ix3 0 k j) := by
  rw [show V1 m ρ c main_v19 = StableHlo.after hostOps0 (W0 m ρ c) main_v19 from rfl]
  entry_read
  pointwise []

theorem wb_at (k : Fin 1024) (j : Fin 4096) :
    (V1 m ρ c main_v20 : FVec Ideal S1024x4096 .f32) (ix2 k j) = (m ((c : Thread nD τ).loc main_arg15) : FVec Ideal S1x1024x4096 .f32) (ix3 0 k j) := by
  rw [show V1 m ρ c main_v20 = StableHlo.after hostOps0 (W0 m ρ c) main_v20 from rfl]
  entry_read
  pointwise []

theorem wc_at (k : Fin 1024) (j : Fin 4096) :
    (V1 m ρ c main_v21 : FVec Ideal S1024x4096 .f32) (ix2 k j) = (m ((c : Thread nD τ).loc main_arg16) : FVec Ideal S1x1024x4096 .f32) (ix3 0 k j) := by
  rw [show V1 m ρ c main_v21 = StableHlo.after hostOps0 (W0 m ρ c) main_v21 from rfl]
  entry_read
  pointwise []

theorem wmix_at (k j : Fin 4096) :
    (V3 m ρ c main_v23 : FVec Ideal S4096x4096 .f32) (ix2 k j) = (m ((c : Thread nD τ).loc main_arg17) : FVec Ideal S1x4096x4096 .f32) (ix3 0 k j) := by
  rw [show V3 m ρ c main_v23 = StableHlo.after hostOps1 (W2 m ρ c) main_v23 from rfl]
  entry_read
  rw [W2_args m ρ c main_arg17 (by decide)]
  pointwise []

theorem gain_at (k : Fin 4096) :
    (V5 m ρ c main_v26 : FVec Ideal S1x4096 .f32) (ix2 0 k) = (m ((c : Thread nD τ).loc main_arg2) : FVec Ideal S1x4096 .f32) (ix2 0 k) := by
  rw [show V5 m ρ c main_v26 = StableHlo.after hostOps2 (W4 m ρ c) main_v26 from rfl]
  entry_read
  rw [W4_args m ρ c main_arg2 (by decide)]
  pointwise []

theorem win_at (k : Fin 4096) (f : Fin 22016) :
    (V7 m ρ c main_v28 : FVec Ideal S4096x22016 .f32) (ix2 k f) = (m ((c : Thread nD τ).loc main_arg3) : FVec Ideal S1x4096x22016 .f32) (ix3 0 k f) := by
  rw [show V7 m ρ c main_v28 = StableHlo.after hostOps3 (W6 m ρ c) main_v28 from rfl]
  entry_read
  rw [W6_args m ρ c main_arg3 (by decide)]
  pointwise []

theorem wout_at (f : Fin 11008) (j : Fin 4096) :
    (V9 m ρ c main_v30 : FVec Ideal S11008x4096 .f32) (ix2 f j) = (m ((c : Thread nD τ).loc main_arg4) : FVec Ideal S1x11008x4096 .f32) (ix3 0 f j) := by
  rw [show V9 m ρ c main_v30 = StableHlo.after hostOps4 (W8 m ρ c) main_v30 from rfl]
  entry_read
  rw [W8_args m ρ c main_arg4 (by decide)]
  pointwise []

theorem gain11_at (k : Fin 4096) :
    (V11 m ρ c main_v32 : FVec Ideal S1x4096 .f32) (ix2 0 k) = (m ((c : Thread nD τ).loc main_arg5) : FVec Ideal S4096 .f32) (ix1 k) := by
  rw [show V11 m ρ c main_v32 = StableHlo.after hostOps5 (W10 m ρ c) main_v32 from rfl]
  entry_read
  rw [W10_args m ρ c main_arg5 (by decide)]
  pointwise []

theorem gain13_at (k : Fin 4096) :
    (V13 m ρ c main_v34 : FVec Ideal S1x4096 .f32) (ix2 0 k) = (m ((c : Thread nD τ).loc main_arg5) : FVec Ideal S4096 .f32) (ix1 k) := by
  rw [show V13 m ρ c main_v34 = StableHlo.after hostOps6 (W12 m ρ c) main_v34 from rfl]
  entry_read
  rw [W12_args m ρ c main_arg5 (by decide)]
  pointwise []

/-! ## From launch to launch -/

theorem rows3 : V3 m ρ c main_v2 = V1 m ρ c main_v2 :=
  (W3_of m ρ c main_v2 (by decide)).trans (W2_of m ρ c main_v2 (by decide))

theorem merge_3 : V3 m ρ c main_v22 = merge0 (V1 m ρ) c :=
  (W3_of m ρ c main_v22 (by decide)).trans <| (W2_arr m ρ c 9).trans (final0 _ c)

theorem mixed_5 : V5 m ρ c main_v24 = mixed1 (V3 m ρ) c :=
  (W5_of m ρ c main_v24 (by decide)).trans <| (W4_arr m ρ c 3).trans (final1 _ c)

theorem rows9 : V9 m ρ c main_v24 = V5 m ρ c main_v24 :=
  (W9_of m ρ c main_v24 (by decide)).trans <| (W8_of m ρ c main_v24 (by decide)).trans <|
    (W7_of m ρ c main_v24 (by decide)).trans (W6_of m ρ c main_v24 (by decide))

theorem norm_7 : V7 m ρ c main_v27 = norm2 (V5 m ρ) c :=
  (W7_of m ρ c main_v27 (by decide)).trans <| (W6_arr m ρ c 2).trans (final2 _ c)

theorem hid_9 : V9 m ρ c main_v29 = hid3 (V7 m ρ) c :=
  (W9_of m ρ c main_v29 (by decide)).trans <| (W8_arr m ρ c 3).trans (final3 _ c)

theorem sum_11 : V11 m ρ c main_v31 = sum4 (V9 m ρ) c :=
  (W11_of m ρ c main_v31 (by decide)).trans <| (W10_arr m ρ c 3).trans (final4 _ c)

theorem sum_13 : V13 m ρ c main_v31 = V11 m ρ c main_v31 :=
  (W13_of m ρ c main_v31 (by decide)).trans (W12_of m ρ c main_v31 (by decide))

theorem prompt_14 : W14 m ρ c (Proc.devRef .tc main_v33) = norm5 (V11 m ρ) c :=
  (W14_of m ρ c main_v33 (by decide)).trans <| (W13_of m ρ c main_v33 (by decide)).trans <| (W12_arr m ρ c 2).trans (final5 _ c)

theorem sample_14 : W14 m ρ c (Proc.devRef .tc main_v35) = norm6 (V13 m ρ) c :=
  (W14_arr m ρ c 2).trans (final6 _ c)

/-! ## The arrays at a row and a channel -/

section At
variable (V : (c : Dev nD) → (b : Ref sig .tc) → Buf (Elt Ideal) ((c : Thread nD τ).loc b))

theorem merge0_at (r : Fin 8704) (j : Fin 4096) : (merge0 V c (ix2 r j) : EReal)
    = merge (fun k => (V c main_v6 : FVec Ideal S8704x2048 .bf16) (ix2 r k)) (fun k => (V c main_v10 : FVec Ideal S8704x1024 .bf16) (ix2 r k))
      (fun k => (V c main_v14 : FVec Ideal S8704x1024 .bf16) (ix2 r k)) (fun j => (V c main_v18 : FVec Ideal S8704x12288 .bf16) (ix2 r j))
      (fun k j => (V c main_v19 : FVec Ideal S2048x4096 .f32) (ix2 k j)) (fun k j => (V c main_v20 : FVec Ideal S1024x4096 .f32) (ix2 k j))
      (fun k j => (V c main_v21 : FVec Ideal S1024x4096 .f32) (ix2 k j)) j := rfl

theorem mixed1_at (r : Fin 8704) (j : Fin 4096) : (mixed1 V c (ix2 r j) : EReal)
    = mixed (fun k => (V c main_v2 : FVec Ideal S8704x4096 .f32) (ix2 r k)) (fun k => (V c main_v22 : FVec Ideal S8704x4096 .bf16) (ix2 r k))
      (fun k j => (V c main_v23 : FVec Ideal S4096x4096 .f32) (ix2 k j)) j := rfl

theorem norm2_at (r : Fin 8704) (j : Fin 4096) : (norm2 V c (ix2 r j) : EReal)
    = rms (fun k => (V c main_v24 : FVec Ideal S8704x4096 .f32) (ix2 r k)) (fun k => (V c main_v26 : FVec Ideal S1x4096 .f32) (ix2 0 k)) j := rfl

theorem hid3_at (r : Fin 8704) (f : Fin 11008) : (hid3 V c (ix2 r f) : EReal)
    = act (fun k => (V c main_v27 : FVec Ideal S8704x4096 .bf16) (ix2 r k)) (fun k f => (V c main_v28 : FVec Ideal S4096x22016 .f32) (ix2 k f)) f
      * Ideal.ofBits .f32 0x3F000000#32 := rfl

theorem sum4_at (r : Fin 8704) (j : Fin 4096) : (sum4 V c (ix2 r j) : EReal)
    = proj ((V c main_v24 : FVec Ideal S8704x4096 .f32) (ix2 r j)) (fun f => (V c main_v29 : FVec Ideal S8704x11008 .bf16) (ix2 r f))
      (fun f => (V c main_v30 : FVec Ideal S11008x4096 .f32) (ix2 f j)) := rfl

theorem norm5_at (r : Fin 8192) (j : Fin 4096) : (norm5 V c (ix2 r j) : EReal)
    = rms (fun k => (V c main_v31 : FVec Ideal S8704x4096 .f32) (ix2 (promptRow r) k)) (fun k => (V c main_v32 : FVec Ideal S1x4096 .f32) (ix2 0 k)) j := rfl

theorem norm6_at (r : Fin 512) (j : Fin 4096) : (norm6 V c (ix2 r j) : EReal)
    = rms (fun k => (V c main_v31 : FVec Ideal S8704x4096 .f32) (ix2 (sampleRow r) k)) (fun k => (V c main_v34 : FVec Ideal S1x4096 .f32) (ix2 0 k)) j := rfl

end At

/-- The gains and the weights as the arguments hold them. -/
def gain2 (k : Fin 4096) : EReal := (m ((c : Thread nD τ).loc main_arg2) : FVec Ideal S1x4096 .f32) (ix2 0 k)
def gainF (k : Fin 4096) : EReal := (m ((c : Thread nD τ).loc main_arg5) : FVec Ideal S4096 .f32) (ix1 k)
def win (k : Fin 4096) (f : Fin 22016) : EReal := (m ((c : Thread nD τ).loc main_arg3) : FVec Ideal S1x4096x22016 .f32) (ix3 0 k f)
def wout (f : Fin 11008) (j : Fin 4096) : EReal := (m ((c : Thread nD τ).loc main_arg4) : FVec Ideal S1x11008x4096 .f32) (ix3 0 f j)

def wBrA (k : Fin 2048) (j : Fin 4096) : EReal := (m ((c : Thread nD τ).loc main_arg14) : FVec Ideal S1x2048x4096 .f32) (ix3 0 k j)
def wBrB (k : Fin 1024) (j : Fin 4096) : EReal := (m ((c : Thread nD τ).loc main_arg15) : FVec Ideal S1x1024x4096 .f32) (ix3 0 k j)
def wBrC (k : Fin 1024) (j : Fin 4096) : EReal := (m ((c : Thread nD τ).loc main_arg16) : FVec Ideal S1x1024x4096 .f32) (ix3 0 k j)
def wMix (k j : Fin 4096) : EReal := (m ((c : Thread nD τ).loc main_arg17) : FVec Ideal S1x4096x4096 .f32) (ix3 0 k j)

/-- Any row after the merge and its projection, from what the row holds at the start. -/
theorem mixed_at (r : Fin 8704) (x : Fin 4096 → EReal) (ya : Fin 2048 → EReal) (yb yc : Fin 1024 → EReal) (g : Fin 12288 → EReal)
    (hx : ∀ k, (V1 m ρ c main_v2 : FVec Ideal S8704x4096 .f32) (ix2 r k) = x k) (ha : ∀ k, (V1 m ρ c main_v6 : FVec Ideal S8704x2048 .bf16) (ix2 r k) = ya k)
    (hb : ∀ k, (V1 m ρ c main_v10 : FVec Ideal S8704x1024 .bf16) (ix2 r k) = yb k) (hc : ∀ k, (V1 m ρ c main_v14 : FVec Ideal S8704x1024 .bf16) (ix2 r k) = yc k)
    (hg : ∀ k, (V1 m ρ c main_v18 : FVec Ideal S8704x12288 .bf16) (ix2 r k) = g k) (j : Fin 4096) :
    ((V5 m ρ c main_v24 : FVec Ideal S8704x4096 .f32) (ix2 r j) : EReal)
      = mixed x (merge ya yb yc g (wBrA m c) (wBrB m c) (wBrC m c)) (wMix m c) j := by
  rw [mixed_5, mixed1_at, rows3, merge_3]
  have e : (fun k => (merge0 (V1 m ρ) c (ix2 r k) : EReal)) = merge ya yb yc g (wBrA m c) (wBrB m c) (wBrC m c) := funext fun k => by
    rw [merge0_at, show (fun k => ((V1 m ρ c main_v6 : FVec Ideal S8704x2048 .bf16) (ix2 r k) : EReal)) = ya from funext ha,
      show (fun k => ((V1 m ρ c main_v10 : FVec Ideal S8704x1024 .bf16) (ix2 r k) : EReal)) = yb from funext hb,
      show (fun k => ((V1 m ρ c main_v14 : FVec Ideal S8704x1024 .bf16) (ix2 r k) : EReal)) = yc from funext hc,
      show (fun k => ((V1 m ρ c main_v18 : FVec Ideal S8704x12288 .bf16) (ix2 r k) : EReal)) = g from funext hg,
      show (fun k j => ((V1 m ρ c main_v19 : FVec Ideal S2048x4096 .f32) (ix2 k j) : EReal)) = wBrA m c from funext fun k => funext fun j => wa_at m ρ c k j,
      show (fun k j => ((V1 m ρ c main_v20 : FVec Ideal S1024x4096 .f32) (ix2 k j) : EReal)) = wBrB m c from funext fun k => funext fun j => wb_at m ρ c k j,
      show (fun k j => ((V1 m ρ c main_v21 : FVec Ideal S1024x4096 .f32) (ix2 k j) : EReal)) = wBrC m c from funext fun k => funext fun j => wc_at m ρ c k j]
  refine (congrArg (fun z => mixed _ z _ j) e).trans ?_
  exact congrArg₂ (fun x w => mixed x _ w j) (funext hx) (funext fun k => funext fun j => wmix_at m ρ c k j)

/-- Any row after the half step. -/
theorem sum_at (r : Fin 8704) (j : Fin 4096) :
    ((V11 m ρ c main_v31 : FVec Ideal S8704x4096 .f32) (ix2 r j) : EReal)
      = half (fun k => (V5 m ρ c main_v24 : FVec Ideal S8704x4096 .f32) (ix2 r k)) (gain2 m c) (win m c) (wout m c) j := by
  rw [sum_11, sum4_at, rows9, hid_9]
  unfold half proj
  rw [← half_sum]
  refine congrArg (fun s : EReal => _ + s) (Finset.sum_congr rfl fun f _ => ?_)
  refine congrArg₂ (fun a b : EReal => a * b) ?_ (wout_at m ρ c f j)
  refine (hid3_at c (V7 m ρ) r f).trans (congrArg (fun a : EReal => a * _) ?_)
  refine congrArg₂ (fun h w => act h w f) (funext fun k => ?_) (funext fun k => funext fun f => win_at m ρ c k f)
  rw [norm_7]
  exact (norm2_at c (V5 m ρ) r k).trans (congrArg (fun g => rms _ g k) (funext fun k => gain_at m ρ c k))

theorem prompt_out (r : Fin 8192) (j : Fin 4096) :
    ((W14 m ρ c (Proc.devRef .tc main_v33) : FVec Ideal S8192x4096 .f32) (ix2 r j) : EReal)
      = rms (half (mixed (pAt (m ((c : Thread nD τ).loc main_arg0) : FVec Ideal S4x2048x4096 .f32) r)
          (merge (pAt (m ((c : Thread nD τ).loc main_arg6) : FVec Ideal S4x2048x2048 .f32) r) (pAt (m ((c : Thread nD τ).loc main_arg8) : FVec Ideal S4x2048x1024 .f32) r)
            (pAt (m ((c : Thread nD τ).loc main_arg10) : FVec Ideal S4x2048x1024 .f32) r) (pAt (m ((c : Thread nD τ).loc main_arg12) : FVec Ideal S4x2048x12288 .f32) r)
            (wBrA m c) (wBrB m c) (wBrC m c)) (wMix m c)) (gain2 m c) (win m c) (wout m c)) (gainF m c) j := by
  rw [prompt_14, norm5_at]
  exact congrArg₂ (fun x g => rms x g j) (funext fun k => (sum_at m ρ c (promptRow r) k).trans
    (congrArg (fun x => half x (gain2 m c) (win m c) (wout m c) k) (funext fun k => mixed_at m ρ c (promptRow r) _ _ _ _ _
      (promptX_at m ρ c r) (promptA_at m ρ c r) (promptB_at m ρ c r) (promptC_at m ρ c r) (promptG_at m ρ c r) k))) (funext fun k => gain11_at m ρ c k)

theorem sample_out (r : Fin 512) (j : Fin 4096) :
    ((W14 m ρ c (Proc.devRef .tc main_v35) : FVec Ideal S512x4096 .f32) (ix2 r j) : EReal)
      = rms (half (mixed (sAt (m ((c : Thread nD τ).loc main_arg1) : FVec Ideal S128x4x4096 .f32) r)
          (merge (sAt (m ((c : Thread nD τ).loc main_arg7) : FVec Ideal S128x4x2048 .f32) r) (sAt (m ((c : Thread nD τ).loc main_arg9) : FVec Ideal S128x4x1024 .f32) r)
            (sAt (m ((c : Thread nD τ).loc main_arg11) : FVec Ideal S128x4x1024 .f32) r) (sAt (m ((c : Thread nD τ).loc main_arg13) : FVec Ideal S128x4x12288 .f32) r)
            (wBrA m c) (wBrB m c) (wBrC m c)) (wMix m c)) (gain2 m c) (win m c) (wout m c)) (gainF m c) j := by
  rw [sample_14, norm6_at]
  rw [sum_13]
  exact congrArg₂ (fun x g => rms x g j) (funext fun k => (sum_at m ρ c (sampleRow r) k).trans
    (congrArg (fun x => half x (gain2 m c) (win m c) (wout m c) k) (funext fun k => mixed_at m ρ c (sampleRow r) _ _ _ _ _
      (sampleX_at m ρ c r) (sampleA_at m ρ c r) (sampleB_at m ρ c r) (sampleC_at m ρ c r) (sampleG_at m ρ c r) k))) (funext fun k => gain13_at m ρ c k)

end Cert.Kernel2Ideal.Hand

end
-- ==== Proof.RTail.lean ====
module

public import proofs.«01_k».proof.Proof.Branch
public import proofs.«01_k».proof.Proof.Gen.Reference2Ideal.Run

@[expose] public section

set_option maxRecDepth 65536

noncomputable section

/-! What the reference of the merge, the second feed-forward step and the last norm returns, row by row. -/

namespace Cert.Reference2Ideal.Hand

open Cert.Reference2Ideal Cert.Reference2Ideal.Gen Cert.Reference2Ideal.Value Cert.Ffn
open Idealize.ShloMosaic Idealize.ShloMosaic.TcCoe

variable (m : (ℓ : Loc nD τ sig) → Buf (Elt Ideal) ℓ) (c : Dev nD)

/-- The gains and the weights as the arguments hold them. -/
def gain2 (k : Fin 4096) : EReal := (m ((c : Thread nD τ).loc main_arg2) : FVec Ideal S1x4096 .f32) (ix2 0 k)
def gainF (k : Fin 4096) : EReal := (m ((c : Thread nD τ).loc main_arg5) : FVec Ideal S4096 .f32) (ix1 k)
def win (k : Fin 4096) (f : Fin 22016) : EReal := (m ((c : Thread nD τ).loc main_arg3) : FVec Ideal S1x4096x22016 .f32) (ix3 0 k f)
def wout (f : Fin 11008) (j : Fin 4096) : EReal := (m ((c : Thread nD τ).loc main_arg4) : FVec Ideal S1x11008x4096 .f32) (ix3 0 f j)
def wBrA (k : Fin 2048) (j : Fin 4096) : EReal := (m ((c : Thread nD τ).loc main_arg14) : FVec Ideal S1x2048x4096 .f32) (ix3 0 k j)
def wBrB (k : Fin 1024) (j : Fin 4096) : EReal := (m ((c : Thread nD τ).loc main_arg15) : FVec Ideal S1x1024x4096 .f32) (ix3 0 k j)
def wBrC (k : Fin 1024) (j : Fin 4096) : EReal := (m ((c : Thread nD τ).loc main_arg16) : FVec Ideal S1x1024x4096 .f32) (ix3 0 k j)
def wMix (k j : Fin 4096) : EReal := (m ((c : Thread nD τ).loc main_arg17) : FVec Ideal S1x4096x4096 .f32) (ix3 0 k j)

/-! ## The weights as the reference reads them -/

theorem flatA_at (w : FVec Ideal S1x2048x4096 .f32) (k : Fin 2048) (j : Fin 4096) :
    (shapeCast S2048x4096 w shapeCasts_S1x2048x4096_S2048x4096 (ix2 k j) : EReal) = w (ix3 0 k j) := by
  pointwise []

theorem flatB_at (w : FVec Ideal S1x1024x4096 .f32) (k : Fin 1024) (j : Fin 4096) :
    (shapeCast S1024x4096 w shapeCasts_S1x1024x4096_S1024x4096 (ix2 k j) : EReal) = w (ix3 0 k j) := by
  pointwise []

theorem flatMix_at (w : FVec Ideal S1x4096x4096 .f32) (k j : Fin 4096) :
    (shapeCast S4096x4096 w shapeCasts_S1x4096x4096_S4096x4096 (ix2 k j) : EReal) = w (ix3 0 k j) := by
  pointwise []

theorem flat1_at (g : FVec Ideal S1x4096 .f32) (k : Fin 4096) : (shapeCast S4096 g shapeCasts_S1x4096_S4096 (ix1 k) : EReal) = g (ix2 0 k) := by
  pointwise []

theorem flatIn_at (w : FVec Ideal S1x4096x22016 .f32) (k : Fin 4096) (f : Fin 22016) :
    (shapeCast S4096x22016 w shapeCasts_S1x4096x22016_S4096x22016 (ix2 k f) : EReal) = w (ix3 0 k f) := by
  pointwise []

theorem flatOut_at (w : FVec Ideal S1x11008x4096 .f32) (f : Fin 11008) (j : Fin 4096) :
    (shapeCast S11008x4096 w shapeCasts_S1x11008x4096_S11008x4096 (ix2 f j) : EReal) = w (ix3 0 f j) := by
  pointwise []

theorem gain2R_at (k : Fin 4096) : (shapeCast S4096 (m ((c : Thread nD τ).loc main_arg2) : FVec Ideal S1x4096 .f32) shapeCasts_S1x4096_S4096 (ix1 k) : EReal) = gain2 m c k :=
  flat1_at _ k

theorem winR_at (k : Fin 4096) (f : Fin 22016) :
    (shapeCast S4096x22016 (m ((c : Thread nD τ).loc main_arg3) : FVec Ideal S1x4096x22016 .f32) shapeCasts_S1x4096x22016_S4096x22016 (ix2 k f) : EReal) = win m c k f :=
  flatIn_at _ k f

theorem woutR_at (f : Fin 11008) (j : Fin 4096) :
    (shapeCast S11008x4096 (m ((c : Thread nD τ).loc main_arg4) : FVec Ideal S1x11008x4096 .f32) shapeCasts_S1x11008x4096_S11008x4096 (ix2 f j) : EReal) = wout m c f j :=
  flatOut_at _ f j

/-! ## The prompt group, operation by operation -/

/-- The branches' projections under their gates. -/
def pMerge (YA : FVec Ideal S4x2048x2048 .f32) (YB YC : FVec Ideal S4x2048x1024 .f32) (G : FVec Ideal S4x2048x12288 .f32) (WA : FVec Ideal S2048x4096 .f32)
    (WB WC : FVec Ideal S1024x4096 .f32) : FVec Ideal S4x2048x4096 .f32 :=
  addf (addf (mulf (extractStridedSlice S4x2048x4096 ![0, 0, 0] G slices_S4x2048x12288_S4x2048x4096_0_0_0) (Host.dotGeneral dot_S4x2048x2048_S2048x4096_S4x2048x4096_2_0_01_1_n_n none YA WA)) (mulf (extractStridedSlice S4x2048x4096 ![0, 0, 4096] G slices_S4x2048x12288_S4x2048x4096_0_0_4096) (Host.dotGeneral dot_S4x2048x1024_S1024x4096_S4x2048x4096_2_0_01_1_n_n none YB WB))) (mulf (extractStridedSlice S4x2048x4096 ![0, 0, 8192] G slices_S4x2048x12288_S4x2048x4096_0_0_8192) (Host.dotGeneral dot_S4x2048x1024_S1024x4096_S4x2048x4096_2_0_01_1_n_n none YC WC))

/-- The projection of the merge, added to the rows. -/
def pMix (X Z : FVec Ideal S4x2048x4096 .f32) (W : FVec Ideal S4096x4096 .f32) : FVec Ideal S4x2048x4096 .f32 :=
  addf X (Host.dotGeneral dot_S4x2048x4096_S4096x4096_S4x2048x4096_2_0_01_1_n_n none Z W)

theorem pMerge_at (YA : FVec Ideal S4x2048x2048 .f32) (YB YC : FVec Ideal S4x2048x1024 .f32) (G : FVec Ideal S4x2048x12288 .f32) (WA : FVec Ideal S2048x4096 .f32)
    (WB WC : FVec Ideal S1024x4096 .f32) (p : Fin 4) (t : Fin 2048) (j : Fin 4096) : (pMerge YA YB YC G WA WB WC (ix3 p t j) : EReal)
    = merge (fun k => YA (ix3 p t k)) (fun k => YB (ix3 p t k)) (fun k => YC (ix3 p t k)) (fun k => G (ix3 p t k)) (fun k j => WA (ix2 k j))
      (fun k j => WB (ix2 k j)) (fun k j => WC (ix2 k j)) j := by
  unfold merge
  pointwise [pMerge]

theorem pMix_at (X Z : FVec Ideal S4x2048x4096 .f32) (W : FVec Ideal S4096x4096 .f32) (p : Fin 4) (t : Fin 2048) (j : Fin 4096) :
    (pMix X Z W (ix3 p t j) : EReal) = mixed (fun k => X (ix3 p t k)) (fun k => Z (ix3 p t k)) (fun k j => W (ix2 k j)) j := by
  unfold mixed
  pointwise [pMix]

/-- The rows that enter the half step. -/
def pRows : FVec Ideal S4x2048x4096 .f32 :=
  pMix (m ((c : Thread nD τ).loc main_arg0)) (pMerge (m ((c : Thread nD τ).loc main_arg6)) (m ((c : Thread nD τ).loc main_arg8))
    (m ((c : Thread nD τ).loc main_arg10)) (m ((c : Thread nD τ).loc main_arg12)) (shapeCast S2048x4096 (m ((c : Thread nD τ).loc main_arg14)) shapeCasts_S1x2048x4096_S2048x4096)
    (shapeCast S1024x4096 (m ((c : Thread nD τ).loc main_arg15)) shapeCasts_S1x1024x4096_S1024x4096)
    (shapeCast S1024x4096 (m ((c : Thread nD τ).loc main_arg16)) shapeCasts_S1x1024x4096_S1024x4096))
    (shapeCast S4096x4096 (m ((c : Thread nD τ).loc main_arg17)) shapeCasts_S1x4096x4096_S4096x4096)

/-- One such row, from the arguments. -/
def pRow (p : Fin 4) (t : Fin 2048) : Fin 4096 → EReal :=
  mixed (fun k => (m ((c : Thread nD τ).loc main_arg0) : FVec Ideal S4x2048x4096 .f32) (ix3 p t k))
    (merge (fun k => (m ((c : Thread nD τ).loc main_arg6) : FVec Ideal S4x2048x2048 .f32) (ix3 p t k)) (fun k => (m ((c : Thread nD τ).loc main_arg8) : FVec Ideal S4x2048x1024 .f32) (ix3 p t k))
      (fun k => (m ((c : Thread nD τ).loc main_arg10) : FVec Ideal S4x2048x1024 .f32) (ix3 p t k)) (fun k => (m ((c : Thread nD τ).loc main_arg12) : FVec Ideal S4x2048x12288 .f32) (ix3 p t k))
      (wBrA m c) (wBrB m c) (wBrC m c)) (wMix m c)

theorem pRows_at (p : Fin 4) (t : Fin 2048) (j : Fin 4096) : (pRows m c (ix3 p t j) : EReal) = pRow m c p t j := by
  refine (pMix_at _ _ _ p t j).trans ?_
  refine congrArg₂ (fun z w => mixed _ z w j) (funext fun k => ?_) (funext fun k => funext fun j => flatMix_at _ k j)
  refine (pMerge_at _ _ _ _ _ _ _ p t k).trans ?_
  simp only [flatA_at, flatB_at]
  rfl

/-- The normalisation over the channels. -/
def pNorm (X : FVec Ideal S4x2048x4096 .f32) (g : FVec Ideal S4096 .f32) : FVec Ideal S4x2048x4096 .f32 :=
  mulf (mulf X (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf X X) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))

/-- The gate and the up projections. -/
def pIn (H : FVec Ideal S4x2048x4096 .f32) (W : FVec Ideal S4096x22016 .f32) : FVec Ideal S4x2048x22016 .f32 :=
  Host.dotGeneral dot_S4x2048x4096_S4096x22016_S4x2048x22016_2_0_01_1_n_n none H W

/-- The gate through silu, times the up projection. -/
def pAct (G : FVec Ideal S4x2048x22016 .f32) : FVec Ideal S4x2048x11008 .f32 :=
  mulf (mulf (extractStridedSlice S4x2048x11008 ![0, 0, 0] G slices_S4x2048x22016_S4x2048x11008_0_0_0) (Host.divf (broadcastInDim S4x2048x11008 ![] bcast_S_S4x2048x11008 (constant S_ .f32 0x3F800000#32)) (addf (broadcastInDim S4x2048x11008 ![] bcast_S_S4x2048x11008 (constant S_ .f32 0x3F800000#32)) (Host.exp (Host.negf (extractStridedSlice S4x2048x11008 ![0, 0, 0] G slices_S4x2048x22016_S4x2048x11008_0_0_0)))))) (extractStridedSlice S4x2048x11008 ![0, 0, 11008] G slices_S4x2048x22016_S4x2048x11008_0_0_11008)

/-- The half step. -/
def pOut (X : FVec Ideal S4x2048x4096 .f32) (A : FVec Ideal S4x2048x11008 .f32) (W : FVec Ideal S11008x4096 .f32) : FVec Ideal S4x2048x4096 .f32 :=
  addf X (mulf (broadcastInDim S4x2048x4096 ![] bcast_S_S4x2048x4096 (constant S_ .f32 0x3F000000#32)) (Host.dotGeneral dot_S4x2048x11008_S11008x4096_S4x2048x4096_2_0_01_1_n_n none A W))

theorem pNorm_at (X : FVec Ideal S4x2048x4096 .f32) (g : FVec Ideal S4096 .f32) (p : Fin 4) (t : Fin 2048) (j : Fin 4096) :
    (pNorm X g (ix3 p t j) : EReal) = rms (fun k => X (ix3 p t k)) (fun k => g (ix1 k)) j := by
  pointwise [pNorm]
  rfl

theorem pIn_at (H : FVec Ideal S4x2048x4096 .f32) (W : FVec Ideal S4096x22016 .f32) (p : Fin 4) (t : Fin 2048) (f : Fin 22016) :
    (pIn H W (ix3 p t f) : EReal) = ∑ k : Fin 4096, H (ix3 p t k) * W (ix2 k f) := by
  pointwise [pIn]

theorem pAct_at (G : FVec Ideal S4x2048x22016 .f32) (p : Fin 4) (t : Fin 2048) (f : Fin 11008) :
    (pAct G (ix3 p t f) : EReal) = G (ix3 p t ⟨f.val, by omega⟩) * Ideal.logistic (G (ix3 p t ⟨f.val, by omega⟩)) * G (ix3 p t ⟨11008 + f.val, by omega⟩) := by
  pointwise [pAct]
  rfl

theorem pOut_at (X : FVec Ideal S4x2048x4096 .f32) (A : FVec Ideal S4x2048x11008 .f32) (W : FVec Ideal S11008x4096 .f32) (p : Fin 4) (t : Fin 2048) (j : Fin 4096) :
    (pOut X A W (ix3 p t j) : EReal) = X (ix3 p t j) + Ideal.ofBits .f32 0x3F000000#32 * ∑ f : Fin 11008, A (ix3 p t f) * W (ix2 f j) := by
  pointwise [pOut]

theorem prompt_eq : (res_out0 (F := Ideal) m c : FVec Ideal S8192x4096 .f32)
    = shapeCast S8192x4096 (pNorm (pOut (pRows m c)
        (pAct (pIn (pNorm (pRows m c) (shapeCast S4096 (m ((c : Thread nD τ).loc main_arg2)) shapeCasts_S1x4096_S4096))
          (shapeCast S4096x22016 (m ((c : Thread nD τ).loc main_arg3)) shapeCasts_S1x4096x22016_S4096x22016)))
        (shapeCast S11008x4096 (m ((c : Thread nD τ).loc main_arg4)) shapeCasts_S1x11008x4096_S11008x4096)) (m ((c : Thread nD τ).loc main_arg5)))
      shapeCasts_S4x2048x4096_S8192x4096 := rfl

theorem prompt_out (r : Fin 8192) (j : Fin 4096) :
    ((res_out0 (F := Ideal) m c : FVec Ideal S8192x4096 .f32) (ix2 r j) : EReal)
      = rms (half (pRow m c ⟨r.val / 2048, by omega⟩ ⟨r.val % 2048, by omega⟩) (gain2 m c) (win m c) (wout m c)) (gainF m c) j := by
  refine (congrFun (prompt_eq m c) (ix2 r j)).trans ?_
  pointwise []
  rw [pNorm_at]
  refine congrArg (fun x => rms x (gainF m c) j) (funext fun k => ?_)
  rw [pOut_at, pRows_at]
  unfold half
  refine congrArg (fun s : EReal => pRow m c _ _ k + Ideal.ofBits .f32 0x3F000000#32 * s) (Finset.sum_congr rfl fun f _ => ?_)
  refine congrArg₂ (fun a b : EReal => a * b) ?_ (woutR_at m c f k)
  rw [pAct_at]
  simp only [pIn_at, pNorm_at, pRows_at, winR_at, gain2R_at]
  rfl

/-! ## The sample group, operation by operation -/

/-- The branches' projections under their gates. -/
def sMerge (YA : FVec Ideal S128x4x2048 .f32) (YB YC : FVec Ideal S128x4x1024 .f32) (G : FVec Ideal S128x4x12288 .f32) (WA : FVec Ideal S2048x4096 .f32)
    (WB WC : FVec Ideal S1024x4096 .f32) : FVec Ideal S128x4x4096 .f32 :=
  addf (addf (mulf (extractStridedSlice S128x4x4096 ![0, 0, 0] G slices_S128x4x12288_S128x4x4096_0_0_0) (Host.dotGeneral dot_S128x4x2048_S2048x4096_S128x4x4096_2_0_01_1_n_n none YA WA)) (mulf (extractStridedSlice S128x4x4096 ![0, 0, 4096] G slices_S128x4x12288_S128x4x4096_0_0_4096) (Host.dotGeneral dot_S128x4x1024_S1024x4096_S128x4x4096_2_0_01_1_n_n none YB WB))) (mulf (extractStridedSlice S128x4x4096 ![0, 0, 8192] G slices_S128x4x12288_S128x4x4096_0_0_8192) (Host.dotGeneral dot_S128x4x1024_S1024x4096_S128x4x4096_2_0_01_1_n_n none YC WC))

/-- The projection of the merge, added to the rows. -/
def sMix (X Z : FVec Ideal S128x4x4096 .f32) (W : FVec Ideal S4096x4096 .f32) : FVec Ideal S128x4x4096 .f32 :=
  addf X (Host.dotGeneral dot_S128x4x4096_S4096x4096_S128x4x4096_2_0_01_1_n_n none Z W)

theorem sMerge_at (YA : FVec Ideal S128x4x2048 .f32) (YB YC : FVec Ideal S128x4x1024 .f32) (G : FVec Ideal S128x4x12288 .f32) (WA : FVec Ideal S2048x4096 .f32)
    (WB WC : FVec Ideal S1024x4096 .f32) (p : Fin 128) (t : Fin 4) (j : Fin 4096) : (sMerge YA YB YC G WA WB WC (ix3 p t j) : EReal)
    = merge (fun k => YA (ix3 p t k)) (fun k => YB (ix3 p t k)) (fun k => YC (ix3 p t k)) (fun k => G (ix3 p t k)) (fun k j => WA (ix2 k j))
      (fun k j => WB (ix2 k j)) (fun k j => WC (ix2 k j)) j := by
  unfold merge
  pointwise [sMerge]

theorem sMix_at (X Z : FVec Ideal S128x4x4096 .f32) (W : FVec Ideal S4096x4096 .f32) (p : Fin 128) (t : Fin 4) (j : Fin 4096) :
    (sMix X Z W (ix3 p t j) : EReal) = mixed (fun k => X (ix3 p t k)) (fun k => Z (ix3 p t k)) (fun k j => W (ix2 k j)) j := by
  unfold mixed
  pointwise [sMix]

/-- The rows that enter the half step. -/
def sRows : FVec Ideal S128x4x4096 .f32 :=
  sMix (m ((c : Thread nD τ).loc main_arg1)) (sMerge (m ((c : Thread nD τ).loc main_arg7)) (m ((c : Thread nD τ).loc main_arg9))
    (m ((c : Thread nD τ).loc main_arg11)) (m ((c : Thread nD τ).loc main_arg13)) (shapeCast S2048x4096 (m ((c : Thread nD τ).loc main_arg14)) shapeCasts_S1x2048x4096_S2048x4096)
    (shapeCast S1024x4096 (m ((c : Thread nD τ).loc main_arg15)) shapeCasts_S1x1024x4096_S1024x4096)
    (shapeCast S1024x4096 (m ((c : Thread nD τ).loc main_arg16)) shapeCasts_S1x1024x4096_S1024x4096))
    (shapeCast S4096x4096 (m ((c : Thread nD τ).loc main_arg17)) shapeCasts_S1x4096x4096_S4096x4096)

/-- One such row, from the arguments. -/
def sRow (p : Fin 128) (t : Fin 4) : Fin 4096 → EReal :=
  mixed (fun k => (m ((c : Thread nD τ).loc main_arg1) : FVec Ideal S128x4x4096 .f32) (ix3 p t k))
    (merge (fun k => (m ((c : Thread nD τ).loc main_arg7) : FVec Ideal S128x4x2048 .f32) (ix3 p t k)) (fun k => (m ((c : Thread nD τ).loc main_arg9) : FVec Ideal S128x4x1024 .f32) (ix3 p t k))
      (fun k => (m ((c : Thread nD τ).loc main_arg11) : FVec Ideal S128x4x1024 .f32) (ix3 p t k)) (fun k => (m ((c : Thread nD τ).loc main_arg13) : FVec Ideal S128x4x12288 .f32) (ix3 p t k))
      (wBrA m c) (wBrB m c) (wBrC m c)) (wMix m c)

theorem sRows_at (p : Fin 128) (t : Fin 4) (j : Fin 4096) : (sRows m c (ix3 p t j) : EReal) = sRow m c p t j := by
  refine (sMix_at _ _ _ p t j).trans ?_
  refine congrArg₂ (fun z w => mixed _ z w j) (funext fun k => ?_) (funext fun k => funext fun j => flatMix_at _ k j)
  refine (sMerge_at _ _ _ _ _ _ _ p t k).trans ?_
  simp only [flatA_at, flatB_at]
  rfl

/-- The normalisation over the channels. -/
def sNorm (X : FVec Ideal S128x4x4096 .f32) (g : FVec Ideal S4096 .f32) : FVec Ideal S128x4x4096 .f32 :=
  mulf (mulf X (broadcastInDim S128x4x4096 ![0, 1, 2] bcast_S128x4x1_S128x4x4096_0_1_2 (Host.rsqrt (addf (Host.divf (broadcastInDim S128x4x1 ![0, 1] bcast_S128x4_S128x4x1_0_1 (Host.reduceAdd (mulf X X) (constant S_ .f32 0x00000000#32) reducesTo_S128x4x4096_S128x4_d2 h_S_)) (broadcastInDim S128x4x1 ![] bcast_S_S128x4x1 (constant S_ .f32 0x45800000#32))) (broadcastInDim S128x4x1 ![] bcast_S_S128x4x1 (constant S_ .f32 0x358637BD#32)))))) (broadcastInDim S128x4x4096 ![0, 1, 2] bcast_S1x1x4096_S128x4x4096_0_1_2 (broadcastInDim S1x1x4096 ![2] bcast_S4096_S1x1x4096_2 g))

/-- The gate and the up projections. -/
def sIn (H : FVec Ideal S128x4x4096 .f32) (W : FVec Ideal S4096x22016 .f32) : FVec Ideal S128x4x22016 .f32 :=
  Host.dotGeneral dot_S128x4x4096_S4096x22016_S128x4x22016_2_0_01_1_n_n none H W

/-- The gate through silu, times the up projection. -/
def sAct (G : FVec Ideal S128x4x22016 .f32) : FVec Ideal S128x4x11008 .f32 :=
  mulf (mulf (extractStridedSlice S128x4x11008 ![0, 0, 0] G slices_S128x4x22016_S128x4x11008_0_0_0) (Host.divf (broadcastInDim S128x4x11008 ![] bcast_S_S128x4x11008 (constant S_ .f32 0x3F800000#32)) (addf (broadcastInDim S128x4x11008 ![] bcast_S_S128x4x11008 (constant S_ .f32 0x3F800000#32)) (Host.exp (Host.negf (extractStridedSlice S128x4x11008 ![0, 0, 0] G slices_S128x4x22016_S128x4x11008_0_0_0)))))) (extractStridedSlice S128x4x11008 ![0, 0, 11008] G slices_S128x4x22016_S128x4x11008_0_0_11008)

/-- The half step. -/
def sOut (X : FVec Ideal S128x4x4096 .f32) (A : FVec Ideal S128x4x11008 .f32) (W : FVec Ideal S11008x4096 .f32) : FVec Ideal S128x4x4096 .f32 :=
  addf X (mulf (broadcastInDim S128x4x4096 ![] bcast_S_S128x4x4096 (constant S_ .f32 0x3F000000#32)) (Host.dotGeneral dot_S128x4x11008_S11008x4096_S128x4x4096_2_0_01_1_n_n none A W))

theorem sNorm_at (X : FVec Ideal S128x4x4096 .f32) (g : FVec Ideal S4096 .f32) (p : Fin 128) (t : Fin 4) (j : Fin 4096) :
    (sNorm X g (ix3 p t j) : EReal) = rms (fun k => X (ix3 p t k)) (fun k => g (ix1 k)) j := by
  pointwise [sNorm]
  rfl

theorem sIn_at (H : FVec Ideal S128x4x4096 .f32) (W : FVec Ideal S4096x22016 .f32) (p : Fin 128) (t : Fin 4) (f : Fin 22016) :
    (sIn H W (ix3 p t f) : EReal) = ∑ k : Fin 4096, H (ix3 p t k) * W (ix2 k f) := by
  pointwise [sIn]

theorem sAct_at (G : FVec Ideal S128x4x22016 .f32) (p : Fin 128) (t : Fin 4) (f : Fin 11008) :
    (sAct G (ix3 p t f) : EReal) = G (ix3 p t ⟨f.val, by omega⟩) * Ideal.logistic (G (ix3 p t ⟨f.val, by omega⟩)) * G (ix3 p t ⟨11008 + f.val, by omega⟩) := by
  pointwise [sAct]
  rfl

theorem sOut_at (X : FVec Ideal S128x4x4096 .f32) (A : FVec Ideal S128x4x11008 .f32) (W : FVec Ideal S11008x4096 .f32) (p : Fin 128) (t : Fin 4) (j : Fin 4096) :
    (sOut X A W (ix3 p t j) : EReal) = X (ix3 p t j) + Ideal.ofBits .f32 0x3F000000#32 * ∑ f : Fin 11008, A (ix3 p t f) * W (ix2 f j) := by
  pointwise [sOut]

theorem sample_eq : (res_out1 (F := Ideal) m c : FVec Ideal S512x4096 .f32)
    = shapeCast S512x4096 (sNorm (sOut (sRows m c)
        (sAct (sIn (sNorm (sRows m c) (shapeCast S4096 (m ((c : Thread nD τ).loc main_arg2)) shapeCasts_S1x4096_S4096))
          (shapeCast S4096x22016 (m ((c : Thread nD τ).loc main_arg3)) shapeCasts_S1x4096x22016_S4096x22016)))
        (shapeCast S11008x4096 (m ((c : Thread nD τ).loc main_arg4)) shapeCasts_S1x11008x4096_S11008x4096)) (m ((c : Thread nD τ).loc main_arg5)))
      shapeCasts_S128x4x4096_S512x4096 := rfl

theorem sample_out (r : Fin 512) (j : Fin 4096) :
    ((res_out1 (F := Ideal) m c : FVec Ideal S512x4096 .f32) (ix2 r j) : EReal)
      = rms (half (sRow m c ⟨r.val / 4, by omega⟩ ⟨r.val % 4, by omega⟩) (gain2 m c) (win m c) (wout m c)) (gainF m c) j := by
  refine (congrFun (sample_eq m c) (ix2 r j)).trans ?_
  pointwise []
  rw [sNorm_at]
  refine congrArg (fun x => rms x (gainF m c) j) (funext fun k => ?_)
  rw [sOut_at, sRows_at]
  unfold half
  refine congrArg (fun s : EReal => sRow m c _ _ k + Ideal.ofBits .f32 0x3F000000#32 * s) (Finset.sum_congr rfl fun f _ => ?_)
  refine congrArg₂ (fun a b : EReal => a * b) ?_ (woutR_at m c f k)
  rw [sAct_at]
  simp only [sIn_at, sNorm_at, sRows_at, winR_at, gain2R_at]
  rfl

end Cert.Reference2Ideal.Hand

end
-- ==== Proof.TailFinal.lean ====
module

public import proofs.«01_k».proof.Defs
public import proofs.«01_k».proof.Proof.KTailRun
public import proofs.«01_k».proof.Proof.RTail
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import Idealize.ShloMosaic.Adequacy
public import Idealize.ShloMosaic.Init

@[expose] public section

set_option maxRecDepth 65536

noncomputable section

/-! The claims about the merge, the second feed-forward step and the last norm. -/

namespace Cert.Proof

open Idealize.ShloMosaic Idealize.ShloMosaic.TcCoe Idealize.SL.Sem

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

/-- The reference is host operations alone and declares no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The launches' results are the reference's, for any arguments. -/
theorem algebraic2 : Cert.algebraic_Kernel2Ideal_Reference2Ideal := by
  intro m g m' g' hpre hagree
  have hout : ∀ (c : Dev Cert.Kernel2Ideal.nD) (x : Fin 4096 → EReal) (j : Fin 4096),
      Cert.Ffn.rms (Cert.Ffn.half x (Cert.Reference2Ideal.Hand.gain2 m' c) (Cert.Reference2Ideal.Hand.win m' c) (Cert.Reference2Ideal.Hand.wout m' c))
          (Cert.Reference2Ideal.Hand.gainF m' c) j
        = Cert.Ffn.rms (Cert.Ffn.half x (Cert.Kernel2Ideal.Hand.gain2 m c) (Cert.Kernel2Ideal.Hand.win m c) (Cert.Kernel2Ideal.Hand.wout m c))
          (Cert.Kernel2Ideal.Hand.gainF m c) j := fun c x j => by
    obtain ⟨-, -, h2, h3, h4, h5, -⟩ := hagree c
    have e2 : Cert.Reference2Ideal.Hand.gain2 m' c = Cert.Kernel2Ideal.Hand.gain2 m c := funext fun k => congrFun h2 (ix2 0 k)
    have e3 : Cert.Reference2Ideal.Hand.win m' c = Cert.Kernel2Ideal.Hand.win m c := funext fun k => funext fun f => congrFun h3 (ix3 0 k f)
    have e4 : Cert.Reference2Ideal.Hand.wout m' c = Cert.Kernel2Ideal.Hand.wout m c := funext fun f => funext fun j => congrFun h4 (ix3 0 f j)
    have e5 : Cert.Reference2Ideal.Hand.gainF m' c = Cert.Kernel2Ideal.Hand.gainF m c := funext fun k => congrFun h5 (ix1 k)
    rw [e2, e3, e4, e5]
  have hbr : ∀ c : Dev Cert.Kernel2Ideal.nD, Cert.Reference2Ideal.Hand.wBrA m' c = Cert.Kernel2Ideal.Hand.wBrA m c
      ∧ Cert.Reference2Ideal.Hand.wBrB m' c = Cert.Kernel2Ideal.Hand.wBrB m c ∧ Cert.Reference2Ideal.Hand.wBrC m' c = Cert.Kernel2Ideal.Hand.wBrC m c
      ∧ Cert.Reference2Ideal.Hand.wMix m' c = Cert.Kernel2Ideal.Hand.wMix m c := fun c => by
    obtain ⟨-, -, -, -, -, -, -, -, -, -, -, -, -, -, h14, h15, h16, h17⟩ := hagree c
    exact ⟨funext fun k => funext fun j => congrFun h14 (ix3 0 k j), funext fun k => funext fun j => congrFun h15 (ix3 0 k j),
      funext fun k => funext fun j => congrFun h16 (ix3 0 k j), funext fun k => funext fun j => congrFun h17 (ix3 0 k j)⟩
  refine ⟨fun c => Cert.Kernel2Ideal.Gen.W14 m g c (Proc.devRef .tc Cert.Kernel2Ideal.main_v33),
    fun c => Cert.Kernel2Ideal.Gen.W14 m g c (Proc.devRef .tc Cert.Kernel2Ideal.main_v35), ?_, ?_⟩
  · exact θ_run_mono (θ_run_and (Cert.Kernel2Ideal.Hand.run_all m g) (frame_ideal2 m g hpre)) fun r hr c =>
      ⟨hr.1.1 c _ (Cert.Kernel2Ideal.Gen.mem_uc Cert.Kernel2Ideal.main_v33 (by decide)),
        hr.1.1 c _ (Cert.Kernel2Ideal.Gen.mem_uc Cert.Kernel2Ideal.main_v35 (by decide)), hr.2.1 c⟩
  · refine θ_run_mono (Cert.Reference2Ideal.Value.run m' g') fun r h c => ⟨(h c).1.trans ?_, (h c).2.1.trans ?_, (h c).2.2⟩
    · refine funext fun y => ?_
      idx_vars y
      refine (Cert.Reference2Ideal.Hand.prompt_out m' c y0 y1).trans ((hout c _ y1).trans ?_)
      obtain ⟨eA, eB, eC, eM⟩ := hbr c
      obtain ⟨h0, -, -, -, -, -, h6, -, h8, -, h10, -, h12, -⟩ := hagree c
      unfold Cert.Reference2Ideal.Hand.pRow
      rw [eA, eB, eC, eM, h0, h6, h8, h10, h12]
      exact (Cert.Kernel2Ideal.Hand.prompt_out m g c y0 y1).symm
    · refine funext fun y => ?_
      idx_vars y
      refine (Cert.Reference2Ideal.Hand.sample_out m' c y0 y1).trans ((hout c _ y1).trans ?_)
      obtain ⟨eA, eB, eC, eM⟩ := hbr c
      obtain ⟨-, h1, -, -, -, -, -, h7, -, h9, -, h11, -, h13, -⟩ := hagree c
      unfold Cert.Reference2Ideal.Hand.sRow
      rw [eA, eB, eC, eM, h1, h7, h9, h11, h13]
      exact (Cert.Kernel2Ideal.Hand.sample_out m g c y0 y1).symm

end Cert.Proof

end
-- ==== Proof.KMem.lean ====
module

public import proofs.«01_k».proof.Proof.Gen.Kernel3Ideal.Frame
public import proofs.«01_k».proof.Proof.Ffn
public import Idealize.ShloMosaic.Lib.Pipeline.ValueKit
public import Idealize.ShloMosaic.Lib.Claim

@[expose] public section

set_option maxRecDepth 65536

noncomputable section

/-! The keys and values of the memory tokens: what the two launches leave, and what the two results hold after the run. -/

namespace Cert.Kernel3Ideal.Hand

open Cert.Kernel3Ideal Cert.Kernel3Ideal.Gen Cert.Ffn
open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat)

section Launches

variable (V : (c : Dev nD) → (b : Ref sig .tc) → Buf (Elt Ideal) ((c : Thread nD τ).loc b)) (c : Dev nD)

/-! ## The normalisation of the memory tokens -/

theorem idx0 : ∀ t : Fin cfg0.N, win0_0.index t = ![t.val, 0] ∧ win0_1.index t = ![0, 0] ∧ win0_2.index t = ![t.val, 0] ∧ t.val < 4 :=
  (by decide +kernel : ∀ t : Fin grid0.N, _)

/-- Row `r` of the block of rows at a point. -/
abbrev row0 (t : Fin cfg0.N) (r : Fin 256) : Fin 1024 := ⟨t.val * 256 + r.val, by have := (idx0 t).2.2.2; omega⟩

theorem pay0 (x : FVec Ideal S256x4096 .f32) (g : FVec Ideal S1x4096 .f32) (r : Fin 256) (j : Fin 4096) :
    (k0_pay1 (F := Ideal) x g (ix2 r j) : EReal) = rms (fun k => x (ix2 r k)) (fun k => g (ix2 0 k)) j := by
  pointwise [k0_pay1]
  rfl

theorem blk0_0 (t : Fin cfg0.N) (r : Fin 256) (k : Fin 4096) :
    (iblk0 V c 0 t : FVec Ideal S256x4096 .f32) (ix2 r k) = (V c main_v0 : FVec Ideal S1024x4096 .f32) (ix2 (row0 t r) k) := by
  blk_simp [iblk0, idx0 t]
  blk_ext [idx0 t]

theorem blk0_1 (t : Fin cfg0.N) (k : Fin 4096) :
    (iblk0 V c 1 t : FVec Ideal S1x4096 .f32) (ix2 0 k) = (V c main_v2 : FVec Ideal S1x4096 .f32) (ix2 0 k) := by
  blk_simp [iblk0, idx0 t]
  blk_ext [idx0 t]

/-- The tokens normalised. -/
def norm0 : FVec Ideal S1024x4096 .bf16 := fun y =>
  rms (fun k => (V c main_v0 : FVec Ideal S1024x4096 .f32) (ix2 (y 0) k)) (fun k => (V c main_v2 : FVec Ideal S1x4096 .f32) (ix2 0 k)) (y 1)

theorem final0 : (dat0 V c).arrAt 2 cfg0.N = norm0 V c :=
  Dat.arrAt_eq_of_covers (dat0 V c) 2 (norm0 V c) (by decide +kernel) fun t _ y => by
    blk_simp
    rw [after0_2]
    idx_vars y
    frame_out
    rw [show (win0_2.blk t).view.emb (ix2 y0 y1) = ix2 (row0 t y0) y1 from by blk_ext [idx0 t]]
    refine (pay0 _ _ _ _).trans ?_
    simp only [blk0_0, blk0_1]
    rfl

/-! ## Keys and values in one product -/

theorem idx1 : ∀ t : Fin cfg1.N, win1_0.index t = ![0, 0] ∧ win1_1.index t = ![0, t.val] ∧ win1_2.index t = ![0, t.val] ∧ t.val < 4 :=
  (by decide +kernel : ∀ t : Fin grid1.N, _)

/-- Column `j` of the block of columns at a point. -/
abbrev col1 (t : Fin cfg1.N) (j : Fin 512) : Fin 2048 := ⟨t.val * 512 + j.val, by have := (idx1 t).2.2.2; omega⟩

theorem pay1 (x : FVec Ideal S1024x4096 .bf16) (w : FVec Ideal S4096x512 .f32) (r : Fin 1024) (j : Fin 512) :
    (k1_pay1 (F := Ideal) x w (ix2 r j) : EReal) = dot (fun k => x (ix2 r k)) (fun k => w (ix2 k j)) := by
  pointwise [k1_pay1, dot]

theorem blk1_0 (t : Fin cfg1.N) (r : Fin 1024) (k : Fin 4096) :
    (iblk1 V c 0 t : FVec Ideal S1024x4096 .bf16) (ix2 r k) = (V c main_v3 : FVec Ideal S1024x4096 .bf16) (ix2 r k) := by
  blk_simp [iblk1, idx1 t]
  blk_ext [idx1 t]

theorem blk1_1 (t : Fin cfg1.N) (k : Fin 4096) (j : Fin 512) :
    (iblk1 V c 1 t : FVec Ideal S4096x512 .f32) (ix2 k j) = (V c main_v4 : FVec Ideal S4096x2048 .f32) (ix2 k (col1 t j)) := by
  blk_simp [iblk1, idx1 t]
  blk_ext [idx1 t]

/-- Every token's keys and values. -/
def prod1 : FVec Ideal S1024x2048 .f32 := fun y =>
  dot (fun k => (V c main_v3 : FVec Ideal S1024x4096 .bf16) (ix2 (y 0) k)) (fun k => (V c main_v4 : FVec Ideal S4096x2048 .f32) (ix2 k (y 1)))

theorem final1 : (dat1 V c).arrAt 2 cfg1.N = prod1 V c :=
  Dat.arrAt_eq_of_covers (dat1 V c) 2 (prod1 V c) (by decide +kernel) fun t _ y => by
    blk_simp
    rw [after1_2]
    idx_vars y
    frame_out
    rw [show (win1_2.blk t).view.emb (ix2 y0 y1) = ix2 y0 (col1 t y1) from by blk_ext [idx1 t]]
    refine (pay1 _ _ _ _).trans ?_
    simp only [blk1_0, blk1_1]
    rfl

theorem norm0_at (r : Fin 1024) (j : Fin 4096) : (norm0 V c (ix2 r j) : EReal)
    = rms (fun k => (V c main_v0 : FVec Ideal S1024x4096 .f32) (ix2 r k)) (fun k => (V c main_v2 : FVec Ideal S1x4096 .f32) (ix2 0 k)) j := rfl

theorem prod1_at (r : Fin 1024) (j : Fin 2048) : (prod1 V c (ix2 r j) : EReal)
    = dot (fun k => (V c main_v3 : FVec Ideal S1024x4096 .bf16) (ix2 r k)) (fun k => (V c main_v4 : FVec Ideal S4096x2048 .f32) (ix2 k j)) := rfl

end Launches

section Run

variable {F : FTy → Type} [FloatOps F]

local notation "𝕄" => MT nD τ sig Unit (Elt F) ℕ (UR sig nD τ) ℕ

set_option backward.isDefEq.respectTransparency.types false in
/-- The run over any values: every buffer that is no launch's own ends at the last boundary's contents, every counter at zero. -/
theorem run_all (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-! ## The arrays that the host prepares -/

theorem gain_at (k : Fin 4096) :
    (V1 m ρ c main_v2 : FVec Ideal S1x4096 .f32) (ix2 0 k) = (m ((c : Thread nD τ).loc main_arg1) : FVec Ideal S1x4096 .f32) (ix2 0 k) := by
  rw [show V1 m ρ c main_v2 = StableHlo.after hostOps0 (W0 m ρ c) main_v2 from rfl]
  entry_read
  pointwise []

theorem rows_at (b : Fin 4) (q : Fin 256) (k : Fin 4096) :
    (V1 m ρ c main_v0 : FVec Ideal S1024x4096 .f32) (ix2 ⟨b.val * 256 + q.val, by omega⟩ k)
      = (m ((c : Thread nD τ).loc main_arg0) : FVec Ideal S4x256x4096 .f32) (ix3 b q k) := by
  rw [show V1 m ρ c main_v0 = StableHlo.after hostOps0 (W0 m ρ c) main_v0 from rfl]
  entry_read
  pointwise []

theorem weight_at (k : Fin 4096) (j : Fin 2048) :
    (V3 m ρ c main_v4 : FVec Ideal S4096x2048 .f32) (ix2 k j) = (m ((c : Thread nD τ).loc main_arg2) : FVec Ideal S1x4096x2048 .f32) (ix3 0 k j) := by
  rw [show V3 m ρ c main_v4 = StableHlo.after hostOps1 (W2 m ρ c) main_v4 from rfl]
  entry_read
  rw [W2_args m ρ c main_arg2 (by decide)]
  pointwise []

/-! ## From launch to launch -/

theorem norm_3 : V3 m ρ c main_v3 = norm0 (V1 m ρ) c :=
  (W3_of m ρ c main_v3 (by decide)).trans <| (W2_arr m ρ c 2).trans (final0 _ c)

theorem prod_4 : W4 m ρ c (Proc.devRef .tc main_v5) = prod1 (V3 m ρ) c := (W4_arr m ρ c 2).trans (final1 _ c)

/-- A token's row and a column of the product, from the arguments. -/
def token (b : Fin 4) (q : Fin 256) (k : Fin 4096) : EReal := (m ((c : Thread nD τ).loc main_arg0) : FVec Ideal S4x256x4096 .f32) (ix3 b q k)
def gain (k : Fin 4096) : EReal := (m ((c : Thread nD τ).loc main_arg1) : FVec Ideal S1x4096 .f32) (ix2 0 k)
def weight (k : Fin 4096) (j : Fin 2048) : EReal := (m ((c : Thread nD τ).loc main_arg2) : FVec Ideal S1x4096x2048 .f32) (ix3 0 k j)

theorem prod_at (b : Fin 4) (q : Fin 256) (j : Fin 2048) :
    ((W4 m ρ c (Proc.devRef .tc main_v5) : FVec Ideal S1024x2048 .f32) (ix2 ⟨b.val * 256 + q.val, by omega⟩ j) : EReal)
      = dot (rms (token m c b q) (gain m c)) (fun k => weight m c k j) := by
  rw [prod_4, prod1_at]
  refine congrArg₂ dot (funext fun k => ?_) (funext fun k => weight_at m ρ c k j)
  rw [norm_3]
  exact (norm0_at (V1 m ρ) c _ k).trans
    (congrArg₂ (fun x g => rms x g k) (funext fun k => rows_at m ρ c b q k) (funext fun k => gain_at m ρ c k))

/-- The keys: the first half of the columns, by heads. -/
theorem keys_out (b : Fin 4) (q : Fin 256) (h : Fin 4) (e : Fin 256) :
    ((W5 m ρ c (Proc.devRef .tc main_v10) : FVec Ideal S1x4x256x4x256 .f32) (ix5 0 b q h e) : EReal)
      = dot (rms (token m c b q) (gain m c)) (fun k => weight m c k ⟨h.val * 256 + e.val, by omega⟩) := by
  refine Eq.trans ?_ (prod_at m ρ c b q _)
  rw [show W5 m ρ c (Proc.devRef .tc main_v10) = StableHlo.after hostOps2 (W4 m ρ c) main_v10 from rfl]
  entry_read
  pointwise []

/-- The values: the second half. -/
theorem vals_out (b : Fin 4) (q : Fin 256) (h : Fin 4) (e : Fin 256) :
    ((W5 m ρ c (Proc.devRef .tc main_v11) : FVec Ideal S1x4x256x4x256 .f32) (ix5 0 b q h e) : EReal)
      = dot (rms (token m c b q) (gain m c)) (fun k => weight m c k ⟨1024 + (h.val * 256 + e.val), by omega⟩) := by
  refine Eq.trans ?_ (prod_at m ρ c b q _)
  rw [show W5 m ρ c (Proc.devRef .tc main_v11) = StableHlo.after hostOps2 (W4 m ρ c) main_v11 from rfl]
  entry_read
  pointwise []

end Cert.Kernel3Ideal.Hand

end
-- ==== Proof.RMem.lean ====
module

public import proofs.«01_k».proof.Proof.Ffn
public import proofs.«01_k».proof.Proof.Gen.Reference3Ideal.Run

@[expose] public section

set_option maxRecDepth 65536

noncomputable section

/-! What the reference of the memory tokens' keys and values returns. -/

namespace Cert.Reference3Ideal.Hand

open Cert.Reference3Ideal Cert.Reference3Ideal.Gen Cert.Reference3Ideal.Value Cert.Ffn
open Idealize.ShloMosaic Idealize.ShloMosaic.TcCoe

variable (m : (ℓ : Loc nD τ sig) → Buf (Elt Ideal) ℓ) (c : Dev nD)

/-- A token's row, the gains and the weights as the arguments hold them. -/
def token (b : Fin 4) (q : Fin 256) (k : Fin 4096) : EReal := (m ((c : Thread nD τ).loc main_arg0) : FVec Ideal S4x256x4096 .f32) (ix3 b q k)
def gain (k : Fin 4096) : EReal := (m ((c : Thread nD τ).loc main_arg1) : FVec Ideal S1x4096 .f32) (ix2 0 k)
def weight (k : Fin 4096) (j : Fin 2048) : EReal := (m ((c : Thread nD τ).loc main_arg2) : FVec Ideal S1x4096x2048 .f32) (ix3 0 k j)

/-- The normalisation over the channels. -/
def mNorm (X : FVec Ideal S4x256x4096 .f32) (g : FVec Ideal S1x4096 .f32) : FVec Ideal S4x256x4096 .f32 :=
  mulf (mulf X (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf X X) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 (shapeCast S4096 g shapeCasts_S1x4096_S4096)))

/-- Keys and values in one product. -/
def mKV (H : FVec Ideal S4x256x4096 .f32) (W : FVec Ideal S1x4096x2048 .f32) : FVec Ideal S4x256x2048 .f32 :=
  Host.dotGeneral dot_S4x256x4096_S4096x2048_S4x256x2048_2_0_01_1_n_n none H (shapeCast S4096x2048 W shapeCasts_S1x4096x2048_S4096x2048)

/-- The two halves, by heads. -/
def mKeys (P : FVec Ideal S4x256x2048 .f32) : FVec Ideal S1x4x256x4x256 .f32 :=
  broadcastInDim S1x4x256x4x256 ![1, 2, 3, 4] bcast_S4x256x4x256_S1x4x256x4x256_1_2_3_4 (shapeCast S4x256x4x256 (extractStridedSlice S4x256x1024 ![0, 0, 0] P slices_S4x256x2048_S4x256x1024_0_0_0) shapeCasts_S4x256x1024_S4x256x4x256)
def mVals (P : FVec Ideal S4x256x2048 .f32) : FVec Ideal S1x4x256x4x256 .f32 :=
  broadcastInDim S1x4x256x4x256 ![1, 2, 3, 4] bcast_S4x256x4x256_S1x4x256x4x256_1_2_3_4 (shapeCast S4x256x4x256 (extractStridedSlice S4x256x1024 ![0, 0, 1024] P slices_S4x256x2048_S4x256x1024_0_0_1024) shapeCasts_S4x256x1024_S4x256x4x256)

theorem mNorm_at (X : FVec Ideal S4x256x4096 .f32) (g : FVec Ideal S1x4096 .f32) (b : Fin 4) (q : Fin 256) (j : Fin 4096) :
    (mNorm X g (ix3 b q j) : EReal) = rms (fun k => X (ix3 b q k)) (fun k => g (ix2 0 k)) j := by
  pointwise [mNorm]
  rfl

theorem mKV_at (H : FVec Ideal S4x256x4096 .f32) (W : FVec Ideal S1x4096x2048 .f32) (b : Fin 4) (q : Fin 256) (j : Fin 2048) :
    (mKV H W (ix3 b q j) : EReal) = dot (fun k => H (ix3 b q k)) (fun k => W (ix3 0 k j)) := by
  pointwise [mKV, dot]

theorem mKeys_at (P : FVec Ideal S4x256x2048 .f32) (b : Fin 4) (q : Fin 256) (h : Fin 4) (e : Fin 256) :
    (mKeys P (ix5 0 b q h e) : EReal) = P (ix3 b q ⟨h.val * 256 + e.val, by omega⟩) := by
  pointwise [mKeys]

theorem mVals_at (P : FVec Ideal S4x256x2048 .f32) (b : Fin 4) (q : Fin 256) (h : Fin 4) (e : Fin 256) :
    (mVals P (ix5 0 b q h e) : EReal) = P (ix3 b q ⟨1024 + (h.val * 256 + e.val), by omega⟩) := by
  pointwise [mVals]

/-- The product from the arguments. -/
def kv : FVec Ideal S4x256x2048 .f32 :=
  mKV (mNorm (m ((c : Thread nD τ).loc main_arg0)) (m ((c : Thread nD τ).loc main_arg1))) (m ((c : Thread nD τ).loc main_arg2))

theorem kv_at (b : Fin 4) (q : Fin 256) (j : Fin 2048) :
    (kv m c (ix3 b q j) : EReal) = dot (rms (token m c b q) (gain m c)) (fun k => weight m c k j) :=
  (mKV_at _ _ b q j).trans (congrArg (fun x => dot x _) (funext fun k => mNorm_at _ _ b q k))

theorem keys_out (b : Fin 4) (q : Fin 256) (h : Fin 4) (e : Fin 256) :
    (mKeys (kv m c) (ix5 0 b q h e) : EReal) = dot (rms (token m c b q) (gain m c)) (fun k => weight m c k ⟨h.val * 256 + e.val, by omega⟩) :=
  (mKeys_at _ b q h e).trans (kv_at m c b q _)

theorem vals_out (b : Fin 4) (q : Fin 256) (h : Fin 4) (e : Fin 256) :
    (mVals (kv m c) (ix5 0 b q h e) : EReal) = dot (rms (token m c b q) (gain m c)) (fun k => weight m c k ⟨1024 + (h.val * 256 + e.val), by omega⟩) :=
  (mVals_at _ b q h e).trans (kv_at m c b q _)

end Cert.Reference3Ideal.Hand

end
-- ==== Proof.MemFinal.lean ====
module

public import proofs.«01_k».proof.Defs
public import proofs.«01_k».proof.Proof.KMem
public import proofs.«01_k».proof.Proof.RMem
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import Idealize.ShloMosaic.Adequacy
public import Idealize.ShloMosaic.Init

@[expose] public section

set_option maxRecDepth 65536

noncomputable section

/-! The claims about the memory tokens' keys and values. -/

namespace Cert.Proof

open Idealize.ShloMosaic Idealize.ShloMosaic.TcCoe Idealize.SL.Sem

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

/-- The reference is host operations alone and declares no semaphore. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The launches' keys and values are the reference's, for any arguments. -/
theorem algebraic3 : Cert.algebraic_Kernel3Ideal_Reference3Ideal := by
  intro m g m' g' hpre hagree
  refine ⟨fun c => Cert.Kernel3Ideal.Gen.W5 m g c (Proc.devRef .tc Cert.Kernel3Ideal.main_v10),
    fun c => Cert.Kernel3Ideal.Gen.W5 m g c (Proc.devRef .tc Cert.Kernel3Ideal.main_v11), ?_, ?_⟩
  · exact θ_run_mono (θ_run_and (Cert.Kernel3Ideal.Hand.run_all m g) (frame_ideal3 m g hpre)) fun r hr c =>
      ⟨hr.1.1 c _ (Cert.Kernel3Ideal.Gen.mem_uc Cert.Kernel3Ideal.main_v10 (by decide)),
        hr.1.1 c _ (Cert.Kernel3Ideal.Gen.mem_uc Cert.Kernel3Ideal.main_v11 (by decide)), hr.2.1 c⟩
  · refine θ_run_mono (Cert.Reference3Ideal.Value.run m' g') fun r h c => ?_
    obtain ⟨h0, h1, h2⟩ := hagree c
    have e0 : ∀ b q, Cert.Reference3Ideal.Hand.token m' c b q = Cert.Kernel3Ideal.Hand.token m c b q := fun b q => funext fun k => congrFun h0 (ix3 b q k)
    have e1 : Cert.Reference3Ideal.Hand.gain m' c = Cert.Kernel3Ideal.Hand.gain m c := funext fun k => congrFun h1 (ix2 0 k)
    have e2 : Cert.Reference3Ideal.Hand.weight m' c = Cert.Kernel3Ideal.Hand.weight m c := funext fun k => funext fun j => congrFun h2 (ix3 0 k j)
    refine ⟨(h c).1.trans ?_, (h c).2.1.trans ?_, (h c).2.2⟩
    · change Cert.Reference3Ideal.Hand.mKeys (Cert.Reference3Ideal.Hand.kv m' c) = _
      refine funext fun y => ?_
      idx_vars y
      obtain rfl : y0 = 0 := Subsingleton.elim _ _
      refine (Cert.Reference3Ideal.Hand.keys_out m' c y1 y2 y3 y4).trans ?_
      rw [e0, e1, e2]
      exact (Cert.Kernel3Ideal.Hand.keys_out m g c y1 y2 y3 y4).symm
    · change Cert.Reference3Ideal.Hand.mVals (Cert.Reference3Ideal.Hand.kv m' c) = _
      refine funext fun y => ?_
      idx_vars y
      obtain rfl : y0 = 0 := Subsingleton.elim _ _
      refine (Cert.Reference3Ideal.Hand.vals_out m' c y1 y2 y3 y4).trans ?_
      rw [e0, e1, e2]
      exact (Cert.Kernel3Ideal.Hand.vals_out m g c y1 y2 y3 y4).symm

end Cert.Proof

end
-- ==== Proof.KFront.lean ====
module

public import proofs.«01_k».proof.Proof.Gen.Kernel4Ideal.Frame
public import proofs.«01_k».proof.Proof.Ffn
public import Idealize.ShloMosaic.Lib.Pipeline.ValueKit

@[expose] public section

set_option maxRecDepth 65536

noncomputable section

/-! What each launch of the layer's front leaves in its array, from any contents at its entry. -/

namespace Cert.Kernel4Ideal.Hand

open Cert.Kernel4Ideal Cert.Kernel4Ideal.Gen Cert.Ffn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The first launch: the two groups' rows one after the other, and the same normalised -/

theorem idx0 : ∀ t : Fin cfg0.N, win0_0.index t = ![min t.val 31, 0] ∧ win0_1.index t = ![t.val - 32, 0] ∧ win0_2.index t = ![0, 0]
    ∧ win0_3.index t = ![t.val, 0] ∧ win0_4.index t = ![t.val, 0] ∧ t.val < 34 :=
  (by decide +kernel : ∀ t : Fin grid0.N, _)

/-- Row `r` of the block of rows at a point. -/
abbrev row0 (t : Fin cfg0.N) (r : Fin 256) : Fin 8704 := ⟨t.val * 256 + r.val, by have := (idx0 t).2.2.2.2.2; omega⟩

theorem pay0_1 (x : FVec Ideal S256x4096 .f32) (r : Fin 256) (j : Fin 4096) : k0_pay1 (F := Ideal) x (ix2 r j) = x (ix2 r j) := by
  pointwise [k0_pay1]

theorem pay0_3 (x : FVec Ideal S256x4096 .f32) (r : Fin 256) (j : Fin 4096) : k0_pay3 (F := Ideal) x (ix2 r j) = x (ix2 r j) := by
  pointwise [k0_pay3]

theorem pay0_2 (x : FVec Ideal S256x4096 .f32) (g : FVec Ideal S1x4096 .f32) (r : Fin 256) (j : Fin 4096) :
    (k0_pay2 (F := Ideal) x g (ix2 r j) : EReal) = rms (fun k => x (ix2 r k)) (fun k => g (ix2 0 k)) j := by
  pointwise [k0_pay2, k0_pay1]
  rfl

theorem pay0_4 (x : FVec Ideal S256x4096 .f32) (g : FVec Ideal S1x4096 .f32) (r : Fin 256) (j : Fin 4096) :
    (k0_pay4 (F := Ideal) x g (ix2 r j) : EReal) = rms (fun k => x (ix2 r k)) (fun k => g (ix2 0 k)) j := by
  pointwise [k0_pay4, k0_pay3]
  rfl

theorem blk0_0 (t : Fin cfg0.N) (ht : t.val < 32) (r : Fin 256) (k : Fin 4096) :
    (iblk0 V c 0 t : FVec Ideal S256x4096 .f32) (ix2 r k) = (V c main_v0 : FVec Ideal S8192x4096 .f32) (ix2 ⟨t.val * 256 + r.val, by omega⟩ k) := by
  have e : win0_0.index t = ![t.val, 0] := (idx0 t).1.trans (by rw [Nat.min_eq_left (by omega)])
  blk_simp [iblk0]
  blk_ext [e]

theorem blk0_1 (t : Fin cfg0.N) (r : Fin 256) (k : Fin 4096) :
    (iblk0 V c 1 t : FVec Ideal S256x4096 .f32) (ix2 r k)
      = (V c main_v1 : FVec Ideal S512x4096 .f32) (ix2 ⟨(t.val - 32) * 256 + r.val, by have := (idx0 t).2.2.2.2.2; omega⟩ k) := by
  blk_simp [iblk0, idx0 t]
  blk_ext [idx0 t]

theorem blk0_2 (t : Fin cfg0.N) (k : Fin 4096) :
    (iblk0 V c 2 t : FVec Ideal S1x4096 .f32) (ix2 0 k) = (V c main_v3 : FVec Ideal S1x4096 .f32) (ix2 0 k) := by
  blk_simp [iblk0, idx0 t]
  blk_ext [idx0 t]

/-- The two groups' rows one after the other. -/
def rows0 : FVec Ideal S8704x4096 .f32 := fun y =>
  if h : (y 0).val < 8192 then (V c main_v0 : FVec Ideal S8192x4096 .f32) (ix2 ⟨(y 0).val, h⟩ (y 1))
  else (V c main_v1 : FVec Ideal S512x4096 .f32) (ix2 ⟨(y 0).val - 8192, by have : (y 0).val < 8704 := (y 0).isLt; omega⟩ (y 1))

/-- The same rows normalised. -/
def norm0 : FVec Ideal S8704x4096 .bf16 := fun y =>
  rms (fun k => rows0 V c (ix2 (y 0) k)) (fun k => (V c main_v3 : FVec Ideal S1x4096 .f32) (ix2 0 k)) (y 1)

theorem rows0_prompt (t : Fin cfg0.N) (ht : t.val < 32) (r : Fin 256) (k : Fin 4096) :
    rows0 V c (ix2 (row0 t r) k) = (V c main_v0 : FVec Ideal S8192x4096 .f32) (ix2 ⟨t.val * 256 + r.val, by omega⟩ k) :=
  dif_pos (show t.val * 256 + r.val < 8192 by omega)

theorem rows0_sample (t : Fin cfg0.N) (ht : 32 ≤ t.val) (r : Fin 256) (k : Fin 4096) :
    rows0 V c (ix2 (row0 t r) k)
      = (V c main_v1 : FVec Ideal S512x4096 .f32) (ix2 ⟨(t.val - 32) * 256 + r.val, by have := (idx0 t).2.2.2.2.2; omega⟩ k) :=
  (dif_neg (show ¬ t.val * 256 + r.val < 8192 by omega)).trans
    (congrArg (fun q => (V c main_v1 : FVec Ideal S512x4096 .f32) (ix2 q k)) (Fin.ext (by show t.val * 256 + r.val - 8192 = (t.val - 32) * 256 + r.val; omega)))

theorem final0_3 : (dat0 V c).arrAt 3 cfg0.N = rows0 V c :=
  Dat.arrAt_eq_of_covers (dat0 V c) 3 (rows0 V c) (by decide +kernel) fun t _ y => by
    blk_simp
    rw [after0_3]
    idx_vars y
    rw [show (win0_3.blk t).view.emb (ix2 y0 y1) = ix2 (row0 t y0) y1 from by blk_ext [idx0 t]]
    by_cases ht : t.val < 32
    · rw [outsAt0_A V c t ht (by omega), rows0_prompt V c t ht]
      dsimp only
      frame_out
      exact (pay0_1 _ _ _).trans (blk0_0 V c t ht y0 y1)
    · rw [outsAt0_B V c t ht (by omega), rows0_sample V c t (by omega)]
      dsimp only
      frame_out
      exact (pay0_3 _ _ _).trans (blk0_1 V c t y0 y1)

theorem final0_4 : (dat0 V c).arrAt 4 cfg0.N = norm0 V c :=
  Dat.arrAt_eq_of_covers (dat0 V c) 4 (norm0 V c) (by decide +kernel) fun t _ y => by
    blk_simp
    rw [after0_4]
    idx_vars y
    rw [show (win0_4.blk t).view.emb (ix2 y0 y1) = ix2 (row0 t y0) y1 from by blk_ext [idx0 t]]
    by_cases ht : t.val < 32
    · rw [outsAt0_A V c t ht (by omega)]
      dsimp only
      frame_out
      refine (pay0_2 _ _ _ _).trans ?_
      simp only [blk0_0 V c t ht, blk0_2]
      exact congrArg (fun x => rms x _ y1) (funext fun k => (rows0_prompt V c t ht y0 k).symm)
    · rw [outsAt0_B V c t ht (by omega)]
      dsimp only
      frame_out
      refine (pay0_4 _ _ _ _).trans ?_
      simp only [blk0_1, blk0_2]
      exact congrArg (fun x => rms x _ y1) (funext fun k => (rows0_sample V c t (by omega) y0 k).symm)

/-! ## The gated hidden channels -/

theorem idx1 : ∀ t : Fin cfg1.N, win1_0.index t = ![t.val / 43, 0] ∧ win1_1.index t = ![0, t.val % 43] ∧ win1_2.index t = ![0, 43 + t.val % 43]
    ∧ win1_3.index t = ![t.val / 43, t.val % 43] ∧ t.val < 172 :=
  (by decide +kernel : ∀ t : Fin grid1.N, _)

/-- Row `r` of the block of rows at a point. -/
abbrev row1 (t : Fin cfg1.N) (r : Fin 2176) : Fin 8704 := ⟨t.val / 43 * 2176 + r.val, by have := (idx1 t).2.2.2.2; omega⟩
/-- Channel `f` of the block of hidden channels at a point. -/
abbrev col1 (t : Fin cfg1.N) (f : Fin 256) : Fin 11008 := ⟨t.val % 43 * 256 + f.val, by omega⟩

theorem pay1 (h : FVec Ideal S2176x4096 .bf16) (wg wu : FVec Ideal S4096x256 .f32) (r : Fin 2176) (f : Fin 256) :
    (k1_pay1 (F := Ideal) h wg wu (ix2 r f) : EReal) = (∑ k, h (ix2 r k) * wg (ix2 k f)) * Ideal.logistic (∑ k, h (ix2 r k) * wg (ix2 k f))
      * (∑ k, h (ix2 r k) * wu (ix2 k f)) * Ideal.ofBits .f32 0x3F000000#32 := by
  pointwise [k1_pay1]

theorem blk1_0 (t : Fin cfg1.N) (r : Fin 2176) (k : Fin 4096) :
    (iblk1 V c 0 t : FVec Ideal S2176x4096 .bf16) (ix2 r k) = (V c main_v4_1 : FVec Ideal S8704x4096 .bf16) (ix2 (row1 t r) k) := by
  blk_simp [iblk1, idx1 t]
  blk_ext [idx1 t]

theorem blk1_1 (t : Fin cfg1.N) (k : Fin 4096) (f : Fin 256) :
    (iblk1 V c 1 t : FVec Ideal S4096x256 .f32) (ix2 k f) = (V c main_v5 : FVec Ideal S4096x22016 .f32) (ix2 k ⟨(col1 t f).val, by omega⟩) := by
  blk_simp [iblk1, idx1 t]
  blk_ext [idx1 t]

theorem blk1_2 (t : Fin cfg1.N) (k : Fin 4096) (f : Fin 256) :
    (iblk1 V c 2 t : FVec Ideal S4096x256 .f32) (ix2 k f) = (V c main_v5 : FVec Ideal S4096x22016 .f32) (ix2 k ⟨11008 + (col1 t f).val, by omega⟩) := by
  blk_simp [iblk1, idx1 t]
  blk_ext [idx1 t]

/-- The hidden channels of every row, halved. -/
def hid1 : FVec Ideal S8704x11008 .bf16 := fun y =>
  act (fun k => (V c main_v4_1 : FVec Ideal S8704x4096 .bf16) (ix2 (y 0) k)) (fun k f => (V c main_v5 : FVec Ideal S4096x22016 .f32) (ix2 k f)) (y 1)
    * Ideal.ofBits .f32 0x3F000000#32

theorem final1 : (dat1 V c).arrAt 3 cfg1.N = hid1 V c :=
  Dat.arrAt_eq_of_covers (dat1 V c) 3 (hid1 V c) (by decide +kernel) fun t _ y => by
    blk_simp
    rw [after1_3]
    idx_vars y
    frame_out
    rw [show (win1_3.blk t).view.emb (ix2 y0 y1) = ix2 (row1 t y0) (col1 t y1) from by blk_ext [idx1 t]]
    refine (pay1 _ _ _ _ _).trans ?_
    simp only [blk1_0, blk1_1, blk1_2]
    rfl

/-! ## The projection back, added to the rows -/

theorem idx2 : ∀ t : Fin cfg2.N, win2_0.index t = ![t.val / 16, 0] ∧ win2_1.index t = ![0, t.val % 16] ∧ win2_2.index t = ![t.val / 16, t.val % 16]
    ∧ win2_3.index t = ![t.val / 16, t.val % 16] ∧ t.val < 128 :=
  (by decide +kernel : ∀ t : Fin grid2.N, _)

abbrev row2 (t : Fin cfg2.N) (r : Fin 1088) : Fin 8704 := ⟨t.val / 16 * 1088 + r.val, by have := (idx2 t).2.2.2.2; omega⟩
abbrev col2 (t : Fin cfg2.N) (j : Fin 256) : Fin 4096 := ⟨t.val % 16 * 256 + j.val, by omega⟩

theorem pay2 (x : FVec Ideal S1088x256 .f32) (z : FVec Ideal S1088x11008 .bf16) (w : FVec Ideal S11008x256 .f32) (r : Fin 1088) (j : Fin 256) :
    (k2_pay1 (F := Ideal) x z w (ix2 r j) : EReal) = x (ix2 r j) + ∑ f, z (ix2 r f) * w (ix2 f j) := by
  pointwise [k2_pay1]

theorem blk2_0 (t : Fin cfg2.N) (r : Fin 1088) (f : Fin 11008) :
    (iblk2 V c 0 t : FVec Ideal S1088x11008 .bf16) (ix2 r f) = (V c main_v6 : FVec Ideal S8704x11008 .bf16) (ix2 (row2 t r) f) := by
  blk_simp [iblk2, idx2 t]
  blk_ext [idx2 t]

theorem blk2_1 (t : Fin cfg2.N) (f : Fin 11008) (j : Fin 256) :
    (iblk2 V c 1 t : FVec Ideal S11008x256 .f32) (ix2 f j) = (V c main_v7 : FVec Ideal S11008x4096 .f32) (ix2 f (col2 t j)) := by
  blk_simp [iblk2, idx2 t]
  blk_ext [idx2 t]

theorem blk2_2 (t : Fin cfg2.N) (r : Fin 1088) (j : Fin 256) :
    (iblk2 V c 2 t : FVec Ideal S1088x256 .f32) (ix2 r j) = (V c main_v4_0 : FVec Ideal S8704x4096 .f32) (ix2 (row2 t r) (col2 t j)) := by
  blk_simp [iblk2, idx2 t]
  blk_ext [idx2 t]

/-- The rows with the projection added. -/
def sum2 : FVec Ideal S8704x4096 .f32 := fun y =>
  proj ((V c main_v4_0 : FVec Ideal S8704x4096 .f32) (ix2 (y 0) (y 1))) (fun f => (V c main_v6 : FVec Ideal S8704x11008 .bf16) (ix2 (y 0) f))
    (fun f => (V c main_v7 : FVec Ideal S11008x4096 .f32) (ix2 f (y 1)))

theorem final2 : (dat2 V c).arrAt 3 cfg2.N = sum2 V c :=
  Dat.arrAt_eq_of_covers (dat2 V c) 3 (sum2 V c) (by decide +kernel) fun t _ y => by
    blk_simp
    rw [after2_3]
    idx_vars y
    frame_out
    rw [show (win2_3.blk t).view.emb (ix2 y0 y1) = ix2 (row2 t y0) (col2 t y1) from by blk_ext [idx2 t]]
    refine (pay2 _ _ _ _ _).trans ?_
    simp only [blk2_0, blk2_1, blk2_2]
    rfl

/-! ## The normalisation before the projection -/

theorem idx3 : ∀ t : Fin cfg3.N, win3_0.index t = ![t.val, 0] ∧ win3_1.index t = ![0, 0] ∧ win3_2.index t = ![t.val, 0] ∧ t.val < 34 :=
  (by decide +kernel : ∀ t : Fin grid3.N, _)

/-- Row `r` of the block of rows at a point. -/
abbrev row3 (t : Fin cfg3.N) (r : Fin 256) : Fin 8704 := ⟨t.val * 256 + r.val, by have := (idx3 t).2.2.2; omega⟩

theorem pay3 (x : FVec Ideal S256x4096 .f32) (g : FVec Ideal S1x4096 .f32) (r : Fin 256) (j : Fin 4096) :
    (k3_pay1 (F := Ideal) x g (ix2 r j) : EReal) = rms (fun k => x (ix2 r k)) (fun k => g (ix2 0 k)) j := by
  pointwise [k3_pay1]
  rfl

theorem blk3_0 (t : Fin cfg3.N) (r : Fin 256) (k : Fin 4096) :
    (iblk3 V c 0 t : FVec Ideal S256x4096 .f32) (ix2 r k) = (V c main_v8 : FVec Ideal S8704x4096 .f32) (ix2 (row3 t r) k) := by
  blk_simp [iblk3, idx3 t]
  blk_ext [idx3 t]

theorem blk3_1 (t : Fin cfg3.N) (k : Fin 4096) :
    (iblk3 V c 1 t : FVec Ideal S1x4096 .f32) (ix2 0 k) = (V c main_v10 : FVec Ideal S1x4096 .f32) (ix2 0 k) := by
  blk_simp [iblk3, idx3 t]
  blk_ext [idx3 t]

/-- The rows normalised. -/
def norm3 : FVec Ideal S8704x4096 .bf16 := fun y =>
  rms (fun k => (V c main_v8 : FVec Ideal S8704x4096 .f32) (ix2 (y 0) k)) (fun k => (V c main_v10 : FVec Ideal S1x4096 .f32) (ix2 0 k)) (y 1)

theorem final3 : (dat3 V c).arrAt 2 cfg3.N = norm3 V c :=
  Dat.arrAt_eq_of_covers (dat3 V c) 2 (norm3 V c) (by decide +kernel) fun t _ y => by
    blk_simp
    rw [after3_2]
    idx_vars y
    frame_out
    rw [show (win3_2.blk t).view.emb (ix2 y0 y1) = ix2 (row3 t y0) y1 from by blk_ext [idx3 t]]
    refine (pay3 _ _ _ _).trans ?_
    simp only [blk3_0, blk3_1]
    rfl

/-! ## The projection to the recurrence's channels -/

theorem idx4 : ∀ t : Fin cfg4.N, win4_0.index t = ![t.val / 13, 0] ∧ win4_1.index t = ![t.val % 13, 0]
    ∧ win4_2.index t = ![t.val / 13, t.val % 13] ∧ t.val < 104 :=
  (by decide +kernel : ∀ t : Fin grid4.N, _)

abbrev row4 (t : Fin cfg4.N) (r : Fin 1088) : Fin 8704 := ⟨t.val / 13 * 1088 + r.val, by have := (idx4 t).2.2.2; omega⟩
abbrev col4 (t : Fin cfg4.N) (j : Fin 512) : Fin 6656 := ⟨t.val % 13 * 512 + j.val, by omega⟩

theorem pay4 (x : FVec Ideal S1088x4096 .bf16) (w : FVec Ideal S512x4096 .f32) (r : Fin 1088) (j : Fin 512) :
    (k4_pay1 (F := Ideal) x w (ix2 r j) : EReal) = dot (fun k => x (ix2 r k)) (fun k => w (ix2 j k)) := by
  pointwise [k4_pay1]
  rfl

theorem blk4_0 (t : Fin cfg4.N) (r : Fin 1088) (k : Fin 4096) :
    (iblk4 V c 0 t : FVec Ideal S1088x4096 .bf16) (ix2 r k) = (V c main_v11 : FVec Ideal S8704x4096 .bf16) (ix2 (row4 t r) k) := by
  blk_simp [iblk4, idx4 t]
  blk_ext [idx4 t]

theorem blk4_1 (t : Fin cfg4.N) (j : Fin 512) (k : Fin 4096) :
    (iblk4 V c 1 t : FVec Ideal S512x4096 .f32) (ix2 j k) = (V c main_v19 : FVec Ideal S6656x4096 .f32) (ix2 (col4 t j) k) := by
  blk_simp [iblk4, idx4 t]
  blk_ext [idx4 t]

/-- The rows times the rows of the weights. -/
def prod4 : FVec Ideal S8704x6656 .f32 := fun y =>
  dot (fun k => (V c main_v11 : FVec Ideal S8704x4096 .bf16) (ix2 (y 0) k)) (fun k => (V c main_v19 : FVec Ideal S6656x4096 .f32) (ix2 (y 1) k))

theorem final4 : (dat4 V c).arrAt 2 cfg4.N = prod4 V c :=
  Dat.arrAt_eq_of_covers (dat4 V c) 2 (prod4 V c) (by decide +kernel) fun t _ y => by
    blk_simp
    rw [after4_2]
    idx_vars y
    frame_out
    rw [show (win4_2.blk t).view.emb (ix2 y0 y1) = ix2 (row4 t y0) (col4 t y1) from by blk_ext [idx4 t]]
    refine (pay4 _ _ _ _).trans ?_
    simp only [blk4_0, blk4_1]
    rfl

end Cert.Kernel4Ideal.Hand

end
-- ==== Proof.KFrontRun.lean ====
module

public import proofs.«01_k».proof.Proof.KFront
public import Idealize.ShloMosaic.Lib.Claim

@[expose] public section

set_option maxRecDepth 65536

noncomputable section

/-! The layer's front as a whole: what its three results hold after the run. -/

namespace Cert.Kernel4Ideal.Hand

open Cert.Kernel4Ideal Cert.Kernel4Ideal.Gen Cert.Ffn
open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat)

section Run

variable {F : FTy → Type} [FloatOps F]

local notation "𝕄" => MT nD τ sig Unit (Elt F) ℕ (UR sig nD τ) ℕ

set_option backward.isDefEq.respectTransparency.types false in
/-- The run over any values: every buffer that is no launch's own ends at the last boundary's contents, every counter at zero. -/
theorem run_all (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-! ## The arrays that the host prepares -/

theorem gain_at (k : Fin 4096) :
    (V1 m ρ c main_v3 : FVec Ideal S1x4096 .f32) (ix2 0 k) = (m ((c : Thread nD τ).loc main_arg2) : FVec Ideal S1x4096 .f32) (ix2 0 k) := by
  rw [show V1 m ρ c main_v3 = StableHlo.after hostOps0 (W0 m ρ c) main_v3 from rfl]
  entry_read
  pointwise []

theorem prompt_at (g : Fin 4) (t : Fin 2048) (k : Fin 4096) :
    (V1 m ρ c main_v0 : FVec Ideal S8192x4096 .f32) (ix2 ⟨g.val * 2048 + t.val, by omega⟩ k)
      = (m ((c : Thread nD τ).loc main_arg0) : FVec Ideal S4x2048x4096 .f32) (ix3 g t k) := by
  rw [show V1 m ρ c main_v0 = StableHlo.after hostOps0 (W0 m ρ c) main_v0 from rfl]
  entry_read
  pointwise []

theorem sample_at (g : Fin 128) (t : Fin 4) (k : Fin 4096) :
    (V1 m ρ c main_v1 : FVec Ideal S512x4096 .f32) (ix2 ⟨g.val * 4 + t.val, by omega⟩ k)
      = (m ((c : Thread nD τ).loc main_arg1) : FVec Ideal S128x4x4096 .f32) (ix3 g t k) := by
  rw [show V1 m ρ c main_v1 = StableHlo.after hostOps0 (W0 m ρ c) main_v1 from rfl]
  entry_read
  pointwise []

theorem win_at (k : Fin 4096) (f : Fin 22016) :
    (V3 m ρ c main_v5 : FVec Ideal S4096x22016 .f32) (ix2 k f) = (m ((c : Thread nD τ).loc main_arg3) : FVec Ideal S1x4096x22016 .f32) (ix3 0 k f) := by
  rw [show V3 m ρ c main_v5 = StableHlo.after hostOps1 (W2 m ρ c) main_v5 from rfl]
  entry_read
  rw [W2_args m ρ c main_arg3 (by decide)]
  pointwise []

theorem wout_at (f : Fin 11008) (j : Fin 4096) :
    (V5 m ρ c main_v7 : FVec Ideal S11008x4096 .f32) (ix2 f j) = (m ((c : Thread nD τ).loc main_arg4) : FVec Ideal S1x11008x4096 .f32) (ix3 0 f j) := by
  rw [show V5 m ρ c main_v7 = StableHlo.after hostOps2 (W4 m ρ c) main_v7 from rfl]
  entry_read
  rw [W4_args m ρ c main_arg4 (by decide)]
  pointwise []

theorem gainMix_at (k : Fin 4096) :
    (V7 m ρ c main_v10 : FVec Ideal S1x4096 .f32) (ix2 0 k) = (m ((c : Thread nD τ).loc main_arg5) : FVec Ideal S1x4096 .f32) (ix2 0 k) := by
  rw [show V7 m ρ c main_v10 = StableHlo.after hostOps3 (W6 m ρ c) main_v10 from rfl]
  entry_read
  rw [W6_args m ρ c main_arg5 (by decide)]
  pointwise []

/-- The first two blocks of channels lie with heads and channels swapped. -/
theorem weightLo_at (b : Fin 2) (h : Fin 32) (e : Fin 64) (k : Fin 4096) :
    (V9 m ρ c main_v19 : FVec Ideal S6656x4096 .f32) (ix2 ⟨b.val * 2048 + e.val * 32 + h.val, by omega⟩ k)
      = (m ((c : Thread nD τ).loc main_arg6) : FVec Ideal S1x4096x22976 .f32) (ix3 0 k ⟨b.val * 2048 + h.val * 64 + e.val, by omega⟩) := by
  refine Eq.trans ?_ (congrFun (W8_args m ρ c main_arg6 (by decide)) _)
  rw [show V9 m ρ c main_v19 = StableHlo.after hostOps4 (W8 m ρ c) main_v19 from rfl]
  entry_read
  pointwise []
  rw [dif_pos (by omega)]
  refine congrArg (fun q => (W8 m ρ c (Proc.devRef .tc main_arg6) : FVec Ideal S1x4096x22976 .f32) (ix3 0 k q)) (Fin.ext ?_)
  dsimp only
  omega

theorem weightHi_at (q : Fin 2560) (k : Fin 4096) :
    (V9 m ρ c main_v19 : FVec Ideal S6656x4096 .f32) (ix2 ⟨4096 + q.val, by omega⟩ k)
      = (m ((c : Thread nD τ).loc main_arg6) : FVec Ideal S1x4096x22976 .f32) (ix3 0 k ⟨4096 + q.val, by omega⟩) := by
  refine Eq.trans ?_ (congrFun (W8_args m ρ c main_arg6 (by decide)) _)
  rw [show V9 m ρ c main_v19 = StableHlo.after hostOps4 (W8 m ρ c) main_v19 from rfl]
  entry_read
  pointwise []

/-! ## From launch to launch -/

theorem norm_3 : V3 m ρ c main_v4_1 = norm0 (V1 m ρ) c :=
  (W3_of m ρ c main_v4_1 (by decide)).trans <| (W2_arr m ρ c 4).trans (final0_4 _ c)

theorem rows_5 : V5 m ρ c main_v4_0 = rows0 (V1 m ρ) c :=
  (W5_of m ρ c main_v4_0 (by decide)).trans <| (W4_of m ρ c main_v4_0 (by decide)).trans <|
    (W3_of m ρ c main_v4_0 (by decide)).trans <| (W2_arr m ρ c 3).trans (final0_3 _ c)

theorem hid_5 : V5 m ρ c main_v6 = hid1 (V3 m ρ) c :=
  (W5_of m ρ c main_v6 (by decide)).trans <| (W4_arr m ρ c 3).trans (final1 _ c)

theorem sum_7 : V7 m ρ c main_v8 = sum2 (V5 m ρ) c :=
  (W7_of m ρ c main_v8 (by decide)).trans <| (W6_arr m ρ c 3).trans (final2 _ c)

theorem norm_9 : V9 m ρ c main_v11 = norm3 (V7 m ρ) c :=
  (W9_of m ρ c main_v11 (by decide)).trans <| (W8_arr m ρ c 2).trans (final3 _ c)

theorem prod_10 : W10 m ρ c (Proc.devRef .tc main_v20) = prod4 (V9 m ρ) c := (W10_arr m ρ c 2).trans (final4 _ c)

/-! ## The arrays at a row and a channel -/

section At
variable (V : (c : Dev nD) → (b : Ref sig .tc) → Buf (Elt Ideal) ((c : Thread nD τ).loc b))

theorem norm0_at (r : Fin 8704) (j : Fin 4096) : (norm0 V c (ix2 r j) : EReal)
    = rms (fun k => rows0 V c (ix2 r k)) (fun k => (V c main_v3 : FVec Ideal S1x4096 .f32) (ix2 0 k)) j := rfl

theorem hid1_at (r : Fin 8704) (f : Fin 11008) : (hid1 V c (ix2 r f) : EReal)
    = act (fun k => (V c main_v4_1 : FVec Ideal S8704x4096 .bf16) (ix2 r k)) (fun k f => (V c main_v5 : FVec Ideal S4096x22016 .f32) (ix2 k f)) f
      * Ideal.ofBits .f32 0x3F000000#32 := rfl

theorem sum2_at (r : Fin 8704) (j : Fin 4096) : (sum2 V c (ix2 r j) : EReal)
    = proj ((V c main_v4_0 : FVec Ideal S8704x4096 .f32) (ix2 r j)) (fun f => (V c main_v6 : FVec Ideal S8704x11008 .bf16) (ix2 r f))
      (fun f => (V c main_v7 : FVec Ideal S11008x4096 .f32) (ix2 f j)) := rfl

theorem norm3_at (r : Fin 8704) (j : Fin 4096) : (norm3 V c (ix2 r j) : EReal)
    = rms (fun k => (V c main_v8 : FVec Ideal S8704x4096 .f32) (ix2 r k)) (fun k => (V c main_v10 : FVec Ideal S1x4096 .f32) (ix2 0 k)) j := rfl

theorem prod4_at (r : Fin 8704) (j : Fin 6656) : (prod4 V c (ix2 r j) : EReal)
    = dot (fun k => (V c main_v11 : FVec Ideal S8704x4096 .bf16) (ix2 r k)) (fun k => (V c main_v19 : FVec Ideal S6656x4096 .f32) (ix2 j k)) := rfl

end At

/-- The gains and the weights as the arguments hold them. -/
def gain (k : Fin 4096) : EReal := (m ((c : Thread nD τ).loc main_arg2) : FVec Ideal S1x4096 .f32) (ix2 0 k)
def gainMix (k : Fin 4096) : EReal := (m ((c : Thread nD τ).loc main_arg5) : FVec Ideal S1x4096 .f32) (ix2 0 k)
def win (k : Fin 4096) (f : Fin 22016) : EReal := (m ((c : Thread nD τ).loc main_arg3) : FVec Ideal S1x4096x22016 .f32) (ix3 0 k f)
def wout (f : Fin 11008) (j : Fin 4096) : EReal := (m ((c : Thread nD τ).loc main_arg4) : FVec Ideal S1x11008x4096 .f32) (ix3 0 f j)
def wmix (j : Fin 6592) (k : Fin 4096) : EReal := (m ((c : Thread nD τ).loc main_arg6) : FVec Ideal S1x4096x22976 .f32) (ix3 0 k ⟨j.val, by omega⟩)

/-- A row's projection, from the row as it enters the layer. -/
def front (x : Fin 4096 → EReal) (j : Fin 6592) : EReal :=
  dot (rms (half x (gain m c) (win m c) (wout m c)) (gainMix m c)) (wmix m c j)

/-- Any row after the half step. -/
theorem sum_at (r : Fin 8704) (j : Fin 4096) :
    ((V7 m ρ c main_v8 : FVec Ideal S8704x4096 .f32) (ix2 r j) : EReal)
      = half (fun k => rows0 (V1 m ρ) c (ix2 r k)) (gain m c) (win m c) (wout m c) j := by
  rw [sum_7, sum2_at, rows_5, hid_5]
  unfold half proj
  rw [← half_sum]
  refine congrArg (fun s : EReal => _ + s) (Finset.sum_congr rfl fun f _ => ?_)
  refine congrArg₂ (fun a b : EReal => a * b) ?_ (wout_at m ρ c f j)
  refine (hid1_at c (V3 m ρ) r f).trans (congrArg (fun a : EReal => a * _) ?_)
  refine congrArg₂ (fun h w => act h w f) (funext fun k => ?_) (funext fun k => funext fun f => win_at m ρ c k f)
  rw [norm_3]
  exact (norm0_at c (V1 m ρ) r k).trans (congrArg (fun g => rms _ g k) (funext fun k => gain_at m ρ c k))

/-- Any row of the projection at a row of the weights. -/
theorem prod_at (r : Fin 8704) (q : Fin 6656) (j : Fin 6592)
    (hq : ∀ k, (V9 m ρ c main_v19 : FVec Ideal S6656x4096 .f32) (ix2 q k) = wmix m c j k) :
    ((W10 m ρ c (Proc.devRef .tc main_v20) : FVec Ideal S8704x6656 .f32) (ix2 r q) : EReal)
      = front m c (fun k => rows0 (V1 m ρ) c (ix2 r k)) j := by
  rw [prod_10, prod4_at]
  refine congrArg₂ dot (funext fun k => ?_) (funext hq)
  rw [norm_9]
  exact (norm3_at c (V7 m ρ) r k).trans
    (congrArg₂ (fun x g => rms x g k) (funext fun k => sum_at m ρ c r k) (funext fun k => gainMix_at m ρ c k))

/-- A column is one of the first two blocks, at a head and a channel, or a later one. -/
theorem columns (P : Fin 6592 → Prop) (lo : ∀ (b : Fin 2) (h : Fin 32) (e : Fin 64), P ⟨b.val * 2048 + h.val * 64 + e.val, by omega⟩)
    (hi : ∀ q : Fin 2496, P ⟨4096 + q.val, by omega⟩) (j : Fin 6592) : P j := by
  by_cases hj : j.val < 4096
  · have e : j = ⟨j.val / 2048 * 2048 + j.val % 2048 / 64 * 64 + j.val % 64, by omega⟩ := Fin.ext (by dsimp only; omega)
    rw [e]
    exact lo ⟨j.val / 2048, by omega⟩ ⟨j.val % 2048 / 64, by omega⟩ ⟨j.val % 64, by omega⟩
  · have e : j = ⟨4096 + (j.val - 4096), by omega⟩ := Fin.ext (by dsimp only; omega)
    rw [e]
    exact hi ⟨j.val - 4096, by omega⟩

abbrev promptRow (g : Fin 4) (t : Fin 2048) : Fin 8704 := ⟨g.val * 2048 + t.val, by omega⟩
abbrev sampleRow (g : Fin 128) (t : Fin 4) : Fin 8704 := ⟨8192 + (g.val * 4 + t.val), by omega⟩

theorem prompt_row (g : Fin 4) (t : Fin 2048) (k : Fin 4096) : rows0 (V1 m ρ) c (ix2 (promptRow g t) k)
    = (m ((c : Thread nD τ).loc main_arg0) : FVec Ideal S4x2048x4096 .f32) (ix3 g t k) :=
  (dif_pos (show g.val * 2048 + t.val < 8192 by omega)).trans (prompt_at m ρ c g t k)

theorem sample_row (g : Fin 128) (t : Fin 4) (k : Fin 4096) : rows0 (V1 m ρ) c (ix2 (sampleRow g t) k)
    = (m ((c : Thread nD τ).loc main_arg1) : FVec Ideal S128x4x4096 .f32) (ix3 g t k) :=
  ((dif_neg (show ¬ 8192 + (g.val * 4 + t.val) < 8192 by omega)).trans
    (congrArg (fun q => (V1 m ρ c main_v1 : FVec Ideal S512x4096 .f32) (ix2 q k))
      (Fin.ext (by show 8192 + (g.val * 4 + t.val) - 8192 = g.val * 4 + t.val; omega)))).trans (sample_at m ρ c g t k)

/-! ## The results -/

theorem cell (X : FVec Ideal S8704x6656 .f32) {r r' : Fin 8704} {q q' : Fin 6656} (hr : r.val = r'.val) (hq : q.val = q'.val) :
    X (ix2 r q) = X (ix2 r' q') := by
  rw [Fin.ext hr, Fin.ext hq]

abbrev lowCol (b : Fin 2) (h : Fin 32) (e : Fin 64) : Fin 6592 := ⟨b.val * 2048 + h.val * 64 + e.val, by omega⟩
abbrev highCol (q : Fin 2496) : Fin 6592 := ⟨4096 + q.val, by omega⟩

theorem lo_at (r : Fin 8704) (b : Fin 2) (h : Fin 32) (e : Fin 64) :
    ((W10 m ρ c (Proc.devRef .tc main_v20) : FVec Ideal S8704x6656 .f32) (ix2 r ⟨b.val * 2048 + e.val * 32 + h.val, by omega⟩) : EReal)
      = front m c (fun k => rows0 (V1 m ρ) c (ix2 r k)) (lowCol b h e) :=
  prod_at m ρ c r _ _ fun k => weightLo_at m ρ c b h e k

theorem hi_at (r : Fin 8704) (q : Fin 2496) :
    ((W10 m ρ c (Proc.devRef .tc main_v20) : FVec Ideal S8704x6656 .f32) (ix2 r ⟨4096 + q.val, by omega⟩) : EReal)
      = front m c (fun k => rows0 (V1 m ρ) c (ix2 r k)) (highCol q) :=
  prod_at m ρ c r _ _ fun k => weightHi_at m ρ c ⟨q.val, by omega⟩ k

theorem prompt_out (g : Fin 4) (t : Fin 2048) : ∀ j : Fin 6592,
    ((W11 m ρ c (Proc.devRef .tc main_v35) : FVec Ideal S4x2048x6592 .f32) (ix3 g t j) : EReal)
      = front m c (fun k => (m ((c : Thread nD τ).loc main_arg0) : FVec Ideal S4x2048x4096 .f32) (ix3 g t k)) j := by
  have row : ∀ j, front m c (fun k => rows0 (V1 m ρ) c (ix2 (promptRow g t) k)) j = _ :=
    fun j => congrArg (fun x => front m c x j) (funext fun k => prompt_row m ρ c g t k)
  refine columns _ (fun b h e => ?_) (fun q => ?_)
  · refine Eq.trans ?_ ((lo_at m ρ c (promptRow g t) b h e).trans (row _))
    rw [show W11 m ρ c (Proc.devRef .tc main_v35) = StableHlo.after hostOps5 (W10 m ρ c) main_v35 from rfl]
    entry_read
    pointwise []
    rw [dif_pos (by omega)]
    exact cell _ rfl (by dsimp only; omega)
  · refine Eq.trans ?_ ((hi_at m ρ c (promptRow g t) q).trans (row _))
    rw [show W11 m ρ c (Proc.devRef .tc main_v35) = StableHlo.after hostOps5 (W10 m ρ c) main_v35 from rfl]
    entry_read
    pointwise []

theorem sample_out (g : Fin 128) (t : Fin 4) : ∀ j : Fin 6592,
    ((W11 m ρ c (Proc.devRef .tc main_v43) : FVec Ideal S128x4x6592 .f32) (ix3 g t j) : EReal)
      = front m c (fun k => (m ((c : Thread nD τ).loc main_arg1) : FVec Ideal S128x4x4096 .f32) (ix3 g t k)) j := by
  have row : ∀ j, front m c (fun k => rows0 (V1 m ρ) c (ix2 (sampleRow g t) k)) j = _ :=
    fun j => congrArg (fun x => front m c x j) (funext fun k => sample_row m ρ c g t k)
  refine columns _ (fun b h e => ?_) (fun q => ?_)
  · refine Eq.trans ?_ ((lo_at m ρ c (sampleRow g t) b h e).trans (row _))
    rw [show W11 m ρ c (Proc.devRef .tc main_v43) = StableHlo.after hostOps5 (W10 m ρ c) main_v43 from rfl]
    entry_read
    pointwise []
    rw [dif_pos (by omega)]
    exact cell _ rfl (by dsimp only; omega)
  · refine Eq.trans ?_ ((hi_at m ρ c (sampleRow g t) q).trans (row _))
    rw [show W11 m ρ c (Proc.devRef .tc main_v43) = StableHlo.after hostOps5 (W10 m ρ c) main_v43 from rfl]
    entry_read
    pointwise []

/-- The last step of each sequence of the sample group. -/
theorem shift_out (g : Fin 128) : ∀ j : Fin 6592,
    ((W11 m ρ c (Proc.devRef .tc main_v44) : FVec Ideal S1x128x6592 .f32) (ix3 0 g j) : EReal)
      = front m c (fun k => (m ((c : Thread nD τ).loc main_arg1) : FVec Ideal S128x4x4096 .f32) (ix3 g 3 k)) j := by
  have row : ∀ j, front m c (fun k => rows0 (V1 m ρ) c (ix2 (sampleRow g 3) k)) j = _ :=
    fun j => congrArg (fun x => front m c x j) (funext fun k => sample_row m ρ c g 3 k)
  refine columns _ (fun b h e => ?_) (fun q => ?_)
  · refine Eq.trans ?_ ((lo_at m ρ c (sampleRow g 3) b h e).trans (row _))
    rw [show W11 m ρ c (Proc.devRef .tc main_v44) = StableHlo.after hostOps5 (W10 m ρ c) main_v44 from rfl]
    entry_read
    pointwise []
    rw [dif_pos (by omega)]
    exact cell _ (by show 8195 + 4 * g.val = 8192 + (g.val * 4 + 3); omega) (by dsimp only; omega)
  · refine Eq.trans ?_ ((hi_at m ρ c (sampleRow g 3) q).trans (row _))
    rw [show W11 m ρ c (Proc.devRef .tc main_v44) = StableHlo.after hostOps5 (W10 m ρ c) main_v44 from rfl]
    entry_read
    pointwise []
    exact cell _ (by show 8195 + 4 * g.val = 8192 + (g.val * 4 + 3); omega) rfl

end Cert.Kernel4Ideal.Hand

end
-- ==== Proof.RFront.lean ====
module

public import proofs.«01_k».proof.Proof.RTail
public import proofs.«01_k».proof.Proof.Gen.Reference4Ideal.Run

@[expose] public section

set_option maxRecDepth 65536

noncomputable section

/-! What the reference of the layer's front returns, row by row. Its half step is the one of the second feed-forward step. -/

namespace Cert.Reference4Ideal.Hand

open Cert.Reference4Ideal Cert.Reference4Ideal.Gen Cert.Reference4Ideal.Value Cert.Ffn
open Cert.Reference2Ideal.Hand (flat1_at flatIn_at flatOut_at pNorm pIn pAct pOut pNorm_at pIn_at pAct_at pOut_at
  sNorm sIn sAct sOut sNorm_at sIn_at sAct_at sOut_at)
open Idealize.ShloMosaic Idealize.ShloMosaic.TcCoe

variable (m : (ℓ : Loc nD τ sig) → Buf (Elt Ideal) ℓ) (c : Dev nD)

/-- The gains and the weights as the arguments hold them. -/
def gain (k : Fin 4096) : EReal := (m ((c : Thread nD τ).loc main_arg2) : FVec Ideal S1x4096 .f32) (ix2 0 k)
def gainMix (k : Fin 4096) : EReal := (m ((c : Thread nD τ).loc main_arg5) : FVec Ideal S1x4096 .f32) (ix2 0 k)
def win (k : Fin 4096) (f : Fin 22016) : EReal := (m ((c : Thread nD τ).loc main_arg3) : FVec Ideal S1x4096x22016 .f32) (ix3 0 k f)
def wout (f : Fin 11008) (j : Fin 4096) : EReal := (m ((c : Thread nD τ).loc main_arg4) : FVec Ideal S1x11008x4096 .f32) (ix3 0 f j)
def wmix (j : Fin 6592) (k : Fin 4096) : EReal := (m ((c : Thread nD τ).loc main_arg6) : FVec Ideal S1x4096x22976 .f32) (ix3 0 k ⟨j.val, by omega⟩)

/-- A row's projection, from the row as it enters the layer. -/
def front (x : Fin 4096 → EReal) (j : Fin 6592) : EReal :=
  dot (rms (half x (gain m c) (win m c) (wout m c)) (gainMix m c)) (wmix m c j)

/-! ## The half step of each group -/

/-- The prompt group's half step. -/
def pHalf (X : FVec Ideal S4x2048x4096 .f32) (g : FVec Ideal S1x4096 .f32) (wi : FVec Ideal S1x4096x22016 .f32) (wo : FVec Ideal S1x11008x4096 .f32) :
    FVec Ideal S4x2048x4096 .f32 :=
  pOut X (pAct (pIn (pNorm X (shapeCast S4096 g shapeCasts_S1x4096_S4096)) (shapeCast S4096x22016 wi shapeCasts_S1x4096x22016_S4096x22016)))
    (shapeCast S11008x4096 wo shapeCasts_S1x11008x4096_S11008x4096)

/-- The sample group's half step. -/
def sHalf (X : FVec Ideal S128x4x4096 .f32) (g : FVec Ideal S1x4096 .f32) (wi : FVec Ideal S1x4096x22016 .f32) (wo : FVec Ideal S1x11008x4096 .f32) :
    FVec Ideal S128x4x4096 .f32 :=
  sOut X (sAct (sIn (sNorm X (shapeCast S4096 g shapeCasts_S1x4096_S4096)) (shapeCast S4096x22016 wi shapeCasts_S1x4096x22016_S4096x22016)))
    (shapeCast S11008x4096 wo shapeCasts_S1x11008x4096_S11008x4096)

theorem pHalf_at (X : FVec Ideal S4x2048x4096 .f32) (g : FVec Ideal S1x4096 .f32) (wi : FVec Ideal S1x4096x22016 .f32)
    (wo : FVec Ideal S1x11008x4096 .f32) (p : Fin 4) (t : Fin 2048) (j : Fin 4096) :
    (pHalf X g wi wo (ix3 p t j) : EReal)
      = half (fun k => X (ix3 p t k)) (fun k => g (ix2 0 k)) (fun k f => wi (ix3 0 k f)) (fun f j => wo (ix3 0 f j)) j := by
  unfold pHalf
  refine (pOut_at _ _ _ p t j).trans ?_
  refine congrArg (fun s : EReal => _ + _ * s) (Finset.sum_congr rfl fun f _ => ?_)
  refine congrArg₂ (fun a b : EReal => a * b) ((pAct_at _ p t f).trans ?_) (flatOut_at wo f j)
  simp only [pIn_at, pNorm_at, flatIn_at, flat1_at]
  rfl

theorem sHalf_at (X : FVec Ideal S128x4x4096 .f32) (g : FVec Ideal S1x4096 .f32) (wi : FVec Ideal S1x4096x22016 .f32)
    (wo : FVec Ideal S1x11008x4096 .f32) (p : Fin 128) (t : Fin 4) (j : Fin 4096) :
    (sHalf X g wi wo (ix3 p t j) : EReal)
      = half (fun k => X (ix3 p t k)) (fun k => g (ix2 0 k)) (fun k f => wi (ix3 0 k f)) (fun f j => wo (ix3 0 f j)) j := by
  unfold sHalf
  refine (sOut_at _ _ _ p t j).trans ?_
  refine congrArg (fun s : EReal => _ + _ * s) (Finset.sum_congr rfl fun f _ => ?_)
  refine congrArg₂ (fun a b : EReal => a * b) ((sAct_at _ p t f).trans ?_) (flatOut_at wo f j)
  simp only [sIn_at, sNorm_at, flatIn_at, flat1_at]
  rfl

/-! ## The projection, and the first of the parts it is split into -/

def pMix (H : FVec Ideal S4x2048x4096 .f32) (w : FVec Ideal S1x4096x22976 .f32) : FVec Ideal S4x2048x6592 .f32 :=
  extractStridedSlice S4x2048x6592 ![0, 0, 0] (Host.dotGeneral dot_S4x2048x4096_S4096x22976_S4x2048x22976_2_0_01_1_n_n none H
    (shapeCast S4096x22976 w shapeCasts_S1x4096x22976_S4096x22976)) slices_S4x2048x22976_S4x2048x6592_0_0_0

def sMix (H : FVec Ideal S128x4x4096 .f32) (w : FVec Ideal S1x4096x22976 .f32) : FVec Ideal S128x4x6592 .f32 :=
  extractStridedSlice S128x4x6592 ![0, 0, 0] (Host.dotGeneral dot_S128x4x4096_S4096x22976_S128x4x22976_2_0_01_1_n_n none H
    (shapeCast S4096x22976 w shapeCasts_S1x4096x22976_S4096x22976)) slices_S128x4x22976_S128x4x6592_0_0_0

/-- The last step of each sequence. -/
def sLast (P : FVec Ideal S128x4x6592 .f32) : FVec Ideal S1x128x6592 .f32 :=
  broadcastInDim S1x128x6592 ![1, 2] bcast_S128x6592_S1x128x6592_1_2 (shapeCast S128x6592 (extractStridedSlice S128x1x6592 ![0, 3, 0] P
    slices_S128x4x6592_S128x1x6592_0_3_0) shapeCasts_S128x1x6592_S128x6592)

theorem pMix_at (H : FVec Ideal S4x2048x4096 .f32) (w : FVec Ideal S1x4096x22976 .f32) (p : Fin 4) (t : Fin 2048) (j : Fin 6592) :
    (pMix H w (ix3 p t j) : EReal) = dot (fun k => H (ix3 p t k)) (fun k => w (ix3 0 k ⟨j.val, by omega⟩)) := by
  pointwise [pMix]
  rfl

theorem sMix_at (H : FVec Ideal S128x4x4096 .f32) (w : FVec Ideal S1x4096x22976 .f32) (p : Fin 128) (t : Fin 4) (j : Fin 6592) :
    (sMix H w (ix3 p t j) : EReal) = dot (fun k => H (ix3 p t k)) (fun k => w (ix3 0 k ⟨j.val, by omega⟩)) := by
  pointwise [sMix]
  rfl

theorem sLast_at (P : FVec Ideal S128x4x6592 .f32) (p : Fin 128) (j : Fin 6592) : (sLast P (ix3 0 p j) : EReal) = P (ix3 p 3 j) := by
  pointwise [sLast]

/-! ## The results -/

theorem prompt_eq : (res_main_v41 (F := Ideal) m c : FVec Ideal S4x2048x6592 .f32)
    = pMix (pNorm (pHalf (m ((c : Thread nD τ).loc main_arg0)) (m ((c : Thread nD τ).loc main_arg2)) (m ((c : Thread nD τ).loc main_arg3))
        (m ((c : Thread nD τ).loc main_arg4))) (shapeCast S4096 (m ((c : Thread nD τ).loc main_arg5)) shapeCasts_S1x4096_S4096))
      (m ((c : Thread nD τ).loc main_arg6)) := rfl

theorem sample_eq : (res_main_v86 (F := Ideal) m c : FVec Ideal S128x4x6592 .f32)
    = sMix (sNorm (sHalf (m ((c : Thread nD τ).loc main_arg1)) (m ((c : Thread nD τ).loc main_arg2)) (m ((c : Thread nD τ).loc main_arg3))
        (m ((c : Thread nD τ).loc main_arg4))) (shapeCast S4096 (m ((c : Thread nD τ).loc main_arg5)) shapeCasts_S1x4096_S4096))
      (m ((c : Thread nD τ).loc main_arg6)) := rfl

theorem shift_eq : (res_main_v92 (F := Ideal) m c : FVec Ideal S1x128x6592 .f32) = sLast (res_main_v86 (F := Ideal) m c) := rfl

theorem prompt_out (p : Fin 4) (t : Fin 2048) (j : Fin 6592) :
    ((res_main_v41 (F := Ideal) m c : FVec Ideal S4x2048x6592 .f32) (ix3 p t j) : EReal)
      = front m c (fun k => (m ((c : Thread nD τ).loc main_arg0) : FVec Ideal S4x2048x4096 .f32) (ix3 p t k)) j := by
  rw [prompt_eq]
  refine (pMix_at _ _ p t j).trans (congrArg (fun h => dot h _) (funext fun k => ?_))
  exact (pNorm_at _ _ p t k).trans (congrArg₂ (fun x g => rms x g k) (funext fun i => pHalf_at _ _ _ _ p t i) (funext fun i => flat1_at _ i))

theorem sample_out (p : Fin 128) (t : Fin 4) (j : Fin 6592) :
    ((res_main_v86 (F := Ideal) m c : FVec Ideal S128x4x6592 .f32) (ix3 p t j) : EReal)
      = front m c (fun k => (m ((c : Thread nD τ).loc main_arg1) : FVec Ideal S128x4x4096 .f32) (ix3 p t k)) j := by
  rw [sample_eq]
  refine (sMix_at _ _ p t j).trans (congrArg (fun h => dot h _) (funext fun k => ?_))
  exact (sNorm_at _ _ p t k).trans (congrArg₂ (fun x g => rms x g k) (funext fun i => sHalf_at _ _ _ _ p t i) (funext fun i => flat1_at _ i))

theorem shift_out (p : Fin 128) (j : Fin 6592) :
    ((res_main_v92 (F := Ideal) m c : FVec Ideal S1x128x6592 .f32) (ix3 0 p j) : EReal)
      = front m c (fun k => (m ((c : Thread nD τ).loc main_arg1) : FVec Ideal S128x4x4096 .f32) (ix3 p 3 k)) j := by
  rw [shift_eq]
  exact (sLast_at _ p j).trans (sample_out m c p 3 j)

end Cert.Reference4Ideal.Hand

end
-- ==== Proof.FrontFinal.lean ====
module

public import proofs.«01_k».proof.Defs
public import proofs.«01_k».proof.Proof.KFrontRun
public import proofs.«01_k».proof.Proof.RFront
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import Idealize.ShloMosaic.Adequacy
public import Idealize.ShloMosaic.Init

@[expose] public section

set_option maxRecDepth 65536

noncomputable section

/-! The claims about the layer's front: the first feed-forward step, the mixing norm and the recurrence's projection. -/

namespace Cert.Proof

open Idealize.ShloMosaic Idealize.ShloMosaic.TcCoe Idealize.SL.Sem

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

/-- The reference is host operations alone and declares no semaphore. -/
theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The launches' results are the reference's, for any arguments. -/
theorem algebraic4 : Cert.algebraic_Kernel4Ideal_Reference4Ideal := by
  intro m g m' g' hpre hagree
  have hout : ∀ (c : Dev Cert.Kernel4Ideal.nD) (x : Fin 4096 → EReal) (j : Fin 6592),
      Cert.Reference4Ideal.Hand.front m' c x j = Cert.Kernel4Ideal.Hand.front m c x j := fun c x j => by
    obtain ⟨-, -, h2, h3, h4, h5, h6⟩ := hagree c
    have e2 : Cert.Reference4Ideal.Hand.gain m' c = Cert.Kernel4Ideal.Hand.gain m c := funext fun k => congrFun h2 (ix2 0 k)
    have e3 : Cert.Reference4Ideal.Hand.win m' c = Cert.Kernel4Ideal.Hand.win m c := funext fun k => funext fun f => congrFun h3 (ix3 0 k f)
    have e4 : Cert.Reference4Ideal.Hand.wout m' c = Cert.Kernel4Ideal.Hand.wout m c := funext fun f => funext fun j => congrFun h4 (ix3 0 f j)
    have e5 : Cert.Reference4Ideal.Hand.gainMix m' c = Cert.Kernel4Ideal.Hand.gainMix m c := funext fun k => congrFun h5 (ix2 0 k)
    have e6 : Cert.Reference4Ideal.Hand.wmix m' c = Cert.Kernel4Ideal.Hand.wmix m c := funext fun j => funext fun k => congrFun h6 (ix3 0 k _)
    unfold Cert.Reference4Ideal.Hand.front Cert.Kernel4Ideal.Hand.front
    rw [e2, e3, e4, e5, e6]
  refine ⟨fun c => Cert.Kernel4Ideal.Gen.W11 m g c (Proc.devRef .tc Cert.Kernel4Ideal.main_v35),
    fun c => Cert.Kernel4Ideal.Gen.W11 m g c (Proc.devRef .tc Cert.Kernel4Ideal.main_v43),
    fun c => Cert.Kernel4Ideal.Gen.W11 m g c (Proc.devRef .tc Cert.Kernel4Ideal.main_v44), ?_, ?_⟩
  · exact θ_run_mono (θ_run_and (Cert.Kernel4Ideal.Hand.run_all m g) (frame_ideal4 m g hpre)) fun r hr c =>
      ⟨hr.1.1 c _ (Cert.Kernel4Ideal.Gen.mem_uc Cert.Kernel4Ideal.main_v35 (by decide)),
        hr.1.1 c _ (Cert.Kernel4Ideal.Gen.mem_uc Cert.Kernel4Ideal.main_v43 (by decide)),
        hr.1.1 c _ (Cert.Kernel4Ideal.Gen.mem_uc Cert.Kernel4Ideal.main_v44 (by decide)), hr.2.1 c⟩
  · refine θ_run_mono (Cert.Reference4Ideal.Value.run m' g') fun r h c =>
      ⟨(h c).1.trans ?_, (h c).2.1.trans ?_, (h c).2.2.1.trans ?_, (h c).2.2.2⟩
    · refine funext fun y => ?_
      idx_vars y
      refine (Cert.Reference4Ideal.Hand.prompt_out m' c y0 y1 y2).trans ((hout c _ y2).trans ?_)
      rw [(hagree c).1]
      exact (Cert.Kernel4Ideal.Hand.prompt_out m g c y0 y1 y2).symm
    · refine funext fun y => ?_
      idx_vars y
      refine (Cert.Reference4Ideal.Hand.sample_out m' c y0 y1 y2).trans ((hout c _ y2).trans ?_)
      rw [(hagree c).2.1]
      exact (Cert.Kernel4Ideal.Hand.sample_out m g c y0 y1 y2).symm
    · refine funext fun y => ?_
      idx_vars y
      obtain rfl : y0 = 0 := Subsingleton.elim _ _
      refine (Cert.Reference4Ideal.Hand.shift_out m' c y1 y2).trans ((hout c _ y2).trans ?_)
      rw [(hagree c).2.1]
      exact (Cert.Kernel4Ideal.Hand.shift_out m g c y1 y2).symm

end Cert.Proof

end
-- ==== Proof.KConv.lean ====
module

public import proofs.«01_k».proof.Proof.Gen.Kernel5Ideal.Frame
public import Idealize.ShloMosaic.Lib.Pipeline.ValueKit

@[expose] public section

set_option maxRecDepth 65536

noncomputable section

/-! What the two launches of the short convolution leave in their arrays, from any contents at their entry. -/

namespace Cert.Kernel5Ideal.Hand

open Cert.Kernel5Ideal Cert.Kernel5Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A row's gated input: the product of the projection's second and third blocks of channels. -/
def gated (p : FVec Ideal S8704x4096 .f32) (r : Fin 8704) (j : Fin 1024) : EReal :=
  p (ix2 r ⟨1024 + j.val, by omega⟩) * p (ix2 r ⟨2048 + j.val, by omega⟩)

/-! ## The prompts' rows -/

theorem idx0 : ∀ t : Fin cfg0.N, (win0_0.index t = ![t.val, 0] ∧ win0_1.index t = ![t.val, 1] ∧ win0_2.index t = ![t.val, 2])
    ∧ (win0_3.index t = ![32 * t.val - 1, 1] ∧ win0_4.index t = ![32 * t.val - 1, 2] ∧ win0_5.index t = ![0, 0])
    ∧ (win0_6.index t = ![t.val, 0] ∧ win0_7.index t = ![t.val, 0]) ∧ t.val < 32 :=
  (by decide +kernel : ∀ t : Fin grid0.N, _)

abbrev row0 (t : Fin cfg0.N) (r : Fin 256) : Fin 8704 := ⟨t.val * 256 + r.val, by have := (idx0 t).2.2.2; omega⟩
abbrev halo0 (t : Fin cfg0.N) (r : Fin 8) : Fin 8704 := ⟨(32 * t.val - 1) * 8 + r.val, by have := (idx0 t).2.2.2; omega⟩

theorem blk0_0 (t : Fin cfg0.N) (r : Fin 256) (j : Fin 1024) : (iblk0 V c 0 t : FVec Ideal S256x1024 .f32) (ix2 r j)
    = (V c main_v2 : FVec Ideal S8704x4096 .f32) (ix2 (row0 t r) ⟨j.val, by omega⟩) := by
  blk_simp [iblk0, idx0 t]
  blk_ext [idx0 t]

theorem blk0_1 (t : Fin cfg0.N) (r : Fin 256) (j : Fin 1024) : (iblk0 V c 1 t : FVec Ideal S256x1024 .f32) (ix2 r j)
    = (V c main_v2 : FVec Ideal S8704x4096 .f32) (ix2 (row0 t r) ⟨1024 + j.val, by omega⟩) := by
  blk_simp [iblk0, idx0 t]
  blk_ext [idx0 t]

theorem blk0_2 (t : Fin cfg0.N) (r : Fin 256) (j : Fin 1024) : (iblk0 V c 2 t : FVec Ideal S256x1024 .f32) (ix2 r j)
    = (V c main_v2 : FVec Ideal S8704x4096 .f32) (ix2 (row0 t r) ⟨2048 + j.val, by omega⟩) := by
  blk_simp [iblk0, idx0 t]
  blk_ext [idx0 t]

theorem blk0_3 (t : Fin cfg0.N) (r : Fin 8) (j : Fin 1024) : (iblk0 V c 3 t : FVec Ideal S8x1024 .f32) (ix2 r j)
    = (V c main_v2 : FVec Ideal S8704x4096 .f32) (ix2 (halo0 t r) ⟨1024 + j.val, by omega⟩) := by
  blk_simp [iblk0, idx0 t]
  blk_ext [idx0 t]

theorem blk0_4 (t : Fin cfg0.N) (r : Fin 8) (j : Fin 1024) : (iblk0 V c 4 t : FVec Ideal S8x1024 .f32) (ix2 r j)
    = (V c main_v2 : FVec Ideal S8704x4096 .f32) (ix2 (halo0 t r) ⟨2048 + j.val, by omega⟩) := by
  blk_simp [iblk0, idx0 t]
  blk_ext [idx0 t]

theorem blk0_5 (t : Fin cfg0.N) (r : Fin 3) (j : Fin 1024) :
    (iblk0 V c 5 t : FVec Ideal S3x1024 .f32) (ix2 r j) = (V c main_v15 : FVec Ideal S3x1024 .f32) (ix2 r j) := by
  blk_simp [iblk0, idx0 t]
  blk_ext [idx0 t]

theorem pay0 (a b : FVec Ideal S256x1024 .f32) (r : Fin 256) (j : Fin 1024) :
    (k0_pay1 (F := Ideal) a b (ix2 r j) : EReal) = a (ix2 r j) * b (ix2 r j) := by
  pointwise [k0_pay1]

/-- The gated input of the rows written here, the entry's contents elsewhere. -/
def gated0 : FVec Ideal S8704x1024 .f32 := fun y =>
  if (y 0).val / 256 < 32 then gated (V c main_v2) (y 0) (y 1) else (V c main_v16_1 : FVec Ideal S8704x1024 .f32) y

theorem final0_7 : (dat0 V c).arrAt 7 cfg0.N = gated0 V c := by
  refine Dat.arrAt_eq_of_coversWhere (dat0 V c) 7 (fun y => gated (V c main_v2) (y 0) (y 1)) (fun β => β (0 : Fin _) < 32) (by decide +kernel)
    (fun t _ y => ?_) (fun j => Iff.rfl)
  blk_simp
  rw [after0_7, outsAt0]
  dsimp only
  idx_vars y
  frame_out
  rw [show (win0_7.blk t).view.emb (ix2 y0 y1) = ix2 (row0 t y0) y1 from by blk_ext [idx0 t]]
  refine (pay0 _ _ _ _).trans ?_
  simp only [blk0_1, blk0_2]
  rfl

/-- Whether a block of rows begins a prompt. -/
theorem first0 : ∀ t : Fin cfg0.N, Scalar.cmpi CmpIPredicate.eq
    (Scalar.select
      (Scalar.andi
        (Scalar.xori
          (Scalar.cmpi CmpIPredicate.slt
            (Scalar.remsi (Scalar.muli (BitVec.ofNat 32 (grid0.coords t 0).val) 256#32) (Scalar.select (Scalar.cmpi CmpIPredicate.eq 2048#32 0#32) 1#32 2048#32)) 0#32)
          (Scalar.cmpi CmpIPredicate.slt (Scalar.select (Scalar.cmpi CmpIPredicate.eq 2048#32 0#32) 1#32 2048#32) 0#32))
        (Scalar.cmpi CmpIPredicate.ne
          (Scalar.remsi (Scalar.muli (BitVec.ofNat 32 (grid0.coords t 0).val) 256#32) (Scalar.select (Scalar.cmpi CmpIPredicate.eq 2048#32 0#32) 1#32 2048#32)) 0#32))
      (Scalar.addi
        (Scalar.remsi (Scalar.muli (BitVec.ofNat 32 (grid0.coords t 0).val) 256#32) (Scalar.select (Scalar.cmpi CmpIPredicate.eq 2048#32 0#32) 1#32 2048#32))
        (Scalar.select (Scalar.cmpi CmpIPredicate.eq 2048#32 0#32) 1#32 2048#32))
      (Scalar.remsi (Scalar.muli (BitVec.ofNat 32 (grid0.coords t 0).val) 256#32) (Scalar.select (Scalar.cmpi CmpIPredicate.eq 2048#32 0#32) 1#32 2048#32))) 0#32
    = if t.val % 8 = 0 then 1#1 else 0#1 :=
  (by decide +kernel : ∀ t : Fin grid0.N, _)

theorem isRow (n : Fin 2) : ∀ r : Fin 256, IntOp.cmpi CmpIPredicate.eq (BitVec.ofNat 32 r.val) (BitVec.ofNat 32 n.val) = if r.val = n.val then 1#1 else 0#1 := by
  revert n; decide +kernel

theorem sel (p : Prop) [Decidable p] (x y : EReal) : Scalar.select (if p then 1#1 else 0#1) x y = if p then x else y := by
  by_cases h : p <;> simp [h, Scalar.select]

theorem pay0y (t : Fin cfg0.N) (gb gc u : FVec Ideal S256x1024 .f32) (hc hu : FVec Ideal S8x1024 .f32) (w0 w1 w2 : FVec Ideal S1x1024 .f32) (r : Fin 256) (j : Fin 1024) :
    (k0_pay5 (F := Ideal) (k0_pay1 gc u) (k0_pay2 hc hu) (Scalar.muli (BitVec.ofNat 32 (grid0.coords t 0).val) 256#32) (k0_pay3 (grid0.coords t) gc u hc hu)
      (iota .tc S256x1024 32 [0] iota_S256x1024_d0_w32) (k0_pay4 gc u) (Scalar.select (Scalar.cmpi .eq 2048#32 0#32) 1#32 2048#32) w0 w1 w2 gb (ix2 r j) : EReal)
      = gb (ix2 r j) * ((if r.val = 1 then if t.val % 8 = 0 then 0 else hc (ix2 7 j) * hu (ix2 7 j)
            else if r.val = 0 then if t.val % 8 = 0 then 0 else hc (ix2 6 j) * hu (ix2 6 j)
            else gc (ix2 ⟨(r.val + 256 - 2) % 256, by omega⟩ j) * u (ix2 ⟨(r.val + 256 - 2) % 256, by omega⟩ j)) * w0 (ix2 0 j)
          + (if r.val = 0 then if t.val % 8 = 0 then 0 else hc (ix2 7 j) * hu (ix2 7 j)
            else gc (ix2 ⟨(r.val + 256 - 1) % 256, by omega⟩ j) * u (ix2 ⟨(r.val + 256 - 1) % 256, by omega⟩ j)) * w1 (ix2 0 j)
          + gc (ix2 r j) * u (ix2 r j) * w2 (ix2 0 j)) := by
  pointwise [k0_pay1, k0_pay2, k0_pay3, k0_pay4, k0_pay5]
  rw [first0 t, show IntOp.cmpi CmpIPredicate.eq (BitVec.ofNat 32 r.val) 0#32 = _ from isRow 0 r,
    show IntOp.cmpi CmpIPredicate.eq (BitVec.ofNat 32 r.val) 1#32 = _ from isRow 1 r]
  simp only [sel]
  rfl

/-- The gated input one row and two rows before, none at a prompt's beginning. -/
def prev1 (p : FVec Ideal S8704x4096 .f32) (r : Fin 8704) (j : Fin 1024) : EReal := if r.val % 2048 = 0 then 0 else gated p ⟨r.val - 1, by omega⟩ j
def prev2 (p : FVec Ideal S8704x4096 .f32) (r : Fin 8704) (j : Fin 1024) : EReal := if r.val % 2048 < 2 then 0 else gated p ⟨r.val - 2, by omega⟩ j

theorem gated_congr (p : FVec Ideal S8704x4096 .f32) (a b : Fin 8704) (h : a.val = b.val) (j : Fin 1024) : gated p a j = gated p b j := by
  rw [Fin.ext h]

theorem prev1_eq (p : FVec Ideal S8704x4096 .f32) (t : Fin cfg0.N) (r : Fin 256) (j : Fin 1024) :
    (if r.val = 0 then if t.val % 8 = 0 then 0 else gated p (halo0 t 7) j else gated p (row0 t ⟨(r.val + 256 - 1) % 256, by omega⟩) j) = prev1 p (row0 t r) j := by
  have h := (idx0 t).2.2.2
  unfold prev1
  dsimp only
  by_cases h0 : r.val = 0
  · rw [if_pos h0]
    by_cases h8 : t.val % 8 = 0
    · rw [if_pos h8, if_pos (by omega)]
    · rw [if_neg h8, if_neg (by omega)]
      exact gated_congr p _ _ (by simp only [halo0]; omega) j
  · rw [if_neg h0, if_neg (by omega)]
    exact gated_congr p _ _ (by simp only [row0]; omega) j

theorem prev2_eq (p : FVec Ideal S8704x4096 .f32) (t : Fin cfg0.N) (r : Fin 256) (j : Fin 1024) :
    (if r.val = 1 then if t.val % 8 = 0 then 0 else gated p (halo0 t 7) j else if r.val = 0 then if t.val % 8 = 0 then 0 else gated p (halo0 t 6) j
      else gated p (row0 t ⟨(r.val + 256 - 2) % 256, by omega⟩) j) = prev2 p (row0 t r) j := by
  have h := (idx0 t).2.2.2
  unfold prev2
  dsimp only
  by_cases h1 : r.val = 1
  · rw [if_pos h1]
    by_cases h8 : t.val % 8 = 0
    · rw [if_pos h8, if_pos (by omega)]
    · rw [if_neg h8, if_neg (by omega)]
      exact gated_congr p _ _ (by simp only [halo0]; omega) j
  · rw [if_neg h1]
    by_cases h0 : r.val = 0
    · rw [if_pos h0]
      by_cases h8 : t.val % 8 = 0
      · rw [if_pos h8, if_pos (by omega)]
      · rw [if_neg h8, if_neg (by omega)]
        exact gated_congr p _ _ (by simp only [halo0]; omega) j
    · rw [if_neg h0, if_neg (by omega)]
      exact gated_congr p _ _ (by simp only [row0]; omega) j

/-- A row of the convolution, from the gated inputs two rows and one row before. -/
def conv (p : FVec Ideal S8704x4096 .f32) (w : FVec Ideal S3x1024 .f32) (b2 b1 : EReal) (r : Fin 8704) (j : Fin 1024) : EReal :=
  p (ix2 r ⟨j.val, by omega⟩) * (b2 * w (ix2 0 j) + b1 * w (ix2 1 j) + gated p r j * w (ix2 2 j))

/-- The convolution of the rows written here, the entry's contents elsewhere. -/
def conv0 : FVec Ideal S8704x1024 .bf16 := fun y =>
  if (y 0).val / 256 < 32 then conv (V c main_v2) (V c main_v15) (prev2 (V c main_v2) (y 0) (y 1)) (prev1 (V c main_v2) (y 0) (y 1)) (y 0) (y 1)
  else (V c main_v16_0 : FVec Ideal S8704x1024 .bf16) y

theorem final0_6 : (dat0 V c).arrAt 6 cfg0.N = conv0 V c := by
  refine Dat.arrAt_eq_of_coversWhere (dat0 V c) 6
    (fun y => conv (V c main_v2) (V c main_v15) (prev2 (V c main_v2) (y 0) (y 1)) (prev1 (V c main_v2) (y 0) (y 1)) (y 0) (y 1))
    (fun β => β (0 : Fin _) < 32) (by decide +kernel) (fun t _ y => ?_) (fun j => Iff.rfl)
  blk_simp
  rw [after0_6, outsAt0]
  dsimp only
  idx_vars y
  frame_out
  rw [show (win0_6.blk t).view.emb (ix2 y0 y1) = ix2 (row0 t y0) y1 from by blk_ext [idx0 t]]
  refine (pay0y t _ _ _ _ _ _ _ _ _ _).trans ?_
  pointwise []
  simp only [blk0_0, blk0_1, blk0_2, blk0_3, blk0_4, blk0_5]
  rw [← prev1_eq, ← prev2_eq]
  rfl

/-! ## The samples' rows -/

theorem idx1 : ∀ t : Fin cfg1.N, (win1_0.index t = ![32 + t.val, 0] ∧ win1_1.index t = ![32 + t.val, 1] ∧ win1_2.index t = ![32 + t.val, 2])
    ∧ (win1_3.index t = ![t.val, 0] ∧ win1_4.index t = ![t.val, 0] ∧ win1_5.index t = ![0, 0])
    ∧ (win1_6.index t = ![32 + t.val, 0] ∧ win1_7.index t = ![32 + t.val, 0]) ∧ t.val < 2 :=
  (by decide +kernel : ∀ t : Fin grid1.N, _)

abbrev row1 (t : Fin cfg1.N) (r : Fin 256) : Fin 8704 := ⟨(32 + t.val) * 256 + r.val, by have := (idx1 t).2.2.2; omega⟩
abbrev own1 (t : Fin cfg1.N) (r : Fin 256) : Fin 512 := ⟨t.val * 256 + r.val, by have := (idx1 t).2.2.2; omega⟩

theorem blk1_0 (t : Fin cfg1.N) (r : Fin 256) (j : Fin 1024) : (iblk1 V c 0 t : FVec Ideal S256x1024 .f32) (ix2 r j)
    = (V c main_v2 : FVec Ideal S8704x4096 .f32) (ix2 (row1 t r) ⟨j.val, by omega⟩) := by
  blk_simp [iblk1, idx1 t]
  blk_ext [idx1 t]

theorem blk1_1 (t : Fin cfg1.N) (r : Fin 256) (j : Fin 1024) : (iblk1 V c 1 t : FVec Ideal S256x1024 .f32) (ix2 r j)
    = (V c main_v2 : FVec Ideal S8704x4096 .f32) (ix2 (row1 t r) ⟨1024 + j.val, by omega⟩) := by
  blk_simp [iblk1, idx1 t]
  blk_ext [idx1 t]

theorem blk1_2 (t : Fin cfg1.N) (r : Fin 256) (j : Fin 1024) : (iblk1 V c 2 t : FVec Ideal S256x1024 .f32) (ix2 r j)
    = (V c main_v2 : FVec Ideal S8704x4096 .f32) (ix2 (row1 t r) ⟨2048 + j.val, by omega⟩) := by
  blk_simp [iblk1, idx1 t]
  blk_ext [idx1 t]

theorem blk1_3 (t : Fin cfg1.N) (r : Fin 256) (j : Fin 1024) :
    (iblk1 V c 3 t : FVec Ideal S256x1024 .f32) (ix2 r j) = (V c main_v10 : FVec Ideal S512x1024 .f32) (ix2 (own1 t r) j) := by
  blk_simp [iblk1, idx1 t]
  blk_ext [idx1 t]

theorem blk1_4 (t : Fin cfg1.N) (r : Fin 256) (j : Fin 1024) :
    (iblk1 V c 4 t : FVec Ideal S256x1024 .f32) (ix2 r j) = (V c main_v14 : FVec Ideal S512x1024 .f32) (ix2 (own1 t r) j) := by
  blk_simp [iblk1, idx1 t]
  blk_ext [idx1 t]

theorem blk1_5 (t : Fin cfg1.N) (r : Fin 3) (j : Fin 1024) :
    (iblk1 V c 5 t : FVec Ideal S3x1024 .f32) (ix2 r j) = (V c main_v17 : FVec Ideal S3x1024 .f32) (ix2 r j) := by
  blk_simp [iblk1, idx1 t]
  blk_ext [idx1 t]

theorem pay1 (a b : FVec Ideal S256x1024 .f32) (r : Fin 256) (j : Fin 1024) :
    (k1_pay2 (F := Ideal) a b (ix2 r j) : EReal) = a (ix2 r j) * b (ix2 r j) := by
  pointwise [k1_pay2]

/-- The gated input of the rows written here, the entry's contents elsewhere. -/
def gated1 : FVec Ideal S8704x1024 .f32 := fun y =>
  if 32 ≤ (y 0).val / 256 then gated (V c main_v2) (y 0) (y 1) else (V c main_v18_1 : FVec Ideal S8704x1024 .f32) y

theorem final1_7 : (dat1 V c).arrAt 7 cfg1.N = gated1 V c := by
  refine Dat.arrAt_eq_of_coversWhere (dat1 V c) 7 (fun y => gated (V c main_v2) (y 0) (y 1)) (fun β => 32 ≤ β (0 : Fin _)) (by decide +kernel)
    (fun t _ y => ?_) (fun j => Iff.rfl)
  blk_simp
  rw [after1_7, outsAt1]
  dsimp only
  idx_vars y
  frame_out
  rw [show (win1_7.blk t).view.emb (ix2 y0 y1) = ix2 (row1 t y0) y1 from by blk_ext [idx1 t]]
  refine (pay1 _ _ _ _).trans ?_
  simp only [blk1_1, blk1_2]
  rfl

theorem sampleRow (r : Fin 256) (j : Fin 1024) : k1_pay3 (ix2 r j) = BitVec.ofNat 32 (r.val % 4) := by
  pointwise [k1_pay3]
  revert r
  decide +kernel

theorem before (n : Fin 3) : ∀ r : Fin 256, IntOp.cmpi CmpIPredicate.slt (BitVec.ofNat 32 (r.val % 4)) (BitVec.ofNat 32 n.val) = if r.val % 4 < n.val then 1#1 else 0#1 := by
  revert n; decide +kernel

theorem pay1y (gb gc u f1 f2 : FVec Ideal S256x1024 .f32) (w0 w1 w2 : FVec Ideal S1x1024 .f32) (r : Fin 256) (j : Fin 1024) :
    (k1_pay1 (F := Ideal) (k1_pay2 gc u) (k1_pay4 gc u f1) (k1_pay5 gc u f2 w0) w1 w2 gb (ix2 r j) : EReal)
      = gb (ix2 r j) * ((if r.val % 4 < 2 then f2 (ix2 r j)
            else gc (ix2 ⟨(r.val + 256 - 2) % 256, by omega⟩ j) * u (ix2 ⟨(r.val + 256 - 2) % 256, by omega⟩ j)) * w0 (ix2 0 j)
          + (if r.val % 4 < 1 then f1 (ix2 r j)
            else gc (ix2 ⟨(r.val + 256 - 1) % 256, by omega⟩ j) * u (ix2 ⟨(r.val + 256 - 1) % 256, by omega⟩ j)) * w1 (ix2 0 j)
          + gc (ix2 r j) * u (ix2 r j) * w2 (ix2 0 j)) := by
  pointwise [k1_pay1, k1_pay2, k1_pay4, k1_pay5]
  rw [sampleRow, show IntOp.cmpi CmpIPredicate.slt (BitVec.ofNat 32 (r.val % 4)) 1#32 = _ from before 1 r,
    show IntOp.cmpi CmpIPredicate.slt (BitVec.ofNat 32 (r.val % 4)) 2#32 = _ from before 2 r]
  simp only [sel]
  rfl

/-- The gated input `q` rows before in the same sample, the given row where the sample has none. -/
def prev (q : Nat) (f : FVec Ideal S512x1024 .f32) (p : FVec Ideal S8704x4096 .f32) (r : Fin 8704) (j : Fin 1024) : EReal :=
  if r.val % 4 < q then f (ix2 ⟨(r.val - 8192) % 512, by omega⟩ j) else gated p ⟨r.val - q, by omega⟩ j

theorem prev_eq (q : Fin 3) (f : FVec Ideal S512x1024 .f32) (p : FVec Ideal S8704x4096 .f32) (t : Fin cfg1.N) (r : Fin 256) (j : Fin 1024) :
    (if r.val % 4 < q.val then f (ix2 (own1 t r) j) else gated p (row1 t ⟨(r.val + 256 - q.val) % 256, by omega⟩) j) = prev q.val f p (row1 t r) j := by
  have h := (idx1 t).2.2.2
  unfold prev
  dsimp only
  by_cases h0 : r.val % 4 < q.val
  · rw [if_pos h0, if_pos (by omega)]
    exact congrArg f (congrArg (fun a => ix2 a j) (Fin.ext (by simp only [own1]; omega)))
  · rw [if_neg h0, if_neg (by omega)]
    exact gated_congr p _ _ (by simp only [row1]; omega) j

/-- The convolution of the rows written here, the entry's contents elsewhere. -/
def conv1 : FVec Ideal S8704x1024 .bf16 := fun y =>
  if 32 ≤ (y 0).val / 256 then
    conv (V c main_v2) (V c main_v17) (prev 2 (V c main_v14) (V c main_v2) (y 0) (y 1)) (prev 1 (V c main_v10) (V c main_v2) (y 0) (y 1)) (y 0) (y 1)
  else (V c main_v18_0 : FVec Ideal S8704x1024 .bf16) y

theorem final1_6 : (dat1 V c).arrAt 6 cfg1.N = conv1 V c := by
  refine Dat.arrAt_eq_of_coversWhere (dat1 V c) 6
    (fun y => conv (V c main_v2) (V c main_v17) (prev 2 (V c main_v14) (V c main_v2) (y 0) (y 1)) (prev 1 (V c main_v10) (V c main_v2) (y 0) (y 1)) (y 0) (y 1))
    (fun β => 32 ≤ β (0 : Fin _)) (by decide +kernel) (fun t _ y => ?_) (fun j => Iff.rfl)
  blk_simp
  rw [after1_6, outsAt1]
  dsimp only
  idx_vars y
  frame_out
  rw [show (win1_6.blk t).view.emb (ix2 y0 y1) = ix2 (row1 t y0) y1 from by blk_ext [idx1 t]]
  refine (pay1y _ _ _ _ _ _ _ _ _ _).trans ?_
  pointwise []
  simp only [blk1_0, blk1_1, blk1_2, blk1_3, blk1_4, blk1_5]
  rw [show prev 2 (V c main_v14) (V c main_v2) (row1 t y0) y1 = _ from (prev_eq 2 _ _ t y0 y1).symm,
    show prev 1 (V c main_v10) (V c main_v2) (row1 t y0) y1 = _ from (prev_eq 1 _ _ t y0 y1).symm]
  rfl

end Cert.Kernel5Ideal.Hand
-- ==== Proof.Conv.lean ====
module

public import Idealize.ShloMosaic.Lib.Pipeline.ValueKit
public import Idealize.ShloMosaic.Lib.Routing.OpsSet
public import Idealize.ShloMosaic.Lib.Routing.OpsPair

@[expose] public section

noncomputable section

/-! The short convolution over a sequence's rows, on plain functions. -/

namespace Cert.Conv

open Idealize.ShloMosaic

/-- A row's gated input: the second block of channels times the third. -/
def gate (p : Fin 4096 → EReal) (j : Fin 1024) : EReal := p ⟨1024 + j.val, by omega⟩ * p ⟨2048 + j.val, by omega⟩

/-- The gated input `q` rows before row `t`: the sequence's own, or a carried row where it has none. -/
def back {n : Nat} (q : Nat) (p : Fin n → Fin 4096 → EReal) (buf : Fin 2 → Fin 1024 → EReal) (t : Fin n) (j : Fin 1024) : EReal :=
  if t.val < q then buf ⟨(2 - q + t.val) % 2, by omega⟩ j else gate (p ⟨t.val - q, by omega⟩) j

/-- A row of the convolution. -/
def shortconv {n : Nat} (p : Fin n → Fin 4096 → EReal) (buf : Fin 2 → Fin 1024 → EReal) (w : Fin 3 → Fin 1024 → EReal) (t : Fin n) (j : Fin 1024) : EReal :=
  p t ⟨j.val, by omega⟩ * (back 2 p buf t j * w 0 j + back 1 p buf t j * w 1 j + gate (p t) j * w 2 j)

/-- An overwriting scatter of one window that starts at the operand's origin, read where the window lies. -/
theorem scatter_origin {α : Type} {s si u : Shape} {w : Nat} (d : ScatterDims s si u) (x0 : s.Idx → α) (idx : IVec si w) (upd : u.Idx → α) (ι : s.Idx) (k : u.Idx)
    (hi : ∀ i, (idx i).toInt = 0) (hk : ∀ a, d.window k a = (ι a).val) (hu : ∀ k', (∀ a, d.window k' a = d.window k a) → k' = k) :
    Host.scatter d (fun _ b => b) x0 idx upd ι = upd k := by
  have h0 : ∀ k a, d.start k idx a = 0 := fun k a => by
    unfold ScatterDims.start
    split
    · exact hi _
    · rfl
  refine Routing.scatter_set_hit d x0 idx upd ι (upd k) (fun k' h => ?_) k ?_
  · refine congrArg upd (hu k' fun a => ?_)
    have := (Routing.resultIdx?_eq_some d k' idx ι).1 h a
    rw [h0] at this
    have := hk a
    omega
  · refine (Routing.resultIdx?_eq_some d k idx ι).2 fun a => ?_
    rw [h0, hk]
    omega

end Cert.Conv

end
-- ==== Proof.KConvRun.lean ====
module

public import proofs.«01_k».proof.Proof.KConv
public import proofs.«01_k».proof.Proof.Conv
public import Idealize.ShloMosaic.Lib.Claim

@[expose] public section

set_option maxRecDepth 65536

noncomputable section

/-! The short convolution as a whole: what its four results hold after the run. -/

namespace Cert.Kernel5Ideal.Hand

open Cert.Kernel5Ideal Cert.Kernel5Ideal.Gen Cert.Conv
open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat)

section Run

variable {F : FTy → Type} [FloatOps F]

local notation "𝕄" => MT nD τ sig Unit (Elt F) ℕ (UR sig nD τ) ℕ

set_option backward.isDefEq.respectTransparency.types false in
/-- The run over any values: every buffer that is no launch's own ends at the last boundary's contents, every counter at zero. -/
theorem run_all (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-- The projection's rows, the carried rows and the taps as the arguments hold them. -/
def prompt (g : Fin 4) (t : Fin 2048) (k : Fin 4096) : EReal := (m ((c : Thread nD τ).loc main_arg0) : FVec Ideal S4x2048x4096 .f32) (ix3 g t k)
def sample (g : Fin 128) (t : Fin 4) (k : Fin 4096) : EReal := (m ((c : Thread nD τ).loc main_arg1) : FVec Ideal S128x4x4096 .f32) (ix3 g t k)
def carried (g : Fin 128) (q : Fin 2) (j : Fin 1024) : EReal := (m ((c : Thread nD τ).loc main_arg2) : FVec Ideal S1x128x2x1024 .f32) (ix4 0 g q j)
def taps (q : Fin 3) (j : Fin 1024) : EReal := (m ((c : Thread nD τ).loc main_arg3) : FVec Ideal S1x3x1024 .f32) (ix3 0 q j)

abbrev rowP (g : Fin 4) (t : Fin 2048) : Fin 8704 := ⟨g.val * 2048 + t.val, by omega⟩
abbrev rowS (g : Fin 128) (t : Fin 4) : Fin 8704 := ⟨8192 + (g.val * 4 + t.val), by omega⟩

/-! ## The arrays that the host prepares -/

theorem prompt_at (g : Fin 4) (t : Fin 2048) (k : Fin 4096) :
    (V1 m ρ c main_v2 : FVec Ideal S8704x4096 .f32) (ix2 (rowP g t) k) = prompt m c g t k := by
  rw [show V1 m ρ c main_v2 = StableHlo.after hostOps0 (W0 m ρ c) main_v2 from rfl]
  entry_read
  pointwise []
  rw [dif_pos (by omega)]
  refine congrArg₂ (fun a b => (W0 m ρ c (Proc.devRef .tc main_arg0) : FVec Ideal S4x2048x4096 .f32) (ix3 a b k)) (Fin.ext ?_) (Fin.ext ?_) <;> dsimp only <;> omega

theorem sample_at (g : Fin 128) (t : Fin 4) (k : Fin 4096) :
    (V1 m ρ c main_v2 : FVec Ideal S8704x4096 .f32) (ix2 (rowS g t) k) = sample m c g t k := by
  rw [show V1 m ρ c main_v2 = StableHlo.after hostOps0 (W0 m ρ c) main_v2 from rfl]
  entry_read
  pointwise []
  refine congrArg₂ (fun a b => (W0 m ρ c (Proc.devRef .tc main_arg1) : FVec Ideal S128x4x4096 .f32) (ix3 a b k)) (Fin.ext ?_) (Fin.ext ?_) <;> dsimp only <;> omega

theorem taps0_at (q : Fin 3) (j : Fin 1024) : (V1 m ρ c main_v15 : FVec Ideal S3x1024 .f32) (ix2 q j) = taps m c q j := by
  rw [show V1 m ρ c main_v15 = StableHlo.after hostOps0 (W0 m ρ c) main_v15 from rfl]
  entry_read
  pointwise []
  rfl

theorem taps1_at (q : Fin 3) (j : Fin 1024) : (V3 m ρ c main_v17 : FVec Ideal S3x1024 .f32) (ix2 q j) = taps m c q j := by
  rw [show V3 m ρ c main_v17 = StableHlo.after hostOps1 (W2 m ρ c) main_v17 from rfl]
  entry_read
  rw [W2_args m ρ c main_arg3 (by decide)]
  pointwise []
  rfl

theorem last_at (g : Fin 128) (j : Fin 1024) : (V1 m ρ c main_v10 : FVec Ideal S512x1024 .f32) (ix2 ⟨g.val * 4, by omega⟩ j) = carried m c g 1 j := by
  rw [show V1 m ρ c main_v10 = StableHlo.after hostOps0 (W0 m ρ c) main_v10 from rfl]
  entry_read
  pointwise []
  refine (scatter_origin _ _ _ _ _ (ix3 g (0 : Fin 1) j) (fun _ => rfl) (fun a => ?_) (fun k' h => ?_)).trans ?_
  · match a with
    | ⟨0, _⟩ => rfl
    | ⟨1, _⟩ => show 0 = g.val * 4 % 4; omega
    | ⟨2, _⟩ => rfl
  · idx_vars k'
    have h0 := h 0
    have h2 := h 2
    obtain rfl : k'0 = g := Fin.ext h0
    obtain rfl : k'2 = j := Fin.ext h2
    obtain rfl : k'1 = 0 := Subsingleton.elim _ _
    rfl
  · pointwise []
    rfl

theorem both_at (g : Fin 128) (q : Fin 2) (j : Fin 1024) :
    (V1 m ρ c main_v14 : FVec Ideal S512x1024 .f32) (ix2 ⟨g.val * 4 + q.val, by omega⟩ j) = carried m c g q j := by
  rw [show V1 m ρ c main_v14 = StableHlo.after hostOps0 (W0 m ρ c) main_v14 from rfl]
  entry_read
  pointwise []
  refine (scatter_origin _ _ _ _ _ (ix3 g q j) (fun _ => rfl) (fun a => ?_) (fun k' h => ?_)).trans rfl
  · match a with
    | ⟨0, _⟩ => rfl
    | ⟨1, _⟩ => show q.val = (g.val * 4 + q.val) % 4; omega
    | ⟨2, _⟩ => rfl
  · idx_vars k'
    have h0 := h 0
    have h1 := h 1
    have h2 := h 2
    obtain rfl : k'0 = g := Fin.ext h0
    obtain rfl : k'1 = q := Fin.ext h1
    obtain rfl : k'2 = j := Fin.ext h2
    rfl

/-! ## From launch to launch -/

theorem rows_3 : V3 m ρ c main_v2 = V1 m ρ c main_v2 :=
  (W3_of m ρ c main_v2 (by decide)).trans (W2_of m ρ c main_v2 (by decide))

theorem last_3 : V3 m ρ c main_v10 = V1 m ρ c main_v10 :=
  (W3_of m ρ c main_v10 (by decide)).trans (W2_of m ρ c main_v10 (by decide))

theorem both_3 : V3 m ρ c main_v14 = V1 m ρ c main_v14 :=
  (W3_of m ρ c main_v14 (by decide)).trans (W2_of m ρ c main_v14 (by decide))

theorem gated_2 : W2 m ρ c (Proc.devRef .tc main_v16_1) = gated0 (V1 m ρ) c := (W2_arr m ρ c 7).trans (final0_7 _ c)
theorem conv_2 : W2 m ρ c (Proc.devRef .tc main_v16_0) = conv0 (V1 m ρ) c := (W2_arr m ρ c 6).trans (final0_6 _ c)

theorem gated_3 : V3 m ρ c main_v18_1 = gated0 (V1 m ρ) c := by
  rw [show V3 m ρ c main_v18_1 = StableHlo.after hostOps1 (W2 m ρ c) main_v18_1 from rfl]
  entry_read
  exact gated_2 m ρ c

theorem conv_3 : V3 m ρ c main_v18_0 = conv0 (V1 m ρ) c := by
  rw [show V3 m ρ c main_v18_0 = StableHlo.after hostOps1 (W2 m ρ c) main_v18_0 from rfl]
  entry_read
  exact conv_2 m ρ c

theorem gated_4 : W4 m ρ c (Proc.devRef .tc main_v18_1) = gated1 (V3 m ρ) c := (W4_arr m ρ c 7).trans (final1_7 _ c)
theorem conv_4 : W4 m ρ c (Proc.devRef .tc main_v18_0) = conv1 (V3 m ρ) c := (W4_arr m ρ c 6).trans (final1_6 _ c)

/-- The gated input of any row after both launches. -/
theorem gated_at (r : Fin 8704) (j : Fin 1024) :
    ((W4 m ρ c (Proc.devRef .tc main_v18_1) : FVec Ideal S8704x1024 .f32) (ix2 r j) : EReal) = gated (V1 m ρ c main_v2) r j := by
  rw [gated_4]
  show (if 32 ≤ r.val / 256 then gated (V3 m ρ c main_v2) r j else (V3 m ρ c main_v18_1 : FVec Ideal S8704x1024 .f32) (ix2 r j)) = _
  by_cases h : 32 ≤ r.val / 256
  · rw [if_pos h, rows_3]
  · rw [if_neg h, gated_3]
    exact if_pos (by show r.val / 256 < 32; omega)

theorem gated_prompt (g : Fin 4) (t : Fin 2048) (j : Fin 1024) : gated (V1 m ρ c main_v2) (rowP g t) j = gate (prompt m c g t) j := by
  unfold gated gate
  rw [prompt_at, prompt_at]

theorem gated_sample (g : Fin 128) (t : Fin 4) (j : Fin 1024) : gated (V1 m ρ c main_v2) (rowS g t) j = gate (sample m c g t) j := by
  unfold gated gate
  rw [sample_at, sample_at]

/-- A prompt's row of the convolution. -/
theorem conv_prompt (g : Fin 4) (t : Fin 2048) (j : Fin 1024) :
    ((W4 m ρ c (Proc.devRef .tc main_v18_0) : FVec Ideal S8704x1024 .bf16) (ix2 (rowP g t) j) : EReal)
      = shortconv (prompt m c g) (fun _ _ => 0) (taps m c) t j := by
  rw [conv_4]
  refine (if_neg (by show ¬32 ≤ (g.val * 2048 + t.val) / 256; omega)).trans ?_
  rw [conv_3]
  refine (if_pos (by show (g.val * 2048 + t.val) / 256 < 32; omega)).trans ?_
  show conv (V1 m ρ c main_v2) (V1 m ρ c main_v15) (prev2 (V1 m ρ c main_v2) (rowP g t) j) (prev1 (V1 m ρ c main_v2) (rowP g t) j) (rowP g t) j = _
  unfold conv shortconv
  rw [prompt_at, taps0_at, taps0_at, taps0_at, gated_prompt]
  have e2 : prev2 (V1 m ρ c main_v2) (rowP g t) j = back 2 (prompt m c g) (fun _ _ => 0) t j := by
    unfold prev2 back
    by_cases h : t.val < 2
    · rw [if_pos h, if_pos (by show (g.val * 2048 + t.val) % 2048 < 2; omega)]
    · rw [if_neg h, if_neg (by show ¬(g.val * 2048 + t.val) % 2048 < 2; omega)]
      exact (gated_congr _ _ (rowP g ⟨t.val - 2, by omega⟩) (by dsimp only; omega) j).trans (gated_prompt m ρ c g _ j)
  have e1 : prev1 (V1 m ρ c main_v2) (rowP g t) j = back 1 (prompt m c g) (fun _ _ => 0) t j := by
    unfold prev1 back
    by_cases h : t.val < 1
    · rw [if_pos h, if_pos (by show (g.val * 2048 + t.val) % 2048 = 0; omega)]
    · rw [if_neg h, if_neg (by show ¬(g.val * 2048 + t.val) % 2048 = 0; omega)]
      exact (gated_congr _ _ (rowP g ⟨t.val - 1, by omega⟩) (by dsimp only; omega) j).trans (gated_prompt m ρ c g _ j)
  rw [e2, e1]

/-- A sample's row of the convolution. -/
theorem conv_sample (g : Fin 128) (t : Fin 4) (j : Fin 1024) :
    ((W4 m ρ c (Proc.devRef .tc main_v18_0) : FVec Ideal S8704x1024 .bf16) (ix2 (rowS g t) j) : EReal)
      = shortconv (sample m c g) (carried m c g) (taps m c) t j := by
  rw [conv_4]
  refine (if_pos (by show 32 ≤ (8192 + (g.val * 4 + t.val)) / 256; omega)).trans ?_
  show conv (V3 m ρ c main_v2) (V3 m ρ c main_v17) (prev 2 (V3 m ρ c main_v14) (V3 m ρ c main_v2) (rowS g t) j)
    (prev 1 (V3 m ρ c main_v10) (V3 m ρ c main_v2) (rowS g t) j) (rowS g t) j = _
  unfold conv shortconv
  rw [rows_3, sample_at, taps1_at, taps1_at, taps1_at, gated_sample, last_3, both_3]
  have e2 : prev 2 (V1 m ρ c main_v14) (V1 m ρ c main_v2) (rowS g t) j = back 2 (sample m c g) (carried m c g) t j := by
    unfold prev back
    by_cases h : t.val < 2
    · rw [if_pos h, if_pos (by show (8192 + (g.val * 4 + t.val)) % 4 < 2; omega)]
      refine Eq.trans ?_ (both_at m ρ c g ⟨(2 - 2 + t.val) % 2, by omega⟩ j)
      exact congrArg (fun a => (V1 m ρ c main_v14 : FVec Ideal S512x1024 .f32) (ix2 a j)) (Fin.ext (by dsimp only; omega))
    · rw [if_neg h, if_neg (by show ¬(8192 + (g.val * 4 + t.val)) % 4 < 2; omega)]
      exact (gated_congr _ _ (rowS g ⟨t.val - 2, by omega⟩) (by dsimp only; omega) j).trans (gated_sample m ρ c g _ j)
  have e1 : prev 1 (V1 m ρ c main_v10) (V1 m ρ c main_v2) (rowS g t) j = back 1 (sample m c g) (carried m c g) t j := by
    unfold prev back
    by_cases h : t.val < 1
    · rw [if_pos h, if_pos (by show (8192 + (g.val * 4 + t.val)) % 4 < 1; omega),
        show (⟨(2 - 1 + t.val) % 2, by omega⟩ : Fin 2) = 1 from Fin.ext (by show (2 - 1 + t.val) % 2 = 1; omega)]
      refine Eq.trans ?_ (last_at m ρ c g j)
      exact congrArg (fun a => (V1 m ρ c main_v10 : FVec Ideal S512x1024 .f32) (ix2 a j)) (Fin.ext (by dsimp only; omega))
    · rw [if_neg h, if_neg (by show ¬(8192 + (g.val * 4 + t.val)) % 4 < 1; omega)]
      exact (gated_congr _ _ (rowS g ⟨t.val - 1, by omega⟩) (by dsimp only; omega) j).trans (gated_sample m ρ c g _ j)
  rw [e2, e1]

/-! ## The results -/

/-- The convolution's state after a prompt: its last two rows' gated inputs. -/
theorem state_prompt (g : Fin 4) (q : Fin 2) (j : Fin 1024) :
    ((W5 m ρ c (Proc.devRef .tc main_v24) : FVec Ideal S1x4x2x1024 .f32) (ix4 0 g q j) : EReal) = gate (prompt m c g ⟨2046 + q.val, by omega⟩) j := by
  refine Eq.trans ?_ ((gated_at m ρ c (rowP g ⟨2046 + q.val, by omega⟩) j).trans (gated_prompt m ρ c g _ j))
  rw [show W5 m ρ c (Proc.devRef .tc main_v24) = StableHlo.after hostOps2 (W4 m ρ c) main_v24 from rfl]
  entry_read
  pointwise []
  by_cases h : q.val < 1
  · rw [dif_pos h]
    exact congrArg (fun a => (W4 m ρ c (Proc.devRef .tc main_v18_1) : FVec Ideal S8704x1024 .f32) (ix2 a j)) (Fin.ext (by dsimp only; omega))
  · rw [dif_neg h]
    exact congrArg (fun a => (W4 m ρ c (Proc.devRef .tc main_v18_1) : FVec Ideal S8704x1024 .f32) (ix2 a j)) (Fin.ext (by dsimp only; omega))

theorem state_sample (g : Fin 128) (q : Fin 2) (j : Fin 1024) :
    ((W5 m ρ c (Proc.devRef .tc main_v30) : FVec Ideal S1x128x2x1024 .f32) (ix4 0 g q j) : EReal) = gate (sample m c g ⟨2 + q.val, by omega⟩) j := by
  refine Eq.trans ?_ ((gated_at m ρ c (rowS g ⟨2 + q.val, by omega⟩) j).trans (gated_sample m ρ c g _ j))
  rw [show W5 m ρ c (Proc.devRef .tc main_v30) = StableHlo.after hostOps2 (W4 m ρ c) main_v30 from rfl]
  entry_read
  pointwise []
  by_cases h : q.val < 1
  · rw [dif_pos h]
    exact congrArg (fun a => (W4 m ρ c (Proc.devRef .tc main_v18_1) : FVec Ideal S8704x1024 .f32) (ix2 a j)) (Fin.ext (by dsimp only; omega))
  · rw [dif_neg h]
    exact congrArg (fun a => (W4 m ρ c (Proc.devRef .tc main_v18_1) : FVec Ideal S8704x1024 .f32) (ix2 a j)) (Fin.ext (by dsimp only; omega))

theorem out_prompt (g : Fin 4) (t : Fin 2048) (j : Fin 1024) :
    ((W5 m ρ c (Proc.devRef .tc main_v33) : FVec Ideal S4x2048x1024 .f32) (ix3 g t j) : EReal) = shortconv (prompt m c g) (fun _ _ => 0) (taps m c) t j := by
  refine Eq.trans ?_ (conv_prompt m ρ c g t j)
  rw [show W5 m ρ c (Proc.devRef .tc main_v33) = StableHlo.after hostOps2 (W4 m ρ c) main_v33 from rfl]
  entry_read
  pointwise []

theorem out_sample (g : Fin 128) (t : Fin 4) (j : Fin 1024) :
    ((W5 m ρ c (Proc.devRef .tc main_v35) : FVec Ideal S128x4x1024 .f32) (ix3 g t j) : EReal)
      = shortconv (sample m c g) (carried m c g) (taps m c) t j := by
  refine Eq.trans ?_ (conv_sample m ρ c g t j)
  rw [show W5 m ρ c (Proc.devRef .tc main_v35) = StableHlo.after hostOps2 (W4 m ρ c) main_v35 from rfl]
  entry_read
  pointwise []

end Cert.Kernel5Ideal.Hand

end
-- ==== Proof.RConv.lean ====
module

public import proofs.«01_k».proof.Proof.Conv
public import proofs.«01_k».proof.Proof.Gen.Reference5Ideal.Run

@[expose] public section

set_option maxRecDepth 65536

noncomputable section

/-! What the reference of the short convolution returns. -/

namespace Cert.Reference5Ideal.Hand

open Cert.Reference5Ideal Cert.Reference5Ideal.Gen Cert.Reference5Ideal.Value Cert.Conv
open Idealize.ShloMosaic Idealize.ShloMosaic.TcCoe

variable (m : (ℓ : Loc nD τ sig) → Buf (Elt Ideal) ℓ) (c : Dev nD)

/-- The projection's rows, the carried rows and the taps as the arguments hold them. -/
def prompt (g : Fin 4) (t : Fin 2048) (k : Fin 4096) : EReal := (m ((c : Thread nD τ).loc main_arg0) : FVec Ideal S4x2048x4096 .f32) (ix3 g t k)
def sample (g : Fin 128) (t : Fin 4) (k : Fin 4096) : EReal := (m ((c : Thread nD τ).loc main_arg1) : FVec Ideal S128x4x4096 .f32) (ix3 g t k)
def carried (g : Fin 128) (q : Fin 2) (j : Fin 1024) : EReal := (m ((c : Thread nD τ).loc main_arg2) : FVec Ideal S1x128x2x1024 .f32) (ix4 0 g q j)
def taps (q : Fin 3) (j : Fin 1024) : EReal := (m ((c : Thread nD τ).loc main_arg3) : FVec Ideal S1x3x1024 .f32) (ix3 0 q j)

/-! ## The prompts -/

/-- The rows of a prompt after its carried zeros. -/
def seqP (P : FVec Ideal S4x2048x4096 .f32) : FVec Ideal S4x2050x1024 .f32 :=
  concatenate S4x2050x1024 1 [⟨S4x2x1024, (broadcastInDim S4x2x1024 ![] bcast_S_S4x2x1024 (constant S_ .f32 0x00000000#32))⟩, ⟨S4x2048x1024, (mulf (extractStridedSlice S4x2048x1024 ![0, 0, 1024] (extractStridedSlice S4x2048x3072 ![0, 0, 0] P slices_S4x2048x4096_S4x2048x3072_0_0_0) slices_S4x2048x3072_S4x2048x1024_0_0_1024) (extractStridedSlice S4x2048x1024 ![0, 0, 2048] (extractStridedSlice S4x2048x3072 ![0, 0, 0] P slices_S4x2048x4096_S4x2048x3072_0_0_0) slices_S4x2048x3072_S4x2048x1024_0_0_2048))⟩] concatenates_S4x2x1024_S4x2048x1024_S4x2050x1024_d1

def stateP (Q : FVec Ideal S4x2050x1024 .f32) : FVec Ideal S1x4x2x1024 .f32 :=
  broadcastInDim S1x4x2x1024 ![1, 2, 3] bcast_S4x2x1024_S1x4x2x1024_1_2_3 (extractStridedSlice S4x2x1024 ![0, 2048, 0] Q slices_S4x2050x1024_S4x2x1024_0_2048_0)

def outP (P : FVec Ideal S4x2048x4096 .f32) (Q : FVec Ideal S4x2050x1024 .f32) (W : FVec Ideal S1x3x1024 .f32) : FVec Ideal S4x2048x1024 .f32 :=
  mulf (extractStridedSlice S4x2048x1024 ![0, 0, 0] (extractStridedSlice S4x2048x3072 ![0, 0, 0] P slices_S4x2048x4096_S4x2048x3072_0_0_0) slices_S4x2048x3072_S4x2048x1024_0_0_0) (addf (addf (mulf (extractStridedSlice S4x2048x1024 ![0, 0, 0] Q slices_S4x2050x1024_S4x2048x1024_0_0_0) (broadcastInDim S4x2048x1024 ![0, 1, 2] bcast_S1x1x1024_S4x2048x1024_0_1_2 (broadcastInDim S1x1x1024 ![2] bcast_S1024_S1x1x1024_2 (shapeCast _ (extractStridedSlice S1x1024 ![0, 0] (shapeCast _ W shapeCasts_S1x3x1024_S3x1024) slices_S3x1024_S1x1024_0_0) shapeCasts_S1x1024_S1024)))) (mulf (extractStridedSlice S4x2048x1024 ![0, 1, 0] Q slices_S4x2050x1024_S4x2048x1024_0_1_0) (broadcastInDim S4x2048x1024 ![0, 1, 2] bcast_S1x1x1024_S4x2048x1024_0_1_2 (broadcastInDim S1x1x1024 ![2] bcast_S1024_S1x1x1024_2 (shapeCast _ (extractStridedSlice S1x1024 ![1, 0] (shapeCast _ W shapeCasts_S1x3x1024_S3x1024) slices_S3x1024_S1x1024_1_0) shapeCasts_S1x1024_S1024))))) (mulf (extractStridedSlice S4x2048x1024 ![0, 2, 0] Q slices_S4x2050x1024_S4x2048x1024_0_2_0) (broadcastInDim S4x2048x1024 ![0, 1, 2] bcast_S1x1x1024_S4x2048x1024_0_1_2 (broadcastInDim S1x1x1024 ![2] bcast_S1024_S1x1x1024_2 (shapeCast _ (extractStridedSlice S1x1024 ![2, 0] (shapeCast _ W shapeCasts_S1x3x1024_S3x1024) slices_S3x1024_S1x1024_2_0) shapeCasts_S1x1024_S1024)))))

theorem seqP_at (P : FVec Ideal S4x2048x4096 .f32) (g : Fin 4) (s : Fin 2050) (j : Fin 1024) :
    (seqP P (ix3 g s j) : EReal) = if h : s.val < 2 then 0 else gate (fun k => P (ix3 g ⟨s.val - 2, by omega⟩ k)) j := by
  pointwise [seqP]
  rfl

theorem stateP_at (Q : FVec Ideal S4x2050x1024 .f32) (g : Fin 4) (q : Fin 2) (j : Fin 1024) :
    (stateP Q (ix4 0 g q j) : EReal) = Q (ix3 g ⟨2048 + q.val, by omega⟩ j) := by
  pointwise [stateP]

theorem outP_at (P : FVec Ideal S4x2048x4096 .f32) (Q : FVec Ideal S4x2050x1024 .f32) (W : FVec Ideal S1x3x1024 .f32) (g : Fin 4) (t : Fin 2048) (j : Fin 1024) :
    (outP P Q W (ix3 g t j) : EReal) = P (ix3 g t ⟨j.val, by omega⟩) * (Q (ix3 g ⟨t.val, by omega⟩ j) * W (ix3 0 0 j)
      + Q (ix3 g ⟨1 + t.val, by omega⟩ j) * W (ix3 0 1 j) + Q (ix3 g ⟨2 + t.val, by omega⟩ j) * W (ix3 0 2 j)) := by
  pointwise [outP]

/-! ## The samples -/

/-- The rows of a sample after its carried rows. -/
def seqS (P : FVec Ideal S128x4x4096 .f32) (B : FVec Ideal S1x128x2x1024 .f32) : FVec Ideal S128x6x1024 .f32 :=
  concatenate S128x6x1024 1 [⟨S128x2x1024, (shapeCast _ B shapeCasts_S1x128x2x1024_S128x2x1024)⟩, ⟨S128x4x1024, (mulf (extractStridedSlice S128x4x1024 ![0, 0, 1024] (extractStridedSlice S128x4x3072 ![0, 0, 0] P slices_S128x4x4096_S128x4x3072_0_0_0) slices_S128x4x3072_S128x4x1024_0_0_1024) (extractStridedSlice S128x4x1024 ![0, 0, 2048] (extractStridedSlice S128x4x3072 ![0, 0, 0] P slices_S128x4x4096_S128x4x3072_0_0_0) slices_S128x4x3072_S128x4x1024_0_0_2048))⟩] concatenates_S128x2x1024_S128x4x1024_S128x6x1024_d1

def stateS (Q : FVec Ideal S128x6x1024 .f32) : FVec Ideal S1x128x2x1024 .f32 :=
  broadcastInDim S1x128x2x1024 ![1, 2, 3] bcast_S128x2x1024_S1x128x2x1024_1_2_3 (extractStridedSlice S128x2x1024 ![0, 4, 0] Q slices_S128x6x1024_S128x2x1024_0_4_0)

def outS (P : FVec Ideal S128x4x4096 .f32) (Q : FVec Ideal S128x6x1024 .f32) (W : FVec Ideal S1x3x1024 .f32) : FVec Ideal S128x4x1024 .f32 :=
  mulf (extractStridedSlice S128x4x1024 ![0, 0, 0] (extractStridedSlice S128x4x3072 ![0, 0, 0] P slices_S128x4x4096_S128x4x3072_0_0_0) slices_S128x4x3072_S128x4x1024_0_0_0) (addf (addf (mulf (extractStridedSlice S128x4x1024 ![0, 0, 0] Q slices_S128x6x1024_S128x4x1024_0_0_0) (broadcastInDim S128x4x1024 ![0, 1, 2] bcast_S1x1x1024_S128x4x1024_0_1_2 (broadcastInDim S1x1x1024 ![2] bcast_S1024_S1x1x1024_2 (shapeCast _ (extractStridedSlice S1x1024 ![0, 0] (shapeCast _ W shapeCasts_S1x3x1024_S3x1024) slices_S3x1024_S1x1024_0_0) shapeCasts_S1x1024_S1024)))) (mulf (extractStridedSlice S128x4x1024 ![0, 1, 0] Q slices_S128x6x1024_S128x4x1024_0_1_0) (broadcastInDim S128x4x1024 ![0, 1, 2] bcast_S1x1x1024_S128x4x1024_0_1_2 (broadcastInDim S1x1x1024 ![2] bcast_S1024_S1x1x1024_2 (shapeCast _ (extractStridedSlice S1x1024 ![1, 0] (shapeCast _ W shapeCasts_S1x3x1024_S3x1024) slices_S3x1024_S1x1024_1_0) shapeCasts_S1x1024_S1024))))) (mulf (extractStridedSlice S128x4x1024 ![0, 2, 0] Q slices_S128x6x1024_S128x4x1024_0_2_0) (broadcastInDim S128x4x1024 ![0, 1, 2] bcast_S1x1x1024_S128x4x1024_0_1_2 (broadcastInDim S1x1x1024 ![2] bcast_S1024_S1x1x1024_2 (shapeCast _ (extractStridedSlice S1x1024 ![2, 0] (shapeCast _ W shapeCasts_S1x3x1024_S3x1024) slices_S3x1024_S1x1024_2_0) shapeCasts_S1x1024_S1024)))))

theorem seqS_at (P : FVec Ideal S128x4x4096 .f32) (B : FVec Ideal S1x128x2x1024 .f32) (g : Fin 128) (s : Fin 6) (j : Fin 1024) :
    (seqS P B (ix3 g s j) : EReal) = if h : s.val < 2 then B (ix4 0 g ⟨s.val, h⟩ j) else gate (fun k => P (ix3 g ⟨s.val - 2, by omega⟩ k)) j := by
  pointwise [seqS]
  rfl

theorem stateS_at (Q : FVec Ideal S128x6x1024 .f32) (g : Fin 128) (q : Fin 2) (j : Fin 1024) :
    (stateS Q (ix4 0 g q j) : EReal) = Q (ix3 g ⟨4 + q.val, by omega⟩ j) := by
  pointwise [stateS]

theorem outS_at (P : FVec Ideal S128x4x4096 .f32) (Q : FVec Ideal S128x6x1024 .f32) (W : FVec Ideal S1x3x1024 .f32) (g : Fin 128) (t : Fin 4) (j : Fin 1024) :
    (outS P Q W (ix3 g t j) : EReal) = P (ix3 g t ⟨j.val, by omega⟩) * (Q (ix3 g ⟨t.val, by omega⟩ j) * W (ix3 0 0 j)
      + Q (ix3 g ⟨1 + t.val, by omega⟩ j) * W (ix3 0 1 j) + Q (ix3 g ⟨2 + t.val, by omega⟩ j) * W (ix3 0 2 j)) := by
  pointwise [outS]

/-! ## From the arguments -/

def rowsP : FVec Ideal S4x2050x1024 .f32 := seqP (m ((c : Thread nD τ).loc main_arg0))
def rowsS : FVec Ideal S128x6x1024 .f32 := seqS (m ((c : Thread nD τ).loc main_arg1)) (m ((c : Thread nD τ).loc main_arg2))

/-- A row of the sequence after the two carried ones is the sequence's own. -/
theorem rowsP_own (g : Fin 4) (s : Fin 2050) (t : Fin 2048) (h : s.val = 2 + t.val) (j : Fin 1024) : (rowsP m c (ix3 g s j) : EReal) = gate (prompt m c g t) j := by
  refine (seqP_at _ g s j).trans ?_
  rw [dif_neg (by omega)]
  exact congrArg (fun a => gate (prompt m c g a) j) (Fin.ext (by dsimp only; omega))

theorem rowsS_own (g : Fin 128) (s : Fin 6) (t : Fin 4) (h : s.val = 2 + t.val) (j : Fin 1024) : (rowsS m c (ix3 g s j) : EReal) = gate (sample m c g t) j := by
  refine (seqS_at _ _ g s j).trans ?_
  rw [dif_neg (by omega)]
  exact congrArg (fun a => gate (sample m c g a) j) (Fin.ext (by dsimp only; omega))

theorem rowsP_back (q : Nat) (hq : q ≤ 2) (g : Fin 4) (s : Fin 2050) (t : Fin 2048) (h : s.val = 2 - q + t.val) (j : Fin 1024) :
    (rowsP m c (ix3 g s j) : EReal) = back q (prompt m c g) (fun _ _ => 0) t j := by
  unfold back
  by_cases ht : t.val < q
  · rw [if_pos ht]
    exact (seqP_at _ g s j).trans (dif_pos (by omega))
  · rw [if_neg ht]
    exact rowsP_own m c g s ⟨t.val - q, by omega⟩ (by dsimp only; omega) j

theorem rowsS_back (q : Nat) (hq : q ≤ 2) (g : Fin 128) (s : Fin 6) (t : Fin 4) (h : s.val = 2 - q + t.val) (j : Fin 1024) :
    (rowsS m c (ix3 g s j) : EReal) = back q (sample m c g) (carried m c g) t j := by
  unfold back
  by_cases ht : t.val < q
  · rw [if_pos ht]
    refine ((seqS_at _ _ g s j).trans (dif_pos (by omega))).trans ?_
    exact congrArg (fun a => carried m c g a j) (Fin.ext (by dsimp only; omega))
  · rw [if_neg ht]
    exact rowsS_own m c g s ⟨t.val - q, by omega⟩ (by dsimp only; omega) j

theorem state_prompt (g : Fin 4) (q : Fin 2) (j : Fin 1024) : (stateP (rowsP m c) (ix4 0 g q j) : EReal) = gate (prompt m c g ⟨2046 + q.val, by omega⟩) j :=
  (stateP_at _ g q j).trans (rowsP_own m c g _ _ (by dsimp only; omega) j)

theorem state_sample (g : Fin 128) (q : Fin 2) (j : Fin 1024) : (stateS (rowsS m c) (ix4 0 g q j) : EReal) = gate (sample m c g ⟨2 + q.val, by omega⟩) j :=
  (stateS_at _ g q j).trans (rowsS_own m c g _ _ (by dsimp only; omega) j)

theorem out_prompt (g : Fin 4) (t : Fin 2048) (j : Fin 1024) :
    (outP (m ((c : Thread nD τ).loc main_arg0)) (rowsP m c) (m ((c : Thread nD τ).loc main_arg3)) (ix3 g t j) : EReal)
      = shortconv (prompt m c g) (fun _ _ => 0) (taps m c) t j := by
  refine (outP_at _ _ _ g t j).trans ?_
  rw [rowsP_back m c 2 (by omega) g _ t (by dsimp only <;> omega) j, rowsP_back m c 1 (by omega) g _ t (by dsimp only <;> omega) j, rowsP_own m c g _ t (by dsimp only) j]
  rfl

theorem out_sample (g : Fin 128) (t : Fin 4) (j : Fin 1024) :
    (outS (m ((c : Thread nD τ).loc main_arg1)) (rowsS m c) (m ((c : Thread nD τ).loc main_arg3)) (ix3 g t j) : EReal)
      = shortconv (sample m c g) (carried m c g) (taps m c) t j := by
  refine (outS_at _ _ _ g t j).trans ?_
  rw [rowsS_back m c 2 (by omega) g _ t (by dsimp only <;> omega) j, rowsS_back m c 1 (by omega) g _ t (by dsimp only <;> omega) j, rowsS_own m c g _ t (by dsimp only) j]
  rfl

end Cert.Reference5Ideal.Hand

end
-- ==== Proof.ConvFinal.lean ====
module

public import proofs.«01_k».proof.Defs
public import proofs.«01_k».proof.Proof.KConvRun
public import proofs.«01_k».proof.Proof.RConv
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import Idealize.ShloMosaic.Adequacy
public import Idealize.ShloMosaic.Init

@[expose] public section

set_option maxRecDepth 65536

noncomputable section

/-! The claims about the short convolution. -/

namespace Cert.Proof

open Idealize.ShloMosaic Idealize.ShloMosaic.TcCoe Idealize.SL.Sem

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

/-- The reference is host operations alone and declares no semaphore. -/
theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The launches' states and rows are the reference's, for any arguments. -/
theorem algebraic5 : Cert.algebraic_Kernel5Ideal_Reference5Ideal := by
  intro m g m' g' hpre hagree
  refine ⟨fun c => Cert.Kernel5Ideal.Gen.W5 m g c (Proc.devRef .tc Cert.Kernel5Ideal.main_v24),
    fun c => Cert.Kernel5Ideal.Gen.W5 m g c (Proc.devRef .tc Cert.Kernel5Ideal.main_v30),
    fun c => Cert.Kernel5Ideal.Gen.W5 m g c (Proc.devRef .tc Cert.Kernel5Ideal.main_v33),
    fun c => Cert.Kernel5Ideal.Gen.W5 m g c (Proc.devRef .tc Cert.Kernel5Ideal.main_v35), ?_, ?_⟩
  · exact θ_run_mono (θ_run_and (Cert.Kernel5Ideal.Hand.run_all m g) (frame_ideal5 m g hpre)) fun r hr c =>
      ⟨hr.1.1 c _ (Cert.Kernel5Ideal.Gen.mem_uc Cert.Kernel5Ideal.main_v24 (by decide)),
        hr.1.1 c _ (Cert.Kernel5Ideal.Gen.mem_uc Cert.Kernel5Ideal.main_v30 (by decide)),
        hr.1.1 c _ (Cert.Kernel5Ideal.Gen.mem_uc Cert.Kernel5Ideal.main_v33 (by decide)),
        hr.1.1 c _ (Cert.Kernel5Ideal.Gen.mem_uc Cert.Kernel5Ideal.main_v35 (by decide)), hr.2.1 c⟩
  · refine θ_run_mono (Cert.Reference5Ideal.Value.run m' g') fun r h c => ?_
    obtain ⟨h0, h1, h2, h3⟩ := hagree c
    have e0 : ∀ b, Cert.Reference5Ideal.Hand.prompt m' c b = Cert.Kernel5Ideal.Hand.prompt m c b :=
      fun b => funext fun t => funext fun k => congrFun h0 (ix3 b t k)
    have e1 : ∀ b, Cert.Reference5Ideal.Hand.sample m' c b = Cert.Kernel5Ideal.Hand.sample m c b :=
      fun b => funext fun t => funext fun k => congrFun h1 (ix3 b t k)
    have e2 : ∀ b, Cert.Reference5Ideal.Hand.carried m' c b = Cert.Kernel5Ideal.Hand.carried m c b :=
      fun b => funext fun q => funext fun j => congrFun h2 (ix4 0 b q j)
    have e3 : Cert.Reference5Ideal.Hand.taps m' c = Cert.Kernel5Ideal.Hand.taps m c := funext fun q => funext fun j => congrFun h3 (ix3 0 q j)
    refine ⟨(h c).1.trans ?_, (h c).2.1.trans ?_, (h c).2.2.1.trans ?_, (h c).2.2.2.1.trans ?_, (h c).2.2.2.2⟩
    · change Cert.Reference5Ideal.Hand.stateP (Cert.Reference5Ideal.Hand.rowsP m' c) = _
      refine funext fun y => ?_
      idx_vars y
      obtain rfl : y0 = 0 := Subsingleton.elim _ _
      refine (Cert.Reference5Ideal.Hand.state_prompt m' c y1 y2 y3).trans ?_
      rw [e0]
      exact (Cert.Kernel5Ideal.Hand.state_prompt m g c y1 y2 y3).symm
    · change Cert.Reference5Ideal.Hand.stateS (Cert.Reference5Ideal.Hand.rowsS m' c) = _
      refine funext fun y => ?_
      idx_vars y
      obtain rfl : y0 = 0 := Subsingleton.elim _ _
      refine (Cert.Reference5Ideal.Hand.state_sample m' c y1 y2 y3).trans ?_
      rw [e1]
      exact (Cert.Kernel5Ideal.Hand.state_sample m g c y1 y2 y3).symm
    · change Cert.Reference5Ideal.Hand.outP _ (Cert.Reference5Ideal.Hand.rowsP m' c) _ = _
      refine funext fun y => ?_
      idx_vars y
      refine (Cert.Reference5Ideal.Hand.out_prompt m' c y0 y1 y2).trans ?_
      rw [e0, e3]
      exact (Cert.Kernel5Ideal.Hand.out_prompt m g c y0 y1 y2).symm
    · change Cert.Reference5Ideal.Hand.outS _ (Cert.Reference5Ideal.Hand.rowsS m' c) _ = _
      refine funext fun y => ?_
      idx_vars y
      refine (Cert.Reference5Ideal.Hand.out_sample m' c y0 y1 y2).trans ?_
      rw [e1, e2, e3]
      exact (Cert.Kernel5Ideal.Hand.out_sample m g c y0 y1 y2).symm

end Cert.Proof

end
-- ==== Proof.Attn.lean ====
module

public import Idealize.ShloMosaic.Lib.Pipeline.ValueKit
public import Idealize.ShloMosaic.Lib.Claim

@[expose] public section

noncomputable section

/-! One row's attention to 256 tokens in one head: the scores, their softmax, and the mean of the values. -/

namespace Cert.Attn

open Idealize.ShloMosaic

/-- A query against every token's key, scaled. -/
def scores (q : Fin 256 → EReal) (k : Fin 256 → Fin 256 → EReal) (x : Fin 256) : EReal :=
  (∑ e, q e * k x e) * Ideal.ofBits .f32 0x3D800000#32

/-- The greatest score. -/
def top (s : Fin 256 → EReal) : EReal := Finset.fold max (Ideal.ofBits .f32 0xFF800000#32) s Finset.univ

/-- A token's share: the softmax of the scores. -/
def share (s : Fin 256 → EReal) (x : Fin 256) : EReal :=
  Ideal.div (Ideal.exp (s x - top s)) (∑ z, Ideal.exp (s z - top s))

/-- The values' mean under the shares. -/
def attend (q : Fin 256 → EReal) (k v : Fin 256 → Fin 256 → EReal) (e : Fin 256) : EReal :=
  ∑ x, share (scores q k) x * v x e

theorem attend_congr {q q' : Fin 256 → EReal} {k k' v v' : Fin 256 → Fin 256 → EReal} (e : Fin 256)
    (hq : ∀ i, q i = q' i) (hk : ∀ x i, k x i = k' x i) (hv : ∀ x i, v x i = v' x i) : attend q k v e = attend q' k' v' e := by
  rw [funext hq, funext fun x => funext (hk x), funext fun x => funext (hv x)]

/-- Four heads side by side: a column's own head attends through its own 256 columns. -/
def heads (q : Fin 1024 → EReal) (k v : Fin 256 → Fin 1024 → EReal) (j : Fin 1024) : EReal :=
  attend (fun i => q ⟨j.val / 256 * 256 + i.val, by omega⟩) (fun x i => k x ⟨j.val / 256 * 256 + i.val, by omega⟩)
    (fun x i => v x ⟨j.val / 256 * 256 + i.val, by omega⟩) ⟨j.val % 256, by omega⟩

theorem heads_at (h : Fin 4) (e : Fin 256) (j : Fin 1024) (hj : j.val = h.val * 256 + e.val) (q : Fin 1024 → EReal) (k v : Fin 256 → Fin 1024 → EReal) :
    heads q k v j = attend (fun i => q ⟨h.val * 256 + i.val, by omega⟩) (fun x i => k x ⟨h.val * 256 + i.val, by omega⟩)
      (fun x i => v x ⟨h.val * 256 + i.val, by omega⟩) e := by
  have hd : j.val / 256 = h.val := by omega
  have hm : (⟨j.val % 256, by omega⟩ : Fin 256) = e := Fin.ext (by show j.val % 256 = e.val; omega)
  unfold heads
  rw [hm]
  simp only [hd]

theorem heads_congr {q q' : Fin 1024 → EReal} {k k' v v' : Fin 256 → Fin 1024 → EReal} (j : Fin 1024)
    (hq : ∀ i, q i = q' i) (hk : ∀ x i, k x i = k' x i) (hv : ∀ x i, v x i = v' x i) : heads q k v j = heads q' k' v' j := by
  rw [funext hq, funext fun x => funext (hk x), funext fun x => funext (hv x)]

/-- A maximum taken once more with its start is itself. -/
theorem max_top (s : Fin 256 → EReal) : max (Ideal.ofBits .f32 0xFF800000#32) (top s) = top s :=
  max_eq_right ((Finset.le_fold_max _).2 (.inl le_rfl))

end Cert.Attn

end
-- ==== Proof.KAttn.lean ====
module

public import proofs.«01_k».proof.Proof.Gen.Kernel6Ideal.Frame
public import proofs.«01_k».proof.Proof.Attn
public import Idealize.ShloMosaic.Lib.Pipeline.ValueKit

@[expose] public section

set_option maxRecDepth 65536

noncomputable section

/-! What the memory attention's launch over the prompts' rows leaves in its array, from any contents at its entry. -/

namespace Cert.Kernel6Ideal.Hand

open Cert.Kernel6Ideal Cert.Kernel6Ideal.Gen Cert.Attn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, (win0_0.index t = ![t.val, 3] ∧ win0_1.index t = ![t.val / 4, 0, 0] ∧ win0_2.index t = ![t.val / 4, 0, 0]
    ∧ win0_3.index t = ![t.val, 0]) ∧ t.val < 16 :=
  (by decide +kernel : ∀ t : Fin grid0.N, _)

abbrev row0 (t : Fin cfg0.N) (r : Fin 512) : Fin 8704 := ⟨t.val * 512 + r.val, by have := (idx0 t).2; omega⟩
abbrev own0 (t : Fin cfg0.N) : Fin 4 := ⟨t.val / 4, by have := (idx0 t).2; omega⟩

theorem blk0_0 (t : Fin cfg0.N) (r : Fin 512) (j : Fin 1024) : (iblk0 V c 0 t : FVec Ideal S512x1024 .f32) (ix2 r j)
    = (V c main_v2 : FVec Ideal S8704x4096 .f32) (ix2 (row0 t r) ⟨3072 + j.val, by omega⟩) := by
  blk_simp [iblk0, idx0 t]
  blk_ext [idx0 t]

theorem blk0_1 (t : Fin cfg0.N) (x : Fin 256) (j : Fin 1024) : (iblk0 V c 1 t : FVec Ideal S1x256x1024 .f32) (ix3 0 x j)
    = (V c main_v6 : FVec Ideal S4x256x1024 .f32) (ix3 (own0 t) x j) := by
  blk_simp [iblk0, idx0 t]
  blk_ext [idx0 t]

theorem blk0_2 (t : Fin cfg0.N) (x : Fin 256) (j : Fin 1024) : (iblk0 V c 2 t : FVec Ideal S1x256x1024 .f32) (ix3 0 x j)
    = (V c main_v7 : FVec Ideal S4x256x1024 .f32) (ix3 (own0 t) x j) := by
  blk_simp [iblk0, idx0 t]
  blk_ext [idx0 t]

/-- The block's rows of one head's queries, keys and values, as the launch loads them. -/
theorem ldq0 (t : Fin cfg0.N) (h : Fin 4) (inb) (r : Fin 512) (i : Fin 256) :
    (View.ld (iblk0 V c 0 t : FVec Ideal S512x1024 .f32) (Rect.unit ![0, h.val * 256] ![512, 256] inb) (ix2 r i) : EReal)
      = (V c main_v2 : FVec Ideal S8704x4096 .f32) (ix2 (row0 t r) ⟨3072 + (h.val * 256 + i.val), by omega⟩) := by
  refine (View.ld_unit_apply_of (iblk0 V c 0 t : FVec Ideal S512x1024 .f32) _ _ inb _ (ix2 r ⟨h.val * 256 + i.val, by omega⟩) fun a => ?_).trans (blk0_0 V c t r _)
  match a with
  | ⟨0, _⟩ => exact (Nat.zero_add _).symm
  | ⟨1, _⟩ => rfl

theorem ldk0 (t : Fin cfg0.N) (h : Fin 4) (inb) (x i : Fin 256) :
    (View.ld (iblk0 V c 1 t : FVec Ideal S1x256x1024 .f32) (Rect.unit ![0, 0, h.val * 256] ![1, 256, 256] inb) (ix3 0 x i) : EReal)
      = (V c main_v6 : FVec Ideal S4x256x1024 .f32) (ix3 (own0 t) x ⟨h.val * 256 + i.val, by omega⟩) := by
  refine (View.ld_unit_apply_of (iblk0 V c 1 t : FVec Ideal S1x256x1024 .f32) _ _ inb _ (ix3 0 x ⟨h.val * 256 + i.val, by omega⟩) fun a => ?_).trans (blk0_1 V c t x _)
  match a with
  | ⟨0, _⟩ => rfl
  | ⟨1, _⟩ => exact (Nat.zero_add _).symm
  | ⟨2, _⟩ => rfl

theorem ldv0 (t : Fin cfg0.N) (h : Fin 4) (inb) (x i : Fin 256) :
    (View.ld (iblk0 V c 2 t : FVec Ideal S1x256x1024 .f32) (Rect.unit ![0, 0, h.val * 256] ![1, 256, 256] inb) (ix3 0 x i) : EReal)
      = (V c main_v7 : FVec Ideal S4x256x1024 .f32) (ix3 (own0 t) x ⟨h.val * 256 + i.val, by omega⟩) := by
  refine (View.ld_unit_apply_of (iblk0 V c 2 t : FVec Ideal S1x256x1024 .f32) _ _ inb _ (ix3 0 x ⟨h.val * 256 + i.val, by omega⟩) fun a => ?_).trans (blk0_2 V c t x _)
  match a with
  | ⟨0, _⟩ => rfl
  | ⟨1, _⟩ => exact (Nat.zero_add _).symm
  | ⟨2, _⟩ => rfl

variable (q0 q1 q2 q3 : FVec Ideal S512x256 .f32) (a0 a1 a2 a3 v : FVec Ideal S1x256x256 .f32)

theorem top0 (i : Fin 2048) :
    (k0_pay3 (F := Ideal) q0 q1 q2 q3 a0 a1 a2 a3 (ix1 i) : EReal) = top (fun x => k0_pay2 (F := Ideal) q0 q1 q2 q3 a0 a1 a2 a3 (ix2 i x)) := by
  pointwise [k0_pay3]
  rfl

theorem share0 (s : FVec Ideal S2048x256 .f32) (n : FVec Ideal S2048 .f32) (hn : ∀ i : Fin 2048, (n (ix1 i) : EReal) = top (fun x => s (ix2 i x)))
    (i : Fin 2048) (x : Fin 256) : (k0_pay4 (F := Ideal) s n (ix2 i x) : EReal) = share (fun z => s (ix2 i z)) x := by
  pointwise [k0_pay4]
  rw [hn i]
  rfl

theorem head0_0 (r : Fin 512) (e : Fin 256) : (k0_pay6 (F := Ideal) (k0_pay2 q0 q1 q2 q3 a0 a1 a2 a3) (k0_pay3 q0 q1 q2 q3 a0 a1 a2 a3) v (ix2 r e) : EReal)
    = attend (fun i => q0 (ix2 r i)) (fun x i => a0 (ix3 0 x i)) (fun x i => v (ix3 0 x i)) e := by
  have hs : (fun z => (k0_pay2 (F := Ideal) q0 q1 q2 q3 a0 a1 a2 a3 (ix2 ⟨r.val, by omega⟩ z) : EReal)) = scores (fun i => q0 (ix2 r i)) (fun x i => a0 (ix3 0 x i)) :=
    funext fun z => by pointwise [k0_pay2]; rfl
  pointwise [k0_pay6]
  simp only [share0 _ _ (top0 q0 q1 q2 q3 a0 a1 a2 a3), hs]
  rfl

theorem head0_1 (r : Fin 512) (e : Fin 256) : (k0_pay7 (F := Ideal) (k0_pay2 q0 q1 q2 q3 a0 a1 a2 a3) (k0_pay3 q0 q1 q2 q3 a0 a1 a2 a3) v (ix2 r e) : EReal)
    = attend (fun i => q1 (ix2 r i)) (fun x i => a1 (ix3 0 x i)) (fun x i => v (ix3 0 x i)) e := by
  have hs : (fun z => (k0_pay2 (F := Ideal) q0 q1 q2 q3 a0 a1 a2 a3 (ix2 ⟨512 + r.val, by omega⟩ z) : EReal)) = scores (fun i => q1 (ix2 r i)) (fun x i => a1 (ix3 0 x i)) :=
    funext fun z => by pointwise [k0_pay2]; rfl
  pointwise [k0_pay7]
  simp only [share0 _ _ (top0 q0 q1 q2 q3 a0 a1 a2 a3), hs]
  rfl

theorem head0_2 (r : Fin 512) (e : Fin 256) : (k0_pay8 (F := Ideal) (k0_pay2 q0 q1 q2 q3 a0 a1 a2 a3) (k0_pay3 q0 q1 q2 q3 a0 a1 a2 a3) v (ix2 r e) : EReal)
    = attend (fun i => q2 (ix2 r i)) (fun x i => a2 (ix3 0 x i)) (fun x i => v (ix3 0 x i)) e := by
  have hs : (fun z => (k0_pay2 (F := Ideal) q0 q1 q2 q3 a0 a1 a2 a3 (ix2 ⟨1024 + r.val, by omega⟩ z) : EReal)) = scores (fun i => q2 (ix2 r i)) (fun x i => a2 (ix3 0 x i)) :=
    funext fun z => by
      pointwise [k0_pay2]
      rw [dif_neg (by omega), dif_neg (by omega), dif_pos (by omega)]
      exact congrArg (· * Ideal.ofBits .f32 0x3D800000#32) (Finset.sum_congr rfl fun x _ =>
        congrArg (fun a => (q2 (ix2 a x) : EReal) * a2 (ix3 0 z x)) (Fin.ext (by dsimp only; omega)))
  pointwise [k0_pay8]
  simp only [share0 _ _ (top0 q0 q1 q2 q3 a0 a1 a2 a3), hs]
  rfl

theorem head0_3 (r : Fin 512) (e : Fin 256) :
    (k0_pay1 (F := Ideal) (k0_pay5 (k0_pay2 q0 q1 q2 q3 a0 a1 a2 a3) (k0_pay3 q0 q1 q2 q3 a0 a1 a2 a3) v) (ix2 r e) : EReal)
    = attend (fun i => q3 (ix2 r i)) (fun x i => a3 (ix3 0 x i)) (fun x i => v (ix3 0 x i)) e := by
  have hs : (fun z => (k0_pay2 (F := Ideal) q0 q1 q2 q3 a0 a1 a2 a3 (ix2 ⟨1536 + r.val, by omega⟩ z) : EReal)) = scores (fun i => q3 (ix2 r i)) (fun x i => a3 (ix3 0 x i)) :=
    funext fun z => by
      pointwise [k0_pay2]
      rw [dif_neg (by omega), dif_neg (by omega), dif_neg (by omega)]
      exact congrArg (· * Ideal.ofBits .f32 0x3D800000#32) (Finset.sum_congr rfl fun x _ =>
        congrArg (fun a => (q3 (ix2 a x) : EReal) * a3 (ix3 0 z x)) (Fin.ext (by dsimp only; omega)))
  pointwise [k0_pay1, k0_pay5]
  simp only [share0 _ _ (top0 q0 q1 q2 q3 a0 a1 a2 a3), hs]
  rfl

/-- A row's attention from the projection's rows and its group's keys and values. -/
def mixed0 (r : Fin 8704) (j : Fin 1024) : EReal :=
  heads (fun i => (V c main_v2 : FVec Ideal S8704x4096 .f32) (ix2 r ⟨3072 + i.val, by omega⟩))
    (fun x i => (V c main_v6 : FVec Ideal S4x256x1024 .f32) (ix3 ⟨r.val / 2048 % 4, by omega⟩ x i))
    (fun x i => (V c main_v7 : FVec Ideal S4x256x1024 .f32) (ix3 ⟨r.val / 2048 % 4, by omega⟩ x i)) j

theorem own0_eq (t : Fin cfg0.N) (r : Fin 512) : (⟨(row0 t r).val / 2048 % 4, by omega⟩ : Fin 4) = own0 t :=
  Fin.ext (by have := (idx0 t).2; show (t.val * 512 + r.val) / 2048 % 4 = t.val / 4; omega)

theorem mixed0_at (t : Fin cfg0.N) (r : Fin 512) (h : Fin 4) (e : Fin 256) (j : Fin 1024) (hj : j.val = h.val * 256 + e.val) (iq ik iv) :
    attend (fun i => View.ld (iblk0 V c 0 t : FVec Ideal S512x1024 .f32) (Rect.unit ![0, h.val * 256] ![512, 256] iq) (ix2 r i))
      (fun x i => View.ld (iblk0 V c 1 t : FVec Ideal S1x256x1024 .f32) (Rect.unit ![0, 0, h.val * 256] ![1, 256, 256] ik) (ix3 0 x i))
      (fun x i => View.ld (iblk0 V c 2 t : FVec Ideal S1x256x1024 .f32) (Rect.unit ![0, 0, h.val * 256] ![1, 256, 256] iv) (ix3 0 x i)) e
      = mixed0 V c (row0 t r) j := by
  unfold mixed0
  rw [heads_at h e j hj, own0_eq]
  exact attend_congr e (ldq0 V c t h iq r) (ldk0 V c t h ik) (ldv0 V c t h iv)

theorem after0 (t : Fin cfg0.N) (r : Fin 512) (j : Fin 1024) : ((dat0 V c).after 3 t : FVec Ideal S512x1024 .bf16) (ix2 r j) = mixed0 V c (row0 t r) j := by
  rw [after0_3, outsAt0]
  frame_out
  canon_tiles x h
  all_goals
    idx_vars x
    obtain rfl : r = x0 := Fin.ext h0
  · exact (head0_3 _ _ _ _ _ _ _ _ _ r x1).trans (mixed0_at V c t r 3 x1 j h1 _ _ _)
  · exact (head0_2 _ _ _ _ _ _ _ _ _ r x1).trans (mixed0_at V c t r 2 x1 j h1 _ _ _)
  · exact (head0_1 _ _ _ _ _ _ _ _ _ r x1).trans (mixed0_at V c t r 1 x1 j h1 _ _ _)
  · exact (head0_0 _ _ _ _ _ _ _ _ _ r x1).trans (mixed0_at V c t r 0 x1 j (h1.trans (Nat.zero_add _).symm) _ _ _)

/-- The attention of the rows written here, the entry's contents elsewhere. -/
def attn0 : FVec Ideal S8704x1024 .bf16 := fun y =>
  if (y 0).val / 512 < 16 then mixed0 V c (y 0) (y 1) else (V c main_v8 : FVec Ideal S8704x1024 .bf16) y

theorem final0 : (dat0 V c).arrAt 3 cfg0.N = attn0 V c := by
  refine Dat.arrAt_eq_of_coversWhere (dat0 V c) 3 (fun y => mixed0 V c (y 0) (y 1)) (fun β => β (0 : Fin _) < 16) (by decide +kernel)
    (fun t _ y => ?_) (fun j => Iff.rfl)
  blk_simp
  idx_vars y
  rw [show (win0_3.blk t).view.emb (ix2 y0 y1) = ix2 (row0 t y0) y1 from by blk_ext [idx0 t]]
  exact after0 V c t y0 y1

end Cert.Kernel6Ideal.Hand

end
-- ==== Proof.KAttnS.lean ====
module

public import proofs.«01_k».proof.Proof.Gen.Kernel6Ideal.Frame
public import proofs.«01_k».proof.Proof.Attn
public import Idealize.ShloMosaic.Lib.Pipeline.ValueKit

@[expose] public section

set_option maxRecDepth 65536

noncomputable section

/-! What the memory attention's launch over the samples' rows leaves in its array, from any contents at its entry. -/

namespace Cert.Kernel6Ideal.Hand

open Cert.Kernel6Ideal Cert.Kernel6Ideal.Gen Cert.Attn
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx1 : ∀ t : Fin cfg1.N, (win1_0.index t = ![512 + t.val, 3] ∧ win1_1.index t = ![t.val, 0, 0] ∧ win1_2.index t = ![t.val, 0, 0]
    ∧ win1_3.index t = ![512 + t.val, 0]) ∧ t.val < 32 :=
  (by decide +kernel : ∀ t : Fin grid1.N, _)

abbrev row1 (t : Fin cfg1.N) (r : Fin 16) : Fin 8704 := ⟨(512 + t.val) * 16 + r.val, by have := (idx1 t).2; omega⟩
abbrev own1 (t : Fin cfg1.N) (b : Fin 4) : Fin 128 := ⟨t.val * 4 + b.val, by have := (idx1 t).2; omega⟩

theorem blk1_0 (t : Fin cfg1.N) (r : Fin 16) (j : Fin 1024) : (iblk1 V c 0 t : FVec Ideal S16x1024 .f32) (ix2 r j)
    = (V c main_v2 : FVec Ideal S8704x4096 .f32) (ix2 (row1 t r) ⟨3072 + j.val, by omega⟩) := by
  blk_simp [iblk1, idx1 t]
  blk_ext [idx1 t]

theorem blk1_1 (t : Fin cfg1.N) (b : Fin 4) (x : Fin 256) (j : Fin 1024) : (iblk1 V c 1 t : FVec Ideal S4x256x1024 .f32) (ix3 b x j)
    = (V c main_v9 : FVec Ideal S128x256x1024 .f32) (ix3 (own1 t b) x j) := by
  blk_simp [iblk1, idx1 t]
  blk_ext [idx1 t]

theorem blk1_2 (t : Fin cfg1.N) (b : Fin 4) (x : Fin 256) (j : Fin 1024) : (iblk1 V c 2 t : FVec Ideal S4x256x1024 .f32) (ix3 b x j)
    = (V c main_v10 : FVec Ideal S128x256x1024 .f32) (ix3 (own1 t b) x j) := by
  blk_simp [iblk1, idx1 t]
  blk_ext [idx1 t]

theorem inbq : ∀ h : Fin 4, ∀ a : Fin 2, (![0, h.val * 256] : Fin 2 → Nat) a + (![16, 256] : Fin 2 → Nat) a ≤ S16x1024.size a := by decide
theorem inbk : ∀ b h : Fin 4, ∀ a : Fin 3, (![b.val, 0, h.val * 256] : Fin 3 → Nat) a + (![1, 256, 256] : Fin 3 → Nat) a ≤ S4x256x1024.size a := by decide

/-- One head's queries of the block, and one sample's keys and values in one head, as the launch loads them. -/
def ldq1 (t : Fin cfg1.N) (h : Fin 4) : FVec Ideal S16x256 .f32 :=
  View.ld (iblk1 V c 0 t : FVec Ideal S16x1024 .f32) (Rect.unit ![0, h.val * 256] ![16, 256] (inbq h))
def ldk1 (t : Fin cfg1.N) (b h : Fin 4) : FVec Ideal S1x256x256 .f32 :=
  View.ld (iblk1 V c 1 t : FVec Ideal S4x256x1024 .f32) (Rect.unit ![b.val, 0, h.val * 256] ![1, 256, 256] (inbk b h))
def ldv1 (t : Fin cfg1.N) (b h : Fin 4) : FVec Ideal S1x256x256 .f32 :=
  View.ld (iblk1 V c 2 t : FVec Ideal S4x256x1024 .f32) (Rect.unit ![b.val, 0, h.val * 256] ![1, 256, 256] (inbk b h))

theorem ldq1_at (t : Fin cfg1.N) (h : Fin 4) (r : Fin 16) (i : Fin 256) :
    (ldq1 V c t h (ix2 r i) : EReal) = (V c main_v2 : FVec Ideal S8704x4096 .f32) (ix2 (row1 t r) ⟨3072 + (h.val * 256 + i.val), by omega⟩) := by
  refine (View.ld_unit_apply_of (iblk1 V c 0 t : FVec Ideal S16x1024 .f32) _ _ _ _ (ix2 r ⟨h.val * 256 + i.val, by omega⟩) fun a => ?_).trans (blk1_0 V c t r _)
  match a with
  | ⟨0, _⟩ => exact (Nat.zero_add _).symm
  | ⟨1, _⟩ => rfl

theorem ldk1_at (t : Fin cfg1.N) (b h : Fin 4) (x i : Fin 256) :
    (ldk1 V c t b h (ix3 0 x i) : EReal) = (V c main_v9 : FVec Ideal S128x256x1024 .f32) (ix3 (own1 t b) x ⟨h.val * 256 + i.val, by omega⟩) := by
  refine (View.ld_unit_apply_of (iblk1 V c 1 t : FVec Ideal S4x256x1024 .f32) _ _ _ _ (ix3 b x ⟨h.val * 256 + i.val, by omega⟩) fun a => ?_).trans (blk1_1 V c t b x _)
  match a with
  | ⟨0, _⟩ => rfl
  | ⟨1, _⟩ => exact (Nat.zero_add _).symm
  | ⟨2, _⟩ => rfl

theorem ldv1_at (t : Fin cfg1.N) (b h : Fin 4) (x i : Fin 256) :
    (ldv1 V c t b h (ix3 0 x i) : EReal) = (V c main_v10 : FVec Ideal S128x256x1024 .f32) (ix3 (own1 t b) x ⟨h.val * 256 + i.val, by omega⟩) := by
  refine (View.ld_unit_apply_of (iblk1 V c 2 t : FVec Ideal S4x256x1024 .f32) _ _ _ _ (ix3 b x ⟨h.val * 256 + i.val, by omega⟩) fun a => ?_).trans (blk1_2 V c t b x _)
  match a with
  | ⟨0, _⟩ => rfl
  | ⟨1, _⟩ => exact (Nat.zero_add _).symm
  | ⟨2, _⟩ => rfl

/-! ## The shares -/

variable (q : Fin 4 → FVec Ideal S16x256 .f32) (k v : Fin 4 → Fin 4 → FVec Ideal S1x256x256 .f32)

/-- A block's queries against one sample's keys, in one head. -/
def dots (a : FVec Ideal S16x256 .f32) (b : FVec Ideal S1x256x256 .f32) : FVec Ideal S16x256 .f32 := k1_pay12 (k1_pay7 a) b

theorem dots_at (a : FVec Ideal S16x256 .f32) (b : FVec Ideal S1x256x256 .f32) (r : Fin 16) (z : Fin 256) :
    (dots a b (ix2 r z) : EReal) = ∑ e, a (ix2 r e) * b (ix3 0 z e) := by
  pointwise [dots, k1_pay12, k1_pay7]

/-- The products of every sample and head, one below the other. -/
def stacked : FVec Ideal S256x256 .f32 :=
  concatenate S256x256 0 (List.ofFn fun n : Fin 16 => ⟨S16x256, dots (q ⟨n.val % 4, by omega⟩) (k ⟨n.val / 4, by omega⟩ ⟨n.val % 4, by omega⟩)⟩)
    concatenates_S16x256_S16x256_S16x256_S16x256_S16x256_S16x256_S16x256_S16x256_S16x256_S16x256_S16x256_S16x256_S16x256_S16x256_S16x256_S16x256_S256x256_d0

theorem stacked_at (b h : Fin 4) (r : Fin 16) (z : Fin 256) :
    (stacked q k (ix2 ⟨(b.val * 4 + h.val) * 16 + r.val, by omega⟩ z) : EReal) = ∑ e, q h (ix2 r e) * k b h (ix3 0 z e) := by
  have hb : (⟨(b.val * 4 + h.val) / 4, by omega⟩ : Fin 4) = b := Fin.ext (by show (b.val * 4 + h.val) / 4 = b.val; omega)
  have hh : (⟨(b.val * 4 + h.val) % 4, by omega⟩ : Fin 4) = h := Fin.ext (by show (b.val * 4 + h.val) % 4 = h.val; omega)
  refine (concatenate_ofFn_apply (t := S256x256) (s₁ := S16x256) 0 (fun n : Fin 16 => dots (q ⟨n.val % 4, by omega⟩) (k ⟨n.val / 4, by omega⟩ ⟨n.val % 4, by omega⟩))
    concatenates_S16x256_S16x256_S16x256_S16x256_S16x256_S16x256_S16x256_S16x256_S16x256_S16x256_S16x256_S16x256_S16x256_S16x256_S16x256_S16x256_S256x256_d0
    rfl 16 rfl _ ⟨b.val * 4 + h.val, by omega⟩ (by show ((b.val * 4 + h.val) * 16 + r.val) / 16 = b.val * 4 + h.val; omega) (ix2 r z)
    (by show r.val = ((b.val * 4 + h.val) * 16 + r.val) % 16; omega) (fun a ha => ?_)).trans ?_
  · match a with
    | ⟨0, _⟩ => exact absurd rfl ha
    | ⟨1, _⟩ => rfl
  · dsimp only
    rw [hb, hh]
    exact dots_at _ _ r z

/-- The softmax of every row. -/
def soft (s : FVec Ideal S256x256 .f32) : FVec Ideal S256x256 .bf16 :=
  have w : FVec Ideal S256x256 .f32 := mulf s (broadcast S256x256 (Scalar.ofBits .f32 0x3D800000#32))
  have n : FVec Ideal S256 .f32 := multiReduction .maximumf [1] S256 w 0xFF800000#32 reduces_S256x256_S256 (.inl rfl) rfl
  have p : FVec Ideal S256x256 .f32 := exp (subf w (broadcastTo S256x256 (shapeCast S256x1 n shapeCasts_S256_S256x1) broadcasts_S256x1_S256x256))
  have z : FVec Ideal S256 .f32 := multiReduction .add [1] S256 p 0x00000000#32 reduces_S256x256_S256 (.inl rfl) rfl
  truncf .bf16 (divf p (broadcastTo S256x256 (shapeCast S256x1 z shapeCasts_S256_S256x1) broadcasts_S256x1_S256x256)) bitsLt_bf16_f32

theorem soft_at (s : FVec Ideal S256x256 .f32) (i x : Fin 256) :
    (soft s (ix2 i x) : EReal) = share (fun z => s (ix2 i z) * Ideal.ofBits .f32 0x3D800000#32) x := by
  pointwise [soft]
  rfl

/-- The launch's shares are the softmax of the products. -/
theorem shares_eq : k1_pay27 (F := Ideal) (k1_pay9 (q 3)) (k1_pay11 (k1_pay6 (q 0)) (k1_pay10 (k 0 0))) (k1_pay12 (k1_pay7 (q 1)) (k 0 1))
    (k1_pay13 (k1_pay8 (q 2)) (k 0 2)) (k1_pay14 (k1_pay9 (q 3)) (k 0 3))
    (k1_pay15 (k1_pay6 (q 0)) (k 1 0)) (k1_pay16 (k1_pay7 (q 1)) (k 1 1)) (k1_pay17 (k1_pay8 (q 2)) (k 1 2)) (k1_pay18 (k1_pay9 (q 3)) (k 1 3))
    (k1_pay19 (k1_pay6 (q 0)) (k 2 0)) (k1_pay20 (k1_pay7 (q 1)) (k 2 1)) (k1_pay21 (k1_pay8 (q 2)) (k 2 2)) (k1_pay22 (k1_pay9 (q 3)) (k 2 3))
    (k1_pay23 (k1_pay6 (q 0)) (k 3 0)) (k1_pay24 (k1_pay7 (q 1)) (k 3 1)) (k1_pay25 (k1_pay8 (q 2)) (k 3 2)) (k1_pay26 (k 3 3)) = soft (stacked q k) := rfl

/-! ## The heads -/

/-- The values' mean under the shares of one sample and head. -/
def part (p : FVec Ideal S256x256 .bf16) (n : Fin 16) (w : FVec Ideal S1x256x256 .f32) (r : Fin 16) (e : Fin 256) : EReal :=
  ∑ x, p (ix2 ⟨n.val * 16 + r.val, by omega⟩ x) * w (ix3 0 x e)

/-- The mean of the row's own sample, chosen among the block's four. -/
def pick (r : Fin 16) (a0 a1 a2 a3 : EReal) : EReal :=
  if r.val / 4 = 3 then a3 else if r.val / 4 = 2 then a2 else if r.val / 4 = 1 then a1 else a0

theorem pick_eq (r : Fin 16) (f : Fin 4 → EReal) : pick r (f 0) (f 1) (f 2) (f 3) = f ⟨r.val / 4, by omega⟩ := by
  have h : ∀ n : Fin 4, (if n.val = 3 then f 3 else if n.val = 2 then f 2 else if n.val = 1 then f 1 else f 0) = f n := fun n =>
    match n with
    | ⟨0, _⟩ => rfl
    | ⟨1, _⟩ => rfl
    | ⟨2, _⟩ => rfl
    | ⟨3, _⟩ => rfl
  exact h ⟨r.val / 4, by omega⟩

theorem part_at (b h : Fin 4) (w : FVec Ideal S1x256x256 .f32) (r : Fin 16) (e : Fin 256) :
    part (soft (stacked q k)) ⟨b.val * 4 + h.val, by omega⟩ w r e = attend (fun i => q h (ix2 r i)) (fun x i => k b h (ix3 0 x i)) (fun x i => w (ix3 0 x i)) e := by
  unfold part attend
  have hs : (fun z => (stacked q k (ix2 ⟨(b.val * 4 + h.val) * 16 + r.val, by omega⟩ z) : EReal) * Ideal.ofBits .f32 0x3D800000#32)
      = scores (fun i => q h (ix2 r i)) (fun x i => k b h (ix3 0 x i)) :=
    funext fun z => congrArg (· * Ideal.ofBits .f32 0x3D800000#32) (stacked_at q k b h r z)
  refine Finset.sum_congr rfl fun x _ => ?_
  dsimp only
  rw [soft_at, hs]

theorem sampleOf (r : Fin 16) (e : Fin 256) : k1_pay5 (ix2 r e) = BitVec.ofNat 32 (r.val / 4) := by
  pointwise [k1_pay5]
  revert r
  decide +kernel

theorem isSample (n : Fin 4) : ∀ r : Fin 16, IntOp.cmpi CmpIPredicate.eq (BitVec.ofNat 32 (r.val / 4)) (BitVec.ofNat 32 n.val) = if r.val / 4 = n.val then 1#1 else 0#1 := by
  revert n; decide +kernel

theorem isSample1 (r : Fin 16) : IntOp.cmpi CmpIPredicate.eq (BitVec.ofNat 32 (r.val / 4)) 1#32 = if r.val / 4 = 1 then 1#1 else 0#1 := isSample 1 r
theorem isSample2 (r : Fin 16) : IntOp.cmpi CmpIPredicate.eq (BitVec.ofNat 32 (r.val / 4)) 2#32 = if r.val / 4 = 2 then 1#1 else 0#1 := isSample 2 r
theorem isSample3 (r : Fin 16) : IntOp.cmpi CmpIPredicate.eq (BitVec.ofNat 32 (r.val / 4)) 3#32 = if r.val / 4 = 3 then 1#1 else 0#1 := isSample 3 r

theorem own (p : Prop) [Decidable p] (x y : EReal) : Scalar.select (if p then 1#1 else 0#1) x y = if p then x else y := by
  by_cases h : p <;> simp [h, Scalar.select]

variable (d3 : FVec Ideal S16x256 .bf16) (c0 c1 c2 c3 c4 c5 c6 c7 c8 c9 c10 c11 c12 c13 c14 : FVec Ideal S16x256 .f32) (d4 : FVec Ideal S256x256 .bf16)
  (w0 w1 w2 w3 : FVec Ideal S1x256x256 .f32) (r : Fin 16) (e : Fin 256)

theorem mean0 (p : FVec Ideal S256x256 .bf16) (hp : k1_pay27 (F := Ideal) d3 c0 c1 c2 c3 c4 c5 c6 c7 c8 c9 c10 c11 c12 c13 c14 d4 = p) :
    (k1_pay1 (F := Ideal) (k1_pay42 k1_pay5 p (k1_pay37 k1_pay5 p (k1_pay28 d3 c0 c1 c2 c3 c4 c5 c6 c7 c8 c9 c10 c11 c12 c13 c14 d4 w0)
      (k1_pay32 d3 c0 c1 c2 c3 c4 c5 c6 c7 c8 c9 c10 c11 c12 c13 c14 d4) (k1_pay33 w1) w2) w3) (ix2 r e) : EReal)
      = pick r (part p 0 w0 r e) (part p 4 w1 r e) (part p 8 w2 r e) (part p 12 w3 r e) := by
  pointwise [k1_pay1, k1_pay42, k1_pay37, k1_pay28, k1_pay32, k1_pay33]
  rw [hp, sampleOf, isSample1, isSample2, isSample3]
  simp [own, pick, part]

theorem mean1 (p : FVec Ideal S256x256 .bf16) (hp : k1_pay27 (F := Ideal) d3 c0 c1 c2 c3 c4 c5 c6 c7 c8 c9 c10 c11 c12 c13 c14 d4 = p) :
    (k1_pay2 (F := Ideal) k1_pay5 (k1_pay39 k1_pay5 (k1_pay34 k1_pay5 p (k1_pay29 d3 c0 c1 c2 c3 c4 c5 c6 c7 c8 c9 c10 c11 c12 c13 c14 d4 w0) w1)
      (k1_pay38 p) w2) (k1_pay43 p w3) (ix2 r e) : EReal)
      = pick r (part p 1 w0 r e) (part p 5 w1 r e) (part p 9 w2 r e) (part p 13 w3 r e) := by
  pointwise [k1_pay2, k1_pay39, k1_pay34, k1_pay29, k1_pay38, k1_pay43]
  rw [hp, sampleOf, isSample1, isSample2, isSample3]
  simp [own, pick, part]

theorem mean2 (p : FVec Ideal S256x256 .bf16) (hp : k1_pay27 (F := Ideal) d3 c0 c1 c2 c3 c4 c5 c6 c7 c8 c9 c10 c11 c12 c13 c14 d4 = p) :
    (k1_pay3 (F := Ideal) k1_pay5 p (k1_pay40 k1_pay5 p (k1_pay35 k1_pay5 p (k1_pay30 d3 c0 c1 c2 c3 c4 c5 c6 c7 c8 c9 c10 c11 c12 c13 c14 d4 w0) w1) w2) w3
      (ix2 r e) : EReal) = pick r (part p 2 w0 r e) (part p 6 w1 r e) (part p 10 w2 r e) (part p 14 w3 r e) := by
  pointwise [k1_pay3, k1_pay40, k1_pay35, k1_pay30]
  rw [hp, sampleOf, isSample1, isSample2, isSample3]
  simp [own, pick, part]

theorem mean3 (p : FVec Ideal S256x256 .bf16) (hp : k1_pay27 (F := Ideal) d3 c0 c1 c2 c3 c4 c5 c6 c7 c8 c9 c10 c11 c12 c13 c14 d4 = p) :
    (k1_pay4 (F := Ideal) k1_pay5 p (k1_pay41 k1_pay5 p (k1_pay36 k1_pay5 p (k1_pay31 d3 c0 c1 c2 c3 c4 c5 c6 c7 c8 c9 c10 c11 c12 c13 c14 d4 w0) w1) w2) w3
      (ix2 r e) : EReal) = pick r (part p 3 w0 r e) (part p 7 w1 r e) (part p 11 w2 r e) (part p 15 w3 r e) := by
  pointwise [k1_pay4, k1_pay41, k1_pay36, k1_pay31]
  rw [hp, sampleOf, isSample1, isSample2, isSample3]
  simp [own, pick, part]

/-- The chosen mean is the row's attention. -/
theorem pick_part (h : Fin 4) :
    pick r (part (soft (stacked q k)) ⟨(0 : Fin 4).val * 4 + h.val, by omega⟩ (v 0 h) r e) (part (soft (stacked q k)) ⟨(1 : Fin 4).val * 4 + h.val, by omega⟩ (v 1 h) r e)
      (part (soft (stacked q k)) ⟨(2 : Fin 4).val * 4 + h.val, by omega⟩ (v 2 h) r e) (part (soft (stacked q k)) ⟨(3 : Fin 4).val * 4 + h.val, by omega⟩ (v 3 h) r e)
      = attend (fun i => q h (ix2 r i)) (fun x i => k ⟨r.val / 4, by omega⟩ h (ix3 0 x i)) (fun x i => v ⟨r.val / 4, by omega⟩ h (ix3 0 x i)) e := by
  rw [part_at, part_at, part_at, part_at]
  exact pick_eq r fun b => attend (fun i => q h (ix2 r i)) (fun x i => k b h (ix3 0 x i)) (fun x i => v b h (ix3 0 x i)) e

/-! ## The launch -/

/-- A row's attention from the projection's rows and its sample's keys and values. -/
def mixed1 (r : Fin 8704) (j : Fin 1024) : EReal :=
  heads (fun i => (V c main_v2 : FVec Ideal S8704x4096 .f32) (ix2 r ⟨3072 + i.val, by omega⟩))
    (fun x i => (V c main_v9 : FVec Ideal S128x256x1024 .f32) (ix3 ⟨(r.val - 8192) / 4 % 128, by omega⟩ x i))
    (fun x i => (V c main_v10 : FVec Ideal S128x256x1024 .f32) (ix3 ⟨(r.val - 8192) / 4 % 128, by omega⟩ x i)) j

theorem own1_eq (t : Fin cfg1.N) (r : Fin 16) : (⟨((row1 t r).val - 8192) / 4 % 128, by omega⟩ : Fin 128) = own1 t ⟨r.val / 4, by omega⟩ :=
  Fin.ext (by have := (idx1 t).2; show ((512 + t.val) * 16 + r.val - 8192) / 4 % 128 = t.val * 4 + r.val / 4; omega)

theorem mixed1_at (t : Fin cfg1.N) (r : Fin 16) (h : Fin 4) (e : Fin 256) (j : Fin 1024) (hj : j.val = h.val * 256 + e.val) :
    attend (fun i => ldq1 V c t h (ix2 r i)) (fun x i => ldk1 V c t ⟨r.val / 4, by omega⟩ h (ix3 0 x i)) (fun x i => ldv1 V c t ⟨r.val / 4, by omega⟩ h (ix3 0 x i)) e
      = mixed1 V c (row1 t r) j := by
  unfold mixed1
  rw [heads_at h e j hj, own1_eq]
  exact attend_congr e (ldq1_at V c t h r) (ldk1_at V c t _ h) (ldv1_at V c t _ h)

theorem after1 (t : Fin cfg1.N) (r : Fin 16) (j : Fin 1024) : ((dat1 V c).after 3 t : FVec Ideal S16x1024 .bf16) (ix2 r j) = mixed1 V c (row1 t r) j := by
  rw [after1_3, outsAt1]
  frame_out
  canon_tiles x h
  all_goals
    idx_vars x
    obtain rfl : r = x0 := Fin.ext h0
  · exact (mean3 _ _ _ _ _ _ _ _ _ _ _ _ _ _ _ _ _ (ldv1 V c t 0 3) (ldv1 V c t 1 3) (ldv1 V c t 2 3) (ldv1 V c t 3 3) r x1 _ (shares_eq (ldq1 V c t) (ldk1 V c t))).trans
      ((pick_part (ldq1 V c t) (ldk1 V c t) (ldv1 V c t) r x1 3).trans (mixed1_at V c t r 3 x1 j h1))
  · exact (mean2 _ _ _ _ _ _ _ _ _ _ _ _ _ _ _ _ _ (ldv1 V c t 0 2) (ldv1 V c t 1 2) (ldv1 V c t 2 2) (ldv1 V c t 3 2) r x1 _ (shares_eq (ldq1 V c t) (ldk1 V c t))).trans
      ((pick_part (ldq1 V c t) (ldk1 V c t) (ldv1 V c t) r x1 2).trans (mixed1_at V c t r 2 x1 j h1))
  · exact (mean1 _ _ _ _ _ _ _ _ _ _ _ _ _ _ _ _ _ (ldv1 V c t 0 1) (ldv1 V c t 1 1) (ldv1 V c t 2 1) (ldv1 V c t 3 1) r x1 _ (shares_eq (ldq1 V c t) (ldk1 V c t))).trans
      ((pick_part (ldq1 V c t) (ldk1 V c t) (ldv1 V c t) r x1 1).trans (mixed1_at V c t r 1 x1 j h1))
  · exact (mean0 _ _ _ _ _ _ _ _ _ _ _ _ _ _ _ _ _ (ldv1 V c t 0 0) (ldv1 V c t 1 0) (ldv1 V c t 2 0) (ldv1 V c t 3 0) r x1 _ (shares_eq (ldq1 V c t) (ldk1 V c t))).trans
      ((pick_part (ldq1 V c t) (ldk1 V c t) (ldv1 V c t) r x1 0).trans (mixed1_at V c t r 0 x1 j (h1.trans (Nat.zero_add _).symm)))

/-- The attention of the rows written here, the entry's contents elsewhere. -/
def attn1 : FVec Ideal S8704x1024 .bf16 := fun y =>
  if 512 ≤ (y 0).val / 16 then mixed1 V c (y 0) (y 1) else (V c main_v11 : FVec Ideal S8704x1024 .bf16) y

theorem final1 : (dat1 V c).arrAt 3 cfg1.N = attn1 V c := by
  refine Dat.arrAt_eq_of_coversWhere (dat1 V c) 3 (fun y => mixed1 V c (y 0) (y 1)) (fun β => 512 ≤ β (0 : Fin _)) (by decide +kernel)
    (fun t _ y => ?_) (fun j => Iff.rfl)
  blk_simp
  idx_vars y
  rw [show (win1_3.blk t).view.emb (ix2 y0 y1) = ix2 (row1 t y0) y1 from by blk_ext [idx1 t]]
  exact after1 V c t y0 y1

end Cert.Kernel6Ideal.Hand

end
-- ==== Proof.KAttnRun.lean ====
module

public import proofs.«01_k».proof.Proof.KAttn
public import proofs.«01_k».proof.Proof.KAttnS
public import Idealize.ShloMosaic.Lib.Claim

@[expose] public section

set_option maxRecDepth 65536

noncomputable section

/-! The memory attention as a whole: what its two results hold after the run. -/

namespace Cert.Kernel6Ideal.Hand

open Cert.Kernel6Ideal Cert.Kernel6Ideal.Gen Cert.Attn
open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat)

section Run

variable {F : FTy → Type} [FloatOps F]

local notation "𝕄" => MT nD τ sig Unit (Elt F) ℕ (UR sig nD τ) ℕ

set_option backward.isDefEq.respectTransparency.types false in
/-- The run over any values: every buffer that is no launch's own ends at the last boundary's contents, every counter at zero. -/
theorem run_all (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

variable (m : (ℓ : Loc nD τ sig) → Buf (Elt Ideal) ℓ) (ρ : Dev nD → PrngReg) (c : Dev nD)

/-- The projection's rows, and the tokens' keys and values by columns, as the arguments hold them. -/
def prompt (g : Fin 4) (t : Fin 2048) (k : Fin 4096) : EReal := (m ((c : Thread nD τ).loc main_arg0) : FVec Ideal S4x2048x4096 .f32) (ix3 g t k)
def sample (g : Fin 128) (t : Fin 4) (k : Fin 4096) : EReal := (m ((c : Thread nD τ).loc main_arg1) : FVec Ideal S128x4x4096 .f32) (ix3 g t k)
def keysP (g : Fin 4) (x : Fin 256) (j : Fin 1024) : EReal :=
  (m ((c : Thread nD τ).loc main_arg2) : FVec Ideal S4x256x4x256 .f32) (ix4 g x ⟨j.val / 256, by omega⟩ ⟨j.val % 256, by omega⟩)
def valsP (g : Fin 4) (x : Fin 256) (j : Fin 1024) : EReal :=
  (m ((c : Thread nD τ).loc main_arg3) : FVec Ideal S4x256x4x256 .f32) (ix4 g x ⟨j.val / 256, by omega⟩ ⟨j.val % 256, by omega⟩)
def keysS (g : Fin 128) (x : Fin 256) (j : Fin 1024) : EReal :=
  (m ((c : Thread nD τ).loc main_arg4) : FVec Ideal S1x128x256x4x256 .f32) (ix5 0 g x ⟨j.val / 256, by omega⟩ ⟨j.val % 256, by omega⟩)
def valsS (g : Fin 128) (x : Fin 256) (j : Fin 1024) : EReal :=
  (m ((c : Thread nD τ).loc main_arg5) : FVec Ideal S1x128x256x4x256 .f32) (ix5 0 g x ⟨j.val / 256, by omega⟩ ⟨j.val % 256, by omega⟩)

abbrev rowP (g : Fin 4) (t : Fin 2048) : Fin 8704 := ⟨g.val * 2048 + t.val, by omega⟩
abbrev rowS (g : Fin 128) (t : Fin 4) : Fin 8704 := ⟨8192 + (g.val * 4 + t.val), by omega⟩

/-! ## The arrays that the host prepares -/

theorem prompt_at (g : Fin 4) (t : Fin 2048) (k : Fin 4096) :
    (V1 m ρ c main_v2 : FVec Ideal S8704x4096 .f32) (ix2 (rowP g t) k) = prompt m c g t k := by
  rw [show V1 m ρ c main_v2 = StableHlo.after hostOps0 (W0 m ρ c) main_v2 from rfl]
  entry_read
  pointwise []
  rw [dif_pos (by omega)]
  refine congrArg₂ (fun a b => (W0 m ρ c (Proc.devRef .tc main_arg0) : FVec Ideal S4x2048x4096 .f32) (ix3 a b k)) (Fin.ext ?_) (Fin.ext ?_) <;> dsimp only <;> omega

theorem sample_at (g : Fin 128) (t : Fin 4) (k : Fin 4096) :
    (V1 m ρ c main_v2 : FVec Ideal S8704x4096 .f32) (ix2 (rowS g t) k) = sample m c g t k := by
  rw [show V1 m ρ c main_v2 = StableHlo.after hostOps0 (W0 m ρ c) main_v2 from rfl]
  entry_read
  pointwise []
  refine congrArg₂ (fun a b => (W0 m ρ c (Proc.devRef .tc main_arg1) : FVec Ideal S128x4x4096 .f32) (ix3 a b k)) (Fin.ext ?_) (Fin.ext ?_) <;> dsimp only <;> omega

theorem keysP_at (g : Fin 4) (x : Fin 256) (j : Fin 1024) : (V1 m ρ c main_v6 : FVec Ideal S4x256x1024 .f32) (ix3 g x j) = keysP m c g x j := by
  rw [show V1 m ρ c main_v6 = StableHlo.after hostOps0 (W0 m ρ c) main_v6 from rfl]
  entry_read
  pointwise []
  rfl

theorem valsP_at (g : Fin 4) (x : Fin 256) (j : Fin 1024) : (V1 m ρ c main_v7 : FVec Ideal S4x256x1024 .f32) (ix3 g x j) = valsP m c g x j := by
  rw [show V1 m ρ c main_v7 = StableHlo.after hostOps0 (W0 m ρ c) main_v7 from rfl]
  entry_read
  pointwise []
  rfl

theorem keysS_at (g : Fin 128) (x : Fin 256) (j : Fin 1024) : (V3 m ρ c main_v9 : FVec Ideal S128x256x1024 .f32) (ix3 g x j) = keysS m c g x j := by
  rw [show V3 m ρ c main_v9 = StableHlo.after hostOps1 (W2 m ρ c) main_v9 from rfl]
  entry_read
  rw [W2_of m ρ c main_v4 (by decide), show W1 m ρ c (Proc.devRef .tc main_v4) = StableHlo.after hostOps0 (W0 m ρ c) main_v4 from rfl]
  entry_read
  pointwise []
  rfl

theorem valsS_at (g : Fin 128) (x : Fin 256) (j : Fin 1024) : (V3 m ρ c main_v10 : FVec Ideal S128x256x1024 .f32) (ix3 g x j) = valsS m c g x j := by
  rw [show V3 m ρ c main_v10 = StableHlo.after hostOps1 (W2 m ρ c) main_v10 from rfl]
  entry_read
  rw [W2_of m ρ c main_v5 (by decide), show W1 m ρ c (Proc.devRef .tc main_v5) = StableHlo.after hostOps0 (W0 m ρ c) main_v5 from rfl]
  entry_read
  pointwise []
  rfl

/-! ## From launch to launch -/

theorem rows_3 : V3 m ρ c main_v2 = V1 m ρ c main_v2 :=
  (W3_of m ρ c main_v2 (by decide)).trans (W2_of m ρ c main_v2 (by decide))

theorem attn_2 : W2 m ρ c (Proc.devRef .tc main_v8) = attn0 (V1 m ρ) c := (W2_arr m ρ c 3).trans (final0 _ c)

theorem attn_3 : V3 m ρ c main_v11 = attn0 (V1 m ρ) c := by
  rw [show V3 m ρ c main_v11 = StableHlo.after hostOps1 (W2 m ρ c) main_v11 from rfl]
  entry_read
  exact attn_2 m ρ c

theorem attn_4 : W4 m ρ c (Proc.devRef .tc main_v11) = attn1 (V3 m ρ) c := (W4_arr m ρ c 3).trans (final1 _ c)

/-- A prompt's row of the attention. -/
theorem attn_prompt (g : Fin 4) (t : Fin 2048) (j : Fin 1024) :
    ((W4 m ρ c (Proc.devRef .tc main_v11) : FVec Ideal S8704x1024 .bf16) (ix2 (rowP g t) j) : EReal)
      = heads (fun i => prompt m c g t ⟨3072 + i.val, by omega⟩) (keysP m c g) (valsP m c g) j := by
  rw [attn_4]
  refine (if_neg (by show ¬512 ≤ (g.val * 2048 + t.val) / 16; omega)).trans ?_
  rw [attn_3]
  refine (if_pos (by show (g.val * 2048 + t.val) / 512 < 16; omega)).trans ?_
  show mixed0 (V1 m ρ) c (rowP g t) j = _
  unfold mixed0
  rw [show (⟨(rowP g t).val / 2048 % 4, by omega⟩ : Fin 4) = g from Fin.ext (by show (g.val * 2048 + t.val) / 2048 % 4 = g.val; omega)]
  exact heads_congr j (fun i => prompt_at m ρ c g t _) (keysP_at m ρ c g) (valsP_at m ρ c g)

/-- A sample's row of the attention. -/
theorem attn_sample (g : Fin 128) (t : Fin 4) (j : Fin 1024) :
    ((W4 m ρ c (Proc.devRef .tc main_v11) : FVec Ideal S8704x1024 .bf16) (ix2 (rowS g t) j) : EReal)
      = heads (fun i => sample m c g t ⟨3072 + i.val, by omega⟩) (keysS m c g) (valsS m c g) j := by
  rw [attn_4]
  refine (if_pos (by show 512 ≤ (8192 + (g.val * 4 + t.val)) / 16; omega)).trans ?_
  show mixed1 (V3 m ρ) c (rowS g t) j = _
  unfold mixed1
  rw [show (⟨((rowS g t).val - 8192) / 4 % 128, by omega⟩ : Fin 128) = g from Fin.ext (by show (8192 + (g.val * 4 + t.val) - 8192) / 4 % 128 = g.val; omega), rows_3]
  exact heads_congr j (fun i => sample_at m ρ c g t _) (keysS_at m ρ c g) (valsS_at m ρ c g)

/-! ## The results -/

theorem out_prompt (g : Fin 4) (t : Fin 2048) (j : Fin 1024) :
    ((W5 m ρ c (Proc.devRef .tc main_v14) : FVec Ideal S4x2048x1024 .f32) (ix3 g t j) : EReal)
      = heads (fun i => prompt m c g t ⟨3072 + i.val, by omega⟩) (keysP m c g) (valsP m c g) j := by
  refine Eq.trans ?_ (attn_prompt m ρ c g t j)
  rw [show W5 m ρ c (Proc.devRef .tc main_v14) = StableHlo.after hostOps2 (W4 m ρ c) main_v14 from rfl]
  entry_read
  pointwise []

theorem out_sample (g : Fin 128) (t : Fin 4) (j : Fin 1024) :
    ((W5 m ρ c (Proc.devRef .tc main_v16) : FVec Ideal S128x4x1024 .f32) (ix3 g t j) : EReal)
      = heads (fun i => sample m c g t ⟨3072 + i.val, by omega⟩) (keysS m c g) (valsS m c g) j := by
  refine Eq.trans ?_ (attn_sample m ρ c g t j)
  rw [show W5 m ρ c (Proc.devRef .tc main_v16) = StableHlo.after hostOps2 (W4 m ρ c) main_v16 from rfl]
  entry_read
  pointwise []

end Cert.Kernel6Ideal.Hand

end
-- ==== Proof.RAttn.lean ====
module

public import proofs.«01_k».proof.Proof.Attn
public import proofs.«01_k».proof.Proof.Gen.Reference6Ideal.Run

@[expose] public section

set_option maxRecDepth 65536

noncomputable section

/-! What the reference of the memory attention returns. -/

namespace Cert.Reference6Ideal.Hand

open Cert.Reference6Ideal Cert.Reference6Ideal.Gen Cert.Reference6Ideal.Value Cert.Attn
open Idealize.ShloMosaic Idealize.ShloMosaic.TcCoe

variable (m : (ℓ : Loc nD τ sig) → Buf (Elt Ideal) ℓ) (c : Dev nD)

/-- The projection's rows, and the tokens' keys and values by columns, as the arguments hold them. -/
def prompt (g : Fin 4) (t : Fin 2048) (k : Fin 4096) : EReal := (m ((c : Thread nD τ).loc main_arg0) : FVec Ideal S4x2048x4096 .f32) (ix3 g t k)
def sample (g : Fin 128) (t : Fin 4) (k : Fin 4096) : EReal := (m ((c : Thread nD τ).loc main_arg1) : FVec Ideal S128x4x4096 .f32) (ix3 g t k)
def keysP (g : Fin 4) (x : Fin 256) (j : Fin 1024) : EReal :=
  (m ((c : Thread nD τ).loc main_arg2) : FVec Ideal S4x256x4x256 .f32) (ix4 g x ⟨j.val / 256, by omega⟩ ⟨j.val % 256, by omega⟩)
def valsP (g : Fin 4) (x : Fin 256) (j : Fin 1024) : EReal :=
  (m ((c : Thread nD τ).loc main_arg3) : FVec Ideal S4x256x4x256 .f32) (ix4 g x ⟨j.val / 256, by omega⟩ ⟨j.val % 256, by omega⟩)
def keysS (g : Fin 128) (x : Fin 256) (j : Fin 1024) : EReal :=
  (m ((c : Thread nD τ).loc main_arg4) : FVec Ideal S1x128x256x4x256 .f32) (ix5 0 g x ⟨j.val / 256, by omega⟩ ⟨j.val % 256, by omega⟩)
def valsS (g : Fin 128) (x : Fin 256) (j : Fin 1024) : EReal :=
  (m ((c : Thread nD τ).loc main_arg5) : FVec Ideal S1x128x256x4x256 .f32) (ix5 0 g x ⟨j.val / 256, by omega⟩ ⟨j.val % 256, by omega⟩)

/-! ## The prompts -/

def scoresP (p : FVec Ideal S4x2048x4096 .f32) (k : FVec Ideal S4x256x4x256 .f32) : FVec Ideal S4x4x2048x256 .f32 :=
  mulf (Host.dotGeneral dot_S4x2048x4x256_S4x256x4x256_S4x4x2048x256_3_3_1_1_02_02 none (shapeCast S4x2048x4x256 (extractStridedSlice S4x2048x1024 ![0, 0, 3072] p slices_S4x2048x4096_S4x2048x1024_0_0_3072) shapeCasts_S4x2048x1024_S4x2048x4x256) k) (broadcastInDim S4x4x2048x256 ![] bcast_S_S4x4x2048x256 (constant S_ .f32 0x3D800000#32))

def mostP (s : FVec Ideal S4x4x2048x256 .f32) : FVec Ideal S4x4x2048 .f32 :=
  Host.reduce FloatOps.maximumf s (constant S_ .f32 0xFF800000#32) reducesTo_S4x4x2048x256_S4x4x2048_d3 h_S_

def topP (n : FVec Ideal S4x4x2048 .f32) : FVec Ideal S4x4x2048 .f32 :=
  maximumf (broadcastInDim S4x4x2048 ![] bcast_S_S4x4x2048 (constant S_ .f32 0xFF800000#32)) n

def powP (s : FVec Ideal S4x4x2048x256 .f32) (n : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 n)))

def shareP (p : FVec Ideal S4x4x2048x256 .f32) : FVec Ideal S4x4x2048x256 .f32 :=
  Host.divf p (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd p (constant S_ .f32 0x00000000#32) reducesTo_S4x4x2048x256_S4x4x2048_d3 h_S_)))

def meanP (v : FVec Ideal S4x256x4x256 .f32) (w : FVec Ideal S4x4x2048x256 .f32) : FVec Ideal S4x2048x1024 .f32 :=
  shapeCast S4x2048x1024 (transpose S4x2048x4x256 [0, 3, 1, 2] (Host.dotGeneral dot_S4x256x4x256_S4x4x2048x256_S4x4x256x2048_1_3_3_2_02_01 none v w) transposes_S4x4x256x2048_S4x2048x4x256_0_3_1_2) shapeCasts_S4x2048x4x256_S4x2048x1024

def outP (p : FVec Ideal S4x2048x4096 .f32) (k v : FVec Ideal S4x256x4x256 .f32) : FVec Ideal S4x2048x1024 .f32 :=
  meanP v (shareP (powP (scoresP p k) (topP (mostP (scoresP p k)))))

theorem scoresP_at (p : FVec Ideal S4x2048x4096 .f32) (k : FVec Ideal S4x256x4x256 .f32) (b h : Fin 4) (t : Fin 2048) (x : Fin 256) :
    (scoresP p k (ix4 b h t x) : EReal) = scores (fun i => p (ix3 b t ⟨3072 + (h.val * 256 + i.val), by omega⟩)) (fun x i => k (ix4 b x h i)) x := by
  pointwise [scoresP]
  rfl

theorem mostP_at (s : FVec Ideal S4x4x2048x256 .f32) (b h : Fin 4) (t : Fin 2048) : (mostP s (ix3 b h t) : EReal) = top (fun x => s (ix4 b h t x)) := by
  pointwise [mostP]
  rfl

theorem topP_at (n : FVec Ideal S4x4x2048 .f32) (b h : Fin 4) (t : Fin 2048) :
    (topP n (ix3 b h t) : EReal) = max (Ideal.ofBits .f32 0xFF800000#32) (n (ix3 b h t)) := by
  pointwise [topP]

theorem powP_at (s : FVec Ideal S4x4x2048x256 .f32) (n : FVec Ideal S4x4x2048 .f32) (b h : Fin 4) (t : Fin 2048) (x : Fin 256) :
    (powP s n (ix4 b h t x) : EReal) = Ideal.exp (s (ix4 b h t x) - n (ix3 b h t)) := by
  pointwise [powP]

theorem shareP_at (p : FVec Ideal S4x4x2048x256 .f32) (b h : Fin 4) (t : Fin 2048) (x : Fin 256) :
    (shareP p (ix4 b h t x) : EReal) = Ideal.div (p (ix4 b h t x)) (∑ z, p (ix4 b h t z)) := by
  pointwise [shareP]

theorem meanP_at (v : FVec Ideal S4x256x4x256 .f32) (w : FVec Ideal S4x4x2048x256 .f32) (b : Fin 4) (t : Fin 2048) (j : Fin 1024) :
    (meanP v w (ix3 b t j) : EReal) = ∑ x, v (ix4 b x ⟨j.val / 256, by omega⟩ ⟨j.val % 256, by omega⟩) * w (ix4 b ⟨j.val / 256, by omega⟩ t x) := by
  pointwise [meanP]

theorem outP_at (p : FVec Ideal S4x2048x4096 .f32) (k v : FVec Ideal S4x256x4x256 .f32) (b : Fin 4) (t : Fin 2048) (j : Fin 1024) :
    (outP p k v (ix3 b t j) : EReal) = heads (fun i => p (ix3 b t ⟨3072 + i.val, by omega⟩))
      (fun x i => k (ix4 b x ⟨i.val / 256, by omega⟩ ⟨i.val % 256, by omega⟩)) (fun x i => v (ix4 b x ⟨i.val / 256, by omega⟩ ⟨i.val % 256, by omega⟩)) j := by
  rw [heads_at ⟨j.val / 256, by omega⟩ ⟨j.val % 256, by omega⟩ j (by dsimp only; omega)]
  refine (meanP_at _ _ b t j).trans (Eq.trans ?_ (attend_congr (q := fun i => p (ix3 b t ⟨3072 + (j.val / 256 * 256 + i.val), by omega⟩))
    (k := fun x i => k (ix4 b x ⟨j.val / 256, by omega⟩ i)) (v := fun x i => v (ix4 b x ⟨j.val / 256, by omega⟩ i)) _ (fun i => rfl) (fun x i => ?_) (fun x i => ?_)))
  · refine Finset.sum_congr rfl fun x _ => ?_
    rw [shareP_at, mul_comm]
    simp only [powP_at, topP_at, mostP_at, max_top, scoresP_at]
    rfl
  · exact congrArg₂ (fun a e => (k (ix4 b x a e) : EReal)) (Fin.ext (by dsimp only; omega)) (Fin.ext (by dsimp only; omega))
  · exact congrArg₂ (fun a e => (v (ix4 b x a e) : EReal)) (Fin.ext (by dsimp only; omega)) (Fin.ext (by dsimp only; omega))

theorem out_prompt (b : Fin 4) (t : Fin 2048) (j : Fin 1024) :
    (outP (m ((c : Thread nD τ).loc main_arg0)) (m ((c : Thread nD τ).loc main_arg2)) (m ((c : Thread nD τ).loc main_arg3)) (ix3 b t j) : EReal)
      = heads (fun i => prompt m c b t ⟨3072 + i.val, by omega⟩) (keysP m c b) (valsP m c b) j :=
  outP_at _ _ _ b t j

/-! ## The samples -/

def scoresS (p : FVec Ideal S128x4x4096 .f32) (k : FVec Ideal S128x256x4x256 .f32) : FVec Ideal S128x4x4x256 .f32 :=
  mulf (Host.dotGeneral dot_S128x4x4x256_S128x256x4x256_S128x4x4x256_3_3_1_1_02_02 none (shapeCast S128x4x4x256 (extractStridedSlice S128x4x1024 ![0, 0, 3072] p slices_S128x4x4096_S128x4x1024_0_0_3072) shapeCasts_S128x4x1024_S128x4x4x256) k) (broadcastInDim S128x4x4x256 ![] bcast_S_S128x4x4x256 (constant S_ .f32 0x3D800000#32))

def mostS (s : FVec Ideal S128x4x4x256 .f32) : FVec Ideal S128x4x4 .f32 :=
  Host.reduce FloatOps.maximumf s (constant S_ .f32 0xFF800000#32) reducesTo_S128x4x4x256_S128x4x4_d3 h_S_

def topS (n : FVec Ideal S128x4x4 .f32) : FVec Ideal S128x4x4 .f32 :=
  maximumf (broadcastInDim S128x4x4 ![] bcast_S_S128x4x4 (constant S_ .f32 0xFF800000#32)) n

def powS (s : FVec Ideal S128x4x4x256 .f32) (n : FVec Ideal S128x4x4 .f32) : FVec Ideal S128x4x4x256 .f32 :=
  Host.exp (subf s (broadcastInDim S128x4x4x256 ![0, 1, 2, 3] bcast_S128x4x4x1_S128x4x4x256_0_1_2_3 (broadcastInDim S128x4x4x1 ![0, 1, 2] bcast_S128x4x4_S128x4x4x1_0_1_2 n)))

def shareS (p : FVec Ideal S128x4x4x256 .f32) : FVec Ideal S128x4x4x256 .f32 :=
  Host.divf p (broadcastInDim S128x4x4x256 ![0, 1, 2, 3] bcast_S128x4x4x1_S128x4x4x256_0_1_2_3 (broadcastInDim S128x4x4x1 ![0, 1, 2] bcast_S128x4x4_S128x4x4x1_0_1_2 (Host.reduceAdd p (constant S_ .f32 0x00000000#32) reducesTo_S128x4x4x256_S128x4x4_d3 h_S_)))

def meanS (v : FVec Ideal S128x256x4x256 .f32) (w : FVec Ideal S128x4x4x256 .f32) : FVec Ideal S128x4x1024 .f32 :=
  shapeCast S128x4x1024 (transpose S128x4x4x256 [0, 3, 1, 2] (Host.dotGeneral dot_S128x256x4x256_S128x4x4x256_S128x4x256x4_1_3_3_2_02_01 none v w) transposes_S128x4x256x4_S128x4x4x256_0_3_1_2) shapeCasts_S128x4x4x256_S128x4x1024

def outS (p : FVec Ideal S128x4x4096 .f32) (k v : FVec Ideal S128x256x4x256 .f32) : FVec Ideal S128x4x1024 .f32 :=
  meanS v (shareS (powS (scoresS p k) (topS (mostS (scoresS p k)))))

theorem scoresS_at (p : FVec Ideal S128x4x4096 .f32) (k : FVec Ideal S128x256x4x256 .f32) (b : Fin 128) (h t : Fin 4) (x : Fin 256) :
    (scoresS p k (ix4 b h t x) : EReal) = scores (fun i => p (ix3 b t ⟨3072 + (h.val * 256 + i.val), by omega⟩)) (fun x i => k (ix4 b x h i)) x := by
  pointwise [scoresS]
  rfl

theorem mostS_at (s : FVec Ideal S128x4x4x256 .f32) (b : Fin 128) (h t : Fin 4) : (mostS s (ix3 b h t) : EReal) = top (fun x => s (ix4 b h t x)) := by
  pointwise [mostS]
  rfl

theorem topS_at (n : FVec Ideal S128x4x4 .f32) (b : Fin 128) (h t : Fin 4) :
    (topS n (ix3 b h t) : EReal) = max (Ideal.ofBits .f32 0xFF800000#32) (n (ix3 b h t)) := by
  pointwise [topS]

theorem powS_at (s : FVec Ideal S128x4x4x256 .f32) (n : FVec Ideal S128x4x4 .f32) (b : Fin 128) (h t : Fin 4) (x : Fin 256) :
    (powS s n (ix4 b h t x) : EReal) = Ideal.exp (s (ix4 b h t x) - n (ix3 b h t)) := by
  pointwise [powS]

theorem shareS_at (p : FVec Ideal S128x4x4x256 .f32) (b : Fin 128) (h t : Fin 4) (x : Fin 256) :
    (shareS p (ix4 b h t x) : EReal) = Ideal.div (p (ix4 b h t x)) (∑ z, p (ix4 b h t z)) := by
  pointwise [shareS]

theorem meanS_at (v : FVec Ideal S128x256x4x256 .f32) (w : FVec Ideal S128x4x4x256 .f32) (b : Fin 128) (t : Fin 4) (j : Fin 1024) :
    (meanS v w (ix3 b t j) : EReal) = ∑ x, v (ix4 b x ⟨j.val / 256, by omega⟩ ⟨j.val % 256, by omega⟩) * w (ix4 b ⟨j.val / 256, by omega⟩ t x) := by
  pointwise [meanS]

theorem outS_at (p : FVec Ideal S128x4x4096 .f32) (k v : FVec Ideal S128x256x4x256 .f32) (b : Fin 128) (t : Fin 4) (j : Fin 1024) :
    (outS p k v (ix3 b t j) : EReal) = heads (fun i => p (ix3 b t ⟨3072 + i.val, by omega⟩))
      (fun x i => k (ix4 b x ⟨i.val / 256, by omega⟩ ⟨i.val % 256, by omega⟩)) (fun x i => v (ix4 b x ⟨i.val / 256, by omega⟩ ⟨i.val % 256, by omega⟩)) j := by
  rw [heads_at ⟨j.val / 256, by omega⟩ ⟨j.val % 256, by omega⟩ j (by dsimp only; omega)]
  refine (meanS_at _ _ b t j).trans (Eq.trans ?_ (attend_congr (q := fun i => p (ix3 b t ⟨3072 + (j.val / 256 * 256 + i.val), by omega⟩))
    (k := fun x i => k (ix4 b x ⟨j.val / 256, by omega⟩ i)) (v := fun x i => v (ix4 b x ⟨j.val / 256, by omega⟩ i)) _ (fun i => rfl) (fun x i => ?_) (fun x i => ?_)))
  · refine Finset.sum_congr rfl fun x _ => ?_
    rw [shareS_at, mul_comm]
    simp only [powS_at, topS_at, mostS_at, max_top, scoresS_at]
    rfl
  · exact congrArg₂ (fun a e => (k (ix4 b x a e) : EReal)) (Fin.ext (by dsimp only; omega)) (Fin.ext (by dsimp only; omega))
  · exact congrArg₂ (fun a e => (v (ix4 b x a e) : EReal)) (Fin.ext (by dsimp only; omega)) (Fin.ext (by dsimp only; omega))

/-- The samples' keys or values without the leading axis. -/
def flatS (k : FVec Ideal S1x128x256x4x256 .f32) : FVec Ideal S128x256x4x256 .f32 := shapeCast S128x256x4x256 k shapeCasts_S1x128x256x4x256_S128x256x4x256

theorem flatS_at (k : FVec Ideal S1x128x256x4x256 .f32) (b : Fin 128) (x : Fin 256) (h : Fin 4) (e : Fin 256) :
    (flatS k (ix4 b x h e) : EReal) = k (ix5 0 b x h e) := by
  pointwise [flatS]

theorem out_sample (b : Fin 128) (t : Fin 4) (j : Fin 1024) :
    (outS (m ((c : Thread nD τ).loc main_arg1)) (flatS (m ((c : Thread nD τ).loc main_arg4))) (flatS (m ((c : Thread nD τ).loc main_arg5))) (ix3 b t j) : EReal)
      = heads (fun i => sample m c b t ⟨3072 + i.val, by omega⟩) (keysS m c b) (valsS m c b) j := by
  refine (outS_at _ _ _ b t j).trans ?_
  simp only [flatS_at]
  rfl

end Cert.Reference6Ideal.Hand

end
-- ==== Proof.AttnFinal.lean ====
module

public import proofs.«01_k».proof.Defs
public import proofs.«01_k».proof.Proof.KAttnRun
public import proofs.«01_k».proof.Proof.RAttn
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import Idealize.ShloMosaic.Adequacy
public import Idealize.ShloMosaic.Init

@[expose] public section

set_option maxRecDepth 65536

noncomputable section

/-! The claims about the memory attention. -/

namespace Cert.Proof

open Idealize.ShloMosaic Idealize.ShloMosaic.TcCoe Idealize.SL.Sem

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

/-- The reference is host operations alone and declares no semaphore. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The launches' rows are the reference's, for any arguments. -/
theorem algebraic6 : Cert.algebraic_Kernel6Ideal_Reference6Ideal := by
  intro m g m' g' hpre hagree
  refine ⟨fun c => Cert.Kernel6Ideal.Gen.W5 m g c (Proc.devRef .tc Cert.Kernel6Ideal.main_v14),
    fun c => Cert.Kernel6Ideal.Gen.W5 m g c (Proc.devRef .tc Cert.Kernel6Ideal.main_v16), ?_, ?_⟩
  · exact θ_run_mono (θ_run_and (Cert.Kernel6Ideal.Hand.run_all m g) (frame_ideal6 m g hpre)) fun r hr c =>
      ⟨hr.1.1 c _ (Cert.Kernel6Ideal.Gen.mem_uc Cert.Kernel6Ideal.main_v14 (by decide)),
        hr.1.1 c _ (Cert.Kernel6Ideal.Gen.mem_uc Cert.Kernel6Ideal.main_v16 (by decide)), hr.2.1 c⟩
  · refine θ_run_mono (Cert.Reference6Ideal.Value.run m' g') fun r h c => ?_
    obtain ⟨h0, h1, h2, h3, h4, h5⟩ := hagree c
    have e0 : ∀ b t k, Cert.Reference6Ideal.Hand.prompt m' c b t k = Cert.Kernel6Ideal.Hand.prompt m c b t k :=
      fun b t k => congrFun h0 (ix3 b t k)
    have e1 : ∀ b t k, Cert.Reference6Ideal.Hand.sample m' c b t k = Cert.Kernel6Ideal.Hand.sample m c b t k :=
      fun b t k => congrFun h1 (ix3 b t k)
    have e2 : ∀ b x j, Cert.Reference6Ideal.Hand.keysP m' c b x j = Cert.Kernel6Ideal.Hand.keysP m c b x j :=
      fun b x j => congrFun h2 (ix4 b x _ _)
    have e3 : ∀ b x j, Cert.Reference6Ideal.Hand.valsP m' c b x j = Cert.Kernel6Ideal.Hand.valsP m c b x j :=
      fun b x j => congrFun h3 (ix4 b x _ _)
    have e4 : ∀ b x j, Cert.Reference6Ideal.Hand.keysS m' c b x j = Cert.Kernel6Ideal.Hand.keysS m c b x j :=
      fun b x j => congrFun h4 (ix5 0 b x _ _)
    have e5 : ∀ b x j, Cert.Reference6Ideal.Hand.valsS m' c b x j = Cert.Kernel6Ideal.Hand.valsS m c b x j :=
      fun b x j => congrFun h5 (ix5 0 b x _ _)
    refine ⟨(h c).1.trans ?_, (h c).2.1.trans ?_, (h c).2.2⟩
    · change Cert.Reference6Ideal.Hand.outP _ _ _ = _
      refine funext fun y => ?_
      idx_vars y
      exact (Cert.Reference6Ideal.Hand.out_prompt m' c y0 y1 y2).trans
        ((Cert.Attn.heads_congr y2 (fun i => e0 y0 y1 _) (e2 y0) (e3 y0)).trans (Cert.Kernel6Ideal.Hand.out_prompt m g c y0 y1 y2).symm)
    · change Cert.Reference6Ideal.Hand.outS _ (Cert.Reference6Ideal.Hand.flatS _) (Cert.Reference6Ideal.Hand.flatS _) = _
      refine funext fun y => ?_
      idx_vars y
      exact (Cert.Reference6Ideal.Hand.out_sample m' c y0 y1 y2).trans
        ((Cert.Attn.heads_congr y2 (fun i => e1 y0 y1 _) (e4 y0) (e5 y0)).trans (Cert.Kernel6Ideal.Hand.out_sample m g c y0 y1 y2).symm)

end Cert.Proof

end
-- ==== Proof.Pre.lean ====
module

public import proofs.«01_k».proof.Proof.Conv
public import Idealize.ShloMosaic.Lib.IdealHost

@[expose] public section

noncomputable section

/-! The recurrence's inputs from a row of the projection and the row before it, on plain functions. -/

namespace Cert.Pre

open Idealize.ShloMosaic

/-- A channel moved towards the row before. -/
def lerp (x p u : EReal) : EReal := x + (p - x) * u

/-- The decay of a channel from its logit. -/
def decay (z : EReal) : EReal :=
  Ideal.exp ((0 - Ideal.exp (Ideal.ofBits .f32 0xBF000000#32)) * Ideal.logistic z)

/-- The logarithm of one plus an exponential, in the order of operations that does not overflow. -/
def softplus (y : EReal) : EReal := max y 0 + Ideal.log1p (Ideal.exp (-(max (y - 0) (-(y - 0)))))

theorem half_pos : Ideal.ofBits .f32 0x3F000000#32 = ((1 / 2 : ℝ) : EReal) := by
  simp [Ideal.ofBits, Ideal.ieee, -EReal.coe_mul]; norm_num

theorem half_neg : Ideal.ofBits .f32 0xBF000000#32 = ((-(1 / 2) : ℝ) : EReal) := by
  simp [Ideal.ofBits, Ideal.ieee, -EReal.coe_mul]; norm_num

theorem log_one : Ideal.log (1 : EReal) = 0 := by
  have : (1 : EReal) = ((1 : ℝ) : EReal) := rfl
  rw [this, Ideal.log_coe]
  simp

theorem softplus_real (r : ℝ) : softplus ((r : ℝ) : EReal) = ((Real.log (1 + Real.exp r) : ℝ) : EReal) := by
  have hmax : ∀ a b : ℝ, max (a : EReal) (b : EReal) = ((max a b : ℝ) : EReal) :=
    fun a b => (EReal.coe_strictMono.monotone.map_max).symm
  have hz : (0 : EReal) = ((0 : ℝ) : EReal) := rfl
  have hpos : ∀ x : ℝ, 0 < 1 + Real.exp x := fun x => by positivity
  unfold softplus
  rw [sub_zero, ← EReal.coe_neg, hmax, ← EReal.coe_neg, Ideal.exp_coe, hz, hmax]
  unfold Ideal.log1p
  rw [← EReal.coe_one, ← EReal.coe_add]
  have hl : ∀ x : ℝ, 0 < x → Ideal.log ((x : ℝ) : EReal) = ((Real.log x : ℝ) : EReal) := fun x hx => by
    simp [Ideal.log_coe, hx.not_ge]
  rw [hl _ (hpos _), ← EReal.coe_add]
  refine congrArg _ ?_
  rcases le_total 0 r with h | h
  · rw [max_eq_left h, max_eq_left (by linarith : -r ≤ r)]
    have e : 1 + Real.exp r = Real.exp r * (1 + Real.exp (-r)) := by
      rw [mul_add, mul_one, ← Real.exp_add, add_neg_cancel, Real.exp_zero]; ring
    rw [e, Real.log_mul (Real.exp_pos r).ne' (hpos _).ne', Real.log_exp]
  · rw [max_eq_right h, max_eq_right (by linarith : r ≤ -r), neg_neg, zero_add]

/-- The reference's decay: the exponential of minus the exponential of minus the softplus of minus the logit, less a half. -/
theorem decay_eq (z : EReal) :
    Ideal.exp (-(Ideal.exp (-(softplus (-z)) - Ideal.ofBits .f32 0x3F000000#32))) = decay z := by
  unfold decay
  rw [half_pos, half_neg, zero_sub]
  induction z with
  | bot =>
    have : softplus (-⊥) = ⊤ := by
      unfold softplus
      simp [Ideal.log1p, log_one]
    rw [this]
    simp
  | top =>
    have : softplus (-⊤) = 0 := by
      unfold softplus
      simp [Ideal.log1p, log_one]
    rw [this]
    simp [← EReal.coe_neg]
  | coe r =>
    rw [← EReal.coe_neg, softplus_real, ← EReal.coe_neg, ← EReal.coe_sub, Ideal.exp_coe, Ideal.logistic_coe, Ideal.exp_coe,
      ← EReal.coe_neg, ← EReal.coe_neg, ← EReal.coe_mul]
    refine congrArg (fun q : ℝ => Ideal.exp (q : EReal)) ?_
    have hp : 0 < 1 + Real.exp (-r) := by positivity
    rw [sub_eq_add_neg, Real.exp_add, Real.exp_neg (Real.log _), Real.exp_log hp]
    ring

/-- A product against weights that are zero outside a band of rows is the product over the band. -/
theorem sum_band {n : Nat} (off : Nat) (h : off + n ≤ 512) (f W : Fin 512 → EReal) (hz : ∀ l : Fin 512, ¬(off ≤ l.val ∧ l.val < off + n) → W l = 0) :
    ∑ l, f l * W l = ∑ i : Fin n, f ⟨off + i.val, by omega⟩ * W ⟨off + i.val, by omega⟩ := by
  refine (Finset.sum_of_injOn (fun i : Fin n => (⟨off + i.val, by omega⟩ : Fin 512)) (fun a _ b _ e => ?_) (fun _ _ => Finset.mem_coe.2 (Finset.mem_univ _))
    (fun l _ hl => ?_) (fun _ _ => rfl)).symm
  · have := congrArg Fin.val e
    exact Fin.ext (by dsimp only at this; omega)
  · rw [hz l, mul_zero]
    intro hb
    exact hl ⟨⟨l.val - off, by omega⟩, Finset.mem_coe.2 (Finset.mem_univ _), Fin.ext (by dsimp only; omega)⟩

/-- A low-rank product: a band of a row's channels, under a function, against its weights. -/
def low {n : Nat} (act : EReal → EReal) (x : Fin n → EReal) (w : Fin n → Fin 2048 → EReal) (j : Fin 2048) : EReal := ∑ i, act (x i) * w i j

/-- A sequence's row at a step, moved towards the row of the step before, which for the first step is the carried one. -/
def shift (P : Fin 128 → Fin 4 → Fin 6592 → EReal) (S : Fin 128 → Fin 6592 → EReal) (M : Fin 6592 → EReal) (b : Fin 128) (t : Fin 4) (q : Fin 6592) : EReal :=
  lerp (P b t q) (if t.val = 0 then S b q else P b ⟨t.val - 1, by omega⟩ q) (M q)

/-- An overwriting scatter of one window, read where the window lies. -/
theorem scatter_hit {α : Type} {s si u : Shape} {w : Nat} (d : ScatterDims s si u) (x0 : s.Idx → α) (idx : IVec si w) (upd : u.Idx → α) (ι : s.Idx) (k : u.Idx)
    (at' : Fin s.rank → Nat) (hi : ∀ k a, d.start k idx a = (at' a : Int)) (hk : ∀ a, at' a + d.window k a = (ι a).val)
    (hu : ∀ k', (∀ a, d.window k' a = d.window k a) → k' = k) :
    Host.scatter d (fun _ b => b) x0 idx upd ι = upd k := by
  refine Routing.scatter_set_hit d x0 idx upd ι (upd k) (fun k' h => ?_) k ?_
  · refine congrArg upd (hu k' fun a => ?_)
    have := (Routing.resultIdx?_eq_some d k' idx ι).1 h a
    rw [hi] at this
    have := hk a
    omega
  · refine (Routing.resultIdx?_eq_some d k idx ι).2 fun a => ?_
    rw [hi, ← hk]
    omega

/-- The same read outside the window. -/
theorem scatter_miss {α : Type} {s si u : Shape} {w : Nat} (d : ScatterDims s si u) (x0 : s.Idx → α) (idx : IVec si w) (upd : u.Idx → α) (ι : s.Idx)
    (at' : Fin s.rank → Nat) (hi : ∀ k a, d.start k idx a = (at' a : Int)) (a : Fin s.rank) (hk : ∀ k, at' a + d.window k a ≠ (ι a).val) :
    Host.scatter d (fun _ b => b) x0 idx upd ι = x0 ι := by
  refine Routing.scatter_set_miss d x0 idx upd ι fun k h => hk k ?_
  have := (Routing.resultIdx?_eq_some d k idx ι).1 h a
  rw [hi] at this
  omega

end Cert.Pre

end
-- ==== Proof.KPre.lean ====
module

public import proofs.«01_k».proof.Proof.Gen.Kernel7Ideal.Frame
public import proofs.«01_k».proof.Proof.Pre
public import Idealize.ShloMosaic.Lib.Pipeline.ValueKit
public import Idealize.ShloMosaic.Lib.Claim

@[expose] public section

set_option maxRecDepth 65536

noncomputable section

/-! What the launch that prepares the sample group's recurrence leaves in its six arrays, from the contents at its entry. -/

namespace Cert.Kernel7Ideal.Hand

open Cert.Kernel7Ideal Cert.Kernel7Ideal.Gen Cert.Pre
open Idealize.ShloMosaic Idealize.ShloMosaic.TcCoe Idealize.SL.Sem
open Idealize.ShloMosaic.Pipeline (Dat)

/-! ## The body's values -/

/-- A block's row moved towards the row before it, which for a sequence's first row is the carried one. -/
def mix (x f : FVec Ideal S128x6656 .f32) (u : FVec Ideal S1x6656 .f32) (r : Fin 128) (q : Fin 6656) : EReal :=
  lerp (x (ix2 r q)) (if r.val % 4 = 0 then f (ix2 r q) else x (ix2 ⟨(r.val + 127) % 128, by omega⟩ q)) (u (ix2 0 q))

/-- The low-rank channels of a row; those behind them are zero. -/
def lowRow (s : Fin 6656 → EReal) (l : Fin 512) : EReal := if l.val < 448 then s ⟨6144 + l.val, by omega⟩ else 0

theorem first_row : ∀ r : Fin 128, IntOp.cmpi .eq
      (Scalar.select
        (IntOp.andi
          (IntOp.xori
            (IntOp.cmpi .slt (IntOp.remsi .vector (BitVec.ofNat 32 r.val) (Scalar.select (Scalar.cmpi .eq 4#32 0#32) 1#32 4#32)) 0#32)
            (Scalar.cmpi .slt (Scalar.select (Scalar.cmpi .eq 4#32 0#32) 1#32 4#32) 0#32))
          (IntOp.cmpi .ne (IntOp.remsi .vector (BitVec.ofNat 32 r.val) (Scalar.select (Scalar.cmpi .eq 4#32 0#32) 1#32 4#32)) 0#32))
        (IntOp.addi (IntOp.remsi .vector (BitVec.ofNat 32 r.val) (Scalar.select (Scalar.cmpi .eq 4#32 0#32) 1#32 4#32))
          (Scalar.select (Scalar.cmpi .eq 4#32 0#32) 1#32 4#32))
        (IntOp.remsi .vector (BitVec.ofNat 32 r.val) (Scalar.select (Scalar.cmpi .eq 4#32 0#32) 1#32 4#32))) 0#32
    = if r.val % 4 = 0 then 1#1 else 0#1 := by decide +kernel

theorem low_lane : ∀ l : Fin 512, IntOp.cmpi .slt (BitVec.ofNat 32 l.val) 448#32 = if l.val < 448 then 1#1 else 0#1 := by decide +kernel

variable (x f : FVec Ideal S128x6656 .f32) (u : FVec Ideal S1x6656 .f32)

theorem pay_mix (r : Fin 128) (q : Fin 6656) : (k0_pay1 (F := Ideal) x f u (ix2 r q) : EReal) = mix x f u r q := by
  pointwise [k0_pay1]
  rw [first_row r]
  unfold mix lerp
  split <;> rfl

theorem pay_low (r : Fin 128) (l : Fin 512) : (k0_pay2 (F := Ideal) x f u (ix2 r l) : EReal) = lowRow (mix x f u r) l := by
  pointwise [k0_pay2]
  rw [low_lane l]
  unfold lowRow
  split
  · exact pay_mix x f u r _
  · rfl

theorem pay_r (s : FVec Ideal S128x6656 .f32) (r : Fin 128) (j : Fin 2048) : (k0_pay8 (F := Ideal) s (ix2 r j) : EReal) = s (ix2 r ⟨j.val, by omega⟩) := by
  pointwise [k0_pay8]

theorem pay_k (s : FVec Ideal S128x6656 .f32) (r : Fin 128) (j : Fin 2048) : (k0_pay9 (F := Ideal) s (ix2 r j) : EReal) = s (ix2 r ⟨2048 + j.val, by omega⟩) := by
  pointwise [k0_pay9]

theorem pay_v (s : FVec Ideal S128x6656 .f32) (r : Fin 128) (j : Fin 2048) : (k0_pay10 (F := Ideal) s (ix2 r j) : EReal) = s (ix2 r ⟨4096 + j.val, by omega⟩) := by
  pointwise [k0_pay10]

theorem pay_decay (w0 : FVec Ideal S1x2048 .f32) (w : FVec Ideal S512x2048 .bf16) (r : Fin 128) (j : Fin 2048) :
    (k0_pay5 (F := Ideal) (k0_pay3 w0) (k0_pay4 x f u) w (ix2 r j) : EReal)
      = decay (w0 (ix2 0 j) + ∑ l : Fin 512, Ideal.tanh (lowRow (mix x f u r) l) * w (ix2 l j)) := by
  pointwise [k0_pay5, k0_pay3, k0_pay4]
  simp only [pay_low]
  rfl

theorem pay_a (s : FVec Ideal S128x512 .f32) (a0 : FVec Ideal S1x2048 .f32) (w : FVec Ideal S512x2048 .bf16) (r : Fin 128) (j : Fin 2048) :
    (k0_pay6 (F := Ideal) s a0 w (ix2 r j) : EReal) = Ideal.logistic (a0 (ix2 0 j) + ∑ l : Fin 512, s (ix2 r l) * w (ix2 l j)) := by
  pointwise [k0_pay6]

theorem pay_g (s : FVec Ideal S128x512 .f32) (w : FVec Ideal S512x2048 .bf16) (r : Fin 128) (j : Fin 2048) :
    (k0_pay7 (F := Ideal) s w (ix2 r j) : EReal) = ∑ l : Fin 512, Ideal.logistic (s (ix2 r l)) * w (ix2 l j) := by
  pointwise [k0_pay7]

/-! ## Blocks read off an array -/

theorem idx : ∀ t : Fin cfg0.N, win0_0.index t = ![64 + t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ t.val < 4 :=
  (by decide +kernel : ∀ t : Fin grid0.N, _)

theorem lt4 (t : Fin cfg0.N) : t.val < 4 := (idx t).2.2.2.2.2.2.2.2.2.2.2.2.2.2

/-- Row `r` of the block of rows at a point. -/
abbrev rowOf (t : Fin cfg0.N) (r : Fin 128) : Fin 512 := ⟨t.val * 128 + r.val, by have := lt4 t; omega⟩

section Read
variable (c : Dev nD) (A : (b : Ref sig .tc) → Buf (Elt Ideal) ((c : Thread nD τ).loc b))

theorem r0_at (t : Fin cfg0.N) (r : Fin 128) (q : Fin 6656) :
    (((cfg0.win 0).blk t).view.read (Elt Ideal) (A (Pipeline.arrRef spec0 0)) : FVec Ideal S128x6656 .f32) (ix2 r q)
      = (A main_v8 : FVec Ideal S8704x6656 .f32) (ix2 ⟨8192 + (rowOf t r).val, by have := (rowOf t r).isLt; omega⟩ q) := by
  blk_simp [idx t]
  blk_ext [idx t]

theorem r1_at (t : Fin cfg0.N) (r : Fin 128) (q : Fin 6656) :
    (((cfg0.win 1).blk t).view.read (Elt Ideal) (A (Pipeline.arrRef spec0 1)) : FVec Ideal S128x6656 .f32) (ix2 r q)
      = (A main_v62 : FVec Ideal S512x6656 .f32) (ix2 (rowOf t r) q) := by
  blk_simp [idx t]
  blk_ext [idx t]

theorem r2_at (t : Fin cfg0.N) (q : Fin 6656) :
    (((cfg0.win 2).blk t).view.read (Elt Ideal) (A (Pipeline.arrRef spec0 2)) : FVec Ideal S1x6656 .f32) (ix2 0 q)
      = (A main_v17 : FVec Ideal S1x6656 .f32) (ix2 0 q) := by
  blk_simp [idx t]
  blk_ext [idx t]

theorem r3_at (t : Fin cfg0.N) (j : Fin 2048) :
    (((cfg0.win 3).blk t).view.read (Elt Ideal) (A (Pipeline.arrRef spec0 3)) : FVec Ideal S1x2048 .f32) (ix2 0 j)
      = (A main_v22 : FVec Ideal S1x2048 .f32) (ix2 0 j) := by
  blk_simp [idx t]
  blk_ext [idx t]

theorem r4_at (t : Fin cfg0.N) (j : Fin 2048) :
    (((cfg0.win 4).blk t).view.read (Elt Ideal) (A (Pipeline.arrRef spec0 4)) : FVec Ideal S1x2048 .f32) (ix2 0 j)
      = (A main_v27 : FVec Ideal S1x2048 .f32) (ix2 0 j) := by
  blk_simp [idx t]
  blk_ext [idx t]

theorem r5_at (t : Fin cfg0.N) (l : Fin 512) (j : Fin 2048) :
    (((cfg0.win 5).blk t).view.read (Elt Ideal) (A (Pipeline.arrRef spec0 5)) : FVec Ideal S512x2048 .bf16) (ix2 l j)
      = (A main_v35 : FVec Ideal S512x2048 .bf16) (ix2 l j) := by
  blk_simp [idx t]
  blk_ext [idx t]

theorem r6_at (t : Fin cfg0.N) (l : Fin 512) (j : Fin 2048) :
    (((cfg0.win 6).blk t).view.read (Elt Ideal) (A (Pipeline.arrRef spec0 6)) : FVec Ideal S512x2048 .bf16) (ix2 l j)
      = (A main_v43 : FVec Ideal S512x2048 .bf16) (ix2 l j) := by
  blk_simp [idx t]
  blk_ext [idx t]

theorem r7_at (t : Fin cfg0.N) (l : Fin 512) (j : Fin 2048) :
    (((cfg0.win 7).blk t).view.read (Elt Ideal) (A (Pipeline.arrRef spec0 7)) : FVec Ideal S512x2048 .bf16) (ix2 l j)
      = (A main_v48 : FVec Ideal S512x2048 .bf16) (ix2 l j) := by
  blk_simp [idx t]
  blk_ext [idx t]

end Read

/-! ## The launch's six arrays -/

variable (m : (ℓ : Loc nD τ sig) → Buf (Elt Ideal) ℓ) (c : Dev nD)

/-- The shifted rows, from the contents at the launch's entry. -/
def shifted (R : Fin 512) (q : Fin 6656) : EReal :=
  lerp ((V m c main_v8 : FVec Ideal S8704x6656 .f32) (ix2 ⟨8192 + R.val, by omega⟩ q))
    (if R.val % 4 = 0 then (V m c main_v62 : FVec Ideal S512x6656 .f32) (ix2 R q)
      else (V m c main_v8 : FVec Ideal S8704x6656 .f32) (ix2 ⟨8191 + R.val, by omega⟩ q))
    ((V m c main_v17 : FVec Ideal S1x6656 .f32) (ix2 0 q))

theorem mix_at (t : Fin cfg0.N) (r : Fin 128) (q : Fin 6656) :
    mix (iblk m c 0 t) (iblk m c 1 t) (iblk m c 2 t) r q = shifted m c (rowOf t r) q := by
  unfold mix shifted
  have h0 : ∀ r, (iblk m c 0 t : FVec Ideal S128x6656 .f32) (ix2 r q) = _ := fun r => r0_at c (V m c) t r q
  have h1 : (iblk m c 1 t : FVec Ideal S128x6656 .f32) (ix2 r q) = _ := r1_at c (V m c) t r q
  have h2 : (iblk m c 2 t : FVec Ideal S1x6656 .f32) (ix2 0 q) = _ := r2_at c (V m c) t q
  rw [h0, h0, h1, h2]
  have e : (rowOf t r).val % 4 = r.val % 4 := by show (t.val * 128 + r.val) % 4 = r.val % 4; omega
  rw [e]
  refine congrArg (fun p => lerp _ p _) ?_
  split
  · rfl
  · refine congrArg (fun k => (V m c main_v8 : FVec Ideal S8704x6656 .f32) (ix2 k q)) (Fin.ext ?_)
    show 8192 + (t.val * 128 + (r.val + 127) % 128) = 8191 + (t.val * 128 + r.val)
    omega

theorem lowRow_at (t : Fin cfg0.N) (r : Fin 128) (l : Fin 512) :
    lowRow (mix (iblk m c 0 t) (iblk m c 1 t) (iblk m c 2 t) r) l = lowRow (shifted m c (rowOf t r)) l := by
  unfold lowRow
  rw [mix_at]

def rArr : FVec Ideal S512x2048 .f32 := fun y => shifted m c (y 0) ⟨(y 1).val, by have : (y 1).val < 2048 := (y 1).isLt; omega⟩
def kArr : FVec Ideal S512x2048 .f32 := fun y => shifted m c (y 0) ⟨2048 + (y 1).val, by have : (y 1).val < 2048 := (y 1).isLt; omega⟩
def vArr : FVec Ideal S512x2048 .f32 := fun y => shifted m c (y 0) ⟨4096 + (y 1).val, by have : (y 1).val < 2048 := (y 1).isLt; omega⟩
/-- The decay's and the rate's offsets at the launch's entry. -/
def decayOff (j : Fin 2048) : EReal := (V m c main_v22 : FVec Ideal S1x2048 .f32) (ix2 0 j)
def rateOff (j : Fin 2048) : EReal := (V m c main_v27 : FVec Ideal S1x2048 .f32) (ix2 0 j)
/-- The low-rank products' weights at the launch's entry. -/
def wDecay (l : Fin 512) (j : Fin 2048) : EReal := (V m c main_v35 : FVec Ideal S512x2048 .bf16) (ix2 l j)
def wRate (l : Fin 512) (j : Fin 2048) : EReal := (V m c main_v43 : FVec Ideal S512x2048 .bf16) (ix2 l j)
def wGate (l : Fin 512) (j : Fin 2048) : EReal := (V m c main_v48 : FVec Ideal S512x2048 .bf16) (ix2 l j)

def dArr : FVec Ideal S512x2048 .f32 := fun y => decay (decayOff m c (y 1)
  + ∑ l : Fin 512, Ideal.tanh (lowRow (shifted m c (y 0)) l) * wDecay m c l (y 1))
def aArr : FVec Ideal S512x2048 .f32 := fun y => Ideal.logistic (rateOff m c (y 1)
  + ∑ l : Fin 512, lowRow (shifted m c (y 0)) l * wRate m c l (y 1))
def gArr : FVec Ideal S512x2048 .f32 := fun y =>
  ∑ l : Fin 512, Ideal.logistic (lowRow (shifted m c (y 0)) l) * wGate m c l (y 1)

theorem final_8 : (dats m 0 c).arrAt 8 (cfgs 0).N = rArr m c :=
  Dat.arrAt_eq_of_covers (dats m 0 c) 8 (rArr m c) (by decide +kernel) fun t _ y => by
    blk_simp
    rw [after0_8]
    idx_vars y
    rw [show (win0_8.blk t).view.emb (ix2 y0 y1) = ix2 (rowOf t y0) y1 from by blk_ext [idx t]]
    unfold out0_8 k0_pay11
    frame_out
    exact (pay_r _ y0 y1).trans ((pay_mix _ _ _ _ _).trans (mix_at m c t y0 _))

theorem final_10 : (dats m 0 c).arrAt 10 (cfgs 0).N = kArr m c :=
  Dat.arrAt_eq_of_covers (dats m 0 c) 10 (kArr m c) (by decide +kernel) fun t _ y => by
    blk_simp
    rw [after0_10]
    idx_vars y
    rw [show (win0_10.blk t).view.emb (ix2 y0 y1) = ix2 (rowOf t y0) y1 from by blk_ext [idx t]]
    unfold out0_10 k0_pay11
    frame_out
    exact (pay_k _ y0 y1).trans ((pay_mix _ _ _ _ _).trans (mix_at m c t y0 _))

theorem final_11 : (dats m 0 c).arrAt 11 (cfgs 0).N = vArr m c :=
  Dat.arrAt_eq_of_covers (dats m 0 c) 11 (vArr m c) (by decide +kernel) fun t _ y => by
    blk_simp
    rw [after0_11]
    idx_vars y
    rw [show (win0_11.blk t).view.emb (ix2 y0 y1) = ix2 (rowOf t y0) y1 from by blk_ext [idx t]]
    unfold out0_11 k0_pay11
    frame_out
    exact (pay_v _ y0 y1).trans ((pay_mix _ _ _ _ _).trans (mix_at m c t y0 _))

theorem final_9 : (dats m 0 c).arrAt 9 (cfgs 0).N = dArr m c :=
  Dat.arrAt_eq_of_covers (dats m 0 c) 9 (dArr m c) (by decide +kernel) fun t _ y => by
    blk_simp
    rw [after0_9]
    idx_vars y
    rw [show (win0_9.blk t).view.emb (ix2 y0 y1) = ix2 (rowOf t y0) y1 from by blk_ext [idx t]]
    unfold out0_9
    frame_out
    refine (pay_decay _ _ _ _ _ y0 y1).trans (congrArg decay (congrArg₂ (fun a b : EReal => a + b) (r3_at c (V m c) t y1)
      (Finset.sum_congr rfl fun l _ => congrArg₂ (fun a b : EReal => Ideal.tanh a * b) (lowRow_at m c t y0 l) (r5_at c (V m c) t l y1))))

theorem final_12 : (dats m 0 c).arrAt 12 (cfgs 0).N = aArr m c :=
  Dat.arrAt_eq_of_covers (dats m 0 c) 12 (aArr m c) (by decide +kernel) fun t _ y => by
    blk_simp
    rw [after0_12]
    idx_vars y
    rw [show (win0_12.blk t).view.emb (ix2 y0 y1) = ix2 (rowOf t y0) y1 from by blk_ext [idx t]]
    unfold out0_12 k0_pay12
    frame_out
    refine (pay_a _ _ _ y0 y1).trans (congrArg Ideal.logistic (congrArg₂ (fun a b : EReal => a + b) (r4_at c (V m c) t y1)
      (Finset.sum_congr rfl fun l _ => congrArg₂ (fun a b : EReal => a * b) ((pay_low _ _ _ y0 l).trans (lowRow_at m c t y0 l)) (r6_at c (V m c) t l y1))))

theorem final_13 : (dats m 0 c).arrAt 13 (cfgs 0).N = gArr m c :=
  Dat.arrAt_eq_of_covers (dats m 0 c) 13 (gArr m c) (by decide +kernel) fun t _ y => by
    blk_simp
    rw [after0_13]
    idx_vars y
    rw [show (win0_13.blk t).view.emb (ix2 y0 y1) = ix2 (rowOf t y0) y1 from by blk_ext [idx t]]
    unfold out0_13 k0_pay12
    frame_out
    exact (pay_g _ _ y0 y1).trans (Finset.sum_congr rfl fun l _ =>
      congrArg₂ (fun a b : EReal => Ideal.logistic a * b) ((pay_low _ _ _ y0 l).trans (lowRow_at m c t y0 l)) (r7_at c (V m c) t l y1))

end Cert.Kernel7Ideal.Hand

end
-- ==== Proof.KPreRun.lean ====
module

public import proofs.«01_k».proof.Proof.KPre

@[expose] public section

set_option maxRecDepth 65536

noncomputable section

/-! The preparation of the sample group's recurrence as a whole: what its six results hold after the run. -/

namespace Cert.Kernel7Ideal.Hand

open Cert.Kernel7Ideal Cert.Kernel7Ideal.Gen Cert.Pre
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments -/

/-- The projected rows, the carried ones and the mixing weights. -/
def proj (b : Fin 128) (t : Fin 4) (q : Fin 6592) : EReal := (m ((c : Thread nD τ).loc main_arg1) : FVec Ideal S128x4x6656 .f32) (ix3 b t ⟨q.val, by omega⟩)
def carried (b : Fin 128) (q : Fin 6592) : EReal := (m ((c : Thread nD τ).loc main_arg2) : FVec Ideal S1x128x6592 .f32) (ix3 0 b q)
def mu (q : Fin 6592) : EReal := (m ((c : Thread nD τ).loc main_arg3) : FVec Ideal S1x6592 .f32) (ix2 0 q)
/-- The decay's and the rate's offsets, and the three low-rank products' weights. -/
def w0 (j : Fin 2048) : EReal := (m ((c : Thread nD τ).loc main_arg4) : FVec Ideal S1x2048 .f32) (ix2 0 j)
def wUp (i : Fin 96) (j : Fin 2048) : EReal := (m ((c : Thread nD τ).loc main_arg5) : FVec Ideal S1x96x2048 .f32) (ix3 0 i j)
def a0 (j : Fin 2048) : EReal := (m ((c : Thread nD τ).loc main_arg6) : FVec Ideal S1x2048 .f32) (ix2 0 j)
def aUp (i : Fin 96) (j : Fin 2048) : EReal := (m ((c : Thread nD τ).loc main_arg7) : FVec Ideal S1x96x2048 .f32) (ix3 0 i j)
def gUp (i : Fin 256) (j : Fin 2048) : EReal := (m ((c : Thread nD τ).loc main_arg8) : FVec Ideal S1x256x2048 .f32) (ix3 0 i j)

/-- The shifted row of a sequence's step. -/
def row (b : Fin 128) (t : Fin 4) (q : Fin 6592) : EReal := shift (proj m c) (carried m c) (mu m c) b t q

/-! ## The contents at the launch's entry: the first two blocks of columns lie with heads and channels swapped -/

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => exact ih _

/-- The padding of the mixing weights, as operations on whole buffers. -/
abbrev padOps : List (HloOp τ sig (Elt Ideal)) :=
  [ StableHlo.unary main_c main_call0_v0 ((sitofp .f32 : IVec S_ 32 → FVec Ideal S_ .f32) : (⟨S_, .i32⟩ : BufTy).Contents (Elt Ideal) → (⟨S_, .f32⟩ : BufTy).Contents (Elt Ideal)),
    StableHlo.binary main_v15 main_call0_v0 main_v16 ((fun x v => pad S6656 ![0] ![64] ![0] x v pads_S6592_S6656_0640 h_S_) : (⟨S6592, .f32⟩ : BufTy).Contents (Elt Ideal) → (⟨S_, .f32⟩ : BufTy).Contents (Elt Ideal) → (⟨S6656, .f32⟩ : BufTy).Contents (Elt Ideal)) ]

theorem entry (b : Ref sig .tc) : V m c b = StableHlo.after (Val := Elt Ideal)
    hostOps0_2 (StableHlo.after padOps (StableHlo.after hostOps0 (fun b => m (c, b)))) (Proc.devRef .tc b) := by
  show StableHlo.after (List.flatten [hostOps0, hostOps0_1, hostOps0_2]) (fun b => m (c, b)) _ = _
  rw [List.flatten_cons, List.flatten_cons, List.flatten_cons, List.flatten_nil, List.append_nil, after_append, after_append]
  rfl

set_option maxHeartbeats 2000000 in
theorem x_lo (R : Fin 512) (b : Fin 2) (h : Fin 32) (e : Fin 64) :
    (V m c main_v8 : FVec Ideal S8704x6656 .f32) (ix2 ⟨8192 + R.val, by omega⟩ ⟨b.val * 2048 + e.val * 32 + h.val, by omega⟩)
      = proj m c ⟨R.val / 4, by omega⟩ ⟨R.val % 4, by omega⟩ ⟨b.val * 2048 + h.val * 64 + e.val, by omega⟩ := by
  rw [entry]
  entry_read
  pointwise []
  after_results_simp
  pointwise []
  rw [dif_pos (by omega)]
  exact congrArg (fun q => (m ((c : Thread nD τ).loc main_arg1) : FVec Ideal S128x4x6656 .f32) (ix3 ⟨R.val / 4, by omega⟩ ⟨R.val % 4, by omega⟩ q))
    (Fin.ext (by dsimp only; omega))

set_option maxHeartbeats 2000000 in
theorem x_hi (R : Fin 512) (q : Fin 2496) :
    (V m c main_v8 : FVec Ideal S8704x6656 .f32) (ix2 ⟨8192 + R.val, by omega⟩ ⟨4096 + q.val, by omega⟩)
      = proj m c ⟨R.val / 4, by omega⟩ ⟨R.val % 4, by omega⟩ ⟨4096 + q.val, by omega⟩ := by
  rw [entry]
  entry_read
  pointwise []
  after_results_simp
  pointwise []
  rfl

/-- The carried row lies in the first row of each sequence's four. -/
theorem first_at (x0 : FVec Ideal S128x4x6656 .f32) (i : IVec S2 32) (hi : ∀ k, (i k).toInt = 0) (u : FVec Ideal S128x1x6592 .f32)
    (g : Fin 128) (z : Fin 4) (hz : z.val = 0) (q : Fin 6592) :
    Host.scatter scatter_S128x4x6656_S2_S128x1x6592_012_n_12_0 (fun _ b => b) x0 i u (ix3 g z ⟨q.val, by omega⟩) = u (ix3 g 0 q) := by
  refine Conv.scatter_origin _ _ _ _ _ (ix3 g (0 : Fin 1) q) hi (fun a => ?_) (fun k' h => ?_)
  · match a with
    | ⟨0, _⟩ => rfl
    | ⟨1, _⟩ => exact hz.symm
    | ⟨2, _⟩ => rfl
  · idx_vars k'
    have h0 := h 0
    have h2 := h 2
    obtain rfl : k'0 = g := Fin.ext h0
    obtain rfl : k'2 = q := Fin.ext h2
    obtain rfl : k'1 = 0 := Subsingleton.elim _ _
    rfl

theorem origin (k : S2.Idx) : (concatenate S2 0 [⟨S1, broadcastInDim S1 ![] bcast_S_S1 (constantI S_ 32 0#32)⟩,
    ⟨S1, broadcastInDim S1 ![] bcast_S_S1 (constantI S_ 32 0#32)⟩] concatenates_S1_S1_S2_d0 k).toInt = 0 := by
  idx_vars k
  match k0 with
  | ⟨0, _⟩ => rfl
  | ⟨1, _⟩ => rfl

theorem f_lo (g : Fin 128) (b : Fin 2) (h : Fin 32) (e : Fin 64) :
    (V m c main_v62 : FVec Ideal S512x6656 .f32) (ix2 ⟨g.val * 4, by omega⟩ ⟨b.val * 2048 + e.val * 32 + h.val, by omega⟩)
      = carried m c g ⟨b.val * 2048 + h.val * 64 + e.val, by omega⟩ := by
  rw [entry]
  entry_read
  pointwise []
  refine (first_at _ _ origin _ g _ (by show g.val * 4 % 4 = 0; omega) ⟨b.val * 2048 + e.val * 32 + h.val, by omega⟩).trans ?_
  pointwise []
  rw [dif_pos (by omega)]
  refine congrArg (carried m c g) (Fin.ext ?_)
  dsimp only
  omega

theorem f_hi (g : Fin 128) (q : Fin 2496) :
    (V m c main_v62 : FVec Ideal S512x6656 .f32) (ix2 ⟨g.val * 4, by omega⟩ ⟨4096 + q.val, by omega⟩) = carried m c g ⟨4096 + q.val, by omega⟩ := by
  rw [entry]
  entry_read
  pointwise []
  refine (first_at _ _ origin _ g _ (by show g.val * 4 % 4 = 0; omega) ⟨4096 + q.val, by omega⟩).trans ?_
  pointwise []
  rfl

theorem u_lo (b : Fin 2) (h : Fin 32) (e : Fin 64) :
    (V m c main_v17 : FVec Ideal S1x6656 .f32) (ix2 0 ⟨b.val * 2048 + e.val * 32 + h.val, by omega⟩) = mu m c ⟨b.val * 2048 + h.val * 64 + e.val, by omega⟩ := by
  rw [entry]
  entry_read
  pointwise []
  rw [dif_pos (by omega), dif_pos (by omega)]
  refine congrArg (mu m c) (Fin.ext ?_)
  dsimp only
  omega

theorem u_hi (q : Fin 2496) :
    (V m c main_v17 : FVec Ideal S1x6656 .f32) (ix2 0 ⟨4096 + q.val, by omega⟩) = mu m c ⟨4096 + q.val, by omega⟩ := by
  rw [entry]
  entry_read
  pointwise []
  rw [dif_pos (by omega)]
  rfl

theorem w0_at (h : Fin 32) (e : Fin 64) : decayOff m c ⟨e.val * 32 + h.val, by omega⟩ = w0 m c ⟨h.val * 64 + e.val, by omega⟩ := by
  unfold decayOff
  rw [entry]
  entry_read
  pointwise []
  rfl

theorem a0_at (h : Fin 32) (e : Fin 64) : rateOff m c ⟨e.val * 32 + h.val, by omega⟩ = a0 m c ⟨h.val * 64 + e.val, by omega⟩ := by
  unfold rateOff
  rw [entry]
  entry_read
  pointwise []
  rfl

/-! ## The low-rank weights: a band of rows among zeros -/

theorem band_hit (off : Nat) (x0 : FVec Ideal S512x2048 .bf16) (i : IVec S1 32) (hi : ∀ k, (i k).toInt = off) (u : FVec Ideal S96x2048 .bf16)
    (l : Fin 96) (hl : off + l.val < 512) (j : Fin 2048) :
    Host.scatter scatter_S512x2048_S1_S96x2048_01_n_0_0 (fun _ b => b) x0 i u (ix2 ⟨off + l.val, hl⟩ j) = u (ix2 l j) := by
  refine scatter_hit _ _ _ _ _ (ix2 l j) ![off, 0] (fun k a => ?_) (fun a => ?_) (fun k' h => ?_)
  · match a with
    | ⟨0, _⟩ => exact hi _
    | ⟨1, _⟩ => rfl
  · match a with
    | ⟨0, _⟩ => rfl
    | ⟨1, _⟩ => exact Nat.zero_add _
  · idx_vars k'
    obtain rfl : k'0 = l := Fin.ext (h 0)
    obtain rfl : k'1 = j := Fin.ext (h 1)
    rfl

theorem band_miss (off : Nat) (x0 : FVec Ideal S512x2048 .bf16) (i : IVec S1 32) (hi : ∀ k, (i k).toInt = off) (u : FVec Ideal S96x2048 .bf16)
    (l : Fin 512) (hl : ¬(off ≤ l.val ∧ l.val < off + 96)) (j : Fin 2048) :
    Host.scatter scatter_S512x2048_S1_S96x2048_01_n_0_0 (fun _ b => b) x0 i u (ix2 l j) = x0 (ix2 l j) := by
  refine scatter_miss _ _ _ _ _ ![off, 0] (fun k a => ?_) 0 (fun k => ?_)
  · match a with
    | ⟨0, _⟩ => exact hi _
    | ⟨1, _⟩ => rfl
  · idx_vars k
    show off + k0.val ≠ l.val
    omega

theorem wide_hit (off : Nat) (x0 : FVec Ideal S512x2048 .bf16) (i : IVec S1 32) (hi : ∀ k, (i k).toInt = off) (u : FVec Ideal S256x2048 .bf16)
    (l : Fin 256) (hl : off + l.val < 512) (j : Fin 2048) :
    Host.scatter scatter_S512x2048_S1_S256x2048_01_n_0_0 (fun _ b => b) x0 i u (ix2 ⟨off + l.val, hl⟩ j) = u (ix2 l j) := by
  refine scatter_hit _ _ _ _ _ (ix2 l j) ![off, 0] (fun k a => ?_) (fun a => ?_) (fun k' h => ?_)
  · match a with
    | ⟨0, _⟩ => exact hi _
    | ⟨1, _⟩ => rfl
  · match a with
    | ⟨0, _⟩ => rfl
    | ⟨1, _⟩ => exact Nat.zero_add _
  · idx_vars k'
    obtain rfl : k'0 = l := Fin.ext (h 0)
    obtain rfl : k'1 = j := Fin.ext (h 1)
    rfl

theorem wide_miss (off : Nat) (x0 : FVec Ideal S512x2048 .bf16) (i : IVec S1 32) (hi : ∀ k, (i k).toInt = off) (u : FVec Ideal S256x2048 .bf16)
    (l : Fin 512) (hl : ¬(off ≤ l.val ∧ l.val < off + 256)) (j : Fin 2048) :
    Host.scatter scatter_S512x2048_S1_S256x2048_01_n_0_0 (fun _ b => b) x0 i u (ix2 l j) = x0 (ix2 l j) := by
  refine scatter_miss _ _ _ _ _ ![off, 0] (fun k a => ?_) 0 (fun k => ?_)
  · match a with
    | ⟨0, _⟩ => exact hi _
    | ⟨1, _⟩ => rfl
  · idx_vars k
    show off + k0.val ≠ l.val
    omega

theorem wDecay_at (l : Fin 96) (h : Fin 32) (e : Fin 64) :
    wDecay m c ⟨0 + l.val, by omega⟩ ⟨e.val * 32 + h.val, by omega⟩ = wUp m c l ⟨h.val * 64 + e.val, by omega⟩ := by
  unfold wDecay
  rw [entry]
  entry_read
  refine (band_hit 0 _ _ (fun _ => rfl) _ l (by omega) _).trans ?_
  pointwise []
  refine congrArg (wUp m c l) (Fin.ext ?_)
  dsimp only
  omega

theorem wDecay_zero (l : Fin 512) (hl : ¬(0 ≤ l.val ∧ l.val < 0 + 96)) (j : Fin 2048) : wDecay m c l j = 0 := by
  unfold wDecay
  rw [entry]
  entry_read
  refine (band_miss 0 _ _ (fun _ => rfl) _ l hl _).trans ?_
  pointwise []

theorem wRate_at (l : Fin 96) (h : Fin 32) (e : Fin 64) :
    wRate m c ⟨96 + l.val, by omega⟩ ⟨e.val * 32 + h.val, by omega⟩ = aUp m c l ⟨h.val * 64 + e.val, by omega⟩ := by
  unfold wRate
  rw [entry]
  entry_read
  refine (band_hit 96 _ _ (fun _ => rfl) _ l (by omega) _).trans ?_
  pointwise []
  refine congrArg (aUp m c l) (Fin.ext ?_)
  dsimp only
  omega

theorem wRate_zero (l : Fin 512) (hl : ¬(96 ≤ l.val ∧ l.val < 96 + 96)) (j : Fin 2048) : wRate m c l j = 0 := by
  unfold wRate
  rw [entry]
  entry_read
  refine (band_miss 96 _ _ (fun _ => rfl) _ l hl _).trans ?_
  pointwise []

theorem wGate_at (l : Fin 256) (j : Fin 2048) : wGate m c ⟨192 + l.val, by omega⟩ j = gUp m c l j := by
  unfold wGate
  rw [entry]
  entry_read
  refine (wide_hit 192 _ _ (fun _ => rfl) _ l (by omega) _).trans ?_
  pointwise []
  rfl

theorem wGate_zero (l : Fin 512) (hl : ¬(192 ≤ l.val ∧ l.val < 192 + 256)) (j : Fin 2048) : wGate m c l j = 0 := by
  unfold wGate
  rw [entry]
  entry_read
  refine (wide_miss 192 _ _ (fun _ => rfl) _ l hl _).trans ?_
  pointwise []

/-! ## The launch's arrays, from the arguments -/

theorem shifted_of (p : Fin 6656) (q : Fin 6592)
    (hx : ∀ R : Fin 512, (V m c main_v8 : FVec Ideal S8704x6656 .f32) (ix2 ⟨8192 + R.val, by omega⟩ p) = proj m c ⟨R.val / 4, by omega⟩ ⟨R.val % 4, by omega⟩ q)
    (hf : ∀ g : Fin 128, (V m c main_v62 : FVec Ideal S512x6656 .f32) (ix2 ⟨g.val * 4, by omega⟩ p) = carried m c g q)
    (hu : (V m c main_v17 : FVec Ideal S1x6656 .f32) (ix2 0 p) = mu m c q) (g : Fin 128) (t : Fin 4) :
    shifted m c ⟨g.val * 4 + t.val, by omega⟩ p = row m c g t q := by
  have cell : ∀ (g' g : Fin 128) (t' t : Fin 4), g'.val = g.val → t'.val = t.val → proj m c g' t' q = proj m c g t q :=
    fun g' g t' t hg ht => by rw [Fin.ext hg, Fin.ext ht]
  unfold shifted row shift
  have hx0 := (hx ⟨g.val * 4 + t.val, by omega⟩).trans (cell _ g _ t (by dsimp only; omega) (by dsimp only; omega))
  dsimp only at hx0 ⊢
  rw [hx0, hu]
  refine congrArg (fun s => lerp _ s _) ?_
  by_cases ht : t.val = 0
  · rw [if_pos (by omega), if_pos ht, ← hf g]
    exact congrArg (fun R => (V m c main_v62 : FVec Ideal S512x6656 .f32) (ix2 R p)) (Fin.ext (by dsimp only; omega))
  · rw [if_neg (by omega), if_neg ht]
    refine Eq.trans ?_ ((hx ⟨g.val * 4 + t.val - 1, by omega⟩).trans (cell _ g _ ⟨t.val - 1, by omega⟩ (by dsimp only; omega) (by dsimp only; omega)))
    exact congrArg (fun R => (V m c main_v8 : FVec Ideal S8704x6656 .f32) (ix2 R p)) (Fin.ext (by dsimp only; omega))

theorem shifted_lo (g : Fin 128) (t : Fin 4) (b : Fin 2) (h : Fin 32) (e : Fin 64) :
    shifted m c ⟨g.val * 4 + t.val, by omega⟩ ⟨b.val * 2048 + e.val * 32 + h.val, by omega⟩ = row m c g t ⟨b.val * 2048 + h.val * 64 + e.val, by omega⟩ :=
  shifted_of m c _ _ (fun R => x_lo m c R b h e) (fun g => f_lo m c g b h e) (u_lo m c b h e) g t

theorem shifted_hi (g : Fin 128) (t : Fin 4) (q : Fin 2496) :
    shifted m c ⟨g.val * 4 + t.val, by omega⟩ ⟨4096 + q.val, by omega⟩ = row m c g t ⟨4096 + q.val, by omega⟩ :=
  shifted_of m c _ _ (fun R => x_hi m c R q) (fun g => f_hi m c g q) (u_hi m c q) g t

/-- The low-rank channels of a step's row. -/
theorem lowRow_row (g : Fin 128) (t : Fin 4) (l : Fin 512) (hl : l.val < 448) :
    lowRow (shifted m c ⟨g.val * 4 + t.val, by omega⟩) l = row m c g t ⟨6144 + l.val, by omega⟩ := by
  unfold lowRow
  rw [if_pos hl]
  refine Eq.trans (congrArg (shifted m c _) (Fin.ext ?_)) ((shifted_hi m c g t ⟨2048 + l.val, by omega⟩).trans (congrArg (row m c g t) (Fin.ext ?_)))
  · dsimp only; omega
  · dsimp only; omega

theorem dArr_at (g : Fin 128) (t : Fin 4) (h : Fin 32) (e : Fin 64) :
    (dArr m c (ix2 ⟨g.val * 4 + t.val, by omega⟩ ⟨e.val * 32 + h.val, by omega⟩) : EReal)
      = decay (w0 m c ⟨h.val * 64 + e.val, by omega⟩ + low Ideal.tanh (fun i : Fin 96 => row m c g t ⟨6144 + i.val, by omega⟩) (wUp m c) ⟨h.val * 64 + e.val, by omega⟩) := by
  refine congrArg decay (congrArg₂ (fun a b : EReal => a + b) (w0_at m c h e) ?_)
  refine (sum_band 0 (n := 96) (by omega) _ (fun l => wDecay m c l ⟨e.val * 32 + h.val, by omega⟩) (fun l hl => wDecay_zero m c l hl _)).trans
    (Finset.sum_congr rfl fun i _ => congrArg₂ (fun a b : EReal => a * b) (congrArg Ideal.tanh ((lowRow_row m c g t _ (by dsimp only; omega)).trans
      (congrArg (row m c g t) (Fin.ext (by dsimp only; omega))))) (wDecay_at m c i h e))

theorem aArr_at (g : Fin 128) (t : Fin 4) (h : Fin 32) (e : Fin 64) :
    (aArr m c (ix2 ⟨g.val * 4 + t.val, by omega⟩ ⟨e.val * 32 + h.val, by omega⟩) : EReal)
      = Ideal.logistic (a0 m c ⟨h.val * 64 + e.val, by omega⟩ + low id (fun i : Fin 96 => row m c g t ⟨6240 + i.val, by omega⟩) (aUp m c) ⟨h.val * 64 + e.val, by omega⟩) := by
  refine congrArg Ideal.logistic (congrArg₂ (fun a b : EReal => a + b) (a0_at m c h e) ?_)
  refine (sum_band 96 (n := 96) (by omega) _ (fun l => wRate m c l ⟨e.val * 32 + h.val, by omega⟩) (fun l hl => wRate_zero m c l hl _)).trans
    (Finset.sum_congr rfl fun i _ => congrArg₂ (fun a b : EReal => a * b) ((lowRow_row m c g t _ (by dsimp only; omega)).trans
      (congrArg (row m c g t) (Fin.ext (by dsimp only; omega)))) (wRate_at m c i h e))

theorem gArr_at (g : Fin 128) (t : Fin 4) (j : Fin 2048) :
    (gArr m c (ix2 ⟨g.val * 4 + t.val, by omega⟩ j) : EReal) = low Ideal.logistic (fun i : Fin 256 => row m c g t ⟨6336 + i.val, by omega⟩) (gUp m c) j :=
  (sum_band 192 (n := 256) (by omega) _ (fun l => wGate m c l j) (fun l hl => wGate_zero m c l hl _)).trans
    (Finset.sum_congr rfl fun i _ => congrArg₂ (fun a b : EReal => a * b) (congrArg Ideal.logistic ((lowRow_row m c g t _ (by dsimp only; omega)).trans
      (congrArg (row m c g t) (Fin.ext (by dsimp only; omega))))) (wGate_at m c i j))

/-! ## The results -/

/-- A device's contents when the run ends. -/
abbrev end7 (b : Ref sig .tc) := Pipeline.afterTail₀ cfgs (dats m) 0 (V0 m) [hostOps1] c b

theorem end7_eq (b : Ref sig .tc) : end7 m c b = StableHlo.after hostOps1
    (Pipeline.withArrays (cfgs 0).spec c (V0 m c) fun w => (dats m 0 c).arrAt w (cfgs 0).N) (Proc.devRef .tc b) := by
  show StableHlo.after (List.flatten [hostOps1]) _ _ = _
  rw [List.flatten_cons, List.flatten_nil, List.append_nil]

theorem arr_inj : Function.Injective (Pipeline.arrRef spec0) := by decide

theorem r_out (g : Fin 128) (t : Fin 4) (h : Fin 32) (e : Fin 64) :
    ((end7 m c main_v67 : FVec Ideal S128x4x2048 .f32) (ix3 g t ⟨h.val * 64 + e.val, by omega⟩) : EReal) = rArr m c (ix2 ⟨g.val * 4 + t.val, by omega⟩ ⟨e.val * 32 + h.val, by omega⟩) := by
  rw [end7_eq]
  entry_read
  pointwise []
  exact congrFun ((Pipeline.withArrays_arr _ arr_inj c _ _ 8).trans (final_8 m c)) _

theorem d_out (g : Fin 128) (t : Fin 4) (h : Fin 32) (e : Fin 64) :
    ((end7 m c main_v71 : FVec Ideal S128x4x2048 .f32) (ix3 g t ⟨h.val * 64 + e.val, by omega⟩) : EReal) = dArr m c (ix2 ⟨g.val * 4 + t.val, by omega⟩ ⟨e.val * 32 + h.val, by omega⟩) := by
  rw [end7_eq]
  entry_read
  pointwise []
  exact congrFun ((Pipeline.withArrays_arr _ arr_inj c _ _ 9).trans (final_9 m c)) _

theorem k_out (g : Fin 128) (t : Fin 4) (h : Fin 32) (e : Fin 64) :
    ((end7 m c main_v75 : FVec Ideal S128x4x2048 .f32) (ix3 g t ⟨h.val * 64 + e.val, by omega⟩) : EReal) = kArr m c (ix2 ⟨g.val * 4 + t.val, by omega⟩ ⟨e.val * 32 + h.val, by omega⟩) := by
  rw [end7_eq]
  entry_read
  pointwise []
  exact congrFun ((Pipeline.withArrays_arr _ arr_inj c _ _ 10).trans (final_10 m c)) _

theorem v_out (g : Fin 128) (t : Fin 4) (j : Fin 2048) :
    ((end7 m c main_v76 : FVec Ideal S128x4x2048 .f32) (ix3 g t j) : EReal) = vArr m c (ix2 ⟨g.val * 4 + t.val, by omega⟩ j) := by
  rw [end7_eq]
  entry_read
  pointwise []
  exact congrFun ((Pipeline.withArrays_arr _ arr_inj c _ _ 11).trans (final_11 m c)) _

theorem a_out (g : Fin 128) (t : Fin 4) (h : Fin 32) (e : Fin 64) :
    ((end7 m c main_v80 : FVec Ideal S128x4x2048 .f32) (ix3 g t ⟨h.val * 64 + e.val, by omega⟩) : EReal) = aArr m c (ix2 ⟨g.val * 4 + t.val, by omega⟩ ⟨e.val * 32 + h.val, by omega⟩) := by
  rw [end7_eq]
  entry_read
  pointwise []
  exact congrFun ((Pipeline.withArrays_arr _ arr_inj c _ _ 12).trans (final_12 m c)) _

theorem g_out (g : Fin 128) (t : Fin 4) (j : Fin 2048) :
    ((end7 m c main_v81 : FVec Ideal S128x4x2048 .f32) (ix3 g t j) : EReal) = gArr m c (ix2 ⟨g.val * 4 + t.val, by omega⟩ j) := by
  rw [end7_eq]
  entry_read
  pointwise []
  exact congrFun ((Pipeline.withArrays_arr _ arr_inj c _ _ 13).trans (final_13 m c)) _

end Cert.Kernel7Ideal.Hand

end
-- ==== Proof.RPre.lean ====
module

public import proofs.«01_k».proof.Proof.Pre
public import proofs.«01_k».proof.Proof.Gen.Reference7Ideal.Run
public import Idealize.ShloMosaic.Lib.Claim
public import Idealize.ShloMosaic.Lib.Pipeline.ValueKit

@[expose] public section

set_option maxRecDepth 65536

noncomputable section

/-! What the reference of the recurrence's preparation returns, step by step. -/

namespace Cert.Reference7Ideal.Hand

open Cert.Reference7Ideal Cert.Reference7Ideal.Gen Cert.Reference7Ideal.Value Cert.Pre
open Idealize.ShloMosaic Idealize.ShloMosaic.TcCoe

/-! ## The reference's stages on plain arrays -/

/-- The shifted rows. -/
def ps (X : FVec Ideal S128x4x6656 .f32) (S : FVec Ideal S1x128x6592 .f32) (M : FVec Ideal S1x6592 .f32) : FVec Ideal S128x4x6592 .f32 :=
  addf (extractStridedSlice S128x4x6592 ![0, 0, 0] X slices_S128x4x6656_S128x4x6592_0_0_0)
    (mulf (subf (extractStridedSlice S128x4x6592 ![0, 0, 0]
        (concatenate S128x5x6592 1 [⟨S128x1x6592, (broadcastInDim S128x1x6592 ![0, 2] bcast_S128x6592_S128x1x6592_0_2 (shapeCast S128x6592 S shapeCasts_S1x128x6592_S128x6592))⟩,
          ⟨S128x4x6592, (extractStridedSlice S128x4x6592 ![0, 0, 0] X slices_S128x4x6656_S128x4x6592_0_0_0)⟩] concatenates_S128x1x6592_S128x4x6592_S128x5x6592_d1)
        slices_S128x5x6592_S128x4x6592_0_0_0)
      (extractStridedSlice S128x4x6592 ![0, 0, 0] X slices_S128x4x6656_S128x4x6592_0_0_0))
      (broadcastInDim S128x4x6592 ![0, 1, 2] bcast_S1x1x6592_S128x4x6592_0_1_2 (broadcastInDim S1x1x6592 ![2] bcast_S6592_S1x1x6592_2
        (shapeCast S6592 M shapeCasts_S1x6592_S6592))))

/-- The decay's logit, and the decay. -/
def logit (P : FVec Ideal S128x4x6592 .f32) (w : FVec Ideal S1x2048 .f32) (W : FVec Ideal S1x96x2048 .f32) : FVec Ideal S128x4x2048 .f32 :=
  addf (broadcastInDim S128x4x2048 ![0, 1, 2] bcast_S1x1x2048_S128x4x2048_0_1_2 (broadcastInDim S1x1x2048 ![2] bcast_S2048_S1x1x2048_2
      (shapeCast S2048 w shapeCasts_S1x2048_S2048)))
    (Host.dotGeneral dot_S128x4x96_S96x2048_S128x4x2048_2_0_01_1_n_n none (Host.tanh (extractStridedSlice S128x4x96 ![0, 0, 6144] P slices_S128x4x6592_S128x4x96_0_0_6144))
      (shapeCast S96x2048 W shapeCasts_S1x96x2048_S96x2048))

def zeros : FVec Ideal S128x4x2048 .f32 := broadcastInDim S128x4x2048 ![] bcast_S_S128x4x2048 (constant S_ .f32 0x00000000#32)

def decayOf (Z : FVec Ideal S128x4x2048 .f32) : FVec Ideal S128x4x2048 .f32 :=
  Host.exp (Host.negf (Host.exp (subf (Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros))))))))
    (broadcastInDim S128x4x2048 ![] bcast_S_S128x4x2048 (constant S_ .f32 0x3F000000#32)))))

def rate (P : FVec Ideal S128x4x6592 .f32) (a : FVec Ideal S1x2048 .f32) (W : FVec Ideal S1x96x2048 .f32) : FVec Ideal S128x4x2048 .f32 :=
  Host.divf (broadcastInDim S128x4x2048 ![] bcast_S_S128x4x2048 (constant S_ .f32 0x3F800000#32))
    (addf (broadcastInDim S128x4x2048 ![] bcast_S_S128x4x2048 (constant S_ .f32 0x3F800000#32)) (Host.exp (Host.negf
      (addf (broadcastInDim S128x4x2048 ![0, 1, 2] bcast_S1x1x2048_S128x4x2048_0_1_2 (broadcastInDim S1x1x2048 ![2] bcast_S2048_S1x1x2048_2
          (shapeCast S2048 a shapeCasts_S1x2048_S2048)))
        (Host.dotGeneral dot_S128x4x96_S96x2048_S128x4x2048_2_0_01_1_n_n none (extractStridedSlice S128x4x96 ![0, 0, 6240] P slices_S128x4x6592_S128x4x96_0_0_6240)
          (shapeCast S96x2048 W shapeCasts_S1x96x2048_S96x2048))))))

def gate (P : FVec Ideal S128x4x6592 .f32) (W : FVec Ideal S1x256x2048 .f32) : FVec Ideal S128x4x2048 .f32 :=
  Host.dotGeneral dot_S128x4x256_S256x2048_S128x4x2048_2_0_01_1_n_n none
    (Host.divf (broadcastInDim S128x4x256 ![] bcast_S_S128x4x256 (constant S_ .f32 0x3F800000#32))
      (addf (broadcastInDim S128x4x256 ![] bcast_S_S128x4x256 (constant S_ .f32 0x3F800000#32)) (Host.exp (Host.negf
        (extractStridedSlice S128x4x256 ![0, 0, 6336] P slices_S128x4x6592_S128x4x256_0_0_6336)))))
    (shapeCast S256x2048 W shapeCasts_S1x256x2048_S256x2048)

theorem ps_at (X : FVec Ideal S128x4x6656 .f32) (S : FVec Ideal S1x128x6592 .f32) (M : FVec Ideal S1x6592 .f32) (g : Fin 128) (t : Fin 4) (q : Fin 6592) :
    (ps X S M (ix3 g t q) : EReal) = shift (fun g t q => X (ix3 g t ⟨q.val, by omega⟩)) (fun g q => S (ix3 0 g q)) (fun q => M (ix2 0 q)) g t q := by
  pointwise [ps]
  unfold shift lerp
  by_cases ht : t.val = 0
  · rw [dif_pos (by omega), if_pos ht]
  · rw [dif_neg (by omega), if_neg ht]

theorem logit_at (P : FVec Ideal S128x4x6592 .f32) (w : FVec Ideal S1x2048 .f32) (W : FVec Ideal S1x96x2048 .f32) (g : Fin 128) (t : Fin 4) (j : Fin 2048) :
    (logit P w W (ix3 g t j) : EReal) = w (ix2 0 j) + low Ideal.tanh (fun i : Fin 96 => P (ix3 g t ⟨6144 + i.val, by omega⟩)) (fun i j => W (ix3 0 i j)) j := by
  pointwise [logit]
  rfl

theorem decayOf_at (Z : FVec Ideal S128x4x2048 .f32) (g : Fin 128) (t : Fin 4) (j : Fin 2048) :
    (decayOf Z (ix3 g t j) : EReal) = decay (Z (ix3 g t j)) := by
  rw [← decay_eq]
  pointwise [decayOf, zeros]
  unfold softplus
  rw [if_neg (fun h => h rfl), sub_zero]
  rfl

theorem rate_at (P : FVec Ideal S128x4x6592 .f32) (a : FVec Ideal S1x2048 .f32) (W : FVec Ideal S1x96x2048 .f32) (g : Fin 128) (t : Fin 4) (j : Fin 2048) :
    (rate P a W (ix3 g t j) : EReal)
      = Ideal.logistic (a (ix2 0 j) + low id (fun i : Fin 96 => P (ix3 g t ⟨6240 + i.val, by omega⟩)) (fun i j => W (ix3 0 i j)) j) := by
  pointwise [rate]
  rfl

theorem gate_at (P : FVec Ideal S128x4x6592 .f32) (W : FVec Ideal S1x256x2048 .f32) (g : Fin 128) (t : Fin 4) (j : Fin 2048) :
    (gate P W (ix3 g t j) : EReal) = low Ideal.logistic (fun i : Fin 256 => P (ix3 g t ⟨6336 + i.val, by omega⟩)) (fun i j => W (ix3 0 i j)) j := by
  pointwise [gate]
  rfl

theorem part_at (P : FVec Ideal S128x4x6592 .f32) (g : Fin 128) (t : Fin 4) (j : Fin 2048) :
    (extractStridedSlice S128x4x2048 ![0, 0, 0] P slices_S128x4x6592_S128x4x2048_0_0_0 (ix3 g t j) : EReal) = P (ix3 g t ⟨j.val, by omega⟩)
    ∧ (extractStridedSlice S128x4x2048 ![0, 0, 2048] P slices_S128x4x6592_S128x4x2048_0_0_2048 (ix3 g t j) : EReal) = P (ix3 g t ⟨2048 + j.val, by omega⟩)
    ∧ (extractStridedSlice S128x4x2048 ![0, 0, 4096] P slices_S128x4x6592_S128x4x2048_0_0_4096 (ix3 g t j) : EReal) = P (ix3 g t ⟨4096 + j.val, by omega⟩) := by
  refine ⟨?_, ?_, ?_⟩ <;> pointwise []

end Cert.Reference7Ideal.Hand

end
-- ==== Proof.PreFinal.lean ====
module

public import proofs.«01_k».proof.Defs
public import proofs.«01_k».proof.Proof.KPreRun
public import proofs.«01_k».proof.Proof.RPre
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import Idealize.ShloMosaic.Adequacy
public import Idealize.ShloMosaic.Init

@[expose] public section

set_option maxRecDepth 65536

noncomputable section

/-! The claims about the preparation of the sample group's recurrence: token shift, decay, rate and gate. -/

namespace Cert.Proof

open Idealize.ShloMosaic Idealize.ShloMosaic.TcCoe Idealize.SL.Sem

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

/-- The reference is host operations alone and declares no semaphore. -/
theorem frame_reference7 : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

/-- A channel is a head's. -/
theorem heads (P : Fin 2048 → Prop) (hP : ∀ (h : Fin 32) (e : Fin 64), P ⟨h.val * 64 + e.val, by omega⟩) (j : Fin 2048) : P j := by
  have e : j = ⟨j.val / 64 * 64 + j.val % 64, by omega⟩ := Fin.ext (by dsimp only; omega)
  rw [e]
  exact hP ⟨j.val / 64, by omega⟩ ⟨j.val % 64, by omega⟩

theorem lane0 (h : Fin 32) (e : Fin 64) : (⟨e.val * 32 + h.val, by omega⟩ : Fin 6656) = ⟨(0 : Fin 2).val * 2048 + e.val * 32 + h.val, by omega⟩ :=
  Fin.ext (show e.val * 32 + h.val = 0 * 2048 + e.val * 32 + h.val by omega)
theorem lane1 (h : Fin 32) (e : Fin 64) : (⟨2048 + (e.val * 32 + h.val), by omega⟩ : Fin 6656) = ⟨(1 : Fin 2).val * 2048 + e.val * 32 + h.val, by omega⟩ :=
  Fin.ext (show 2048 + (e.val * 32 + h.val) = 1 * 2048 + e.val * 32 + h.val by omega)
theorem chan0 (h : Fin 32) (e : Fin 64) : (⟨(0 : Fin 2).val * 2048 + h.val * 64 + e.val, by omega⟩ : Fin 6592) = ⟨h.val * 64 + e.val, by omega⟩ :=
  Fin.ext (show 0 * 2048 + h.val * 64 + e.val = h.val * 64 + e.val by omega)
theorem chan1 (h : Fin 32) (e : Fin 64) : (⟨(1 : Fin 2).val * 2048 + h.val * 64 + e.val, by omega⟩ : Fin 6592) = ⟨2048 + (h.val * 64 + e.val), by omega⟩ :=
  Fin.ext (show 1 * 2048 + h.val * 64 + e.val = 2048 + (h.val * 64 + e.val) by omega)

section Kernel
open Cert.Kernel7Ideal Cert.Kernel7Ideal.Hand Cert.Pre
variable (m : (ℓ : Loc nD τ sig) → Buf (Elt Ideal) ℓ) (c : Dev nD)

theorem r_end (g : Fin 128) (t : Fin 4) : ∀ j : Fin 2048, ((end7 m c main_v67 : FVec Ideal S128x4x2048 .f32) (ix3 g t j) : EReal) = row m c g t ⟨j.val, by omega⟩ :=
  heads _ fun h e => by
    have a := congrArg (shifted m c ⟨g.val * 4 + t.val, by omega⟩) (lane0 h e)
    have b := a.trans ((shifted_lo m c g t 0 h e).trans (congrArg (row m c g t) (chan0 h e)))
    exact (r_out m c g t h e).trans b

theorem k_end (g : Fin 128) (t : Fin 4) : ∀ j : Fin 2048, ((end7 m c main_v75 : FVec Ideal S128x4x2048 .f32) (ix3 g t j) : EReal) = row m c g t ⟨2048 + j.val, by omega⟩ :=
  heads _ fun h e => by
    have a := congrArg (shifted m c ⟨g.val * 4 + t.val, by omega⟩) (lane1 h e)
    have b := a.trans ((shifted_lo m c g t 1 h e).trans (congrArg (row m c g t) (chan1 h e)))
    exact (k_out m c g t h e).trans b

theorem v_end (g : Fin 128) (t : Fin 4) (j : Fin 2048) : ((end7 m c main_v76 : FVec Ideal S128x4x2048 .f32) (ix3 g t j) : EReal) = row m c g t ⟨4096 + j.val, by omega⟩ :=
  (v_out m c g t j).trans (shifted_hi m c g t ⟨j.val, by omega⟩)

theorem d_end (g : Fin 128) (t : Fin 4) : ∀ j : Fin 2048, ((end7 m c main_v71 : FVec Ideal S128x4x2048 .f32) (ix3 g t j) : EReal)
    = decay (w0 m c j + low Ideal.tanh (fun i : Fin 96 => row m c g t ⟨6144 + i.val, by omega⟩) (wUp m c) j) :=
  heads _ fun h e => (d_out m c g t h e).trans (dArr_at m c g t h e)

theorem a_end (g : Fin 128) (t : Fin 4) : ∀ j : Fin 2048, ((end7 m c main_v80 : FVec Ideal S128x4x2048 .f32) (ix3 g t j) : EReal)
    = Ideal.logistic (a0 m c j + low id (fun i : Fin 96 => row m c g t ⟨6240 + i.val, by omega⟩) (aUp m c) j) :=
  heads _ fun h e => (a_out m c g t h e).trans (aArr_at m c g t h e)

theorem g_end (g : Fin 128) (t : Fin 4) (j : Fin 2048) : ((end7 m c main_v81 : FVec Ideal S128x4x2048 .f32) (ix3 g t j) : EReal)
    = low Ideal.logistic (fun i : Fin 256 => row m c g t ⟨6336 + i.val, by omega⟩) (gUp m c) j :=
  (g_out m c g t j).trans (gArr_at m c g t j)

end Kernel

open Cert.Reference7Ideal.Hand in
/-- The launch's results are the reference's, for any arguments. -/
theorem algebraic7 : Cert.algebraic_Kernel7Ideal_Reference7Ideal := by
  intro m g m' g' hpre hagree
  refine ⟨fun c => Cert.Kernel7Ideal.Hand.end7 m c Cert.Kernel7Ideal.main_v67, fun c => Cert.Kernel7Ideal.Hand.end7 m c Cert.Kernel7Ideal.main_v71,
    fun c => Cert.Kernel7Ideal.Hand.end7 m c Cert.Kernel7Ideal.main_v75, fun c => Cert.Kernel7Ideal.Hand.end7 m c Cert.Kernel7Ideal.main_v76,
    fun c => Cert.Kernel7Ideal.Hand.end7 m c Cert.Kernel7Ideal.main_v80, fun c => Cert.Kernel7Ideal.Hand.end7 m c Cert.Kernel7Ideal.main_v81, ?_, ?_⟩
  · exact θ_run_mono (θ_run_and (Cert.Kernel7Ideal.Gen.run_main m g) (frame_ideal7 m g hpre)) fun r hr c =>
      ⟨(hr.1 c).2 _ (Pipeline.mem_restRefs_of _ (by decide) (by decide)), (hr.1 c).2 _ (Pipeline.mem_restRefs_of _ (by decide) (by decide)),
        (hr.1 c).2 _ (Pipeline.mem_restRefs_of _ (by decide) (by decide)), (hr.1 c).2 _ (Pipeline.mem_restRefs_of _ (by decide) (by decide)),
        (hr.1 c).2 _ (Pipeline.mem_restRefs_of _ (by decide) (by decide)), (hr.1 c).2 _ (Pipeline.mem_restRefs_of _ (by decide) (by decide)), hr.2.1 c⟩
  · refine θ_run_mono (Cert.Reference7Ideal.Value.run m' g') fun r h c => ?_
    obtain ⟨h1, h2, h3, h4, h5, h6, hargs⟩ := h c
    obtain ⟨-, e1, e2, e3, e4, e5, e6, e7, e8⟩ := hagree c
    have hrow : ∀ (b : Fin 128) (t : Fin 4) (q : Fin 6592), (ps (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (ix3 b t q) : EReal)
          = Cert.Kernel7Ideal.Hand.row m c b t q := fun b t q => by
      rw [e1, e2, e3]
      exact ps_at _ _ _ b t q
    refine ⟨h1.trans ?_, h2.trans ?_, h3.trans ?_, h4.trans ?_, h5.trans ?_, h6.trans ?_, hargs⟩
    · refine funext fun y => ?_
      idx_vars y
      exact ((part_at (ps _ _ _) y0 y1 y2).1.trans (hrow y0 y1 _)).trans (r_end m c y0 y1 y2).symm
    · refine funext fun y => ?_
      idx_vars y
      refine Eq.trans ?_ (d_end m c y0 y1 y2).symm
      refine (decayOf_at (logit (ps _ _ _) _ _) y0 y1 y2).trans (congrArg Cert.Pre.decay ((logit_at _ _ _ y0 y1 y2).trans ?_))
      simp only [show ∀ q : Fin 6592, _ = _ from hrow y0 y1]
      rw [e4, e5]
      rfl
    · refine funext fun y => ?_
      idx_vars y
      exact ((part_at (ps _ _ _) y0 y1 y2).2.1.trans (hrow y0 y1 _)).trans (k_end m c y0 y1 y2).symm
    · refine funext fun y => ?_
      idx_vars y
      exact ((part_at (ps _ _ _) y0 y1 y2).2.2.trans (hrow y0 y1 _)).trans (v_end m c y0 y1 y2).symm
    · refine funext fun y => ?_
      idx_vars y
      refine Eq.trans ?_ (a_end m c y0 y1 y2).symm
      refine (rate_at (ps _ _ _) _ _ y0 y1 y2).trans ?_
      simp only [show ∀ q : Fin 6592, _ = _ from hrow y0 y1]
      rw [e6, e7]
      rfl
    · refine funext fun y => ?_
      idx_vars y
      refine Eq.trans ?_ (g_end m c y0 y1 y2).symm
      refine (gate_at (ps _ _ _) _ y0 y1 y2).trans ?_
      simp only [show ∀ q : Fin 6592, _ = _ from hrow y0 y1]
      rw [e8]
      rfl

end Cert.Proof

end
-- ==== Proof.lean ====
module

public import proofs.«01_k».proof.Defs
public import proofs.«01_k».proof.Proof.Frames
public import proofs.«01_k».proof.Proof.Final
public import proofs.«01_k».proof.Proof.TailFinal
public import proofs.«01_k».proof.Proof.MemFinal
public import proofs.«01_k».proof.Proof.FrontFinal
public import proofs.«01_k».proof.Proof.ConvFinal
public import proofs.«01_k».proof.Proof.AttnFinal
public import proofs.«01_k».proof.Proof.PreFinal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    frame_kernel, frame_ideal, frame_reference,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    trivial, algebraic, trivial, algebraic2, trivial, algebraic3, trivial, algebraic4, trivial, algebraic5, trivial, algebraic6, trivial, algebraic7⟩

end Cert.Proof

end
